-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sizes_ok [hPre_sizes_ok : Cert.Pre_sizes_ok.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_ok [hPre_sizes_ok : Cert.Pre_sizes_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Quant [hPre_groups_ok : Cert.Pre_groups_ok.Facts] (m : (ℓ : Loc Cert.Quant.nD Cert.Quant.τ Cert.Quant.sig) → Buf (Elt Bits) ℓ) : Prop :=
  ∀ c : Dev Cert.Quant.nD,
    (Cert.Pre_groups_ok.fn (F := Bits) (m ((c.tc : Thread Cert.Quant.nD Cert.Quant.τ).loc Cert.Quant.main_arg0)) (m ((c.tc : Thread Cert.Quant.nD Cert.Quant.τ).loc Cert.Quant.main_arg1)) (m ((c.tc : Thread Cert.Quant.nD Cert.Quant.τ).loc Cert.Quant.main_arg2))) = (fun _ => 1#1)

def Pre_QuantIdeal [hPre_groups_ok : Cert.Pre_groups_ok.Facts] (m : (ℓ : Loc Cert.QuantIdeal.nD Cert.QuantIdeal.τ Cert.QuantIdeal.sig) → Buf (Elt Ideal) ℓ) : Prop :=
  ∀ c : Dev Cert.QuantIdeal.nD,
    (Cert.Pre_groups_ok.fn (F := Ideal) (m ((c.tc : Thread Cert.QuantIdeal.nD Cert.QuantIdeal.τ).loc Cert.QuantIdeal.main_arg0)) (m ((c.tc : Thread Cert.QuantIdeal.nD Cert.QuantIdeal.τ).loc Cert.QuantIdeal.main_arg1)) (m ((c.tc : Thread Cert.QuantIdeal.nD Cert.QuantIdeal.τ).loc Cert.QuantIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sizes_ok [hKernelIdeal : Cert.KernelIdeal.Facts] [hPre_sizes_ok : Cert.Pre_sizes_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sizes_ok [hReferenceIdeal : Cert.ReferenceIdeal.Facts] [hPre_sizes_ok : Cert.Pre_sizes_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Quant [hQuant : Cert.Quant.Facts] [hPre_groups_ok : Cert.Pre_groups_ok.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2))
      ∧ r.2.sem = fun _ => 0)

def quiescent_QuantIdeal [hQuantIdeal : Cert.QuantIdeal.Facts] [hPre_groups_ok : Cert.Pre_groups_ok.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2))
      ∧ r.2.sem = fun _ => 0)

def preserves_Kernel_KernelIdeal : Prop :=
  True

def algebraic_KernelIdeal_ReferenceIdeal_pre_sizes_ok [hKernelIdeal : Cert.KernelIdeal.Facts] [hReferenceIdeal : Cert.ReferenceIdeal.Facts] [hPre_sizes_ok : Cert.Pre_sizes_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Quant_QuantIdeal : Prop :=
  True

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hPre_sizes_ok : Cert.Pre_sizes_ok.Facts) (hPre_groups_ok : Cert.Pre_groups_ok.Facts),
    quiescent_Kernel (hKernel := hKernel)
    ∧ quiescent_KernelIdeal (hKernelIdeal := hKernelIdeal)
    ∧ quiescent_KernelIdeal_pre_sizes_ok (hKernelIdeal := hKernelIdeal) (hPre_sizes_ok := hPre_sizes_ok)
    ∧ quiescent_ReferenceIdeal (hReferenceIdeal := hReferenceIdeal)
    ∧ quiescent_ReferenceIdeal_pre_sizes_ok (hReferenceIdeal := hReferenceIdeal) (hPre_sizes_ok := hPre_sizes_ok)
    ∧ quiescent_Quant (hQuant := hQuant) (hPre_groups_ok := hPre_groups_ok)
    ∧ quiescent_QuantIdeal (hQuantIdeal := hQuantIdeal) (hPre_groups_ok := hPre_groups_ok)
    ∧ preserves_Kernel_KernelIdeal
    ∧ algebraic_KernelIdeal_ReferenceIdeal_pre_sizes_ok (hKernelIdeal := hKernelIdeal) (hReferenceIdeal := hReferenceIdeal) (hPre_sizes_ok := hPre_sizes_ok)
    ∧ preserves_Quant_QuantIdeal
-- ==== Pre_groups_ok.lean ====
abbrev S10240x6144 : Shape := ⟨2, ![10240, 6144]⟩
abbrev S3 : Shape := ⟨1, ![3]⟩
abbrev S16 : Shape := ⟨1, ![16]⟩
abbrev S_ : Shape := ⟨0, ![]⟩
abbrev S1 : Shape := ⟨1, ![1]⟩

class Facts : Prop where
  bcast_S_S3 : S_.BroadcastsInDim S3 (![] : Fin 0 → Fin S3.rank)
  slices_S3_S1_0 : S3.Slices ![0] S1
  shapeCasts_S1_S_ : S1.ShapeCasts S_
  slices_S3_S1_1 : S3.Slices ![1] S1
  slices_S3_S1_2 : S3.Slices ![2] S1

variable [Facts]

def fn {F : FTy → Type} [FloatOps F] (main_arg0 : FVec F S10240x6144 .bf16) (main_arg1 : IVec S3 32) (main_arg2 : FVec F S16 .f32) : IVec S3 1 :=
  let main_c : IVec S_ 32 := constantI S_ 32 0#32
  let main_v0 : IVec S3 32 := broadcastInDim S3 ![] bcast_S_S3 main_c
  let main_v1 : IVec S3 1 := cmpi .sge main_arg1 main_v0
  let main_c_0 : IVec S_ 32 := constantI S_ 32 10240#32
  let main_v2 : IVec S3 32 := broadcastInDim S3 ![] bcast_S_S3 main_c_0
  let main_v3 : IVec S3 1 := cmpi .sle main_arg1 main_v2
  let main_v4 : IVec S3 1 := andi main_v1 main_v3
  let main_v5 : IVec S1 32 := (extractStridedSlice S1 ![0] · slices_S3_S1_0) main_arg1
  let main_v6 : IVec S_ 32 := shapeCast S_ main_v5 shapeCasts_S1_S_
  let main_v7 : IVec S1 32 := (extractStridedSlice S1 ![1] · slices_S3_S1_1) main_arg1
  let main_v8 : IVec S_ 32 := shapeCast S_ main_v7 shapeCasts_S1_S_
  let main_v9 : IVec S_ 32 := addi main_v6 main_v8
  let main_v10 : IVec S1 32 := (extractStridedSlice S1 ![2] · slices_S3_S1_2) main_arg1
  let main_v11 : IVec S_ 32 := shapeCast S_ main_v10 shapeCasts_S1_S_
  let main_v12 : IVec S_ 32 := addi main_v9 main_v11
  let main_c_1 : IVec S_ 32 := constantI S_ 32 10240#32
  let main_v13 : IVec S_ 1 := cmpi .sle main_v12 main_c_1
  let main_v14 : IVec S3 1 := broadcastInDim S3 ![] bcast_S_S3 main_v13
  let main_v15 : IVec S3 1 := andi main_v4 main_v14
  main_v15
-- ==== Pre_sizes_ok.lean ====
abbrev S3 : Shape := ⟨1, ![3]⟩
abbrev S6144x11008 : Shape := ⟨2, ![6144, 11008]⟩
abbrev S11008x5632 : Shape := ⟨2, ![11008, 5632]⟩
abbrev S_ : Shape := ⟨0, ![]⟩
abbrev S1 : Shape := ⟨1, ![1]⟩

class Facts : Prop where
  bcast_S_S3 : S_.BroadcastsInDim S3 (![] : Fin 0 → Fin S3.rank)
  slices_S3_S1_0 : S3.Slices ![0] S1
  shapeCasts_S1_S_ : S1.ShapeCasts S_
  slices_S3_S1_1 : S3.Slices ![1] S1
  slices_S3_S1_2 : S3.Slices ![2] S1

variable [Facts]

def fn {F : FTy → Type} [FloatOps F] (main_arg0 : IVec S3 32) (main_arg1 : FVec F S6144x11008 .bf16) (main_arg2 : FVec F S11008x5632 .bf16) : IVec S3 1 :=
  let main_c : IVec S_ 32 := constantI S_ 32 0#32
  let main_v0 : IVec S3 32 := broadcastInDim S3 ![] bcast_S_S3 main_c
  let main_v1 : IVec S3 1 := cmpi .sge main_arg0 main_v0
  let main_c_0 : IVec S_ 32 := constantI S_ 32 10240#32
  let main_v2 : IVec S3 32 := broadcastInDim S3 ![] bcast_S_S3 main_c_0
  let main_v3 : IVec S3 1 := cmpi .sle main_arg0 main_v2
  let main_v4 : IVec S3 1 := andi main_v1 main_v3
  let main_v5 : IVec S1 32 := (extractStridedSlice S1 ![0] · slices_S3_S1_0) main_arg0
  let main_v6 : IVec S_ 32 := shapeCast S_ main_v5 shapeCasts_S1_S_
  let main_v7 : IVec S1 32 := (extractStridedSlice S1 ![1] · slices_S3_S1_1) main_arg0
  let main_v8 : IVec S_ 32 := shapeCast S_ main_v7 shapeCasts_S1_S_
  let main_v9 : IVec S_ 32 := addi main_v6 main_v8
  let main_v10 : IVec S1 32 := (extractStridedSlice S1 ![2] · slices_S3_S1_2) main_arg0
  let main_v11 : IVec S_ 32 := shapeCast S_ main_v10 shapeCasts_S1_S_
  let main_v12 : IVec S_ 32 := addi main_v9 main_v11
  let main_c_1 : IVec S_ 32 := constantI S_ 32 10240#32
  let main_v13 : IVec S_ 1 := cmpi .sle main_v12 main_c_1
  let main_v14 : IVec S3 1 := broadcastInDim S3 ![] bcast_S_S3 main_v13
  let main_v15 : IVec S3 1 := andi main_v4 main_v14
  main_v15
-- ==== Kernel.lean ====
abbrev S3 : Shape := ⟨1, ![3]⟩
abbrev S6144x11008 : Shape := ⟨2, ![6144, 11008]⟩
abbrev S11008x5632 : Shape := ⟨2, ![11008, 5632]⟩
abbrev S_ : Shape := ⟨0, ![]⟩
abbrev S43 : Shape := ⟨1, ![43]⟩
abbrev S43x1 : Shape := ⟨2, ![43, 1]⟩
abbrev S1x3 : Shape := ⟨2, ![1, 3]⟩
abbrev S43x3 : Shape := ⟨2, ![43, 3]⟩
abbrev S3x6144x5632 : Shape := ⟨3, ![3, 6144, 5632]⟩
abbrev S1024x256 : Shape := ⟨2, ![1024, 256]⟩
abbrev S256x2816 : Shape := ⟨2, ![256, 2816]⟩
abbrev S1x1024x2816 : Shape := ⟨3, ![1, 1024, 2816]⟩
abbrev S1 : Shape := ⟨1, ![1]⟩
abbrev S1024x2816 : Shape := ⟨2, ![1024, 2816]⟩

abbrev nBuf : Space → Nat
  | .hbm => 45
  | .vmem => 6
  | .smem => 1
  | _ => 0

abbrev bufTy : (tb : Table) → Fin (tcTables nBuf tb) → BufTy
  | .hbm, ⟨0, _⟩ => ⟨S3, .i32⟩
  | .hbm, ⟨1, _⟩ => ⟨S6144x11008, .bf16⟩
  | .hbm, ⟨2, _⟩ => ⟨S11008x5632, .bf16⟩
  | .hbm, ⟨3, _⟩ => ⟨S_, .i32⟩
  | .hbm, ⟨4, _⟩ => ⟨S3, .i32⟩
  | .hbm, ⟨5, _⟩ => ⟨S3, .i32⟩
  | .hbm, ⟨6, _⟩ => ⟨S_, .i32⟩
  | .hbm, ⟨7, _⟩ => ⟨S3, .i32⟩
  | .hbm, ⟨8, _⟩ => ⟨S3, .i32⟩
  | .hbm, ⟨9, _⟩ => ⟨S_, .i32⟩
  | .hbm, ⟨10, _⟩ => ⟨S_, .i32⟩
  | .hbm, ⟨11, _⟩ => ⟨S3, .i32⟩
  | .hbm, ⟨12, _⟩ => ⟨S3, .i32⟩
  | .hbm, ⟨13, _⟩ => ⟨S3, .i32⟩
  | .hbm, ⟨14, _⟩ => ⟨S_, .i32⟩
  | .hbm, ⟨15, _⟩ => ⟨S3, .i32⟩
  | .hbm, ⟨16, _⟩ => ⟨S3, .i1⟩
  | .hbm, ⟨17, _⟩ => ⟨S3, .i32⟩
  | .hbm, ⟨18, _⟩ => ⟨S3, .i32⟩
  | .hbm, ⟨19, _⟩ => ⟨S_, .i32⟩
  | .hbm, ⟨20, _⟩ => ⟨S3, .i32⟩
  | .hbm, ⟨21, _⟩ => ⟨S3, .i1⟩
  | .hbm, ⟨22, _⟩ => ⟨S3, .i1⟩
  | .hbm, ⟨23, _⟩ => ⟨S_, .i32⟩
  | .hbm, ⟨24, _⟩ => ⟨S3, .i32⟩
  | .hbm, ⟨25, _⟩ => ⟨S3, .i32⟩
  | .hbm, ⟨26, _⟩ => ⟨S3, .i32⟩
  | .hbm, ⟨27, _⟩ => ⟨S_, .i32⟩
  | .hbm, ⟨28, _⟩ => ⟨S3, .i32⟩
  | .hbm, ⟨29, _⟩ => ⟨S3, .i32⟩
  | .hbm, ⟨30, _⟩ => ⟨S_, .i32⟩
  | .hbm, ⟨31, _⟩ => ⟨S_, .i32⟩
  | .hbm, ⟨32, _⟩ => ⟨S3, .i32⟩
  | .hbm, ⟨33, _⟩ => ⟨S43, .i32⟩
  | .hbm, ⟨34, _⟩ => ⟨S43x1, .i32⟩
  | .hbm, ⟨35, _⟩ => ⟨S1x3, .i32⟩
  | .hbm, ⟨36, _⟩ => ⟨S43x3, .i32⟩
  | .hbm, ⟨37, _⟩ => ⟨S43x3, .i32⟩
  | .hbm, ⟨38, _⟩ => ⟨S43x3, .i1⟩
  | .hbm, ⟨39, _⟩ => ⟨S43x3, .i32⟩
  | .hbm, ⟨40, _⟩ => ⟨S_, .i32⟩
  | .hbm, ⟨41, _⟩ => ⟨S43, .i32⟩
  | .hbm, ⟨42, _⟩ => ⟨S_, .i32⟩
  | .hbm, ⟨43, _⟩ => ⟨S43, .i32⟩
  | .hbm, ⟨44, _⟩ => ⟨S3x6144x5632, .f32⟩
  | .local _ .vmem, ⟨0, _⟩ => ⟨S1024x256, .bf16⟩
  | .local _ .vmem, ⟨1, _⟩ => ⟨S1024x256, .bf16⟩
  | .local _ .vmem, ⟨2, _⟩ => ⟨S256x2816, .bf16⟩
  | .local _ .vmem, ⟨3, _⟩ => ⟨S256x2816, .bf16⟩
  | .local _ .vmem, ⟨4, _⟩ => ⟨S1x1024x2816, .f32⟩
  | .local _ .vmem, ⟨5, _⟩ => ⟨S1x1024x2816, .f32⟩
  | .local _ .smem, ⟨0, _⟩ => ⟨S43, .i32⟩
  | _, _ => ⟨S3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_c_2 : Ref sig .tc := ⟨.hbm, 27, rfl⟩
abbrev main_v5 : Ref sig .tc := ⟨.hbm, 28, rfl⟩
abbrev main_v6 : Ref sig .tc := ⟨.hbm, 29, rfl⟩
abbrev main_call1_call0_c : Ref sig .tc := ⟨.hbm, 30, rfl⟩
abbrev main_call1_call0_v0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v18 : Ref sig .tc := ⟨.hbm, 44, rfl⟩
abbrev main_v17 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 43], ![false, false, false]⟩

abbrev pre0 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_off2 (i : grid0.Coords) : Fin 1 → Nat :=
  let arg2 : BitVec 32 := BitVec.ofNat 32 (i 2).val
  let c1_i32 : BitVec 32 := 1#32
  let v3 : BitVec 32 := Scalar.subi arg2 c1_i32
  let c0_i32_0 : BitVec 32 := 0#32
  let v4 : BitVec 32 := Scalar.maxsi v3 c0_i32_0
  let v5 : Index := Scalar.indexCast v4
  ![v5.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (k0_off1_inb : ∀ i : grid0.Coords, ∀ a, (k0_off1 i) a + S1.size a ≤ S43.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S43) ![v0.toNat] S1.size (k0_off1_inb i)) numel1_S1
  let c0_i32 : BitVec 32 := 0#32
  ![v1.toNat, arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceIdeal.lean ====
abbrev S3 : Shape := ⟨1, ![3]⟩
abbrev S6144x11008 : Shape := ⟨2, ![6144, 11008]⟩
abbrev S11008x5632 : Shape := ⟨2, ![11008, 5632]⟩
abbrev S_ : Shape := ⟨0, ![]⟩
abbrev S11008 : Shape := ⟨1, ![11008]⟩
abbrev S11008x1 : Shape := ⟨2, ![11008, 1]⟩
abbrev S1x3 : Shape := ⟨2, ![1, 3]⟩
abbrev S11008x3 : Shape := ⟨2, ![11008, 3]⟩
abbrev S1x11008 : Shape := ⟨2, ![1, 11008]⟩
abbrev S3x1 : Shape := ⟨2, ![3, 1]⟩
abbrev S3x11008 : Shape := ⟨2, ![3, 11008]⟩
abbrev S3x1x11008 : Shape := ⟨3, ![3, 1, 11008]⟩
abbrev S1x6144x11008 : Shape := ⟨3, ![1, 6144, 11008]⟩
abbrev S3x6144x11008 : Shape := ⟨3, ![3, 6144, 11008]⟩
abbrev S3x6144x5632 : Shape := ⟨3, ![3, 6144, 5632]⟩

abbrev nBuf : Space → Nat
  | .hbm => 62
  | .vmem => 0
  | .smem => 0
  | _ => 0

abbrev bufTy : (tb : Table) → Fin (tcTables nBuf tb) → BufTy
  | .hbm, ⟨0, _⟩ => ⟨S3, .i32⟩
  | .hbm, ⟨1, _⟩ => ⟨S6144x11008, .bf16⟩
  | .hbm, ⟨2, _⟩ => ⟨S11008x5632, .bf16⟩
  | .hbm, ⟨3, _⟩ => ⟨S_, .i32⟩
  | .hbm, ⟨4, _⟩ => ⟨S3, .i32⟩
  | .hbm, ⟨5, _⟩ => ⟨S3, .i32⟩
  | .hbm, ⟨6, _⟩ => ⟨S_, .i32⟩
  | .hbm, ⟨7, _⟩ => ⟨S3, .i32⟩
  | .hbm, ⟨8, _⟩ => ⟨S3, .i32⟩
  | .hbm, ⟨9, _⟩ => ⟨S_, .i32⟩
  | .hbm, ⟨10, _⟩ => ⟨S_, .i32⟩
  | .hbm, ⟨11, _⟩ => ⟨S3, .i32⟩
  | .hbm, ⟨12, _⟩ => ⟨S3, .i32⟩
  | .hbm, ⟨13, _⟩ => ⟨S3, .i32⟩
  | .hbm, ⟨14, _⟩ => ⟨S_, .i32⟩
  | .hbm, ⟨15, _⟩ => ⟨S3, .i32⟩
  | .hbm, ⟨16, _⟩ => ⟨S3, .i1⟩
  | .hbm, ⟨17, _⟩ => ⟨S3, .i32⟩
  | .hbm, ⟨18, _⟩ => ⟨S3, .i32⟩
  | .hbm, ⟨19, _⟩ => ⟨S_, .i32⟩
  | .hbm, ⟨20, _⟩ => ⟨S3, .i32⟩
  | .hbm, ⟨21, _⟩ => ⟨S3, .i1⟩
  | .hbm, ⟨22, _⟩ => ⟨S3, .i1⟩
  | .hbm, ⟨23, _⟩ => ⟨S_, .i32⟩
  | .hbm, ⟨24, _⟩ => ⟨S3, .i32⟩
  | .hbm, ⟨25, _⟩ => ⟨S3, .i32⟩
  | .hbm, ⟨26, _⟩ => ⟨S3, .i32⟩
  | .hbm, ⟨27, _⟩ => ⟨S_, .i32⟩
  | .hbm, ⟨28, _⟩ => ⟨S3, .i32⟩
  | .hbm, ⟨29, _⟩ => ⟨S3, .i32⟩
  | .hbm, ⟨30, _⟩ => ⟨S_, .i32⟩
  | .hbm, ⟨31, _⟩ => ⟨S3, .i32⟩
  | .hbm, ⟨32, _⟩ => ⟨S3, .i32⟩
  | .hbm, ⟨33, _⟩ => ⟨S_, .i32⟩
  | .hbm, ⟨34, _⟩ => ⟨S_, .i32⟩
  | .hbm, ⟨35, _⟩ => ⟨S3, .i32⟩
  | .hbm, ⟨36, _⟩ => ⟨S11008, .i32⟩
  | .hbm, ⟨37, _⟩ => ⟨S11008x1, .i32⟩
  | .hbm, ⟨38, _⟩ => ⟨S1x3, .i32⟩
  | .hbm, ⟨39, _⟩ => ⟨S11008x3, .i32⟩
  | .hbm, ⟨40, _⟩ => ⟨S11008x3, .i32⟩
  | .hbm, ⟨41, _⟩ => ⟨S11008x3, .i1⟩
  | .hbm, ⟨42, _⟩ => ⟨S11008x3, .i32⟩
  | .hbm, ⟨43, _⟩ => ⟨S_, .i32⟩
  | .hbm, ⟨44, _⟩ => ⟨S11008, .i32⟩
  | .hbm, ⟨45, _⟩ => ⟨S_, .i32⟩
  | .hbm, ⟨46, _⟩ => ⟨S11008, .i32⟩
  | .hbm, ⟨47, _⟩ => ⟨S11008, .i32⟩
  | .hbm, ⟨48, _⟩ => ⟨S1x11008, .i32⟩
  | .hbm, ⟨49, _⟩ => ⟨S3, .i32⟩
  | .hbm, ⟨50, _⟩ => ⟨S3x1, .i32⟩
  | .hbm, ⟨51, _⟩ => ⟨S3x11008, .i32⟩
  | .hbm, ⟨52, _⟩ => ⟨S3x11008, .i32⟩
  | .hbm, ⟨53, _⟩ => ⟨S3x11008, .i1⟩
  | .hbm, ⟨54, _⟩ => ⟨S3x1x11008, .i1⟩
  | .hbm, ⟨55, _⟩ => ⟨S1x6144x11008, .bf16⟩
  | .hbm, ⟨56, _⟩ => ⟨S_, .bf16⟩
  | .hbm, ⟨57, _⟩ => ⟨S3x6144x11008, .i1⟩
  | .hbm, ⟨58, _⟩ => ⟨S3x6144x11008, .bf16⟩
  | .hbm, ⟨59, _⟩ => ⟨S3x6144x11008, .bf16⟩
  | .hbm, ⟨60, _⟩ => ⟨S3x6144x11008, .bf16⟩
  | .hbm, ⟨61, _⟩ => ⟨S3x6144x5632, .f32⟩
  | _, _ => ⟨S3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_c_2 : Ref sig .tc := ⟨.hbm, 27, rfl⟩
abbrev main_v5 : Ref sig .tc := ⟨.hbm, 28, rfl⟩
abbrev main_v6 : Ref sig .tc := ⟨.hbm, 29, rfl⟩
abbrev main_c_3 : Ref sig .tc := ⟨.hbm, 30, rfl⟩
abbrev main_v7 : Ref sig .tc := ⟨.hbm, 31, rfl⟩
abbrev main_v8 : Ref sig .tc := ⟨.hbm, 32, rfl⟩
abbrev main_call1_call0_c : Ref sig .tc := ⟨.hbm, 33, rfl⟩
abbrev main_call1_call0_v0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_c_5 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v28 : Ref sig .tc := ⟨.hbm, 60, rfl⟩
abbrev main_v29 : Ref sig .tc := ⟨.hbm, 61, rfl⟩

abbrev nD : Nat := 1
abbrev τ : Topo := Topo.v7x

variable {F : FTy → Type} [FloatOps F]
-- ==== Quant.lean ====
abbrev S10240x6144 : Shape := ⟨2, ![10240, 6144]⟩
abbrev S3 : Shape := ⟨1, ![3]⟩
abbrev S16 : Shape := ⟨1, ![16]⟩
abbrev S_ : Shape := ⟨0, ![]⟩
abbrev S43 : Shape := ⟨1, ![43]⟩
abbrev S43x1 : Shape := ⟨2, ![43, 1]⟩
abbrev S1x3 : Shape := ⟨2, ![1, 3]⟩
abbrev S43x3 : Shape := ⟨2, ![43, 3]⟩
abbrev S288 : Shape := ⟨1, ![288]⟩
abbrev S1x288 : Shape := ⟨2, ![1, 288]⟩
abbrev S43x288 : Shape := ⟨2, ![43, 288]⟩
abbrev S43x288x1 : Shape := ⟨3, ![43, 288, 1]⟩
abbrev S43x1x288 : Shape := ⟨3, ![43, 1, 288]⟩
abbrev S323x32x6144 : Shape := ⟨3, ![323, 32, 6144]⟩
abbrev S344x6144 : Shape := ⟨2, ![344, 6144]⟩
abbrev S6144x11008 : Shape := ⟨2, ![6144, 11008]⟩
abbrev S1x1x288 : Shape := ⟨3, ![1, 1, 288]⟩
abbrev S32x2048 : Shape := ⟨2, ![32, 2048]⟩
abbrev S1 : Shape := ⟨1, ![1]⟩
abbrev S8x2048 : Shape := ⟨2, ![8, 2048]⟩
abbrev S2048x256 : Shape := ⟨2, ![2048, 256]⟩
abbrev S256x288 : Shape := ⟨2, ![256, 288]⟩
abbrev S2x8x32x2048 : Shape := ⟨4, ![2, 8, 32, 2048]⟩
abbrev S2 : Shape := ⟨1, ![2]⟩
abbrev S1x32x2048 : Shape := ⟨3, ![1, 32, 2048]⟩
abbrev S1x1x32x2048 : Shape := ⟨4, ![1, 1, 32, 2048]⟩
abbrev S32x256 : Shape := ⟨2, ![32, 256]⟩
abbrev S256x256 : Shape := ⟨2, ![256, 256]⟩
abbrev S64x256 : Shape := ⟨2, ![64, 256]⟩
abbrev S224x256 : Shape := ⟨2, ![224, 256]⟩
abbrev S32x64 : Shape := ⟨2, ![32, 64]⟩
abbrev S8x32x256 : Shape := ⟨3, ![8, 32, 256]⟩
abbrev S8x256 : Shape := ⟨2, ![8, 256]⟩
abbrev S8x1x256 : Shape := ⟨3, ![8, 1, 256]⟩
abbrev S1x1x32x256 : Shape := ⟨4, ![1, 1, 32, 256]⟩

abbrev nBuf : Space → Nat
  | .hbm => 227
  | .vmem => 26
  | .smem => 4
  | _ => 0

abbrev hbmTy0_0 (i : Nat) : BufTy := match i % 128 with
  | 0 => ⟨S10240x6144, .bf16⟩
  | 1 => ⟨S3, .i32⟩
  | 2 => ⟨S16, .f32⟩
  | 3 => ⟨S_, .i32⟩
  | 4 => ⟨S_, .i32⟩
  | 5 => ⟨S3, .i32⟩
  | 6 => ⟨S3, .i32⟩
  | 7 => ⟨S_, .i32⟩
  | 8 => ⟨S3, .i32⟩
  | 9 => ⟨S3, .i32⟩
  | 10 => ⟨S_, .i32⟩
  | 11 => ⟨S3, .i32⟩
  | 12 => ⟨S3, .i32⟩
  | 13 => ⟨S_, .i32⟩
  | 14 => ⟨S_, .i32⟩
  | 15 => ⟨S3, .i32⟩
  | 16 => ⟨S3, .i32⟩
  | 17 => ⟨S3, .i32⟩
  | 18 => ⟨S_, .i32⟩
  | 19 => ⟨S3, .i32⟩
  | 20 => ⟨S3, .i1⟩
  | 21 => ⟨S3, .i32⟩
  | 22 => ⟨S3, .i32⟩
  | 23 => ⟨S_, .i32⟩
  | 24 => ⟨S3, .i32⟩
  | 25 => ⟨S3, .i1⟩
  | 26 => ⟨S3, .i1⟩
  | 27 => ⟨S_, .i32⟩
  | 28 => ⟨S3, .i32⟩
  | 29 => ⟨S3, .i32⟩
  | 30 => ⟨S3, .i32⟩
  | 31 => ⟨S_, .i32⟩
  | 32 => ⟨S_, .i32⟩
  | 33 => ⟨S3, .i32⟩
  | 34 => ⟨S3, .i32⟩
  | 35 => ⟨S_, .i32⟩
  | 36 => ⟨S3, .i32⟩
  | 37 => ⟨S3, .i32⟩
  | 38 => ⟨S_, .i32⟩
  | 39 => ⟨S3, .i32⟩
  | 40 => ⟨S3, .i32⟩
  | 41 => ⟨S_, .i32⟩
  | 42 => ⟨S_, .i32⟩
  | 43 => ⟨S3, .i32⟩
  | 44 => ⟨S3, .i32⟩
  | 45 => ⟨S3, .i32⟩
  | 46 => ⟨S_, .i32⟩
  | 47 => ⟨S3, .i32⟩
  | 48 => ⟨S3, .i1⟩
  | 49 => ⟨S3, .i32⟩
  | 50 => ⟨S3, .i32⟩
  | 51 => ⟨S_, .i32⟩
  | 52 => ⟨S3, .i32⟩
  | 53 => ⟨S3, .i1⟩
  | 54 => ⟨S3, .i1⟩
  | 55 => ⟨S_, .i32⟩
  | 56 => ⟨S3, .i32⟩
  | 57 => ⟨S3, .i32⟩
  | 58 => ⟨S3, .i32⟩
  | 59 => ⟨S_, .i32⟩
  | 60 => ⟨S3, .i32⟩
  | 61 => ⟨S3, .i32⟩
  | 62 => ⟨S_, .i32⟩
  | 63 => ⟨S_, .i32⟩
  | 64 => ⟨S3, .i32⟩
  | 65 => ⟨S43, .i32⟩
  | 66 => ⟨S43x1, .i32⟩
  | 67 => ⟨S1x3, .i32⟩
  | 68 => ⟨S43x3, .i32⟩
  | 69 => ⟨S43x3, .i32⟩
  | 70 => ⟨S43x3, .i1⟩
  | 71 => ⟨S43x3, .i32⟩
  | 72 => ⟨S_, .i32⟩
  | 73 => ⟨S43, .i32⟩
  | 74 => ⟨S_, .i32⟩
  | 75 => ⟨S43, .i32⟩
  | 76 => ⟨S43, .i32⟩
  | 77 => ⟨S3, .i32⟩
  | 78 => ⟨S_, .i32⟩
  | 79 => ⟨S43, .i32⟩
  | 80 => ⟨S43, .i1⟩
  | 81 => ⟨S_, .i32⟩
  | 82 => ⟨S43, .i32⟩
  | 83 => ⟨S43, .i32⟩
  | 84 => ⟨S43, .i32⟩
  | 85 => ⟨S43x1, .i32⟩
  | 86 => ⟨S43, .i32⟩
  | 87 => ⟨S43, .i32⟩
  | 88 => ⟨S_, .i32⟩
  | 89 => ⟨S43, .i32⟩
  | 90 => ⟨S43, .i1⟩
  | 91 => ⟨S_, .i32⟩
  | 92 => ⟨S43, .i32⟩
  | 93 => ⟨S43, .i32⟩
  | 94 => ⟨S43, .i32⟩
  | 95 => ⟨S43x1, .i32⟩
  | 96 => ⟨S43, .i32⟩
  | 97 => ⟨S_, .i32⟩
  | 98 => ⟨S43, .i32⟩
  | 99 => ⟨S43, .i32⟩
  | 100 => ⟨S43, .i32⟩
  | 101 => ⟨S_, .i32⟩
  | 102 => ⟨S43, .i32⟩
  | 103 => ⟨S43, .i1⟩
  | 104 => ⟨S_, .i32⟩
  | 105 => ⟨S43, .i32⟩
  | 106 => ⟨S43, .i32⟩
  | 107 => ⟨S43, .i32⟩
  | 108 => ⟨S43x1, .i32⟩
  | 109 => ⟨S43, .i32⟩
  | 110 => ⟨S_, .i32⟩
  | 111 => ⟨S43, .i32⟩
  | 112 => ⟨S43, .i32⟩
  | 113 => ⟨S43, .i32⟩
  | 114 => ⟨S_, .i32⟩
  | 115 => ⟨S_, .i32⟩
  | 116 => ⟨S_, .i32⟩
  | 117 => ⟨S43, .i32⟩
  | 118 => ⟨S43, .i32⟩
  | 119 => ⟨S_, .i32⟩
  | 120 => ⟨S43, .i32⟩
  | 121 => ⟨S43, .i32⟩
  | 122 => ⟨S_, .i32⟩
  | 123 => ⟨S_, .i32⟩
  | 124 => ⟨S43, .i32⟩
  | 125 => ⟨S43, .i32⟩
  | 126 => ⟨S43, .i32⟩
  | 127 => ⟨S_, .i32⟩
  | _ => ⟨S10240x6144, .bf16⟩

abbrev hbmTy0_1 (i : Nat) : BufTy := match i % 128 with
  | 0 => ⟨S43, .i32⟩
  | 1 => ⟨S43, .i1⟩
  | 2 => ⟨S43, .i32⟩
  | 3 => ⟨S43, .i32⟩
  | 4 => ⟨S_, .i32⟩
  | 5 => ⟨S43, .i32⟩
  | 6 => ⟨S43, .i1⟩
  | 7 => ⟨S43, .i1⟩
  | 8 => ⟨S_, .i32⟩
  | 9 => ⟨S43, .i32⟩
  | 10 => ⟨S43, .i32⟩
  | 11 => ⟨S43, .i32⟩
  | 12 => ⟨S_, .i32⟩
  | 13 => ⟨S43, .i32⟩
  | 14 => ⟨S_, .i32⟩
  | 15 => ⟨S43, .i32⟩
  | 16 => ⟨S43, .i32⟩
  | 17 => ⟨S_, .i32⟩
  | 18 => ⟨S_, .i32⟩
  | 19 => ⟨S_, .i32⟩
  | 20 => ⟨S43, .i32⟩
  | 21 => ⟨S43, .i1⟩
  | 22 => ⟨S_, .i32⟩
  | 23 => ⟨S_, .i32⟩
  | 24 => ⟨S_, .i32⟩
  | 25 => ⟨S43, .i32⟩
  | 26 => ⟨S43, .i32⟩
  | 27 => ⟨S_, .i32⟩
  | 28 => ⟨S43, .i32⟩
  | 29 => ⟨S43, .i32⟩
  | 30 => ⟨S_, .i32⟩
  | 31 => ⟨S_, .i32⟩
  | 32 => ⟨S43, .i32⟩
  | 33 => ⟨S43, .i32⟩
  | 34 => ⟨S43, .i32⟩
  | 35 => ⟨S_, .i32⟩
  | 36 => ⟨S43, .i32⟩
  | 37 => ⟨S43, .i1⟩
  | 38 => ⟨S43, .i32⟩
  | 39 => ⟨S43, .i32⟩
  | 40 => ⟨S_, .i32⟩
  | 41 => ⟨S43, .i32⟩
  | 42 => ⟨S43, .i1⟩
  | 43 => ⟨S43, .i1⟩
  | 44 => ⟨S_, .i32⟩
  | 45 => ⟨S43, .i32⟩
  | 46 => ⟨S43, .i32⟩
  | 47 => ⟨S43, .i32⟩
  | 48 => ⟨S43, .i32⟩
  | 49 => ⟨S_, .i32⟩
  | 50 => ⟨S43, .i32⟩
  | 51 => ⟨S43, .i1⟩
  | 52 => ⟨S_, .i32⟩
  | 53 => ⟨S43, .i32⟩
  | 54 => ⟨S43, .i32⟩
  | 55 => ⟨S43, .i32⟩
  | 56 => ⟨S43x1, .i32⟩
  | 57 => ⟨S43, .i32⟩
  | 58 => ⟨S_, .i32⟩
  | 59 => ⟨S43, .i32⟩
  | 60 => ⟨S43, .i32⟩
  | 61 => ⟨S43, .i32⟩
  | 62 => ⟨S43, .i32⟩
  | 63 => ⟨S288, .i32⟩
  | 64 => ⟨S1x288, .i32⟩
  | 65 => ⟨S43x1, .i32⟩
  | 66 => ⟨S43x288, .i32⟩
  | 67 => ⟨S43x288, .i32⟩
  | 68 => ⟨S43x288, .i32⟩
  | 69 => ⟨S_, .i32⟩
  | 70 => ⟨S43x288, .i32⟩
  | 71 => ⟨S43x288, .i1⟩
  | 72 => ⟨S43x1, .i32⟩
  | 73 => ⟨S43x288, .i32⟩
  | 74 => ⟨S43x288, .i1⟩
  | 75 => ⟨S43x288, .i1⟩
  | 76 => ⟨S_, .i32⟩
  | 77 => ⟨S43x288, .i32⟩
  | 78 => ⟨S43x288, .i32⟩
  | 79 => ⟨S_, .i32⟩
  | 80 => ⟨S43x288, .i32⟩
  | 81 => ⟨S43x288, .i1⟩
  | 82 => ⟨S_, .i32⟩
  | 83 => ⟨S43x288, .i32⟩
  | 84 => ⟨S43x288, .i32⟩
  | 85 => ⟨S43x288, .i32⟩
  | 86 => ⟨S43x288x1, .i32⟩
  | 87 => ⟨S43x288, .f32⟩
  | 88 => ⟨S_, .f32⟩
  | 89 => ⟨S43x288, .f32⟩
  | 90 => ⟨S43x288, .f32⟩
  | 91 => ⟨S_, .f32⟩
  | 92 => ⟨S_, .f32⟩
  | 93 => ⟨S43x288, .f32⟩
  | 94 => ⟨S43x288, .f32⟩
  | 95 => ⟨S43x1x288, .f32⟩
  | 96 => ⟨S323x32x6144, .i8⟩
  | 97 => ⟨S344x6144, .i32⟩
  | 98 => ⟨S6144x11008, .bf16⟩
  | _ => ⟨S10240x6144, .bf16⟩

abbrev hbmTy (i : Nat) : BufTy := match i / 128 with
  | 0 => hbmTy0_0 i
  | 1 => hbmTy0_1 i
  | _ => ⟨S10240x6144, .bf16⟩

abbrev bufTy : (tb : Table) → Fin (tcTables nBuf tb) → BufTy
  | .hbm, ⟨i, _⟩ => hbmTy i
  | .local _ .vmem, ⟨0, _⟩ => ⟨S1x1x288, .f32⟩
  | .local _ .vmem, ⟨1, _⟩ => ⟨S1x1x288, .f32⟩
  | .local _ .vmem, ⟨2, _⟩ => ⟨S32x2048, .bf16⟩
  | .local _ .vmem, ⟨3, _⟩ => ⟨S32x2048, .bf16⟩
  | .local _ .vmem, ⟨4, _⟩ => ⟨S32x2048, .bf16⟩
  | .local _ .vmem, ⟨5, _⟩ => ⟨S32x2048, .bf16⟩
  | .local _ .vmem, ⟨6, _⟩ => ⟨S32x2048, .bf16⟩
  | .local _ .vmem, ⟨7, _⟩ => ⟨S32x2048, .bf16⟩
  | .local _ .vmem, ⟨8, _⟩ => ⟨S32x2048, .bf16⟩
  | .local _ .vmem, ⟨9, _⟩ => ⟨S32x2048, .bf16⟩
  | .local _ .vmem, ⟨10, _⟩ => ⟨S32x2048, .bf16⟩
  | .local _ .vmem, ⟨11, _⟩ => ⟨S32x2048, .bf16⟩
  | .local _ .vmem, ⟨12, _⟩ => ⟨S32x2048, .bf16⟩
  | .local _ .vmem, ⟨13, _⟩ => ⟨S32x2048, .bf16⟩
  | .local _ .vmem, ⟨14, _⟩ => ⟨S32x2048, .bf16⟩
  | .local _ .vmem, ⟨15, _⟩ => ⟨S32x2048, .bf16⟩
  | .local _ .vmem, ⟨16, _⟩ => ⟨S32x2048, .bf16⟩
  | .local _ .vmem, ⟨17, _⟩ => ⟨S32x2048, .bf16⟩
  | .local _ .vmem, ⟨18, _⟩ => ⟨S32x2048, .bf16⟩
  | .local _ .vmem, ⟨19, _⟩ => ⟨S32x2048, .bf16⟩
  | .local _ .vmem, ⟨20, _⟩ => ⟨S8x2048, .i32⟩
  | .local _ .vmem, ⟨21, _⟩ => ⟨S8x2048, .i32⟩
  | .local _ .vmem, ⟨22, _⟩ => ⟨S2048x256, .bf16⟩
  | .local _ .vmem, ⟨23, _⟩ => ⟨S2048x256, .bf16⟩
  | .local _ .vmem, ⟨24, _⟩ => ⟨S256x288, .bf16⟩
  | .local _ .vmem, ⟨25, _⟩ => ⟨S2x8x32x2048, .i8⟩
  | .local _ .smem, ⟨0, _⟩ => ⟨S43, .i32⟩
  | .local _ .smem, ⟨1, _⟩ => ⟨S43, .i32⟩
  | .local _ .smem, ⟨2, _⟩ => ⟨S43, .i32⟩
  | .local _ .smem, ⟨3, _⟩ => ⟨S43, .i32⟩
  | _, _ => ⟨S10240x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_call0_c : Ref sig .tc := ⟨.hbm, 3, rfl⟩
abbrev main_call0_call0_v0 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_c : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_0 : Ref sig .tc := ⟨.hbm, 27, rfl⟩
abbrev main_call1_v12 : Ref sig .tc := ⟨.hbm, 28, rfl⟩
abbrev main_call1_v13 : Ref sig .tc := ⟨.hbm, 29, rfl⟩
abbrev main_v6 : Ref sig .tc := ⟨.hbm, 30, rfl⟩
abbrev main_call2_call0_c : Ref sig .tc := ⟨.hbm, 31, rfl⟩
abbrev main_call2_call0_v0 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_c_3 : Ref sig .tc := ⟨.hbm, 38, rfl⟩
abbrev main_v11 : Ref sig .tc := ⟨.hbm, 39, rfl⟩
abbrev main_v12 : Ref sig .tc := ⟨.hbm, 40, rfl⟩
abbrev main_c_4 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_v6 : Ref sig .tc := ⟨.hbm, 48, rfl⟩
abbrev main_call3_v7 : Ref sig .tc := ⟨.hbm, 49, rfl⟩
abbrev main_call3_v8 : Ref sig .tc := ⟨.hbm, 50, rfl⟩
abbrev main_call3_c : Ref sig .tc := ⟨.hbm, 51, rfl⟩
abbrev main_call3_v9 : Ref sig .tc := ⟨.hbm, 52, rfl⟩
abbrev main_call3_v10 : Ref sig .tc := ⟨.hbm, 53, rfl⟩
abbrev main_call3_v11 : Ref sig .tc := ⟨.hbm, 54, rfl⟩
abbrev main_call3_c_0 : Ref sig .tc := ⟨.hbm, 55, rfl⟩
abbrev main_call3_v12 : Ref sig .tc := ⟨.hbm, 56, rfl⟩
abbrev main_call3_v13 : Ref sig .tc := ⟨.hbm, 57, rfl⟩
abbrev main_v13 : Ref sig .tc := ⟨.hbm, 58, rfl⟩
abbrev main_c_5 : Ref sig .tc := ⟨.hbm, 59, rfl⟩
abbrev main_v14 : Ref sig .tc := ⟨.hbm, 60, rfl⟩
abbrev main_v15 : Ref sig .tc := ⟨.hbm, 61, rfl⟩
abbrev main_call4_call0_c : Ref sig .tc := ⟨.hbm, 62, rfl⟩
abbrev main_call4_call0_v0 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_c_6 : Ref sig .tc := ⟨.hbm, 72, rfl⟩
abbrev main_v24 : Ref sig .tc := ⟨.hbm, 73, rfl⟩
abbrev main_c_7 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_c_8 : Ref sig .tc := ⟨.hbm, 78, rfl⟩
abbrev main_v28 : Ref sig .tc := ⟨.hbm, 79, rfl⟩
abbrev main_v29 : Ref sig .tc := ⟨.hbm, 80, rfl⟩
abbrev main_c_9 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_c_10 : Ref sig .tc := ⟨.hbm, 88, rfl⟩
abbrev main_v36 : Ref sig .tc := ⟨.hbm, 89, rfl⟩
abbrev main_v37 : Ref sig .tc := ⟨.hbm, 90, rfl⟩
abbrev main_c_11 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_c_12 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_c_13 : Ref sig .tc := ⟨.hbm, 101, rfl⟩
abbrev main_v46 : Ref sig .tc := ⟨.hbm, 102, rfl⟩
abbrev main_v47 : Ref sig .tc := ⟨.hbm, 103, rfl⟩
abbrev main_c_14 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_c_15 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_c_16 : Ref sig .tc := ⟨.hbm, 114, rfl⟩
abbrev main_c_17 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_call5_v3 : Ref sig .tc := ⟨.hbm, 119, rfl⟩
abbrev main_call5_v4 : Ref sig .tc := ⟨.hbm, 120, rfl⟩
abbrev main_v56 : Ref sig .tc := ⟨.hbm, 121, rfl⟩
abbrev main_c_18 : Ref sig .tc := ⟨.hbm, 122, rfl⟩
abbrev main_call6_v0 : Ref sig .tc := ⟨.hbm, 123, rfl⟩
abbrev main_call6_v1 : Ref sig .tc := ⟨.hbm, 124, rfl⟩
abbrev main_call6_v2 : Ref sig .tc := ⟨.hbm, 125, rfl⟩
abbrev main_call6_v3 : Ref sig .tc := ⟨.hbm, 126, rfl⟩
abbrev main_call6_v4 : Ref sig .tc := ⟨.hbm, 127, rfl⟩
abbrev main_call6_v5 : Ref sig .tc := ⟨.hbm, 128, rfl⟩
abbrev main_call6_v6 : Ref sig .tc := ⟨.hbm, 129, rfl⟩
abbrev main_call6_v7 : Ref sig .tc := ⟨.hbm, 130, rfl⟩
abbrev main_call6_v8 : Ref sig .tc := ⟨.hbm, 131, rfl⟩
abbrev main_call6_c : Ref sig .tc := ⟨.hbm, 132, rfl⟩
abbrev main_call6_v9 : Ref sig .tc := ⟨.hbm, 133, rfl⟩
abbrev main_call6_v10 : Ref sig .tc := ⟨.hbm, 134, rfl⟩
abbrev main_call6_v11 : Ref sig .tc := ⟨.hbm, 135, rfl⟩
abbrev main_call6_c_0 : Ref sig .tc := ⟨.hbm, 136, rfl⟩
abbrev main_call6_v12 : Ref sig .tc := ⟨.hbm, 137, rfl⟩
abbrev main_call6_v13 : Ref sig .tc := ⟨.hbm, 138, rfl⟩
abbrev main_v57 : Ref sig .tc := ⟨.hbm, 139, rfl⟩
abbrev main_c_19 : Ref sig .tc := ⟨.hbm, 140, rfl⟩
abbrev main_v58 : Ref sig .tc := ⟨.hbm, 141, rfl⟩
abbrev main_c_20 : Ref sig .tc := ⟨.hbm, 142, rfl⟩
abbrev main_v60 : Ref sig .tc := ⟨.hbm, 143, rfl⟩
abbrev main_v61 : Ref sig .tc := ⟨.hbm, 144, rfl⟩
abbrev main_c_21 : Ref sig .tc := ⟨.hbm, 145, rfl⟩
abbrev main_v63 : Ref sig .tc := ⟨.hbm, 146, rfl⟩
abbrev main_c_22 : Ref sig .tc := ⟨.hbm, 147, rfl⟩
abbrev main_v64 : Ref sig .tc := ⟨.hbm, 148, rfl⟩
abbrev main_v65 : Ref sig .tc := ⟨.hbm, 149, rfl⟩
abbrev main_c_23 : Ref sig .tc := ⟨.hbm, 150, rfl⟩
abbrev main_v66 : Ref sig .tc := ⟨.hbm, 151, rfl⟩
abbrev main_c_24 : Ref sig .tc := ⟨.hbm, 152, rfl⟩
abbrev main_v67 : Ref sig .tc := ⟨.hbm, 153, rfl⟩
abbrev main_v68 : Ref sig .tc := ⟨.hbm, 154, rfl⟩
abbrev main_c_25 : Ref sig .tc := ⟨.hbm, 155, rfl⟩
abbrev main_v69 : Ref sig .tc := ⟨.hbm, 156, rfl⟩
abbrev main_v70 : Ref sig .tc := ⟨.hbm, 157, rfl⟩
abbrev main_c_26 : Ref sig .tc := ⟨.hbm, 158, rfl⟩
abbrev main_call7_v0 : Ref sig .tc := ⟨.hbm, 159, rfl⟩
abbrev main_call7_v1 : Ref sig .tc := ⟨.hbm, 160, rfl⟩
abbrev main_call7_v2 : Ref sig .tc := ⟨.hbm, 161, rfl⟩
abbrev main_call7_v3 : Ref sig .tc := ⟨.hbm, 162, rfl⟩
abbrev main_call7_v4 : Ref sig .tc := ⟨.hbm, 163, rfl⟩
abbrev main_call7_v5 : Ref sig .tc := ⟨.hbm, 164, rfl⟩
abbrev main_call7_v6 : Ref sig .tc := ⟨.hbm, 165, rfl⟩
abbrev main_call7_v7 : Ref sig .tc := ⟨.hbm, 166, rfl⟩
abbrev main_call7_v8 : Ref sig .tc := ⟨.hbm, 167, rfl⟩
abbrev main_call7_c : Ref sig .tc := ⟨.hbm, 168, rfl⟩
abbrev main_call7_v9 : Ref sig .tc := ⟨.hbm, 169, rfl⟩
abbrev main_call7_v10 : Ref sig .tc := ⟨.hbm, 170, rfl⟩
abbrev main_call7_v11 : Ref sig .tc := ⟨.hbm, 171, rfl⟩
abbrev main_call7_c_0 : Ref sig .tc := ⟨.hbm, 172, rfl⟩
abbrev main_call7_v12 : Ref sig .tc := ⟨.hbm, 173, rfl⟩
abbrev main_call7_v13 : Ref sig .tc := ⟨.hbm, 174, rfl⟩
abbrev main_v71 : Ref sig .tc := ⟨.hbm, 175, rfl⟩
abbrev main_call8_v0 : Ref sig .tc := ⟨.hbm, 176, rfl⟩
abbrev main_c_27 : Ref sig .tc := ⟨.hbm, 177, rfl⟩
abbrev main_v73 : Ref sig .tc := ⟨.hbm, 178, rfl⟩
abbrev main_v74 : Ref sig .tc := ⟨.hbm, 179, rfl⟩
abbrev main_c_28 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_c_29 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_call9_v0 : Ref sig .tc := ⟨.hbm, 190, rfl⟩
abbrev main_v84 : Ref sig .tc := ⟨.hbm, 191, rfl⟩
abbrev main_v85 : Ref sig .tc := ⟨.hbm, 192, rfl⟩
abbrev main_v86 : Ref sig .tc := ⟨.hbm, 193, rfl⟩
abbrev main_v87 : Ref sig .tc := ⟨.hbm, 194, rfl⟩
abbrev main_v88 : Ref sig .tc := ⟨.hbm, 195, rfl⟩
abbrev main_v89 : Ref sig .tc := ⟨.hbm, 196, rfl⟩
abbrev main_c_30 : Ref sig .tc := ⟨.hbm, 197, rfl⟩
abbrev main_v90 : Ref sig .tc := ⟨.hbm, 198, rfl⟩
abbrev main_v91 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_c_31 : Ref sig .tc := ⟨.hbm, 204, rfl⟩
abbrev main_v96 : Ref sig .tc := ⟨.hbm, 205, rfl⟩
abbrev main_v97 : Ref sig .tc := ⟨.hbm, 206, rfl⟩
abbrev main_c_32 : Ref sig .tc := ⟨.hbm, 207, rfl⟩
abbrev main_v98 : Ref sig .tc := ⟨.hbm, 208, rfl⟩
abbrev main_v99 : Ref sig .tc := ⟨.hbm, 209, rfl⟩
abbrev main_c_33 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_cst : Ref sig .tc := ⟨.hbm, 216, rfl⟩
abbrev main_v105 : Ref sig .tc := ⟨.hbm, 217, rfl⟩
abbrev main_v106 : Ref sig .tc := ⟨.hbm, 218, rfl⟩
abbrev main_cst_34 : Ref sig .tc := ⟨.hbm, 219, rfl⟩
abbrev main_call10_v0 : Ref sig .tc := ⟨.hbm, 220, rfl⟩
abbrev main_call10_v1 : Ref sig .tc := ⟨.hbm, 221, rfl⟩
abbrev main_v107 : Ref sig .tc := ⟨.hbm, 222, rfl⟩
abbrev main_v108 : Ref sig .tc := ⟨.hbm, 223, rfl⟩
abbrev main_v109_0 : Ref sig .tc := ⟨.hbm, 224, rfl⟩
abbrev main_v109_1 : Ref sig .tc := ⟨.hbm, 225, rfl⟩
abbrev main_v109_2 : Ref sig .tc := ⟨.hbm, 226, rfl⟩
abbrev main_v59 : Ref sig .tc := ⟨.smem, 0, rfl⟩
abbrev main_v62 : Ref sig .tc := ⟨.smem, 1, rfl⟩
abbrev main_v72 : Ref sig .tc := ⟨.smem, 2, rfl⟩
abbrev main_v83 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![43, 3], ![false, false]⟩

abbrev pre0 : Pipeline.Prefetch sig := ⟨4, ![main_v59.idx, main_v62.idx, main_v72.idx, main_v83.idx], fun | 0 => main_v59.names | 1 => main_v62.names | 2 => main_v72.names | 3 => main_v83.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_0 : BitVec 32 := 0#32
  let v5 : BitVec 1 := Scalar.cmpi .ne v4 c0_i32_0
  v5

def k0_off2 (i : grid0.Coords) : Fin 1 → Nat :=
  let arg0 : BitVec 32 := BitVec.ofNat 32 (i 0).val
  let v53 : Index := Scalar.indexCast arg0
  ![v53.toNat]
def k0_cond2 (i : grid0.Coords) : BitVec 1 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_1 : BitVec 32 := 2#32
  let v6 : BitVec 1 := Scalar.cmpi .sge v1 c2_i32_1
  let v7 : BitVec 32 := Scalar.extui v6
  let c0_i32_2 : BitVec 32 := 0#32
  let v8 : BitVec 1 := Scalar.cmpi .ne v7 c0_i32_2
  v8

def k0_off3 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let v71 : Index := Scalar.indexCast v70
  ![v71.toNat]
def k0_off4 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let v113 : Index := Scalar.indexCast v70
  ![v113.toNat]
def k0_mult1 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let c3_i32_42 : BitVec 32 := 3#32
  let v111 : BitVec 32 := Scalar.muli v70 c3_i32_42
  let v112 : BitVec 32 := Scalar.subi v53 v111
  let c2048_i32 : BitVec 32 := 2048#32
  let v116 : BitVec 32 := Scalar.muli v112 c2048_i32
  v116
def k0_off5 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off6 (i : grid0.Coords) (v114 : BitVec 32) : Fin 3 → Nat :=
  let c0_i32_43 : BitVec 32 := 0#32
  let v115 : BitVec 32 := Scalar.addi v114 c0_i32_43
  let c0_i32_45 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let c3_i32_42 : BitVec 32 := 3#32
  let v111 : BitVec 32 := Scalar.muli v70 c3_i32_42
  let v112 : BitVec 32 := Scalar.subi v53 v111
  let c2048_i32 : BitVec 32 := 2048#32
  let v116 : BitVec 32 := Scalar.muli v112 c2048_i32
  let v117 : BitVec 32 := v116
  ![v115.toNat, 0, v117.toNat]
def k0_cond3 (v72 : BitVec 32) : BitVec 1 :=
  let c0_i32_26 : BitVec 32 := 0#32
  let v73 : BitVec 1 := Scalar.cmpi .sgt v72 c0_i32_26
  let v74 : BitVec 32 := Scalar.extui v73
  let c0_i32_27 : BitVec 32 := 0#32
  let v75 : BitVec 1 := Scalar.cmpi .ne v74 c0_i32_27
  v75

def k0_off7 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_44 : BitVec 32 := 0#32
  let c0_i32_46 : BitVec 32 := 0#32
  let c0_i32_47 : BitVec 32 := 0#32
  ![v2.toNat, 0, 0, 0]

def k0_chk1 (i : grid0.Coords) (v72 : BitVec 32) (v114 : BitVec 32) : Prop :=
  (∀ (k0_h2 : k0_cond2 i = 1#1), ∀ (k0_h3 : k0_cond3 v72 = 1#1), ∀ a, (k0_off6 i v114) a + S1x32x2048.size a ≤ S323x32x6144.size a) ∧
  (∀ (k0_h2 : k0_cond2 i = 1#1), ∀ (k0_h3 : k0_cond3 v72 = 1#1), ∀ (hinb : ∀ a, (k0_off6 i v114) a + S1x32x2048.size a ≤ S323x32x6144.size a), (Rect.unit (s := S323x32x6144) (k0_off6 i v114) S1x32x2048.size hinb).WholeWords (EltTy.packing .i8))
theorem k0_off6_inb : ∀ (i : grid0.Coords) (v72 : BitVec 32) (v114 : BitVec 32) (k0_hw1 : k0_chk1 i v72 v114), ∀ (k0_h2 : k0_cond2 i = 1#1), ∀ (k0_h3 : k0_cond3 v72 = 1#1), ∀ a, (k0_off6 i v114) a + S1x32x2048.size a ≤ S323x32x6144.size a := fun i v72 v114 k0_hw1 k0_h2 k0_h3 => k0_hw1.1 k0_h2 k0_h3
theorem k0_off6_wordsi8 : ∀ (i : grid0.Coords) (v72 : BitVec 32) (v114 : BitVec 32) (k0_hw1 : k0_chk1 i v72 v114), ∀ (k0_h2 : k0_cond2 i = 1#1), ∀ (k0_h3 : k0_cond3 v72 = 1#1), (Rect.unit (s := S323x32x6144) (k0_off6 i v114) S1x32x2048.size (k0_off6_inb i v72 v114 k0_hw1 k0_h2 k0_h3)).WholeWords (EltTy.packing .i8) := fun i v72 v114 k0_hw1 k0_h2 k0_h3 => k0_hw1.2 k0_h2 k0_h3 (k0_off6_inb i v72 v114 k0_hw1 k0_h2 k0_h3)

def k0_off8 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let v76 : Index := Scalar.indexCast v70
  ![v76.toNat]
def k0_off9 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let v113 : Index := Scalar.indexCast v70
  ![v113.toNat]
def k0_mult2 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let c3_i32_42 : BitVec 32 := 3#32
  let v111 : BitVec 32 := Scalar.muli v70 c3_i32_42
  let v112 : BitVec 32 := Scalar.subi v53 v111
  let c2048_i32 : BitVec 32 := 2048#32
  let v116 : BitVec 32 := Scalar.muli v112 c2048_i32
  v116
def k0_off10 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off11 (i : grid0.Coords) (v114 : BitVec 32) : Fin 3 → Nat :=
  let c1_i32_43 : BitVec 32 := 1#32
  let v115 : BitVec 32 := Scalar.addi v114 c1_i32_43
  let c0_i32_45 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let c3_i32_42 : BitVec 32 := 3#32
  let v111 : BitVec 32 := Scalar.muli v70 c3_i32_42
  let v112 : BitVec 32 := Scalar.subi v53 v111
  let c2048_i32 : BitVec 32 := 2048#32
  let v116 : BitVec 32 := Scalar.muli v112 c2048_i32
  let v117 : BitVec 32 := v116
  ![v115.toNat, 0, v117.toNat]
def k0_cond4 (v77 : BitVec 32) : BitVec 1 :=
  let c1_i32_28 : BitVec 32 := 1#32
  let v78 : BitVec 1 := Scalar.cmpi .sgt v77 c1_i32_28
  let v79 : BitVec 32 := Scalar.extui v78
  let c0_i32_29 : BitVec 32 := 0#32
  let v80 : BitVec 1 := Scalar.cmpi .ne v79 c0_i32_29
  v80

def k0_off12 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c1_i32_44 : BitVec 32 := 1#32
  let c0_i32_46 : BitVec 32 := 0#32
  let c0_i32_47 : BitVec 32 := 0#32
  ![v2.toNat, 1, 0, 0]

def k0_chk2 (i : grid0.Coords) (v77 : BitVec 32) (v114 : BitVec 32) : Prop :=
  (∀ (k0_h2 : k0_cond2 i = 1#1), ∀ (k0_h4 : k0_cond4 v77 = 1#1), ∀ a, (k0_off11 i v114) a + S1x32x2048.size a ≤ S323x32x6144.size a) ∧
  (∀ (k0_h2 : k0_cond2 i = 1#1), ∀ (k0_h4 : k0_cond4 v77 = 1#1), ∀ (hinb : ∀ a, (k0_off11 i v114) a + S1x32x2048.size a ≤ S323x32x6144.size a), (Rect.unit (s := S323x32x6144) (k0_off11 i v114) S1x32x2048.size hinb).WholeWords (EltTy.packing .i8))
theorem k0_off11_inb : ∀ (i : grid0.Coords) (v77 : BitVec 32) (v114 : BitVec 32) (k0_hw2 : k0_chk2 i v77 v114), ∀ (k0_h2 : k0_cond2 i = 1#1), ∀ (k0_h4 : k0_cond4 v77 = 1#1), ∀ a, (k0_off11 i v114) a + S1x32x2048.size a ≤ S323x32x6144.size a := fun i v77 v114 k0_hw2 k0_h2 k0_h4 => k0_hw2.1 k0_h2 k0_h4
theorem k0_off11_wordsi8 : ∀ (i : grid0.Coords) (v77 : BitVec 32) (v114 : BitVec 32) (k0_hw2 : k0_chk2 i v77 v114), ∀ (k0_h2 : k0_cond2 i = 1#1), ∀ (k0_h4 : k0_cond4 v77 = 1#1), (Rect.unit (s := S323x32x6144) (k0_off11 i v114) S1x32x2048.size (k0_off11_inb i v77 v114 k0_hw2 k0_h2 k0_h4)).WholeWords (EltTy.packing .i8) := fun i v77 v114 k0_hw2 k0_h2 k0_h4 => k0_hw2.2 k0_h2 k0_h4 (k0_off11_inb i v77 v114 k0_hw2 k0_h2 k0_h4)

def k0_off13 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let v81 : Index := Scalar.indexCast v70
  ![v81.toNat]
def k0_off14 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let v113 : Index := Scalar.indexCast v70
  ![v113.toNat]
def k0_mult3 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let c3_i32_42 : BitVec 32 := 3#32
  let v111 : BitVec 32 := Scalar.muli v70 c3_i32_42
  let v112 : BitVec 32 := Scalar.subi v53 v111
  let c2048_i32 : BitVec 32 := 2048#32
  let v116 : BitVec 32 := Scalar.muli v112 c2048_i32
  v116
def k0_off15 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off16 (i : grid0.Coords) (v114 : BitVec 32) : Fin 3 → Nat :=
  let c2_i32_43 : BitVec 32 := 2#32
  let v115 : BitVec 32 := Scalar.addi v114 c2_i32_43
  let c0_i32_45 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let c3_i32_42 : BitVec 32 := 3#32
  let v111 : BitVec 32 := Scalar.muli v70 c3_i32_42
  let v112 : BitVec 32 := Scalar.subi v53 v111
  let c2048_i32 : BitVec 32 := 2048#32
  let v116 : BitVec 32 := Scalar.muli v112 c2048_i32
  let v117 : BitVec 32 := v116
  ![v115.toNat, 0, v117.toNat]
def k0_cond5 (v82 : BitVec 32) : BitVec 1 :=
  let c2_i32_30 : BitVec 32 := 2#32
  let v83 : BitVec 1 := Scalar.cmpi .sgt v82 c2_i32_30
  let v84 : BitVec 32 := Scalar.extui v83
  let c0_i32_31 : BitVec 32 := 0#32
  let v85 : BitVec 1 := Scalar.cmpi .ne v84 c0_i32_31
  v85

def k0_off17 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c2_i32_44 : BitVec 32 := 2#32
  let c0_i32_46 : BitVec 32 := 0#32
  let c0_i32_47 : BitVec 32 := 0#32
  ![v2.toNat, 2, 0, 0]

def k0_chk3 (i : grid0.Coords) (v82 : BitVec 32) (v114 : BitVec 32) : Prop :=
  (∀ (k0_h2 : k0_cond2 i = 1#1), ∀ (k0_h5 : k0_cond5 v82 = 1#1), ∀ a, (k0_off16 i v114) a + S1x32x2048.size a ≤ S323x32x6144.size a) ∧
  (∀ (k0_h2 : k0_cond2 i = 1#1), ∀ (k0_h5 : k0_cond5 v82 = 1#1), ∀ (hinb : ∀ a, (k0_off16 i v114) a + S1x32x2048.size a ≤ S323x32x6144.size a), (Rect.unit (s := S323x32x6144) (k0_off16 i v114) S1x32x2048.size hinb).WholeWords (EltTy.packing .i8))
theorem k0_off16_inb : ∀ (i : grid0.Coords) (v82 : BitVec 32) (v114 : BitVec 32) (k0_hw3 : k0_chk3 i v82 v114), ∀ (k0_h2 : k0_cond2 i = 1#1), ∀ (k0_h5 : k0_cond5 v82 = 1#1), ∀ a, (k0_off16 i v114) a + S1x32x2048.size a ≤ S323x32x6144.size a := fun i v82 v114 k0_hw3 k0_h2 k0_h5 => k0_hw3.1 k0_h2 k0_h5
theorem k0_off16_wordsi8 : ∀ (i : grid0.Coords) (v82 : BitVec 32) (v114 : BitVec 32) (k0_hw3 : k0_chk3 i v82 v114), ∀ (k0_h2 : k0_cond2 i = 1#1), ∀ (k0_h5 : k0_cond5 v82 = 1#1), (Rect.unit (s := S323x32x6144) (k0_off16 i v114) S1x32x2048.size (k0_off16_inb i v82 v114 k0_hw3 k0_h2 k0_h5)).WholeWords (EltTy.packing .i8) := fun i v82 v114 k0_hw3 k0_h2 k0_h5 => k0_hw3.2 k0_h2 k0_h5 (k0_off16_inb i v82 v114 k0_hw3 k0_h2 k0_h5)

def k0_off18 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let v86 : Index := Scalar.indexCast v70
  ![v86.toNat]
def k0_off19 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let v113 : Index := Scalar.indexCast v70
  ![v113.toNat]
def k0_mult4 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let c3_i32_42 : BitVec 32 := 3#32
  let v111 : BitVec 32 := Scalar.muli v70 c3_i32_42
  let v112 : BitVec 32 := Scalar.subi v53 v111
  let c2048_i32 : BitVec 32 := 2048#32
  let v116 : BitVec 32 := Scalar.muli v112 c2048_i32
  v116
def k0_off20 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off21 (i : grid0.Coords) (v114 : BitVec 32) : Fin 3 → Nat :=
  let c3_i32_43 : BitVec 32 := 3#32
  let v115 : BitVec 32 := Scalar.addi v114 c3_i32_43
  let c0_i32_45 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let c3_i32_42 : BitVec 32 := 3#32
  let v111 : BitVec 32 := Scalar.muli v70 c3_i32_42
  let v112 : BitVec 32 := Scalar.subi v53 v111
  let c2048_i32 : BitVec 32 := 2048#32
  let v116 : BitVec 32 := Scalar.muli v112 c2048_i32
  let v117 : BitVec 32 := v116
  ![v115.toNat, 0, v117.toNat]
def k0_cond6 (v87 : BitVec 32) : BitVec 1 :=
  let c3_i32_32 : BitVec 32 := 3#32
  let v88 : BitVec 1 := Scalar.cmpi .sgt v87 c3_i32_32
  let v89 : BitVec 32 := Scalar.extui v88
  let c0_i32_33 : BitVec 32 := 0#32
  let v90 : BitVec 1 := Scalar.cmpi .ne v89 c0_i32_33
  v90

def k0_off22 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c3_i32_44 : BitVec 32 := 3#32
  let c0_i32_46 : BitVec 32 := 0#32
  let c0_i32_47 : BitVec 32 := 0#32
  ![v2.toNat, 3, 0, 0]

def k0_chk4 (i : grid0.Coords) (v87 : BitVec 32) (v114 : BitVec 32) : Prop :=
  (∀ (k0_h2 : k0_cond2 i = 1#1), ∀ (k0_h6 : k0_cond6 v87 = 1#1), ∀ a, (k0_off21 i v114) a + S1x32x2048.size a ≤ S323x32x6144.size a) ∧
  (∀ (k0_h2 : k0_cond2 i = 1#1), ∀ (k0_h6 : k0_cond6 v87 = 1#1), ∀ (hinb : ∀ a, (k0_off21 i v114) a + S1x32x2048.size a ≤ S323x32x6144.size a), (Rect.unit (s := S323x32x6144) (k0_off21 i v114) S1x32x2048.size hinb).WholeWords (EltTy.packing .i8))
theorem k0_off21_inb : ∀ (i : grid0.Coords) (v87 : BitVec 32) (v114 : BitVec 32) (k0_hw4 : k0_chk4 i v87 v114), ∀ (k0_h2 : k0_cond2 i = 1#1), ∀ (k0_h6 : k0_cond6 v87 = 1#1), ∀ a, (k0_off21 i v114) a + S1x32x2048.size a ≤ S323x32x6144.size a := fun i v87 v114 k0_hw4 k0_h2 k0_h6 => k0_hw4.1 k0_h2 k0_h6
theorem k0_off21_wordsi8 : ∀ (i : grid0.Coords) (v87 : BitVec 32) (v114 : BitVec 32) (k0_hw4 : k0_chk4 i v87 v114), ∀ (k0_h2 : k0_cond2 i = 1#1), ∀ (k0_h6 : k0_cond6 v87 = 1#1), (Rect.unit (s := S323x32x6144) (k0_off21 i v114) S1x32x2048.size (k0_off21_inb i v87 v114 k0_hw4 k0_h2 k0_h6)).WholeWords (EltTy.packing .i8) := fun i v87 v114 k0_hw4 k0_h2 k0_h6 => k0_hw4.2 k0_h2 k0_h6 (k0_off21_inb i v87 v114 k0_hw4 k0_h2 k0_h6)

def k0_off23 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let v91 : Index := Scalar.indexCast v70
  ![v91.toNat]
def k0_off24 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let v113 : Index := Scalar.indexCast v70
  ![v113.toNat]
def k0_mult5 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let c3_i32_42 : BitVec 32 := 3#32
  let v111 : BitVec 32 := Scalar.muli v70 c3_i32_42
  let v112 : BitVec 32 := Scalar.subi v53 v111
  let c2048_i32 : BitVec 32 := 2048#32
  let v116 : BitVec 32 := Scalar.muli v112 c2048_i32
  v116
def k0_off25 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off26 (i : grid0.Coords) (v114 : BitVec 32) : Fin 3 → Nat :=
  let c4_i32_43 : BitVec 32 := 4#32
  let v115 : BitVec 32 := Scalar.addi v114 c4_i32_43
  let c0_i32_45 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let c3_i32_42 : BitVec 32 := 3#32
  let v111 : BitVec 32 := Scalar.muli v70 c3_i32_42
  let v112 : BitVec 32 := Scalar.subi v53 v111
  let c2048_i32 : BitVec 32 := 2048#32
  let v116 : BitVec 32 := Scalar.muli v112 c2048_i32
  let v117 : BitVec 32 := v116
  ![v115.toNat, 0, v117.toNat]
def k0_cond7 (v92 : BitVec 32) : BitVec 1 :=
  let c4_i32_34 : BitVec 32 := 4#32
  let v93 : BitVec 1 := Scalar.cmpi .sgt v92 c4_i32_34
  let v94 : BitVec 32 := Scalar.extui v93
  let c0_i32_35 : BitVec 32 := 0#32
  let v95 : BitVec 1 := Scalar.cmpi .ne v94 c0_i32_35
  v95

def k0_off27 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c4_i32_44 : BitVec 32 := 4#32
  let c0_i32_46 : BitVec 32 := 0#32
  let c0_i32_47 : BitVec 32 := 0#32
  ![v2.toNat, 4, 0, 0]

def k0_chk5 (i : grid0.Coords) (v92 : BitVec 32) (v114 : BitVec 32) : Prop :=
  (∀ (k0_h2 : k0_cond2 i = 1#1), ∀ (k0_h7 : k0_cond7 v92 = 1#1), ∀ a, (k0_off26 i v114) a + S1x32x2048.size a ≤ S323x32x6144.size a) ∧
  (∀ (k0_h2 : k0_cond2 i = 1#1), ∀ (k0_h7 : k0_cond7 v92 = 1#1), ∀ (hinb : ∀ a, (k0_off26 i v114) a + S1x32x2048.size a ≤ S323x32x6144.size a), (Rect.unit (s := S323x32x6144) (k0_off26 i v114) S1x32x2048.size hinb).WholeWords (EltTy.packing .i8))
theorem k0_off26_inb : ∀ (i : grid0.Coords) (v92 : BitVec 32) (v114 : BitVec 32) (k0_hw5 : k0_chk5 i v92 v114), ∀ (k0_h2 : k0_cond2 i = 1#1), ∀ (k0_h7 : k0_cond7 v92 = 1#1), ∀ a, (k0_off26 i v114) a + S1x32x2048.size a ≤ S323x32x6144.size a := fun i v92 v114 k0_hw5 k0_h2 k0_h7 => k0_hw5.1 k0_h2 k0_h7
theorem k0_off26_wordsi8 : ∀ (i : grid0.Coords) (v92 : BitVec 32) (v114 : BitVec 32) (k0_hw5 : k0_chk5 i v92 v114), ∀ (k0_h2 : k0_cond2 i = 1#1), ∀ (k0_h7 : k0_cond7 v92 = 1#1), (Rect.unit (s := S323x32x6144) (k0_off26 i v114) S1x32x2048.size (k0_off26_inb i v92 v114 k0_hw5 k0_h2 k0_h7)).WholeWords (EltTy.packing .i8) := fun i v92 v114 k0_hw5 k0_h2 k0_h7 => k0_hw5.2 k0_h2 k0_h7 (k0_off26_inb i v92 v114 k0_hw5 k0_h2 k0_h7)

def k0_off28 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let v96 : Index := Scalar.indexCast v70
  ![v96.toNat]
def k0_off29 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let v113 : Index := Scalar.indexCast v70
  ![v113.toNat]
def k0_mult6 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let c3_i32_42 : BitVec 32 := 3#32
  let v111 : BitVec 32 := Scalar.muli v70 c3_i32_42
  let v112 : BitVec 32 := Scalar.subi v53 v111
  let c2048_i32 : BitVec 32 := 2048#32
  let v116 : BitVec 32 := Scalar.muli v112 c2048_i32
  v116
def k0_off30 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off31 (i : grid0.Coords) (v114 : BitVec 32) : Fin 3 → Nat :=
  let c5_i32_43 : BitVec 32 := 5#32
  let v115 : BitVec 32 := Scalar.addi v114 c5_i32_43
  let c0_i32_45 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let c3_i32_42 : BitVec 32 := 3#32
  let v111 : BitVec 32 := Scalar.muli v70 c3_i32_42
  let v112 : BitVec 32 := Scalar.subi v53 v111
  let c2048_i32 : BitVec 32 := 2048#32
  let v116 : BitVec 32 := Scalar.muli v112 c2048_i32
  let v117 : BitVec 32 := v116
  ![v115.toNat, 0, v117.toNat]
def k0_cond8 (v97 : BitVec 32) : BitVec 1 :=
  let c5_i32_36 : BitVec 32 := 5#32
  let v98 : BitVec 1 := Scalar.cmpi .sgt v97 c5_i32_36
  let v99 : BitVec 32 := Scalar.extui v98
  let c0_i32_37 : BitVec 32 := 0#32
  let v100 : BitVec 1 := Scalar.cmpi .ne v99 c0_i32_37
  v100

def k0_off32 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c5_i32_44 : BitVec 32 := 5#32
  let c0_i32_46 : BitVec 32 := 0#32
  let c0_i32_47 : BitVec 32 := 0#32
  ![v2.toNat, 5, 0, 0]

def k0_chk6 (i : grid0.Coords) (v97 : BitVec 32) (v114 : BitVec 32) : Prop :=
  (∀ (k0_h2 : k0_cond2 i = 1#1), ∀ (k0_h8 : k0_cond8 v97 = 1#1), ∀ a, (k0_off31 i v114) a + S1x32x2048.size a ≤ S323x32x6144.size a) ∧
  (∀ (k0_h2 : k0_cond2 i = 1#1), ∀ (k0_h8 : k0_cond8 v97 = 1#1), ∀ (hinb : ∀ a, (k0_off31 i v114) a + S1x32x2048.size a ≤ S323x32x6144.size a), (Rect.unit (s := S323x32x6144) (k0_off31 i v114) S1x32x2048.size hinb).WholeWords (EltTy.packing .i8))
theorem k0_off31_inb : ∀ (i : grid0.Coords) (v97 : BitVec 32) (v114 : BitVec 32) (k0_hw6 : k0_chk6 i v97 v114), ∀ (k0_h2 : k0_cond2 i = 1#1), ∀ (k0_h8 : k0_cond8 v97 = 1#1), ∀ a, (k0_off31 i v114) a + S1x32x2048.size a ≤ S323x32x6144.size a := fun i v97 v114 k0_hw6 k0_h2 k0_h8 => k0_hw6.1 k0_h2 k0_h8
theorem k0_off31_wordsi8 : ∀ (i : grid0.Coords) (v97 : BitVec 32) (v114 : BitVec 32) (k0_hw6 : k0_chk6 i v97 v114), ∀ (k0_h2 : k0_cond2 i = 1#1), ∀ (k0_h8 : k0_cond8 v97 = 1#1), (Rect.unit (s := S323x32x6144) (k0_off31 i v114) S1x32x2048.size (k0_off31_inb i v97 v114 k0_hw6 k0_h2 k0_h8)).WholeWords (EltTy.packing .i8) := fun i v97 v114 k0_hw6 k0_h2 k0_h8 => k0_hw6.2 k0_h2 k0_h8 (k0_off31_inb i v97 v114 k0_hw6 k0_h2 k0_h8)

def k0_off33 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let v101 : Index := Scalar.indexCast v70
  ![v101.toNat]
def k0_off34 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let v113 : Index := Scalar.indexCast v70
  ![v113.toNat]
def k0_mult7 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let c3_i32_42 : BitVec 32 := 3#32
  let v111 : BitVec 32 := Scalar.muli v70 c3_i32_42
  let v112 : BitVec 32 := Scalar.subi v53 v111
  let c2048_i32 : BitVec 32 := 2048#32
  let v116 : BitVec 32 := Scalar.muli v112 c2048_i32
  v116
def k0_off35 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off36 (i : grid0.Coords) (v114 : BitVec 32) : Fin 3 → Nat :=
  let c6_i32_43 : BitVec 32 := 6#32
  let v115 : BitVec 32 := Scalar.addi v114 c6_i32_43
  let c0_i32_45 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let c3_i32_42 : BitVec 32 := 3#32
  let v111 : BitVec 32 := Scalar.muli v70 c3_i32_42
  let v112 : BitVec 32 := Scalar.subi v53 v111
  let c2048_i32 : BitVec 32 := 2048#32
  let v116 : BitVec 32 := Scalar.muli v112 c2048_i32
  let v117 : BitVec 32 := v116
  ![v115.toNat, 0, v117.toNat]
def k0_cond9 (v102 : BitVec 32) : BitVec 1 :=
  let c6_i32_38 : BitVec 32 := 6#32
  let v103 : BitVec 1 := Scalar.cmpi .sgt v102 c6_i32_38
  let v104 : BitVec 32 := Scalar.extui v103
  let c0_i32_39 : BitVec 32 := 0#32
  let v105 : BitVec 1 := Scalar.cmpi .ne v104 c0_i32_39
  v105

def k0_off37 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c6_i32_44 : BitVec 32 := 6#32
  let c0_i32_46 : BitVec 32 := 0#32
  let c0_i32_47 : BitVec 32 := 0#32
  ![v2.toNat, 6, 0, 0]

def k0_chk7 (i : grid0.Coords) (v102 : BitVec 32) (v114 : BitVec 32) : Prop :=
  (∀ (k0_h2 : k0_cond2 i = 1#1), ∀ (k0_h9 : k0_cond9 v102 = 1#1), ∀ a, (k0_off36 i v114) a + S1x32x2048.size a ≤ S323x32x6144.size a) ∧
  (∀ (k0_h2 : k0_cond2 i = 1#1), ∀ (k0_h9 : k0_cond9 v102 = 1#1), ∀ (hinb : ∀ a, (k0_off36 i v114) a + S1x32x2048.size a ≤ S323x32x6144.size a), (Rect.unit (s := S323x32x6144) (k0_off36 i v114) S1x32x2048.size hinb).WholeWords (EltTy.packing .i8))
theorem k0_off36_inb : ∀ (i : grid0.Coords) (v102 : BitVec 32) (v114 : BitVec 32) (k0_hw7 : k0_chk7 i v102 v114), ∀ (k0_h2 : k0_cond2 i = 1#1), ∀ (k0_h9 : k0_cond9 v102 = 1#1), ∀ a, (k0_off36 i v114) a + S1x32x2048.size a ≤ S323x32x6144.size a := fun i v102 v114 k0_hw7 k0_h2 k0_h9 => k0_hw7.1 k0_h2 k0_h9
theorem k0_off36_wordsi8 : ∀ (i : grid0.Coords) (v102 : BitVec 32) (v114 : BitVec 32) (k0_hw7 : k0_chk7 i v102 v114), ∀ (k0_h2 : k0_cond2 i = 1#1), ∀ (k0_h9 : k0_cond9 v102 = 1#1), (Rect.unit (s := S323x32x6144) (k0_off36 i v114) S1x32x2048.size (k0_off36_inb i v102 v114 k0_hw7 k0_h2 k0_h9)).WholeWords (EltTy.packing .i8) := fun i v102 v114 k0_hw7 k0_h2 k0_h9 => k0_hw7.2 k0_h2 k0_h9 (k0_off36_inb i v102 v114 k0_hw7 k0_h2 k0_h9)

def k0_off38 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let v106 : Index := Scalar.indexCast v70
  ![v106.toNat]
def k0_off39 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let v113 : Index := Scalar.indexCast v70
  ![v113.toNat]
def k0_mult8 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let c3_i32_42 : BitVec 32 := 3#32
  let v111 : BitVec 32 := Scalar.muli v70 c3_i32_42
  let v112 : BitVec 32 := Scalar.subi v53 v111
  let c2048_i32 : BitVec 32 := 2048#32
  let v116 : BitVec 32 := Scalar.muli v112 c2048_i32
  v116
def k0_off40 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off41 (i : grid0.Coords) (v114 : BitVec 32) : Fin 3 → Nat :=
  let c7_i32_43 : BitVec 32 := 7#32
  let v115 : BitVec 32 := Scalar.addi v114 c7_i32_43
  let c0_i32_45 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32_18 : BitVec 32 := 2#32
  let v53 : BitVec 32 := Scalar.subi v1 c2_i32_18
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c3_i32_19 : BitVec 32 := 3#32
  let c0_i32_22 : BitVec 32 := 0#32
  let v60 : BitVec 1 := Scalar.cmpi .sgt c3_i32_19 c0_i32_22
  let v61 : BitVec 32 := Scalar.extui v60
  let c0_i32_23 : BitVec 32 := 0#32
  let v62 : BitVec 1 := Scalar.cmpi .slt c3_i32_19 c0_i32_23
  let v63 : BitVec 32 := Scalar.extui v62
  let v64 : BitVec 32 := Scalar.subi v61 v63
  let v65 : BitVec 1 := Scalar.cmpi .ne v59 v64
  let v66 : BitVec 32 := Scalar.remsi v53 c3_i32_19
  let c0_i32_24 : BitVec 32 := 0#32
  let v67 : BitVec 1 := Scalar.cmpi .ne v66 c0_i32_24
  let v68 : BitVec 1 := Scalar.andi v65 v67
  let v54 : BitVec 32 := Scalar.divsi v53 c3_i32_19
  let c1_i32_25 : BitVec 32 := 1#32
  let v69 : BitVec 32 := Scalar.subi v54 c1_i32_25
  let v70 : BitVec 32 := Scalar.select v68 v69 v54
  let c3_i32_42 : BitVec 32 := 3#32
  let v111 : BitVec 32 := Scalar.muli v70 c3_i32_42
  let v112 : BitVec 32 := Scalar.subi v53 v111
  let c2048_i32 : BitVec 32 := 2048#32
  let v116 : BitVec 32 := Scalar.muli v112 c2048_i32
  let v117 : BitVec 32 := v116
  ![v115.toNat, 0, v117.toNat]
def k0_cond10 (v107 : BitVec 32) : BitVec 1 :=
  let c7_i32_40 : BitVec 32 := 7#32
  let v108 : BitVec 1 := Scalar.cmpi .sgt v107 c7_i32_40
  let v109 : BitVec 32 := Scalar.extui v108
  let c0_i32_41 : BitVec 32 := 0#32
  let v110 : BitVec 1 := Scalar.cmpi .ne v109 c0_i32_41
  v110

def k0_off42 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c7_i32_44 : BitVec 32 := 7#32
  let c0_i32_46 : BitVec 32 := 0#32
  let c0_i32_47 : BitVec 32 := 0#32
  ![v2.toNat, 7, 0, 0]

def k0_chk8 (i : grid0.Coords) (v107 : BitVec 32) (v114 : BitVec 32) : Prop :=
  (∀ (k0_h2 : k0_cond2 i = 1#1), ∀ (k0_h10 : k0_cond10 v107 = 1#1), ∀ a, (k0_off41 i v114) a + S1x32x2048.size a ≤ S323x32x6144.size a) ∧
  (∀ (k0_h2 : k0_cond2 i = 1#1), ∀ (k0_h10 : k0_cond10 v107 = 1#1), ∀ (hinb : ∀ a, (k0_off41 i v114) a + S1x32x2048.size a ≤ S323x32x6144.size a), (Rect.unit (s := S323x32x6144) (k0_off41 i v114) S1x32x2048.size hinb).WholeWords (EltTy.packing .i8))
theorem k0_off41_inb : ∀ (i : grid0.Coords) (v107 : BitVec 32) (v114 : BitVec 32) (k0_hw8 : k0_chk8 i v107 v114), ∀ (k0_h2 : k0_cond2 i = 1#1), ∀ (k0_h10 : k0_cond10 v107 = 1#1), ∀ a, (k0_off41 i v114) a + S1x32x2048.size a ≤ S323x32x6144.size a := fun i v107 v114 k0_hw8 k0_h2 k0_h10 => k0_hw8.1 k0_h2 k0_h10
theorem k0_off41_wordsi8 : ∀ (i : grid0.Coords) (v107 : BitVec 32) (v114 : BitVec 32) (k0_hw8 : k0_chk8 i v107 v114), ∀ (k0_h2 : k0_cond2 i = 1#1), ∀ (k0_h10 : k0_cond10 v107 = 1#1), (Rect.unit (s := S323x32x6144) (k0_off41 i v114) S1x32x2048.size (k0_off41_inb i v107 v114 k0_hw8 k0_h2 k0_h10)).WholeWords (EltTy.packing .i8) := fun i v107 v114 k0_hw8 k0_h2 k0_h10 => k0_hw8.2 k0_h2 k0_h10 (k0_off41_inb i v107 v114 k0_hw8 k0_h2 k0_h10)

@[reducible] def k0_t1_loop : Scf.Loop 32 :=
  let c0_i32_3 : BitVec 32 := 0#32
  let c8_i32 : BitVec 32 := 8#32
  let v9 : BitVec 32 := Scalar.addi c0_i32_3 c8_i32
  let c1_i32 : BitVec 32 := 1#32
  ⟨c0_i32_3, v9, c1_i32⟩
def k0_mult9 (k0_t1 : Fin k0_t1_loop.trips) : BitVec 32 :=
  let c0_i32_19 : BitVec 32 := 0#32
  let c0_i32_3 : BitVec 32 := 0#32
  let c1_i32 : BitVec 32 := 1#32
  let arg22 : BitVec 32 := Scf.iv c0_i32_3 c1_i32 k0_t1
  let c1_i32_18 : BitVec 32 := 1#32
  let v53 : BitVec 32 := Scalar.muli arg22 c1_i32_18
  let v54 : BitVec 32 := Scalar.addi c0_i32_19 v53
  let c256_i32 : BitVec 32 := 256#32
  let v55 : BitVec 32 := Scalar.muli v54 c256_i32
  v55
def k0_off43 (k0_t1 : Fin k0_t1_loop.trips) : Fin 2 → Nat :=
  let c0 : Index := 0#32
  let c0_i32_19 : BitVec 32 := 0#32
  let c0_i32_3 : BitVec 32 := 0#32
  let c1_i32 : BitVec 32 := 1#32
  let arg22 : BitVec 32 := Scf.iv c0_i32_3 c1_i32 k0_t1
  let c1_i32_18 : BitVec 32 := 1#32
  let v53 : BitVec 32 := Scalar.muli arg22 c1_i32_18
  let v54 : BitVec 32 := Scalar.addi c0_i32_19 v53
  let c256_i32 : BitVec 32 := 256#32
  let v55 : BitVec 32 := Scalar.muli v54 c256_i32
  let v56 : BitVec 32 := v55
  let v57 : Index := Scalar.indexCast v56
  ![0, v57.toNat]
def k0_off44 (i : grid0.Coords) (k0_t1 : Fin k0_t1_loop.trips) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v406 : Index := Scalar.indexCast v2
  let c0_138 : Index := 0#32
  let c0_139 : Index := 0#32
  let c0_i32_19 : BitVec 32 := 0#32
  let c0_i32_3 : BitVec 32 := 0#32
  let c1_i32 : BitVec 32 := 1#32
  let arg22 : BitVec 32 := Scf.iv c0_i32_3 c1_i32 k0_t1
  let c1_i32_18 : BitVec 32 := 1#32
  let v53 : BitVec 32 := Scalar.muli arg22 c1_i32_18
  let v54 : BitVec 32 := Scalar.addi c0_i32_19 v53
  let c256_i32 : BitVec 32 := 256#32
  let v55 : BitVec 32 := Scalar.muli v54 c256_i32
  let v56 : BitVec 32 := v55
  let v407 : Index := Scalar.indexCast v56
  ![v406.toNat, 0, 0, v407.toNat]
def k0_off45 (i : grid0.Coords) (k0_t1 : Fin k0_t1_loop.trips) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v412 : Index := Scalar.indexCast v2
  let c1 : Index := 1#32
  let c0_140 : Index := 0#32
  let c0_i32_19 : BitVec 32 := 0#32
  let c0_i32_3 : BitVec 32 := 0#32
  let c1_i32 : BitVec 32 := 1#32
  let arg22 : BitVec 32 := Scf.iv c0_i32_3 c1_i32 k0_t1
  let c1_i32_18 : BitVec 32 := 1#32
  let v53 : BitVec 32 := Scalar.muli arg22 c1_i32_18
  let v54 : BitVec 32 := Scalar.addi c0_i32_19 v53
  let c256_i32 : BitVec 32 := 256#32
  let v55 : BitVec 32 := Scalar.muli v54 c256_i32
  let v56 : BitVec 32 := v55
  let v413 : Index := Scalar.indexCast v56
  ![v412.toNat, 1, 0, v413.toNat]
def k0_off46 (i : grid0.Coords) (k0_t1 : Fin k0_t1_loop.trips) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v418 : Index := Scalar.indexCast v2
  let c2 : Index := 2#32
  let c0_141 : Index := 0#32
  let c0_i32_19 : BitVec 32 := 0#32
  let c0_i32_3 : BitVec 32 := 0#32
  let c1_i32 : BitVec 32 := 1#32
  let arg22 : BitVec 32 := Scf.iv c0_i32_3 c1_i32 k0_t1
  let c1_i32_18 : BitVec 32 := 1#32
  let v53 : BitVec 32 := Scalar.muli arg22 c1_i32_18
  let v54 : BitVec 32 := Scalar.addi c0_i32_19 v53
  let c256_i32 : BitVec 32 := 256#32
  let v55 : BitVec 32 := Scalar.muli v54 c256_i32
  let v56 : BitVec 32 := v55
  let v419 : Index := Scalar.indexCast v56
  ![v418.toNat, 2, 0, v419.toNat]
def k0_off47 (i : grid0.Coords) (k0_t1 : Fin k0_t1_loop.trips) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v424 : Index := Scalar.indexCast v2
  let c3 : Index := 3#32
  let c0_142 : Index := 0#32
  let c0_i32_19 : BitVec 32 := 0#32
  let c0_i32_3 : BitVec 32 := 0#32
  let c1_i32 : BitVec 32 := 1#32
  let arg22 : BitVec 32 := Scf.iv c0_i32_3 c1_i32 k0_t1
  let c1_i32_18 : BitVec 32 := 1#32
  let v53 : BitVec 32 := Scalar.muli arg22 c1_i32_18
  let v54 : BitVec 32 := Scalar.addi c0_i32_19 v53
  let c256_i32 : BitVec 32 := 256#32
  let v55 : BitVec 32 := Scalar.muli v54 c256_i32
  let v56 : BitVec 32 := v55
  let v425 : Index := Scalar.indexCast v56
  ![v424.toNat, 3, 0, v425.toNat]
def k0_off48 (i : grid0.Coords) (k0_t1 : Fin k0_t1_loop.trips) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v430 : Index := Scalar.indexCast v2
  let c4 : Index := 4#32
  let c0_143 : Index := 0#32
  let c0_i32_19 : BitVec 32 := 0#32
  let c0_i32_3 : BitVec 32 := 0#32
  let c1_i32 : BitVec 32 := 1#32
  let arg22 : BitVec 32 := Scf.iv c0_i32_3 c1_i32 k0_t1
  let c1_i32_18 : BitVec 32 := 1#32
  let v53 : BitVec 32 := Scalar.muli arg22 c1_i32_18
  let v54 : BitVec 32 := Scalar.addi c0_i32_19 v53
  let c256_i32 : BitVec 32 := 256#32
  let v55 : BitVec 32 := Scalar.muli v54 c256_i32
  let v56 : BitVec 32 := v55
  let v431 : Index := Scalar.indexCast v56
  ![v430.toNat, 4, 0, v431.toNat]
def k0_off49 (i : grid0.Coords) (k0_t1 : Fin k0_t1_loop.trips) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v436 : Index := Scalar.indexCast v2
  let c5 : Index := 5#32
  let c0_144 : Index := 0#32
  let c0_i32_19 : BitVec 32 := 0#32
  let c0_i32_3 : BitVec 32 := 0#32
  let c1_i32 : BitVec 32 := 1#32
  let arg22 : BitVec 32 := Scf.iv c0_i32_3 c1_i32 k0_t1
  let c1_i32_18 : BitVec 32 := 1#32
  let v53 : BitVec 32 := Scalar.muli arg22 c1_i32_18
  let v54 : BitVec 32 := Scalar.addi c0_i32_19 v53
  let c256_i32 : BitVec 32 := 256#32
  let v55 : BitVec 32 := Scalar.muli v54 c256_i32
  let v56 : BitVec 32 := v55
  let v437 : Index := Scalar.indexCast v56
  ![v436.toNat, 5, 0, v437.toNat]
def k0_off50 (i : grid0.Coords) (k0_t1 : Fin k0_t1_loop.trips) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v442 : Index := Scalar.indexCast v2
  let c6 : Index := 6#32
  let c0_145 : Index := 0#32
  let c0_i32_19 : BitVec 32 := 0#32
  let c0_i32_3 : BitVec 32 := 0#32
  let c1_i32 : BitVec 32 := 1#32
  let arg22 : BitVec 32 := Scf.iv c0_i32_3 c1_i32 k0_t1
  let c1_i32_18 : BitVec 32 := 1#32
  let v53 : BitVec 32 := Scalar.muli arg22 c1_i32_18
  let v54 : BitVec 32 := Scalar.addi c0_i32_19 v53
  let c256_i32 : BitVec 32 := 256#32
  let v55 : BitVec 32 := Scalar.muli v54 c256_i32
  let v56 : BitVec 32 := v55
  let v443 : Index := Scalar.indexCast v56
  ![v442.toNat, 6, 0, v443.toNat]
def k0_off51 (i : grid0.Coords) (k0_t1 : Fin k0_t1_loop.trips) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v448 : Index := Scalar.indexCast v2
  let c7 : Index := 7#32
  let c0_146 : Index := 0#32
  let c0_i32_19 : BitVec 32 := 0#32
  let c0_i32_3 : BitVec 32 := 0#32
  let c1_i32 : BitVec 32 := 1#32
  let arg22 : BitVec 32 := Scf.iv c0_i32_3 c1_i32 k0_t1
  let c1_i32_18 : BitVec 32 := 1#32
  let v53 : BitVec 32 := Scalar.muli arg22 c1_i32_18
  let v54 : BitVec 32 := Scalar.addi c0_i32_19 v53
  let c256_i32 : BitVec 32 := 256#32
  let v55 : BitVec 32 := Scalar.muli v54 c256_i32
  let v56 : BitVec 32 := v55
  let v449 : Index := Scalar.indexCast v56
  ![v448.toNat, 7, 0, v449.toNat]
def k0_off52 (k0_t1 : Fin k0_t1_loop.trips) : Fin 2 → Nat :=
  let c0_147 : Index := 0#32
  let c0_i32_19 : BitVec 32 := 0#32
  let c0_i32_3 : BitVec 32 := 0#32
  let c1_i32 : BitVec 32 := 1#32
  let arg22 : BitVec 32 := Scf.iv c0_i32_3 c1_i32 k0_t1
  let c1_i32_18 : BitVec 32 := 1#32
  let v53 : BitVec 32 := Scalar.muli arg22 c1_i32_18
  let v54 : BitVec 32 := Scalar.addi c0_i32_19 v53
  let c256_i32 : BitVec 32 := 256#32
  let v55 : BitVec 32 := Scalar.muli v54 c256_i32
  let v56 : BitVec 32 := v55
  let v453 : Index := Scalar.indexCast v56
  ![0, v453.toNat]
def k0_off53 (k0_t1 : Fin k0_t1_loop.trips) : Fin 2 → Nat :=
  let c0_i32_19 : BitVec 32 := 0#32
  let c0_i32_3 : BitVec 32 := 0#32
  let c1_i32 : BitVec 32 := 1#32
  let arg22 : BitVec 32 := Scf.iv c0_i32_3 c1_i32 k0_t1
  let c1_i32_18 : BitVec 32 := 1#32
  let v53 : BitVec 32 := Scalar.muli arg22 c1_i32_18
  let v54 : BitVec 32 := Scalar.addi c0_i32_19 v53
  let c256_i32 : BitVec 32 := 256#32
  let v55 : BitVec 32 := Scalar.muli v54 c256_i32
  let v56 : BitVec 32 := v55
  let v456 : Index := Scalar.indexCast v56
  let c0_148 : Index := 0#32
  ![v456.toNat, 0]
def k0_off54 (i : grid0.Coords) : Fin 1 → Nat :=
  let arg0 : BitVec 32 := BitVec.ofNat 32 (i 0).val
  let v53 : Index := Scalar.indexCast arg0
  ![v53.toNat]
def k0_mult10 (i : grid0.Coords) : BitVec 32 :=
  let arg1 : BitVec 32 := BitVec.ofNat 32 (i 1).val
  let c2048_i32 : BitVec 32 := 2048#32
  let v56 : BitVec 32 := Scalar.muli arg1 c2048_i32
  v56
def k0_off55 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off56 (i : grid0.Coords) (v54 : BitVec 32) : Fin 3 → Nat :=
  let c0_i32_18 : BitVec 32 := 0#32
  let v55 : BitVec 32 := Scalar.addi v54 c0_i32_18
  let c0_i32_20 : BitVec 32 := 0#32
  let arg1 : BitVec 32 := BitVec.ofNat 32 (i 1).val
  let c2048_i32 : BitVec 32 := 2048#32
  let v56 : BitVec 32 := Scalar.muli arg1 c2048_i32
  let v57 : BitVec 32 := v56
  ![v55.toNat, 0, v57.toNat]
def k0_cond11 (v11 : BitVec 32) : BitVec 1 :=
  let c0_i32_5 : BitVec 32 := 0#32
  let v12 : BitVec 1 := Scalar.cmpi .sgt v11 c0_i32_5
  let v13 : BitVec 32 := Scalar.extui v12
  let c0_i32_6 : BitVec 32 := 0#32
  let v14 : BitVec 1 := Scalar.cmpi .ne v13 c0_i32_6
  v14

def k0_off57 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_19 : BitVec 32 := 0#32
  let c0_i32_21 : BitVec 32 := 0#32
  let c0_i32_22 : BitVec 32 := 0#32
  ![v2.toNat, 0, 0, 0]

def k0_chk9 (i : grid0.Coords) (v11 : BitVec 32) (v54 : BitVec 32) : Prop :=
  (∀ (k0_h11 : k0_cond11 v11 = 1#1), ∀ a, (k0_off56 i v54) a + S1x32x2048.size a ≤ S323x32x6144.size a) ∧
  (∀ (k0_h11 : k0_cond11 v11 = 1#1), ∀ (hinb : ∀ a, (k0_off56 i v54) a + S1x32x2048.size a ≤ S323x32x6144.size a), (Rect.unit (s := S323x32x6144) (k0_off56 i v54) S1x32x2048.size hinb).WholeWords (EltTy.packing .i8))
theorem k0_off56_inb : ∀ (i : grid0.Coords) (v11 : BitVec 32) (v54 : BitVec 32) (k0_hw9 : k0_chk9 i v11 v54), ∀ (k0_h11 : k0_cond11 v11 = 1#1), ∀ a, (k0_off56 i v54) a + S1x32x2048.size a ≤ S323x32x6144.size a := fun i v11 v54 k0_hw9 k0_h11 => k0_hw9.1 k0_h11
theorem k0_off56_wordsi8 : ∀ (i : grid0.Coords) (v11 : BitVec 32) (v54 : BitVec 32) (k0_hw9 : k0_chk9 i v11 v54), ∀ (k0_h11 : k0_cond11 v11 = 1#1), (Rect.unit (s := S323x32x6144) (k0_off56 i v54) S1x32x2048.size (k0_off56_inb i v11 v54 k0_hw9 k0_h11)).WholeWords (EltTy.packing .i8) := fun i v11 v54 k0_hw9 k0_h11 => k0_hw9.2 k0_h11 (k0_off56_inb i v11 v54 k0_hw9 k0_h11)

def k0_off58 (i : grid0.Coords) : Fin 1 → Nat :=
  let arg0 : BitVec 32 := BitVec.ofNat 32 (i 0).val
  let v15 : Index := Scalar.indexCast arg0
  ![v15.toNat]
def k0_off59 (i : grid0.Coords) : Fin 1 → Nat :=
  let arg0 : BitVec 32 := BitVec.ofNat 32 (i 0).val
  let v53 : Index := Scalar.indexCast arg0
  ![v53.toNat]
def k0_mult11 (i : grid0.Coords) : BitVec 32 :=
  let arg1 : BitVec 32 := BitVec.ofNat 32 (i 1).val
  let c2048_i32 : BitVec 32 := 2048#32
  let v56 : BitVec 32 := Scalar.muli arg1 c2048_i32
  v56
def k0_off60 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off61 (i : grid0.Coords) (v54 : BitVec 32) : Fin 3 → Nat :=
  let c1_i32_18 : BitVec 32 := 1#32
  let v55 : BitVec 32 := Scalar.addi v54 c1_i32_18
  let c0_i32_20 : BitVec 32 := 0#32
  let arg1 : BitVec 32 := BitVec.ofNat 32 (i 1).val
  let c2048_i32 : BitVec 32 := 2048#32
  let v56 : BitVec 32 := Scalar.muli arg1 c2048_i32
  let v57 : BitVec 32 := v56
  ![v55.toNat, 0, v57.toNat]
def k0_cond12 (v16 : BitVec 32) : BitVec 1 :=
  let c1_i32_7 : BitVec 32 := 1#32
  let v17 : BitVec 1 := Scalar.cmpi .sgt v16 c1_i32_7
  let v18 : BitVec 32 := Scalar.extui v17
  let c0_i32_8 : BitVec 32 := 0#32
  let v19 : BitVec 1 := Scalar.cmpi .ne v18 c0_i32_8
  v19

def k0_off62 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c1_i32_19 : BitVec 32 := 1#32
  let c0_i32_21 : BitVec 32 := 0#32
  let c0_i32_22 : BitVec 32 := 0#32
  ![v2.toNat, 1, 0, 0]

def k0_chk10 (i : grid0.Coords) (v16 : BitVec 32) (v54 : BitVec 32) : Prop :=
  (∀ (k0_h12 : k0_cond12 v16 = 1#1), ∀ a, (k0_off61 i v54) a + S1x32x2048.size a ≤ S323x32x6144.size a) ∧
  (∀ (k0_h12 : k0_cond12 v16 = 1#1), ∀ (hinb : ∀ a, (k0_off61 i v54) a + S1x32x2048.size a ≤ S323x32x6144.size a), (Rect.unit (s := S323x32x6144) (k0_off61 i v54) S1x32x2048.size hinb).WholeWords (EltTy.packing .i8))
theorem k0_off61_inb : ∀ (i : grid0.Coords) (v16 : BitVec 32) (v54 : BitVec 32) (k0_hw10 : k0_chk10 i v16 v54), ∀ (k0_h12 : k0_cond12 v16 = 1#1), ∀ a, (k0_off61 i v54) a + S1x32x2048.size a ≤ S323x32x6144.size a := fun i v16 v54 k0_hw10 k0_h12 => k0_hw10.1 k0_h12
theorem k0_off61_wordsi8 : ∀ (i : grid0.Coords) (v16 : BitVec 32) (v54 : BitVec 32) (k0_hw10 : k0_chk10 i v16 v54), ∀ (k0_h12 : k0_cond12 v16 = 1#1), (Rect.unit (s := S323x32x6144) (k0_off61 i v54) S1x32x2048.size (k0_off61_inb i v16 v54 k0_hw10 k0_h12)).WholeWords (EltTy.packing .i8) := fun i v16 v54 k0_hw10 k0_h12 => k0_hw10.2 k0_h12 (k0_off61_inb i v16 v54 k0_hw10 k0_h12)

def k0_off63 (i : grid0.Coords) : Fin 1 → Nat :=
  let arg0 : BitVec 32 := BitVec.ofNat 32 (i 0).val
  let v20 : Index := Scalar.indexCast arg0
  ![v20.toNat]
def k0_off64 (i : grid0.Coords) : Fin 1 → Nat :=
  let arg0 : BitVec 32 := BitVec.ofNat 32 (i 0).val
  let v53 : Index := Scalar.indexCast arg0
  ![v53.toNat]
def k0_mult12 (i : grid0.Coords) : BitVec 32 :=
  let arg1 : BitVec 32 := BitVec.ofNat 32 (i 1).val
  let c2048_i32 : BitVec 32 := 2048#32
  let v56 : BitVec 32 := Scalar.muli arg1 c2048_i32
  v56
def k0_off65 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off66 (i : grid0.Coords) (v54 : BitVec 32) : Fin 3 → Nat :=
  let c2_i32_18 : BitVec 32 := 2#32
  let v55 : BitVec 32 := Scalar.addi v54 c2_i32_18
  let c0_i32_20 : BitVec 32 := 0#32
  let arg1 : BitVec 32 := BitVec.ofNat 32 (i 1).val
  let c2048_i32 : BitVec 32 := 2048#32
  let v56 : BitVec 32 := Scalar.muli arg1 c2048_i32
  let v57 : BitVec 32 := v56
  ![v55.toNat, 0, v57.toNat]
def k0_cond13 (v21 : BitVec 32) : BitVec 1 :=
  let c2_i32_9 : BitVec 32 := 2#32
  let v22 : BitVec 1 := Scalar.cmpi .sgt v21 c2_i32_9
  let v23 : BitVec 32 := Scalar.extui v22
  let c0_i32_10 : BitVec 32 := 0#32
  let v24 : BitVec 1 := Scalar.cmpi .ne v23 c0_i32_10
  v24

def k0_off67 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c2_i32_19 : BitVec 32 := 2#32
  let c0_i32_21 : BitVec 32 := 0#32
  let c0_i32_22 : BitVec 32 := 0#32
  ![v2.toNat, 2, 0, 0]

def k0_chk11 (i : grid0.Coords) (v21 : BitVec 32) (v54 : BitVec 32) : Prop :=
  (∀ (k0_h13 : k0_cond13 v21 = 1#1), ∀ a, (k0_off66 i v54) a + S1x32x2048.size a ≤ S323x32x6144.size a) ∧
  (∀ (k0_h13 : k0_cond13 v21 = 1#1), ∀ (hinb : ∀ a, (k0_off66 i v54) a + S1x32x2048.size a ≤ S323x32x6144.size a), (Rect.unit (s := S323x32x6144) (k0_off66 i v54) S1x32x2048.size hinb).WholeWords (EltTy.packing .i8))
theorem k0_off66_inb : ∀ (i : grid0.Coords) (v21 : BitVec 32) (v54 : BitVec 32) (k0_hw11 : k0_chk11 i v21 v54), ∀ (k0_h13 : k0_cond13 v21 = 1#1), ∀ a, (k0_off66 i v54) a + S1x32x2048.size a ≤ S323x32x6144.size a := fun i v21 v54 k0_hw11 k0_h13 => k0_hw11.1 k0_h13
theorem k0_off66_wordsi8 : ∀ (i : grid0.Coords) (v21 : BitVec 32) (v54 : BitVec 32) (k0_hw11 : k0_chk11 i v21 v54), ∀ (k0_h13 : k0_cond13 v21 = 1#1), (Rect.unit (s := S323x32x6144) (k0_off66 i v54) S1x32x2048.size (k0_off66_inb i v21 v54 k0_hw11 k0_h13)).WholeWords (EltTy.packing .i8) := fun i v21 v54 k0_hw11 k0_h13 => k0_hw11.2 k0_h13 (k0_off66_inb i v21 v54 k0_hw11 k0_h13)

def k0_off68 (i : grid0.Coords) : Fin 1 → Nat :=
  let arg0 : BitVec 32 := BitVec.ofNat 32 (i 0).val
  let v25 : Index := Scalar.indexCast arg0
  ![v25.toNat]
def k0_off69 (i : grid0.Coords) : Fin 1 → Nat :=
  let arg0 : BitVec 32 := BitVec.ofNat 32 (i 0).val
  let v53 : Index := Scalar.indexCast arg0
  ![v53.toNat]
def k0_mult13 (i : grid0.Coords) : BitVec 32 :=
  let arg1 : BitVec 32 := BitVec.ofNat 32 (i 1).val
  let c2048_i32 : BitVec 32 := 2048#32
  let v56 : BitVec 32 := Scalar.muli arg1 c2048_i32
  v56
def k0_off70 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off71 (i : grid0.Coords) (v54 : BitVec 32) : Fin 3 → Nat :=
  let c3_i32_18 : BitVec 32 := 3#32
  let v55 : BitVec 32 := Scalar.addi v54 c3_i32_18
  let c0_i32_20 : BitVec 32 := 0#32
  let arg1 : BitVec 32 := BitVec.ofNat 32 (i 1).val
  let c2048_i32 : BitVec 32 := 2048#32
  let v56 : BitVec 32 := Scalar.muli arg1 c2048_i32
  let v57 : BitVec 32 := v56
  ![v55.toNat, 0, v57.toNat]
def k0_cond14 (v26 : BitVec 32) : BitVec 1 :=
  let c3_i32_11 : BitVec 32 := 3#32
  let v27 : BitVec 1 := Scalar.cmpi .sgt v26 c3_i32_11
  let v28 : BitVec 32 := Scalar.extui v27
  let c0_i32_12 : BitVec 32 := 0#32
  let v29 : BitVec 1 := Scalar.cmpi .ne v28 c0_i32_12
  v29

def k0_off72 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c3_i32_19 : BitVec 32 := 3#32
  let c0_i32_21 : BitVec 32 := 0#32
  let c0_i32_22 : BitVec 32 := 0#32
  ![v2.toNat, 3, 0, 0]

def k0_chk12 (i : grid0.Coords) (v26 : BitVec 32) (v54 : BitVec 32) : Prop :=
  (∀ (k0_h14 : k0_cond14 v26 = 1#1), ∀ a, (k0_off71 i v54) a + S1x32x2048.size a ≤ S323x32x6144.size a) ∧
  (∀ (k0_h14 : k0_cond14 v26 = 1#1), ∀ (hinb : ∀ a, (k0_off71 i v54) a + S1x32x2048.size a ≤ S323x32x6144.size a), (Rect.unit (s := S323x32x6144) (k0_off71 i v54) S1x32x2048.size hinb).WholeWords (EltTy.packing .i8))
theorem k0_off71_inb : ∀ (i : grid0.Coords) (v26 : BitVec 32) (v54 : BitVec 32) (k0_hw12 : k0_chk12 i v26 v54), ∀ (k0_h14 : k0_cond14 v26 = 1#1), ∀ a, (k0_off71 i v54) a + S1x32x2048.size a ≤ S323x32x6144.size a := fun i v26 v54 k0_hw12 k0_h14 => k0_hw12.1 k0_h14
theorem k0_off71_wordsi8 : ∀ (i : grid0.Coords) (v26 : BitVec 32) (v54 : BitVec 32) (k0_hw12 : k0_chk12 i v26 v54), ∀ (k0_h14 : k0_cond14 v26 = 1#1), (Rect.unit (s := S323x32x6144) (k0_off71 i v54) S1x32x2048.size (k0_off71_inb i v26 v54 k0_hw12 k0_h14)).WholeWords (EltTy.packing .i8) := fun i v26 v54 k0_hw12 k0_h14 => k0_hw12.2 k0_h14 (k0_off71_inb i v26 v54 k0_hw12 k0_h14)

def k0_off73 (i : grid0.Coords) : Fin 1 → Nat :=
  let arg0 : BitVec 32 := BitVec.ofNat 32 (i 0).val
  let v30 : Index := Scalar.indexCast arg0
  ![v30.toNat]
def k0_off74 (i : grid0.Coords) : Fin 1 → Nat :=
  let arg0 : BitVec 32 := BitVec.ofNat 32 (i 0).val
  let v53 : Index := Scalar.indexCast arg0
  ![v53.toNat]
def k0_mult14 (i : grid0.Coords) : BitVec 32 :=
  let arg1 : BitVec 32 := BitVec.ofNat 32 (i 1).val
  let c2048_i32 : BitVec 32 := 2048#32
  let v56 : BitVec 32 := Scalar.muli arg1 c2048_i32
  v56
def k0_off75 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off76 (i : grid0.Coords) (v54 : BitVec 32) : Fin 3 → Nat :=
  let c4_i32_18 : BitVec 32 := 4#32
  let v55 : BitVec 32 := Scalar.addi v54 c4_i32_18
  let c0_i32_20 : BitVec 32 := 0#32
  let arg1 : BitVec 32 := BitVec.ofNat 32 (i 1).val
  let c2048_i32 : BitVec 32 := 2048#32
  let v56 : BitVec 32 := Scalar.muli arg1 c2048_i32
  let v57 : BitVec 32 := v56
  ![v55.toNat, 0, v57.toNat]
def k0_cond15 (v31 : BitVec 32) : BitVec 1 :=
  let c4_i32 : BitVec 32 := 4#32
  let v32 : BitVec 1 := Scalar.cmpi .sgt v31 c4_i32
  let v33 : BitVec 32 := Scalar.extui v32
  let c0_i32_13 : BitVec 32 := 0#32
  let v34 : BitVec 1 := Scalar.cmpi .ne v33 c0_i32_13
  v34

def k0_off77 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c4_i32_19 : BitVec 32 := 4#32
  let c0_i32_21 : BitVec 32 := 0#32
  let c0_i32_22 : BitVec 32 := 0#32
  ![v2.toNat, 4, 0, 0]

def k0_chk13 (i : grid0.Coords) (v31 : BitVec 32) (v54 : BitVec 32) : Prop :=
  (∀ (k0_h15 : k0_cond15 v31 = 1#1), ∀ a, (k0_off76 i v54) a + S1x32x2048.size a ≤ S323x32x6144.size a) ∧
  (∀ (k0_h15 : k0_cond15 v31 = 1#1), ∀ (hinb : ∀ a, (k0_off76 i v54) a + S1x32x2048.size a ≤ S323x32x6144.size a), (Rect.unit (s := S323x32x6144) (k0_off76 i v54) S1x32x2048.size hinb).WholeWords (EltTy.packing .i8))
theorem k0_off76_inb : ∀ (i : grid0.Coords) (v31 : BitVec 32) (v54 : BitVec 32) (k0_hw13 : k0_chk13 i v31 v54), ∀ (k0_h15 : k0_cond15 v31 = 1#1), ∀ a, (k0_off76 i v54) a + S1x32x2048.size a ≤ S323x32x6144.size a := fun i v31 v54 k0_hw13 k0_h15 => k0_hw13.1 k0_h15
theorem k0_off76_wordsi8 : ∀ (i : grid0.Coords) (v31 : BitVec 32) (v54 : BitVec 32) (k0_hw13 : k0_chk13 i v31 v54), ∀ (k0_h15 : k0_cond15 v31 = 1#1), (Rect.unit (s := S323x32x6144) (k0_off76 i v54) S1x32x2048.size (k0_off76_inb i v31 v54 k0_hw13 k0_h15)).WholeWords (EltTy.packing .i8) := fun i v31 v54 k0_hw13 k0_h15 => k0_hw13.2 k0_h15 (k0_off76_inb i v31 v54 k0_hw13 k0_h15)

def k0_off78 (i : grid0.Coords) : Fin 1 → Nat :=
  let arg0 : BitVec 32 := BitVec.ofNat 32 (i 0).val
  let v35 : Index := Scalar.indexCast arg0
  ![v35.toNat]
def k0_off79 (i : grid0.Coords) : Fin 1 → Nat :=
  let arg0 : BitVec 32 := BitVec.ofNat 32 (i 0).val
  let v53 : Index := Scalar.indexCast arg0
  ![v53.toNat]
def k0_mult15 (i : grid0.Coords) : BitVec 32 :=
  let arg1 : BitVec 32 := BitVec.ofNat 32 (i 1).val
  let c2048_i32 : BitVec 32 := 2048#32
  let v56 : BitVec 32 := Scalar.muli arg1 c2048_i32
  v56
def k0_off80 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off81 (i : grid0.Coords) (v54 : BitVec 32) : Fin 3 → Nat :=
  let c5_i32_18 : BitVec 32 := 5#32
  let v55 : BitVec 32 := Scalar.addi v54 c5_i32_18
  let c0_i32_20 : BitVec 32 := 0#32
  let arg1 : BitVec 32 := BitVec.ofNat 32 (i 1).val
  let c2048_i32 : BitVec 32 := 2048#32
  let v56 : BitVec 32 := Scalar.muli arg1 c2048_i32
  let v57 : BitVec 32 := v56
  ![v55.toNat, 0, v57.toNat]
def k0_cond16 (v36 : BitVec 32) : BitVec 1 :=
  let c5_i32 : BitVec 32 := 5#32
  let v37 : BitVec 1 := Scalar.cmpi .sgt v36 c5_i32
  let v38 : BitVec 32 := Scalar.extui v37
  let c0_i32_14 : BitVec 32 := 0#32
  let v39 : BitVec 1 := Scalar.cmpi .ne v38 c0_i32_14
  v39

def k0_off82 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c5_i32_19 : BitVec 32 := 5#32
  let c0_i32_21 : BitVec 32 := 0#32
  let c0_i32_22 : BitVec 32 := 0#32
  ![v2.toNat, 5, 0, 0]

def k0_chk14 (i : grid0.Coords) (v36 : BitVec 32) (v54 : BitVec 32) : Prop :=
  (∀ (k0_h16 : k0_cond16 v36 = 1#1), ∀ a, (k0_off81 i v54) a + S1x32x2048.size a ≤ S323x32x6144.size a) ∧
  (∀ (k0_h16 : k0_cond16 v36 = 1#1), ∀ (hinb : ∀ a, (k0_off81 i v54) a + S1x32x2048.size a ≤ S323x32x6144.size a), (Rect.unit (s := S323x32x6144) (k0_off81 i v54) S1x32x2048.size hinb).WholeWords (EltTy.packing .i8))
theorem k0_off81_inb : ∀ (i : grid0.Coords) (v36 : BitVec 32) (v54 : BitVec 32) (k0_hw14 : k0_chk14 i v36 v54), ∀ (k0_h16 : k0_cond16 v36 = 1#1), ∀ a, (k0_off81 i v54) a + S1x32x2048.size a ≤ S323x32x6144.size a := fun i v36 v54 k0_hw14 k0_h16 => k0_hw14.1 k0_h16
theorem k0_off81_wordsi8 : ∀ (i : grid0.Coords) (v36 : BitVec 32) (v54 : BitVec 32) (k0_hw14 : k0_chk14 i v36 v54), ∀ (k0_h16 : k0_cond16 v36 = 1#1), (Rect.unit (s := S323x32x6144) (k0_off81 i v54) S1x32x2048.size (k0_off81_inb i v36 v54 k0_hw14 k0_h16)).WholeWords (EltTy.packing .i8) := fun i v36 v54 k0_hw14 k0_h16 => k0_hw14.2 k0_h16 (k0_off81_inb i v36 v54 k0_hw14 k0_h16)

def k0_off83 (i : grid0.Coords) : Fin 1 → Nat :=
  let arg0 : BitVec 32 := BitVec.ofNat 32 (i 0).val
  let v40 : Index := Scalar.indexCast arg0
  ![v40.toNat]
def k0_off84 (i : grid0.Coords) : Fin 1 → Nat :=
  let arg0 : BitVec 32 := BitVec.ofNat 32 (i 0).val
  let v53 : Index := Scalar.indexCast arg0
  ![v53.toNat]
def k0_mult16 (i : grid0.Coords) : BitVec 32 :=
  let arg1 : BitVec 32 := BitVec.ofNat 32 (i 1).val
  let c2048_i32 : BitVec 32 := 2048#32
  let v56 : BitVec 32 := Scalar.muli arg1 c2048_i32
  v56
def k0_off85 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off86 (i : grid0.Coords) (v54 : BitVec 32) : Fin 3 → Nat :=
  let c6_i32_18 : BitVec 32 := 6#32
  let v55 : BitVec 32 := Scalar.addi v54 c6_i32_18
  let c0_i32_20 : BitVec 32 := 0#32
  let arg1 : BitVec 32 := BitVec.ofNat 32 (i 1).val
  let c2048_i32 : BitVec 32 := 2048#32
  let v56 : BitVec 32 := Scalar.muli arg1 c2048_i32
  let v57 : BitVec 32 := v56
  ![v55.toNat, 0, v57.toNat]
def k0_cond17 (v41 : BitVec 32) : BitVec 1 :=
  let c6_i32 : BitVec 32 := 6#32
  let v42 : BitVec 1 := Scalar.cmpi .sgt v41 c6_i32
  let v43 : BitVec 32 := Scalar.extui v42
  let c0_i32_15 : BitVec 32 := 0#32
  let v44 : BitVec 1 := Scalar.cmpi .ne v43 c0_i32_15
  v44

def k0_off87 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c6_i32_19 : BitVec 32 := 6#32
  let c0_i32_21 : BitVec 32 := 0#32
  let c0_i32_22 : BitVec 32 := 0#32
  ![v2.toNat, 6, 0, 0]

def k0_chk15 (i : grid0.Coords) (v41 : BitVec 32) (v54 : BitVec 32) : Prop :=
  (∀ (k0_h17 : k0_cond17 v41 = 1#1), ∀ a, (k0_off86 i v54) a + S1x32x2048.size a ≤ S323x32x6144.size a) ∧
  (∀ (k0_h17 : k0_cond17 v41 = 1#1), ∀ (hinb : ∀ a, (k0_off86 i v54) a + S1x32x2048.size a ≤ S323x32x6144.size a), (Rect.unit (s := S323x32x6144) (k0_off86 i v54) S1x32x2048.size hinb).WholeWords (EltTy.packing .i8))
theorem k0_off86_inb : ∀ (i : grid0.Coords) (v41 : BitVec 32) (v54 : BitVec 32) (k0_hw15 : k0_chk15 i v41 v54), ∀ (k0_h17 : k0_cond17 v41 = 1#1), ∀ a, (k0_off86 i v54) a + S1x32x2048.size a ≤ S323x32x6144.size a := fun i v41 v54 k0_hw15 k0_h17 => k0_hw15.1 k0_h17
theorem k0_off86_wordsi8 : ∀ (i : grid0.Coords) (v41 : BitVec 32) (v54 : BitVec 32) (k0_hw15 : k0_chk15 i v41 v54), ∀ (k0_h17 : k0_cond17 v41 = 1#1), (Rect.unit (s := S323x32x6144) (k0_off86 i v54) S1x32x2048.size (k0_off86_inb i v41 v54 k0_hw15 k0_h17)).WholeWords (EltTy.packing .i8) := fun i v41 v54 k0_hw15 k0_h17 => k0_hw15.2 k0_h17 (k0_off86_inb i v41 v54 k0_hw15 k0_h17)

def k0_off88 (i : grid0.Coords) : Fin 1 → Nat :=
  let arg0 : BitVec 32 := BitVec.ofNat 32 (i 0).val
  let v45 : Index := Scalar.indexCast arg0
  ![v45.toNat]
def k0_off89 (i : grid0.Coords) : Fin 1 → Nat :=
  let arg0 : BitVec 32 := BitVec.ofNat 32 (i 0).val
  let v53 : Index := Scalar.indexCast arg0
  ![v53.toNat]
def k0_mult17 (i : grid0.Coords) : BitVec 32 :=
  let arg1 : BitVec 32 := BitVec.ofNat 32 (i 1).val
  let c2048_i32 : BitVec 32 := 2048#32
  let v56 : BitVec 32 := Scalar.muli arg1 c2048_i32
  v56
def k0_off90 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off91 (i : grid0.Coords) (v54 : BitVec 32) : Fin 3 → Nat :=
  let c7_i32_18 : BitVec 32 := 7#32
  let v55 : BitVec 32 := Scalar.addi v54 c7_i32_18
  let c0_i32_20 : BitVec 32 := 0#32
  let arg1 : BitVec 32 := BitVec.ofNat 32 (i 1).val
  let c2048_i32 : BitVec 32 := 2048#32
  let v56 : BitVec 32 := Scalar.muli arg1 c2048_i32
  let v57 : BitVec 32 := v56
  ![v55.toNat, 0, v57.toNat]
def k0_cond18 (v46 : BitVec 32) : BitVec 1 :=
  let c7_i32 : BitVec 32 := 7#32
  let v47 : BitVec 1 := Scalar.cmpi .sgt v46 c7_i32
  let v48 : BitVec 32 := Scalar.extui v47
  let c0_i32_16 : BitVec 32 := 0#32
  let v49 : BitVec 1 := Scalar.cmpi .ne v48 c0_i32_16
  v49

def k0_off92 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c7_i32_19 : BitVec 32 := 7#32
  let c0_i32_21 : BitVec 32 := 0#32
  let c0_i32_22 : BitVec 32 := 0#32
  ![v2.toNat, 7, 0, 0]

def k0_chk16 (i : grid0.Coords) (v46 : BitVec 32) (v54 : BitVec 32) : Prop :=
  (∀ (k0_h18 : k0_cond18 v46 = 1#1), ∀ a, (k0_off91 i v54) a + S1x32x2048.size a ≤ S323x32x6144.size a) ∧
  (∀ (k0_h18 : k0_cond18 v46 = 1#1), ∀ (hinb : ∀ a, (k0_off91 i v54) a + S1x32x2048.size a ≤ S323x32x6144.size a), (Rect.unit (s := S323x32x6144) (k0_off91 i v54) S1x32x2048.size hinb).WholeWords (EltTy.packing .i8))
theorem k0_off91_inb : ∀ (i : grid0.Coords) (v46 : BitVec 32) (v54 : BitVec 32) (k0_hw16 : k0_chk16 i v46 v54), ∀ (k0_h18 : k0_cond18 v46 = 1#1), ∀ a, (k0_off91 i v54) a + S1x32x2048.size a ≤ S323x32x6144.size a := fun i v46 v54 k0_hw16 k0_h18 => k0_hw16.1 k0_h18
theorem k0_off91_wordsi8 : ∀ (i : grid0.Coords) (v46 : BitVec 32) (v54 : BitVec 32) (k0_hw16 : k0_chk16 i v46 v54), ∀ (k0_h18 : k0_cond18 v46 = 1#1), (Rect.unit (s := S323x32x6144) (k0_off91 i v54) S1x32x2048.size (k0_off91_inb i v46 v54 k0_hw16 k0_h18)).WholeWords (EltTy.packing .i8) := fun i v46 v54 k0_hw16 k0_h18 => k0_hw16.2 k0_h18 (k0_off91_inb i v46 v54 k0_hw16 k0_h18)

def k0_cond19 (i : grid0.Coords) : BitVec 1 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c128_i32 : BitVec 32 := 128#32
  let v50 : BitVec 1 := Scalar.cmpi .eq v1 c128_i32
  let v51 : BitVec 32 := Scalar.extui v50
  let c0_i32_17 : BitVec 32 := 0#32
  let v52 : BitVec 1 := Scalar.cmpi .ne v51 c0_i32_17
  v52

def k0_off93 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let v72 : Index := Scalar.indexCast v71
  ![v72.toNat]
def k0_off94 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let v171 : Index := Scalar.indexCast v71
  ![v171.toNat]
def k0_mult18 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let c3_i32_66 : BitVec 32 := 3#32
  let v169 : BitVec 32 := Scalar.muli v71 c3_i32_66
  let v170 : BitVec 32 := Scalar.subi v53 v169
  let c2048_i32 : BitVec 32 := 2048#32
  let v174 : BitVec 32 := Scalar.muli v170 c2048_i32
  v174
def k0_off95 (i : grid0.Coords) : Fin 1 → Nat :=
  let c1_i32_19 : BitVec 32 := 1#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v54 : BitVec 32 := Scalar.subi c1_i32_19 v2
  ![v54.toNat]
def k0_off96 (i : grid0.Coords) (v172 : BitVec 32) : Fin 3 → Nat :=
  let c0_i32_67 : BitVec 32 := 0#32
  let v173 : BitVec 32 := Scalar.addi v172 c0_i32_67
  let c0_i32_69 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let c3_i32_66 : BitVec 32 := 3#32
  let v169 : BitVec 32 := Scalar.muli v71 c3_i32_66
  let v170 : BitVec 32 := Scalar.subi v53 v169
  let c2048_i32 : BitVec 32 := 2048#32
  let v174 : BitVec 32 := Scalar.muli v170 c2048_i32
  let v175 : BitVec 32 := v174
  ![v173.toNat, 0, v175.toNat]
def k0_cond20 (v73 : BitVec 32) : BitVec 1 :=
  let c0_i32_27 : BitVec 32 := 0#32
  let v74 : BitVec 1 := Scalar.cmpi .sgt v73 c0_i32_27
  let v75 : BitVec 32 := Scalar.extui v74
  let c0_i32_28 : BitVec 32 := 0#32
  let v76 : BitVec 1 := Scalar.cmpi .ne v75 c0_i32_28
  v76

def k0_off97 (i : grid0.Coords) : Fin 4 → Nat :=
  let c1_i32_19 : BitVec 32 := 1#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v54 : BitVec 32 := Scalar.subi c1_i32_19 v2
  let c0_i32_68 : BitVec 32 := 0#32
  let c0_i32_70 : BitVec 32 := 0#32
  let c0_i32_71 : BitVec 32 := 0#32
  ![v54.toNat, 0, 0, 0]

def k0_chk17 (i : grid0.Coords) (v73 : BitVec 32) (v172 : BitVec 32) : Prop :=
  (∀ (k0_h19 : k0_cond19 i = 1#1), ∀ (k0_h20 : k0_cond20 v73 = 1#1), ∀ a, (k0_off96 i v172) a + S1x32x2048.size a ≤ S323x32x6144.size a) ∧
  (∀ (k0_h19 : k0_cond19 i = 1#1), ∀ (k0_h20 : k0_cond20 v73 = 1#1), ∀ (hinb : ∀ a, (k0_off96 i v172) a + S1x32x2048.size a ≤ S323x32x6144.size a), (Rect.unit (s := S323x32x6144) (k0_off96 i v172) S1x32x2048.size hinb).WholeWords (EltTy.packing .i8))
theorem k0_off96_inb : ∀ (i : grid0.Coords) (v73 : BitVec 32) (v172 : BitVec 32) (k0_hw17 : k0_chk17 i v73 v172), ∀ (k0_h19 : k0_cond19 i = 1#1), ∀ (k0_h20 : k0_cond20 v73 = 1#1), ∀ a, (k0_off96 i v172) a + S1x32x2048.size a ≤ S323x32x6144.size a := fun i v73 v172 k0_hw17 k0_h19 k0_h20 => k0_hw17.1 k0_h19 k0_h20
theorem k0_off96_wordsi8 : ∀ (i : grid0.Coords) (v73 : BitVec 32) (v172 : BitVec 32) (k0_hw17 : k0_chk17 i v73 v172), ∀ (k0_h19 : k0_cond19 i = 1#1), ∀ (k0_h20 : k0_cond20 v73 = 1#1), (Rect.unit (s := S323x32x6144) (k0_off96 i v172) S1x32x2048.size (k0_off96_inb i v73 v172 k0_hw17 k0_h19 k0_h20)).WholeWords (EltTy.packing .i8) := fun i v73 v172 k0_hw17 k0_h19 k0_h20 => k0_hw17.2 k0_h19 k0_h20 (k0_off96_inb i v73 v172 k0_hw17 k0_h19 k0_h20)

def k0_off98 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let v77 : Index := Scalar.indexCast v71
  ![v77.toNat]
def k0_off99 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let v171 : Index := Scalar.indexCast v71
  ![v171.toNat]
def k0_mult19 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let c3_i32_66 : BitVec 32 := 3#32
  let v169 : BitVec 32 := Scalar.muli v71 c3_i32_66
  let v170 : BitVec 32 := Scalar.subi v53 v169
  let c2048_i32 : BitVec 32 := 2048#32
  let v174 : BitVec 32 := Scalar.muli v170 c2048_i32
  v174
def k0_off100 (i : grid0.Coords) : Fin 1 → Nat :=
  let c1_i32_19 : BitVec 32 := 1#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v54 : BitVec 32 := Scalar.subi c1_i32_19 v2
  ![v54.toNat]
def k0_off101 (i : grid0.Coords) (v172 : BitVec 32) : Fin 3 → Nat :=
  let c1_i32_67 : BitVec 32 := 1#32
  let v173 : BitVec 32 := Scalar.addi v172 c1_i32_67
  let c0_i32_69 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let c3_i32_66 : BitVec 32 := 3#32
  let v169 : BitVec 32 := Scalar.muli v71 c3_i32_66
  let v170 : BitVec 32 := Scalar.subi v53 v169
  let c2048_i32 : BitVec 32 := 2048#32
  let v174 : BitVec 32 := Scalar.muli v170 c2048_i32
  let v175 : BitVec 32 := v174
  ![v173.toNat, 0, v175.toNat]
def k0_cond21 (v78 : BitVec 32) : BitVec 1 :=
  let c1_i32_29 : BitVec 32 := 1#32
  let v79 : BitVec 1 := Scalar.cmpi .sgt v78 c1_i32_29
  let v80 : BitVec 32 := Scalar.extui v79
  let c0_i32_30 : BitVec 32 := 0#32
  let v81 : BitVec 1 := Scalar.cmpi .ne v80 c0_i32_30
  v81

def k0_off102 (i : grid0.Coords) : Fin 4 → Nat :=
  let c1_i32_19 : BitVec 32 := 1#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v54 : BitVec 32 := Scalar.subi c1_i32_19 v2
  let c1_i32_68 : BitVec 32 := 1#32
  let c0_i32_70 : BitVec 32 := 0#32
  let c0_i32_71 : BitVec 32 := 0#32
  ![v54.toNat, 1, 0, 0]

def k0_chk18 (i : grid0.Coords) (v78 : BitVec 32) (v172 : BitVec 32) : Prop :=
  (∀ (k0_h19 : k0_cond19 i = 1#1), ∀ (k0_h21 : k0_cond21 v78 = 1#1), ∀ a, (k0_off101 i v172) a + S1x32x2048.size a ≤ S323x32x6144.size a) ∧
  (∀ (k0_h19 : k0_cond19 i = 1#1), ∀ (k0_h21 : k0_cond21 v78 = 1#1), ∀ (hinb : ∀ a, (k0_off101 i v172) a + S1x32x2048.size a ≤ S323x32x6144.size a), (Rect.unit (s := S323x32x6144) (k0_off101 i v172) S1x32x2048.size hinb).WholeWords (EltTy.packing .i8))
theorem k0_off101_inb : ∀ (i : grid0.Coords) (v78 : BitVec 32) (v172 : BitVec 32) (k0_hw18 : k0_chk18 i v78 v172), ∀ (k0_h19 : k0_cond19 i = 1#1), ∀ (k0_h21 : k0_cond21 v78 = 1#1), ∀ a, (k0_off101 i v172) a + S1x32x2048.size a ≤ S323x32x6144.size a := fun i v78 v172 k0_hw18 k0_h19 k0_h21 => k0_hw18.1 k0_h19 k0_h21
theorem k0_off101_wordsi8 : ∀ (i : grid0.Coords) (v78 : BitVec 32) (v172 : BitVec 32) (k0_hw18 : k0_chk18 i v78 v172), ∀ (k0_h19 : k0_cond19 i = 1#1), ∀ (k0_h21 : k0_cond21 v78 = 1#1), (Rect.unit (s := S323x32x6144) (k0_off101 i v172) S1x32x2048.size (k0_off101_inb i v78 v172 k0_hw18 k0_h19 k0_h21)).WholeWords (EltTy.packing .i8) := fun i v78 v172 k0_hw18 k0_h19 k0_h21 => k0_hw18.2 k0_h19 k0_h21 (k0_off101_inb i v78 v172 k0_hw18 k0_h19 k0_h21)

def k0_off103 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let v82 : Index := Scalar.indexCast v71
  ![v82.toNat]
def k0_off104 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let v171 : Index := Scalar.indexCast v71
  ![v171.toNat]
def k0_mult20 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let c3_i32_66 : BitVec 32 := 3#32
  let v169 : BitVec 32 := Scalar.muli v71 c3_i32_66
  let v170 : BitVec 32 := Scalar.subi v53 v169
  let c2048_i32 : BitVec 32 := 2048#32
  let v174 : BitVec 32 := Scalar.muli v170 c2048_i32
  v174
def k0_off105 (i : grid0.Coords) : Fin 1 → Nat :=
  let c1_i32_19 : BitVec 32 := 1#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v54 : BitVec 32 := Scalar.subi c1_i32_19 v2
  ![v54.toNat]
def k0_off106 (i : grid0.Coords) (v172 : BitVec 32) : Fin 3 → Nat :=
  let c2_i32_67 : BitVec 32 := 2#32
  let v173 : BitVec 32 := Scalar.addi v172 c2_i32_67
  let c0_i32_69 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let c3_i32_66 : BitVec 32 := 3#32
  let v169 : BitVec 32 := Scalar.muli v71 c3_i32_66
  let v170 : BitVec 32 := Scalar.subi v53 v169
  let c2048_i32 : BitVec 32 := 2048#32
  let v174 : BitVec 32 := Scalar.muli v170 c2048_i32
  let v175 : BitVec 32 := v174
  ![v173.toNat, 0, v175.toNat]
def k0_cond22 (v83 : BitVec 32) : BitVec 1 :=
  let c2_i32_31 : BitVec 32 := 2#32
  let v84 : BitVec 1 := Scalar.cmpi .sgt v83 c2_i32_31
  let v85 : BitVec 32 := Scalar.extui v84
  let c0_i32_32 : BitVec 32 := 0#32
  let v86 : BitVec 1 := Scalar.cmpi .ne v85 c0_i32_32
  v86

def k0_off107 (i : grid0.Coords) : Fin 4 → Nat :=
  let c1_i32_19 : BitVec 32 := 1#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v54 : BitVec 32 := Scalar.subi c1_i32_19 v2
  let c2_i32_68 : BitVec 32 := 2#32
  let c0_i32_70 : BitVec 32 := 0#32
  let c0_i32_71 : BitVec 32 := 0#32
  ![v54.toNat, 2, 0, 0]

def k0_chk19 (i : grid0.Coords) (v83 : BitVec 32) (v172 : BitVec 32) : Prop :=
  (∀ (k0_h19 : k0_cond19 i = 1#1), ∀ (k0_h22 : k0_cond22 v83 = 1#1), ∀ a, (k0_off106 i v172) a + S1x32x2048.size a ≤ S323x32x6144.size a) ∧
  (∀ (k0_h19 : k0_cond19 i = 1#1), ∀ (k0_h22 : k0_cond22 v83 = 1#1), ∀ (hinb : ∀ a, (k0_off106 i v172) a + S1x32x2048.size a ≤ S323x32x6144.size a), (Rect.unit (s := S323x32x6144) (k0_off106 i v172) S1x32x2048.size hinb).WholeWords (EltTy.packing .i8))
theorem k0_off106_inb : ∀ (i : grid0.Coords) (v83 : BitVec 32) (v172 : BitVec 32) (k0_hw19 : k0_chk19 i v83 v172), ∀ (k0_h19 : k0_cond19 i = 1#1), ∀ (k0_h22 : k0_cond22 v83 = 1#1), ∀ a, (k0_off106 i v172) a + S1x32x2048.size a ≤ S323x32x6144.size a := fun i v83 v172 k0_hw19 k0_h19 k0_h22 => k0_hw19.1 k0_h19 k0_h22
theorem k0_off106_wordsi8 : ∀ (i : grid0.Coords) (v83 : BitVec 32) (v172 : BitVec 32) (k0_hw19 : k0_chk19 i v83 v172), ∀ (k0_h19 : k0_cond19 i = 1#1), ∀ (k0_h22 : k0_cond22 v83 = 1#1), (Rect.unit (s := S323x32x6144) (k0_off106 i v172) S1x32x2048.size (k0_off106_inb i v83 v172 k0_hw19 k0_h19 k0_h22)).WholeWords (EltTy.packing .i8) := fun i v83 v172 k0_hw19 k0_h19 k0_h22 => k0_hw19.2 k0_h19 k0_h22 (k0_off106_inb i v83 v172 k0_hw19 k0_h19 k0_h22)

def k0_off108 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let v87 : Index := Scalar.indexCast v71
  ![v87.toNat]
def k0_off109 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let v171 : Index := Scalar.indexCast v71
  ![v171.toNat]
def k0_mult21 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let c3_i32_66 : BitVec 32 := 3#32
  let v169 : BitVec 32 := Scalar.muli v71 c3_i32_66
  let v170 : BitVec 32 := Scalar.subi v53 v169
  let c2048_i32 : BitVec 32 := 2048#32
  let v174 : BitVec 32 := Scalar.muli v170 c2048_i32
  v174
def k0_off110 (i : grid0.Coords) : Fin 1 → Nat :=
  let c1_i32_19 : BitVec 32 := 1#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v54 : BitVec 32 := Scalar.subi c1_i32_19 v2
  ![v54.toNat]
def k0_off111 (i : grid0.Coords) (v172 : BitVec 32) : Fin 3 → Nat :=
  let c3_i32_67 : BitVec 32 := 3#32
  let v173 : BitVec 32 := Scalar.addi v172 c3_i32_67
  let c0_i32_69 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let c3_i32_66 : BitVec 32 := 3#32
  let v169 : BitVec 32 := Scalar.muli v71 c3_i32_66
  let v170 : BitVec 32 := Scalar.subi v53 v169
  let c2048_i32 : BitVec 32 := 2048#32
  let v174 : BitVec 32 := Scalar.muli v170 c2048_i32
  let v175 : BitVec 32 := v174
  ![v173.toNat, 0, v175.toNat]
def k0_cond23 (v88 : BitVec 32) : BitVec 1 :=
  let c3_i32_33 : BitVec 32 := 3#32
  let v89 : BitVec 1 := Scalar.cmpi .sgt v88 c3_i32_33
  let v90 : BitVec 32 := Scalar.extui v89
  let c0_i32_34 : BitVec 32 := 0#32
  let v91 : BitVec 1 := Scalar.cmpi .ne v90 c0_i32_34
  v91

def k0_off112 (i : grid0.Coords) : Fin 4 → Nat :=
  let c1_i32_19 : BitVec 32 := 1#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v54 : BitVec 32 := Scalar.subi c1_i32_19 v2
  let c3_i32_68 : BitVec 32 := 3#32
  let c0_i32_70 : BitVec 32 := 0#32
  let c0_i32_71 : BitVec 32 := 0#32
  ![v54.toNat, 3, 0, 0]

def k0_chk20 (i : grid0.Coords) (v88 : BitVec 32) (v172 : BitVec 32) : Prop :=
  (∀ (k0_h19 : k0_cond19 i = 1#1), ∀ (k0_h23 : k0_cond23 v88 = 1#1), ∀ a, (k0_off111 i v172) a + S1x32x2048.size a ≤ S323x32x6144.size a) ∧
  (∀ (k0_h19 : k0_cond19 i = 1#1), ∀ (k0_h23 : k0_cond23 v88 = 1#1), ∀ (hinb : ∀ a, (k0_off111 i v172) a + S1x32x2048.size a ≤ S323x32x6144.size a), (Rect.unit (s := S323x32x6144) (k0_off111 i v172) S1x32x2048.size hinb).WholeWords (EltTy.packing .i8))
theorem k0_off111_inb : ∀ (i : grid0.Coords) (v88 : BitVec 32) (v172 : BitVec 32) (k0_hw20 : k0_chk20 i v88 v172), ∀ (k0_h19 : k0_cond19 i = 1#1), ∀ (k0_h23 : k0_cond23 v88 = 1#1), ∀ a, (k0_off111 i v172) a + S1x32x2048.size a ≤ S323x32x6144.size a := fun i v88 v172 k0_hw20 k0_h19 k0_h23 => k0_hw20.1 k0_h19 k0_h23
theorem k0_off111_wordsi8 : ∀ (i : grid0.Coords) (v88 : BitVec 32) (v172 : BitVec 32) (k0_hw20 : k0_chk20 i v88 v172), ∀ (k0_h19 : k0_cond19 i = 1#1), ∀ (k0_h23 : k0_cond23 v88 = 1#1), (Rect.unit (s := S323x32x6144) (k0_off111 i v172) S1x32x2048.size (k0_off111_inb i v88 v172 k0_hw20 k0_h19 k0_h23)).WholeWords (EltTy.packing .i8) := fun i v88 v172 k0_hw20 k0_h19 k0_h23 => k0_hw20.2 k0_h19 k0_h23 (k0_off111_inb i v88 v172 k0_hw20 k0_h19 k0_h23)

def k0_off113 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let v92 : Index := Scalar.indexCast v71
  ![v92.toNat]
def k0_off114 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let v171 : Index := Scalar.indexCast v71
  ![v171.toNat]
def k0_mult22 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let c3_i32_66 : BitVec 32 := 3#32
  let v169 : BitVec 32 := Scalar.muli v71 c3_i32_66
  let v170 : BitVec 32 := Scalar.subi v53 v169
  let c2048_i32 : BitVec 32 := 2048#32
  let v174 : BitVec 32 := Scalar.muli v170 c2048_i32
  v174
def k0_off115 (i : grid0.Coords) : Fin 1 → Nat :=
  let c1_i32_19 : BitVec 32 := 1#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v54 : BitVec 32 := Scalar.subi c1_i32_19 v2
  ![v54.toNat]
def k0_off116 (i : grid0.Coords) (v172 : BitVec 32) : Fin 3 → Nat :=
  let c4_i32_67 : BitVec 32 := 4#32
  let v173 : BitVec 32 := Scalar.addi v172 c4_i32_67
  let c0_i32_69 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let c3_i32_66 : BitVec 32 := 3#32
  let v169 : BitVec 32 := Scalar.muli v71 c3_i32_66
  let v170 : BitVec 32 := Scalar.subi v53 v169
  let c2048_i32 : BitVec 32 := 2048#32
  let v174 : BitVec 32 := Scalar.muli v170 c2048_i32
  let v175 : BitVec 32 := v174
  ![v173.toNat, 0, v175.toNat]
def k0_cond24 (v93 : BitVec 32) : BitVec 1 :=
  let c4_i32_35 : BitVec 32 := 4#32
  let v94 : BitVec 1 := Scalar.cmpi .sgt v93 c4_i32_35
  let v95 : BitVec 32 := Scalar.extui v94
  let c0_i32_36 : BitVec 32 := 0#32
  let v96 : BitVec 1 := Scalar.cmpi .ne v95 c0_i32_36
  v96

def k0_off117 (i : grid0.Coords) : Fin 4 → Nat :=
  let c1_i32_19 : BitVec 32 := 1#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v54 : BitVec 32 := Scalar.subi c1_i32_19 v2
  let c4_i32_68 : BitVec 32 := 4#32
  let c0_i32_70 : BitVec 32 := 0#32
  let c0_i32_71 : BitVec 32 := 0#32
  ![v54.toNat, 4, 0, 0]

def k0_chk21 (i : grid0.Coords) (v93 : BitVec 32) (v172 : BitVec 32) : Prop :=
  (∀ (k0_h19 : k0_cond19 i = 1#1), ∀ (k0_h24 : k0_cond24 v93 = 1#1), ∀ a, (k0_off116 i v172) a + S1x32x2048.size a ≤ S323x32x6144.size a) ∧
  (∀ (k0_h19 : k0_cond19 i = 1#1), ∀ (k0_h24 : k0_cond24 v93 = 1#1), ∀ (hinb : ∀ a, (k0_off116 i v172) a + S1x32x2048.size a ≤ S323x32x6144.size a), (Rect.unit (s := S323x32x6144) (k0_off116 i v172) S1x32x2048.size hinb).WholeWords (EltTy.packing .i8))
theorem k0_off116_inb : ∀ (i : grid0.Coords) (v93 : BitVec 32) (v172 : BitVec 32) (k0_hw21 : k0_chk21 i v93 v172), ∀ (k0_h19 : k0_cond19 i = 1#1), ∀ (k0_h24 : k0_cond24 v93 = 1#1), ∀ a, (k0_off116 i v172) a + S1x32x2048.size a ≤ S323x32x6144.size a := fun i v93 v172 k0_hw21 k0_h19 k0_h24 => k0_hw21.1 k0_h19 k0_h24
theorem k0_off116_wordsi8 : ∀ (i : grid0.Coords) (v93 : BitVec 32) (v172 : BitVec 32) (k0_hw21 : k0_chk21 i v93 v172), ∀ (k0_h19 : k0_cond19 i = 1#1), ∀ (k0_h24 : k0_cond24 v93 = 1#1), (Rect.unit (s := S323x32x6144) (k0_off116 i v172) S1x32x2048.size (k0_off116_inb i v93 v172 k0_hw21 k0_h19 k0_h24)).WholeWords (EltTy.packing .i8) := fun i v93 v172 k0_hw21 k0_h19 k0_h24 => k0_hw21.2 k0_h19 k0_h24 (k0_off116_inb i v93 v172 k0_hw21 k0_h19 k0_h24)

def k0_off118 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let v97 : Index := Scalar.indexCast v71
  ![v97.toNat]
def k0_off119 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let v171 : Index := Scalar.indexCast v71
  ![v171.toNat]
def k0_mult23 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let c3_i32_66 : BitVec 32 := 3#32
  let v169 : BitVec 32 := Scalar.muli v71 c3_i32_66
  let v170 : BitVec 32 := Scalar.subi v53 v169
  let c2048_i32 : BitVec 32 := 2048#32
  let v174 : BitVec 32 := Scalar.muli v170 c2048_i32
  v174
def k0_off120 (i : grid0.Coords) : Fin 1 → Nat :=
  let c1_i32_19 : BitVec 32 := 1#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v54 : BitVec 32 := Scalar.subi c1_i32_19 v2
  ![v54.toNat]
def k0_off121 (i : grid0.Coords) (v172 : BitVec 32) : Fin 3 → Nat :=
  let c5_i32_67 : BitVec 32 := 5#32
  let v173 : BitVec 32 := Scalar.addi v172 c5_i32_67
  let c0_i32_69 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let c3_i32_66 : BitVec 32 := 3#32
  let v169 : BitVec 32 := Scalar.muli v71 c3_i32_66
  let v170 : BitVec 32 := Scalar.subi v53 v169
  let c2048_i32 : BitVec 32 := 2048#32
  let v174 : BitVec 32 := Scalar.muli v170 c2048_i32
  let v175 : BitVec 32 := v174
  ![v173.toNat, 0, v175.toNat]
def k0_cond25 (v98 : BitVec 32) : BitVec 1 :=
  let c5_i32_37 : BitVec 32 := 5#32
  let v99 : BitVec 1 := Scalar.cmpi .sgt v98 c5_i32_37
  let v100 : BitVec 32 := Scalar.extui v99
  let c0_i32_38 : BitVec 32 := 0#32
  let v101 : BitVec 1 := Scalar.cmpi .ne v100 c0_i32_38
  v101

def k0_off122 (i : grid0.Coords) : Fin 4 → Nat :=
  let c1_i32_19 : BitVec 32 := 1#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v54 : BitVec 32 := Scalar.subi c1_i32_19 v2
  let c5_i32_68 : BitVec 32 := 5#32
  let c0_i32_70 : BitVec 32 := 0#32
  let c0_i32_71 : BitVec 32 := 0#32
  ![v54.toNat, 5, 0, 0]

def k0_chk22 (i : grid0.Coords) (v98 : BitVec 32) (v172 : BitVec 32) : Prop :=
  (∀ (k0_h19 : k0_cond19 i = 1#1), ∀ (k0_h25 : k0_cond25 v98 = 1#1), ∀ a, (k0_off121 i v172) a + S1x32x2048.size a ≤ S323x32x6144.size a) ∧
  (∀ (k0_h19 : k0_cond19 i = 1#1), ∀ (k0_h25 : k0_cond25 v98 = 1#1), ∀ (hinb : ∀ a, (k0_off121 i v172) a + S1x32x2048.size a ≤ S323x32x6144.size a), (Rect.unit (s := S323x32x6144) (k0_off121 i v172) S1x32x2048.size hinb).WholeWords (EltTy.packing .i8))
theorem k0_off121_inb : ∀ (i : grid0.Coords) (v98 : BitVec 32) (v172 : BitVec 32) (k0_hw22 : k0_chk22 i v98 v172), ∀ (k0_h19 : k0_cond19 i = 1#1), ∀ (k0_h25 : k0_cond25 v98 = 1#1), ∀ a, (k0_off121 i v172) a + S1x32x2048.size a ≤ S323x32x6144.size a := fun i v98 v172 k0_hw22 k0_h19 k0_h25 => k0_hw22.1 k0_h19 k0_h25
theorem k0_off121_wordsi8 : ∀ (i : grid0.Coords) (v98 : BitVec 32) (v172 : BitVec 32) (k0_hw22 : k0_chk22 i v98 v172), ∀ (k0_h19 : k0_cond19 i = 1#1), ∀ (k0_h25 : k0_cond25 v98 = 1#1), (Rect.unit (s := S323x32x6144) (k0_off121 i v172) S1x32x2048.size (k0_off121_inb i v98 v172 k0_hw22 k0_h19 k0_h25)).WholeWords (EltTy.packing .i8) := fun i v98 v172 k0_hw22 k0_h19 k0_h25 => k0_hw22.2 k0_h19 k0_h25 (k0_off121_inb i v98 v172 k0_hw22 k0_h19 k0_h25)

def k0_off123 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let v102 : Index := Scalar.indexCast v71
  ![v102.toNat]
def k0_off124 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let v171 : Index := Scalar.indexCast v71
  ![v171.toNat]
def k0_mult24 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let c3_i32_66 : BitVec 32 := 3#32
  let v169 : BitVec 32 := Scalar.muli v71 c3_i32_66
  let v170 : BitVec 32 := Scalar.subi v53 v169
  let c2048_i32 : BitVec 32 := 2048#32
  let v174 : BitVec 32 := Scalar.muli v170 c2048_i32
  v174
def k0_off125 (i : grid0.Coords) : Fin 1 → Nat :=
  let c1_i32_19 : BitVec 32 := 1#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v54 : BitVec 32 := Scalar.subi c1_i32_19 v2
  ![v54.toNat]
def k0_off126 (i : grid0.Coords) (v172 : BitVec 32) : Fin 3 → Nat :=
  let c6_i32_67 : BitVec 32 := 6#32
  let v173 : BitVec 32 := Scalar.addi v172 c6_i32_67
  let c0_i32_69 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let c3_i32_66 : BitVec 32 := 3#32
  let v169 : BitVec 32 := Scalar.muli v71 c3_i32_66
  let v170 : BitVec 32 := Scalar.subi v53 v169
  let c2048_i32 : BitVec 32 := 2048#32
  let v174 : BitVec 32 := Scalar.muli v170 c2048_i32
  let v175 : BitVec 32 := v174
  ![v173.toNat, 0, v175.toNat]
def k0_cond26 (v103 : BitVec 32) : BitVec 1 :=
  let c6_i32_39 : BitVec 32 := 6#32
  let v104 : BitVec 1 := Scalar.cmpi .sgt v103 c6_i32_39
  let v105 : BitVec 32 := Scalar.extui v104
  let c0_i32_40 : BitVec 32 := 0#32
  let v106 : BitVec 1 := Scalar.cmpi .ne v105 c0_i32_40
  v106

def k0_off127 (i : grid0.Coords) : Fin 4 → Nat :=
  let c1_i32_19 : BitVec 32 := 1#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v54 : BitVec 32 := Scalar.subi c1_i32_19 v2
  let c6_i32_68 : BitVec 32 := 6#32
  let c0_i32_70 : BitVec 32 := 0#32
  let c0_i32_71 : BitVec 32 := 0#32
  ![v54.toNat, 6, 0, 0]

def k0_chk23 (i : grid0.Coords) (v103 : BitVec 32) (v172 : BitVec 32) : Prop :=
  (∀ (k0_h19 : k0_cond19 i = 1#1), ∀ (k0_h26 : k0_cond26 v103 = 1#1), ∀ a, (k0_off126 i v172) a + S1x32x2048.size a ≤ S323x32x6144.size a) ∧
  (∀ (k0_h19 : k0_cond19 i = 1#1), ∀ (k0_h26 : k0_cond26 v103 = 1#1), ∀ (hinb : ∀ a, (k0_off126 i v172) a + S1x32x2048.size a ≤ S323x32x6144.size a), (Rect.unit (s := S323x32x6144) (k0_off126 i v172) S1x32x2048.size hinb).WholeWords (EltTy.packing .i8))
theorem k0_off126_inb : ∀ (i : grid0.Coords) (v103 : BitVec 32) (v172 : BitVec 32) (k0_hw23 : k0_chk23 i v103 v172), ∀ (k0_h19 : k0_cond19 i = 1#1), ∀ (k0_h26 : k0_cond26 v103 = 1#1), ∀ a, (k0_off126 i v172) a + S1x32x2048.size a ≤ S323x32x6144.size a := fun i v103 v172 k0_hw23 k0_h19 k0_h26 => k0_hw23.1 k0_h19 k0_h26
theorem k0_off126_wordsi8 : ∀ (i : grid0.Coords) (v103 : BitVec 32) (v172 : BitVec 32) (k0_hw23 : k0_chk23 i v103 v172), ∀ (k0_h19 : k0_cond19 i = 1#1), ∀ (k0_h26 : k0_cond26 v103 = 1#1), (Rect.unit (s := S323x32x6144) (k0_off126 i v172) S1x32x2048.size (k0_off126_inb i v103 v172 k0_hw23 k0_h19 k0_h26)).WholeWords (EltTy.packing .i8) := fun i v103 v172 k0_hw23 k0_h19 k0_h26 => k0_hw23.2 k0_h19 k0_h26 (k0_off126_inb i v103 v172 k0_hw23 k0_h19 k0_h26)

def k0_off128 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let v107 : Index := Scalar.indexCast v71
  ![v107.toNat]
def k0_off129 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let v171 : Index := Scalar.indexCast v71
  ![v171.toNat]
def k0_mult25 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let c3_i32_66 : BitVec 32 := 3#32
  let v169 : BitVec 32 := Scalar.muli v71 c3_i32_66
  let v170 : BitVec 32 := Scalar.subi v53 v169
  let c2048_i32 : BitVec 32 := 2048#32
  let v174 : BitVec 32 := Scalar.muli v170 c2048_i32
  v174
def k0_off130 (i : grid0.Coords) : Fin 1 → Nat :=
  let c1_i32_19 : BitVec 32 := 1#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v54 : BitVec 32 := Scalar.subi c1_i32_19 v2
  ![v54.toNat]
def k0_off131 (i : grid0.Coords) (v172 : BitVec 32) : Fin 3 → Nat :=
  let c7_i32_67 : BitVec 32 := 7#32
  let v173 : BitVec 32 := Scalar.addi v172 c7_i32_67
  let c0_i32_69 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c1_i32_18 : BitVec 32 := 1#32
  let v53 : BitVec 32 := Scalar.subi v1 c1_i32_18
  let c0_i32_21 : BitVec 32 := 0#32
  let v56 : BitVec 1 := Scalar.cmpi .sgt v53 c0_i32_21
  let v57 : BitVec 32 := Scalar.extui v56
  let c0_i32_22 : BitVec 32 := 0#32
  let v58 : BitVec 1 := Scalar.cmpi .slt v53 c0_i32_22
  let v59 : BitVec 32 := Scalar.extui v58
  let v60 : BitVec 32 := Scalar.subi v57 v59
  let c3_i32_20 : BitVec 32 := 3#32
  let c0_i32_23 : BitVec 32 := 0#32
  let v61 : BitVec 1 := Scalar.cmpi .sgt c3_i32_20 c0_i32_23
  let v62 : BitVec 32 := Scalar.extui v61
  let c0_i32_24 : BitVec 32 := 0#32
  let v63 : BitVec 1 := Scalar.cmpi .slt c3_i32_20 c0_i32_24
  let v64 : BitVec 32 := Scalar.extui v63
  let v65 : BitVec 32 := Scalar.subi v62 v64
  let v66 : BitVec 1 := Scalar.cmpi .ne v60 v65
  let v67 : BitVec 32 := Scalar.remsi v53 c3_i32_20
  let c0_i32_25 : BitVec 32 := 0#32
  let v68 : BitVec 1 := Scalar.cmpi .ne v67 c0_i32_25
  let v69 : BitVec 1 := Scalar.andi v66 v68
  let v55 : BitVec 32 := Scalar.divsi v53 c3_i32_20
  let c1_i32_26 : BitVec 32 := 1#32
  let v70 : BitVec 32 := Scalar.subi v55 c1_i32_26
  let v71 : BitVec 32 := Scalar.select v69 v70 v55
  let c3_i32_66 : BitVec 32 := 3#32
  let v169 : BitVec 32 := Scalar.muli v71 c3_i32_66
  let v170 : BitVec 32 := Scalar.subi v53 v169
  let c2048_i32 : BitVec 32 := 2048#32
  let v174 : BitVec 32 := Scalar.muli v170 c2048_i32
  let v175 : BitVec 32 := v174
  ![v173.toNat, 0, v175.toNat]
def k0_cond27 (v108 : BitVec 32) : BitVec 1 :=
  let c7_i32_41 : BitVec 32 := 7#32
  let v109 : BitVec 1 := Scalar.cmpi .sgt v108 c7_i32_41
  let v110 : BitVec 32 := Scalar.extui v109
  let c0_i32_42 : BitVec 32 := 0#32
  let v111 : BitVec 1 := Scalar.cmpi .ne v110 c0_i32_42
  v111

def k0_off132 (i : grid0.Coords) : Fin 4 → Nat :=
  let c1_i32_19 : BitVec 32 := 1#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let v54 : BitVec 32 := Scalar.subi c1_i32_19 v2
  let c7_i32_68 : BitVec 32 := 7#32
  let c0_i32_70 : BitVec 32 := 0#32
  let c0_i32_71 : BitVec 32 := 0#32
  ![v54.toNat, 7, 0, 0]

def k0_chk24 (i : grid0.Coords) (v108 : BitVec 32) (v172 : BitVec 32) : Prop :=
  (∀ (k0_h19 : k0_cond19 i = 1#1), ∀ (k0_h27 : k0_cond27 v108 = 1#1), ∀ a, (k0_off131 i v172) a + S1x32x2048.size a ≤ S323x32x6144.size a) ∧
  (∀ (k0_h19 : k0_cond19 i = 1#1), ∀ (k0_h27 : k0_cond27 v108 = 1#1), ∀ (hinb : ∀ a, (k0_off131 i v172) a + S1x32x2048.size a ≤ S323x32x6144.size a), (Rect.unit (s := S323x32x6144) (k0_off131 i v172) S1x32x2048.size hinb).WholeWords (EltTy.packing .i8))
theorem k0_off131_inb : ∀ (i : grid0.Coords) (v108 : BitVec 32) (v172 : BitVec 32) (k0_hw24 : k0_chk24 i v108 v172), ∀ (k0_h19 : k0_cond19 i = 1#1), ∀ (k0_h27 : k0_cond27 v108 = 1#1), ∀ a, (k0_off131 i v172) a + S1x32x2048.size a ≤ S323x32x6144.size a := fun i v108 v172 k0_hw24 k0_h19 k0_h27 => k0_hw24.1 k0_h19 k0_h27
theorem k0_off131_wordsi8 : ∀ (i : grid0.Coords) (v108 : BitVec 32) (v172 : BitVec 32) (k0_hw24 : k0_chk24 i v108 v172), ∀ (k0_h19 : k0_cond19 i = 1#1), ∀ (k0_h27 : k0_cond27 v108 = 1#1), (Rect.unit (s := S323x32x6144) (k0_off131 i v172) S1x32x2048.size (k0_off131_inb i v108 v172 k0_hw24 k0_h19 k0_h27)).WholeWords (EltTy.packing .i8) := fun i v108 v172 k0_hw24 k0_h19 k0_h27 => k0_hw24.2 k0_h19 k0_h27 (k0_off131_inb i v108 v172 k0_hw24 k0_h19 k0_h27)

def k0_off133 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let v129 : Index := Scalar.indexCast v128
  ![v129.toNat]
def k0_off134 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let v171 : Index := Scalar.indexCast v128
  ![v171.toNat]
def k0_mult26 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let c3_i32_66 : BitVec 32 := 3#32
  let v169 : BitVec 32 := Scalar.muli v128 c3_i32_66
  let v170 : BitVec 32 := Scalar.subi v1 v169
  let c2048_i32 : BitVec 32 := 2048#32
  let v174 : BitVec 32 := Scalar.muli v170 c2048_i32
  v174
def k0_off135 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off136 (i : grid0.Coords) (v172 : BitVec 32) : Fin 3 → Nat :=
  let c0_i32_67 : BitVec 32 := 0#32
  let v173 : BitVec 32 := Scalar.addi v172 c0_i32_67
  let c0_i32_69 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let c3_i32_66 : BitVec 32 := 3#32
  let v169 : BitVec 32 := Scalar.muli v128 c3_i32_66
  let v170 : BitVec 32 := Scalar.subi v1 v169
  let c2048_i32 : BitVec 32 := 2048#32
  let v174 : BitVec 32 := Scalar.muli v170 c2048_i32
  let v175 : BitVec 32 := v174
  ![v173.toNat, 0, v175.toNat]
def k0_cond28 (v130 : BitVec 32) : BitVec 1 :=
  let c0_i32_50 : BitVec 32 := 0#32
  let v131 : BitVec 1 := Scalar.cmpi .sgt v130 c0_i32_50
  let v132 : BitVec 32 := Scalar.extui v131
  let c0_i32_51 : BitVec 32 := 0#32
  let v133 : BitVec 1 := Scalar.cmpi .ne v132 c0_i32_51
  v133

def k0_off137 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_68 : BitVec 32 := 0#32
  let c0_i32_70 : BitVec 32 := 0#32
  let c0_i32_71 : BitVec 32 := 0#32
  ![v2.toNat, 0, 0, 0]

def k0_chk25 (i : grid0.Coords) (v130 : BitVec 32) (v172 : BitVec 32) : Prop :=
  (∀ (k0_h19 : k0_cond19 i = 1#1), ∀ (k0_h28 : k0_cond28 v130 = 1#1), ∀ a, (k0_off136 i v172) a + S1x32x2048.size a ≤ S323x32x6144.size a) ∧
  (∀ (k0_h19 : k0_cond19 i = 1#1), ∀ (k0_h28 : k0_cond28 v130 = 1#1), ∀ (hinb : ∀ a, (k0_off136 i v172) a + S1x32x2048.size a ≤ S323x32x6144.size a), (Rect.unit (s := S323x32x6144) (k0_off136 i v172) S1x32x2048.size hinb).WholeWords (EltTy.packing .i8))
theorem k0_off136_inb : ∀ (i : grid0.Coords) (v130 : BitVec 32) (v172 : BitVec 32) (k0_hw25 : k0_chk25 i v130 v172), ∀ (k0_h19 : k0_cond19 i = 1#1), ∀ (k0_h28 : k0_cond28 v130 = 1#1), ∀ a, (k0_off136 i v172) a + S1x32x2048.size a ≤ S323x32x6144.size a := fun i v130 v172 k0_hw25 k0_h19 k0_h28 => k0_hw25.1 k0_h19 k0_h28
theorem k0_off136_wordsi8 : ∀ (i : grid0.Coords) (v130 : BitVec 32) (v172 : BitVec 32) (k0_hw25 : k0_chk25 i v130 v172), ∀ (k0_h19 : k0_cond19 i = 1#1), ∀ (k0_h28 : k0_cond28 v130 = 1#1), (Rect.unit (s := S323x32x6144) (k0_off136 i v172) S1x32x2048.size (k0_off136_inb i v130 v172 k0_hw25 k0_h19 k0_h28)).WholeWords (EltTy.packing .i8) := fun i v130 v172 k0_hw25 k0_h19 k0_h28 => k0_hw25.2 k0_h19 k0_h28 (k0_off136_inb i v130 v172 k0_hw25 k0_h19 k0_h28)

def k0_off138 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let v134 : Index := Scalar.indexCast v128
  ![v134.toNat]
def k0_off139 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let v171 : Index := Scalar.indexCast v128
  ![v171.toNat]
def k0_mult27 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let c3_i32_66 : BitVec 32 := 3#32
  let v169 : BitVec 32 := Scalar.muli v128 c3_i32_66
  let v170 : BitVec 32 := Scalar.subi v1 v169
  let c2048_i32 : BitVec 32 := 2048#32
  let v174 : BitVec 32 := Scalar.muli v170 c2048_i32
  v174
def k0_off140 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off141 (i : grid0.Coords) (v172 : BitVec 32) : Fin 3 → Nat :=
  let c1_i32_67 : BitVec 32 := 1#32
  let v173 : BitVec 32 := Scalar.addi v172 c1_i32_67
  let c0_i32_69 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let c3_i32_66 : BitVec 32 := 3#32
  let v169 : BitVec 32 := Scalar.muli v128 c3_i32_66
  let v170 : BitVec 32 := Scalar.subi v1 v169
  let c2048_i32 : BitVec 32 := 2048#32
  let v174 : BitVec 32 := Scalar.muli v170 c2048_i32
  let v175 : BitVec 32 := v174
  ![v173.toNat, 0, v175.toNat]
def k0_cond29 (v135 : BitVec 32) : BitVec 1 :=
  let c1_i32_52 : BitVec 32 := 1#32
  let v136 : BitVec 1 := Scalar.cmpi .sgt v135 c1_i32_52
  let v137 : BitVec 32 := Scalar.extui v136
  let c0_i32_53 : BitVec 32 := 0#32
  let v138 : BitVec 1 := Scalar.cmpi .ne v137 c0_i32_53
  v138

def k0_off142 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c1_i32_68 : BitVec 32 := 1#32
  let c0_i32_70 : BitVec 32 := 0#32
  let c0_i32_71 : BitVec 32 := 0#32
  ![v2.toNat, 1, 0, 0]

def k0_chk26 (i : grid0.Coords) (v135 : BitVec 32) (v172 : BitVec 32) : Prop :=
  (∀ (k0_h19 : k0_cond19 i = 1#1), ∀ (k0_h29 : k0_cond29 v135 = 1#1), ∀ a, (k0_off141 i v172) a + S1x32x2048.size a ≤ S323x32x6144.size a) ∧
  (∀ (k0_h19 : k0_cond19 i = 1#1), ∀ (k0_h29 : k0_cond29 v135 = 1#1), ∀ (hinb : ∀ a, (k0_off141 i v172) a + S1x32x2048.size a ≤ S323x32x6144.size a), (Rect.unit (s := S323x32x6144) (k0_off141 i v172) S1x32x2048.size hinb).WholeWords (EltTy.packing .i8))
theorem k0_off141_inb : ∀ (i : grid0.Coords) (v135 : BitVec 32) (v172 : BitVec 32) (k0_hw26 : k0_chk26 i v135 v172), ∀ (k0_h19 : k0_cond19 i = 1#1), ∀ (k0_h29 : k0_cond29 v135 = 1#1), ∀ a, (k0_off141 i v172) a + S1x32x2048.size a ≤ S323x32x6144.size a := fun i v135 v172 k0_hw26 k0_h19 k0_h29 => k0_hw26.1 k0_h19 k0_h29
theorem k0_off141_wordsi8 : ∀ (i : grid0.Coords) (v135 : BitVec 32) (v172 : BitVec 32) (k0_hw26 : k0_chk26 i v135 v172), ∀ (k0_h19 : k0_cond19 i = 1#1), ∀ (k0_h29 : k0_cond29 v135 = 1#1), (Rect.unit (s := S323x32x6144) (k0_off141 i v172) S1x32x2048.size (k0_off141_inb i v135 v172 k0_hw26 k0_h19 k0_h29)).WholeWords (EltTy.packing .i8) := fun i v135 v172 k0_hw26 k0_h19 k0_h29 => k0_hw26.2 k0_h19 k0_h29 (k0_off141_inb i v135 v172 k0_hw26 k0_h19 k0_h29)

def k0_off143 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let v139 : Index := Scalar.indexCast v128
  ![v139.toNat]
def k0_off144 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let v171 : Index := Scalar.indexCast v128
  ![v171.toNat]
def k0_mult28 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let c3_i32_66 : BitVec 32 := 3#32
  let v169 : BitVec 32 := Scalar.muli v128 c3_i32_66
  let v170 : BitVec 32 := Scalar.subi v1 v169
  let c2048_i32 : BitVec 32 := 2048#32
  let v174 : BitVec 32 := Scalar.muli v170 c2048_i32
  v174
def k0_off145 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off146 (i : grid0.Coords) (v172 : BitVec 32) : Fin 3 → Nat :=
  let c2_i32_67 : BitVec 32 := 2#32
  let v173 : BitVec 32 := Scalar.addi v172 c2_i32_67
  let c0_i32_69 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let c3_i32_66 : BitVec 32 := 3#32
  let v169 : BitVec 32 := Scalar.muli v128 c3_i32_66
  let v170 : BitVec 32 := Scalar.subi v1 v169
  let c2048_i32 : BitVec 32 := 2048#32
  let v174 : BitVec 32 := Scalar.muli v170 c2048_i32
  let v175 : BitVec 32 := v174
  ![v173.toNat, 0, v175.toNat]
def k0_cond30 (v140 : BitVec 32) : BitVec 1 :=
  let c2_i32_54 : BitVec 32 := 2#32
  let v141 : BitVec 1 := Scalar.cmpi .sgt v140 c2_i32_54
  let v142 : BitVec 32 := Scalar.extui v141
  let c0_i32_55 : BitVec 32 := 0#32
  let v143 : BitVec 1 := Scalar.cmpi .ne v142 c0_i32_55
  v143

def k0_off147 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c2_i32_68 : BitVec 32 := 2#32
  let c0_i32_70 : BitVec 32 := 0#32
  let c0_i32_71 : BitVec 32 := 0#32
  ![v2.toNat, 2, 0, 0]

def k0_chk27 (i : grid0.Coords) (v140 : BitVec 32) (v172 : BitVec 32) : Prop :=
  (∀ (k0_h19 : k0_cond19 i = 1#1), ∀ (k0_h30 : k0_cond30 v140 = 1#1), ∀ a, (k0_off146 i v172) a + S1x32x2048.size a ≤ S323x32x6144.size a) ∧
  (∀ (k0_h19 : k0_cond19 i = 1#1), ∀ (k0_h30 : k0_cond30 v140 = 1#1), ∀ (hinb : ∀ a, (k0_off146 i v172) a + S1x32x2048.size a ≤ S323x32x6144.size a), (Rect.unit (s := S323x32x6144) (k0_off146 i v172) S1x32x2048.size hinb).WholeWords (EltTy.packing .i8))
theorem k0_off146_inb : ∀ (i : grid0.Coords) (v140 : BitVec 32) (v172 : BitVec 32) (k0_hw27 : k0_chk27 i v140 v172), ∀ (k0_h19 : k0_cond19 i = 1#1), ∀ (k0_h30 : k0_cond30 v140 = 1#1), ∀ a, (k0_off146 i v172) a + S1x32x2048.size a ≤ S323x32x6144.size a := fun i v140 v172 k0_hw27 k0_h19 k0_h30 => k0_hw27.1 k0_h19 k0_h30
theorem k0_off146_wordsi8 : ∀ (i : grid0.Coords) (v140 : BitVec 32) (v172 : BitVec 32) (k0_hw27 : k0_chk27 i v140 v172), ∀ (k0_h19 : k0_cond19 i = 1#1), ∀ (k0_h30 : k0_cond30 v140 = 1#1), (Rect.unit (s := S323x32x6144) (k0_off146 i v172) S1x32x2048.size (k0_off146_inb i v140 v172 k0_hw27 k0_h19 k0_h30)).WholeWords (EltTy.packing .i8) := fun i v140 v172 k0_hw27 k0_h19 k0_h30 => k0_hw27.2 k0_h19 k0_h30 (k0_off146_inb i v140 v172 k0_hw27 k0_h19 k0_h30)

def k0_off148 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let v144 : Index := Scalar.indexCast v128
  ![v144.toNat]
def k0_off149 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let v171 : Index := Scalar.indexCast v128
  ![v171.toNat]
def k0_mult29 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let c3_i32_66 : BitVec 32 := 3#32
  let v169 : BitVec 32 := Scalar.muli v128 c3_i32_66
  let v170 : BitVec 32 := Scalar.subi v1 v169
  let c2048_i32 : BitVec 32 := 2048#32
  let v174 : BitVec 32 := Scalar.muli v170 c2048_i32
  v174
def k0_off150 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off151 (i : grid0.Coords) (v172 : BitVec 32) : Fin 3 → Nat :=
  let c3_i32_67 : BitVec 32 := 3#32
  let v173 : BitVec 32 := Scalar.addi v172 c3_i32_67
  let c0_i32_69 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let c3_i32_66 : BitVec 32 := 3#32
  let v169 : BitVec 32 := Scalar.muli v128 c3_i32_66
  let v170 : BitVec 32 := Scalar.subi v1 v169
  let c2048_i32 : BitVec 32 := 2048#32
  let v174 : BitVec 32 := Scalar.muli v170 c2048_i32
  let v175 : BitVec 32 := v174
  ![v173.toNat, 0, v175.toNat]
def k0_cond31 (v145 : BitVec 32) : BitVec 1 :=
  let c3_i32_56 : BitVec 32 := 3#32
  let v146 : BitVec 1 := Scalar.cmpi .sgt v145 c3_i32_56
  let v147 : BitVec 32 := Scalar.extui v146
  let c0_i32_57 : BitVec 32 := 0#32
  let v148 : BitVec 1 := Scalar.cmpi .ne v147 c0_i32_57
  v148

def k0_off152 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c3_i32_68 : BitVec 32 := 3#32
  let c0_i32_70 : BitVec 32 := 0#32
  let c0_i32_71 : BitVec 32 := 0#32
  ![v2.toNat, 3, 0, 0]

def k0_chk28 (i : grid0.Coords) (v145 : BitVec 32) (v172 : BitVec 32) : Prop :=
  (∀ (k0_h19 : k0_cond19 i = 1#1), ∀ (k0_h31 : k0_cond31 v145 = 1#1), ∀ a, (k0_off151 i v172) a + S1x32x2048.size a ≤ S323x32x6144.size a) ∧
  (∀ (k0_h19 : k0_cond19 i = 1#1), ∀ (k0_h31 : k0_cond31 v145 = 1#1), ∀ (hinb : ∀ a, (k0_off151 i v172) a + S1x32x2048.size a ≤ S323x32x6144.size a), (Rect.unit (s := S323x32x6144) (k0_off151 i v172) S1x32x2048.size hinb).WholeWords (EltTy.packing .i8))
theorem k0_off151_inb : ∀ (i : grid0.Coords) (v145 : BitVec 32) (v172 : BitVec 32) (k0_hw28 : k0_chk28 i v145 v172), ∀ (k0_h19 : k0_cond19 i = 1#1), ∀ (k0_h31 : k0_cond31 v145 = 1#1), ∀ a, (k0_off151 i v172) a + S1x32x2048.size a ≤ S323x32x6144.size a := fun i v145 v172 k0_hw28 k0_h19 k0_h31 => k0_hw28.1 k0_h19 k0_h31
theorem k0_off151_wordsi8 : ∀ (i : grid0.Coords) (v145 : BitVec 32) (v172 : BitVec 32) (k0_hw28 : k0_chk28 i v145 v172), ∀ (k0_h19 : k0_cond19 i = 1#1), ∀ (k0_h31 : k0_cond31 v145 = 1#1), (Rect.unit (s := S323x32x6144) (k0_off151 i v172) S1x32x2048.size (k0_off151_inb i v145 v172 k0_hw28 k0_h19 k0_h31)).WholeWords (EltTy.packing .i8) := fun i v145 v172 k0_hw28 k0_h19 k0_h31 => k0_hw28.2 k0_h19 k0_h31 (k0_off151_inb i v145 v172 k0_hw28 k0_h19 k0_h31)

def k0_off153 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let v149 : Index := Scalar.indexCast v128
  ![v149.toNat]
def k0_off154 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let v171 : Index := Scalar.indexCast v128
  ![v171.toNat]
def k0_mult30 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let c3_i32_66 : BitVec 32 := 3#32
  let v169 : BitVec 32 := Scalar.muli v128 c3_i32_66
  let v170 : BitVec 32 := Scalar.subi v1 v169
  let c2048_i32 : BitVec 32 := 2048#32
  let v174 : BitVec 32 := Scalar.muli v170 c2048_i32
  v174
def k0_off155 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off156 (i : grid0.Coords) (v172 : BitVec 32) : Fin 3 → Nat :=
  let c4_i32_67 : BitVec 32 := 4#32
  let v173 : BitVec 32 := Scalar.addi v172 c4_i32_67
  let c0_i32_69 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let c3_i32_66 : BitVec 32 := 3#32
  let v169 : BitVec 32 := Scalar.muli v128 c3_i32_66
  let v170 : BitVec 32 := Scalar.subi v1 v169
  let c2048_i32 : BitVec 32 := 2048#32
  let v174 : BitVec 32 := Scalar.muli v170 c2048_i32
  let v175 : BitVec 32 := v174
  ![v173.toNat, 0, v175.toNat]
def k0_cond32 (v150 : BitVec 32) : BitVec 1 :=
  let c4_i32_58 : BitVec 32 := 4#32
  let v151 : BitVec 1 := Scalar.cmpi .sgt v150 c4_i32_58
  let v152 : BitVec 32 := Scalar.extui v151
  let c0_i32_59 : BitVec 32 := 0#32
  let v153 : BitVec 1 := Scalar.cmpi .ne v152 c0_i32_59
  v153

def k0_off157 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c4_i32_68 : BitVec 32 := 4#32
  let c0_i32_70 : BitVec 32 := 0#32
  let c0_i32_71 : BitVec 32 := 0#32
  ![v2.toNat, 4, 0, 0]

def k0_chk29 (i : grid0.Coords) (v150 : BitVec 32) (v172 : BitVec 32) : Prop :=
  (∀ (k0_h19 : k0_cond19 i = 1#1), ∀ (k0_h32 : k0_cond32 v150 = 1#1), ∀ a, (k0_off156 i v172) a + S1x32x2048.size a ≤ S323x32x6144.size a) ∧
  (∀ (k0_h19 : k0_cond19 i = 1#1), ∀ (k0_h32 : k0_cond32 v150 = 1#1), ∀ (hinb : ∀ a, (k0_off156 i v172) a + S1x32x2048.size a ≤ S323x32x6144.size a), (Rect.unit (s := S323x32x6144) (k0_off156 i v172) S1x32x2048.size hinb).WholeWords (EltTy.packing .i8))
theorem k0_off156_inb : ∀ (i : grid0.Coords) (v150 : BitVec 32) (v172 : BitVec 32) (k0_hw29 : k0_chk29 i v150 v172), ∀ (k0_h19 : k0_cond19 i = 1#1), ∀ (k0_h32 : k0_cond32 v150 = 1#1), ∀ a, (k0_off156 i v172) a + S1x32x2048.size a ≤ S323x32x6144.size a := fun i v150 v172 k0_hw29 k0_h19 k0_h32 => k0_hw29.1 k0_h19 k0_h32
theorem k0_off156_wordsi8 : ∀ (i : grid0.Coords) (v150 : BitVec 32) (v172 : BitVec 32) (k0_hw29 : k0_chk29 i v150 v172), ∀ (k0_h19 : k0_cond19 i = 1#1), ∀ (k0_h32 : k0_cond32 v150 = 1#1), (Rect.unit (s := S323x32x6144) (k0_off156 i v172) S1x32x2048.size (k0_off156_inb i v150 v172 k0_hw29 k0_h19 k0_h32)).WholeWords (EltTy.packing .i8) := fun i v150 v172 k0_hw29 k0_h19 k0_h32 => k0_hw29.2 k0_h19 k0_h32 (k0_off156_inb i v150 v172 k0_hw29 k0_h19 k0_h32)

def k0_off158 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let v154 : Index := Scalar.indexCast v128
  ![v154.toNat]
def k0_off159 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let v171 : Index := Scalar.indexCast v128
  ![v171.toNat]
def k0_mult31 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let c3_i32_66 : BitVec 32 := 3#32
  let v169 : BitVec 32 := Scalar.muli v128 c3_i32_66
  let v170 : BitVec 32 := Scalar.subi v1 v169
  let c2048_i32 : BitVec 32 := 2048#32
  let v174 : BitVec 32 := Scalar.muli v170 c2048_i32
  v174
def k0_off160 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off161 (i : grid0.Coords) (v172 : BitVec 32) : Fin 3 → Nat :=
  let c5_i32_67 : BitVec 32 := 5#32
  let v173 : BitVec 32 := Scalar.addi v172 c5_i32_67
  let c0_i32_69 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let c3_i32_66 : BitVec 32 := 3#32
  let v169 : BitVec 32 := Scalar.muli v128 c3_i32_66
  let v170 : BitVec 32 := Scalar.subi v1 v169
  let c2048_i32 : BitVec 32 := 2048#32
  let v174 : BitVec 32 := Scalar.muli v170 c2048_i32
  let v175 : BitVec 32 := v174
  ![v173.toNat, 0, v175.toNat]
def k0_cond33 (v155 : BitVec 32) : BitVec 1 :=
  let c5_i32_60 : BitVec 32 := 5#32
  let v156 : BitVec 1 := Scalar.cmpi .sgt v155 c5_i32_60
  let v157 : BitVec 32 := Scalar.extui v156
  let c0_i32_61 : BitVec 32 := 0#32
  let v158 : BitVec 1 := Scalar.cmpi .ne v157 c0_i32_61
  v158

def k0_off162 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c5_i32_68 : BitVec 32 := 5#32
  let c0_i32_70 : BitVec 32 := 0#32
  let c0_i32_71 : BitVec 32 := 0#32
  ![v2.toNat, 5, 0, 0]

def k0_chk30 (i : grid0.Coords) (v155 : BitVec 32) (v172 : BitVec 32) : Prop :=
  (∀ (k0_h19 : k0_cond19 i = 1#1), ∀ (k0_h33 : k0_cond33 v155 = 1#1), ∀ a, (k0_off161 i v172) a + S1x32x2048.size a ≤ S323x32x6144.size a) ∧
  (∀ (k0_h19 : k0_cond19 i = 1#1), ∀ (k0_h33 : k0_cond33 v155 = 1#1), ∀ (hinb : ∀ a, (k0_off161 i v172) a + S1x32x2048.size a ≤ S323x32x6144.size a), (Rect.unit (s := S323x32x6144) (k0_off161 i v172) S1x32x2048.size hinb).WholeWords (EltTy.packing .i8))
theorem k0_off161_inb : ∀ (i : grid0.Coords) (v155 : BitVec 32) (v172 : BitVec 32) (k0_hw30 : k0_chk30 i v155 v172), ∀ (k0_h19 : k0_cond19 i = 1#1), ∀ (k0_h33 : k0_cond33 v155 = 1#1), ∀ a, (k0_off161 i v172) a + S1x32x2048.size a ≤ S323x32x6144.size a := fun i v155 v172 k0_hw30 k0_h19 k0_h33 => k0_hw30.1 k0_h19 k0_h33
theorem k0_off161_wordsi8 : ∀ (i : grid0.Coords) (v155 : BitVec 32) (v172 : BitVec 32) (k0_hw30 : k0_chk30 i v155 v172), ∀ (k0_h19 : k0_cond19 i = 1#1), ∀ (k0_h33 : k0_cond33 v155 = 1#1), (Rect.unit (s := S323x32x6144) (k0_off161 i v172) S1x32x2048.size (k0_off161_inb i v155 v172 k0_hw30 k0_h19 k0_h33)).WholeWords (EltTy.packing .i8) := fun i v155 v172 k0_hw30 k0_h19 k0_h33 => k0_hw30.2 k0_h19 k0_h33 (k0_off161_inb i v155 v172 k0_hw30 k0_h19 k0_h33)

def k0_off163 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let v159 : Index := Scalar.indexCast v128
  ![v159.toNat]
def k0_off164 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let v171 : Index := Scalar.indexCast v128
  ![v171.toNat]
def k0_mult32 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let c3_i32_66 : BitVec 32 := 3#32
  let v169 : BitVec 32 := Scalar.muli v128 c3_i32_66
  let v170 : BitVec 32 := Scalar.subi v1 v169
  let c2048_i32 : BitVec 32 := 2048#32
  let v174 : BitVec 32 := Scalar.muli v170 c2048_i32
  v174
def k0_off165 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off166 (i : grid0.Coords) (v172 : BitVec 32) : Fin 3 → Nat :=
  let c6_i32_67 : BitVec 32 := 6#32
  let v173 : BitVec 32 := Scalar.addi v172 c6_i32_67
  let c0_i32_69 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let c3_i32_66 : BitVec 32 := 3#32
  let v169 : BitVec 32 := Scalar.muli v128 c3_i32_66
  let v170 : BitVec 32 := Scalar.subi v1 v169
  let c2048_i32 : BitVec 32 := 2048#32
  let v174 : BitVec 32 := Scalar.muli v170 c2048_i32
  let v175 : BitVec 32 := v174
  ![v173.toNat, 0, v175.toNat]
def k0_cond34 (v160 : BitVec 32) : BitVec 1 :=
  let c6_i32_62 : BitVec 32 := 6#32
  let v161 : BitVec 1 := Scalar.cmpi .sgt v160 c6_i32_62
  let v162 : BitVec 32 := Scalar.extui v161
  let c0_i32_63 : BitVec 32 := 0#32
  let v163 : BitVec 1 := Scalar.cmpi .ne v162 c0_i32_63
  v163

def k0_off167 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c6_i32_68 : BitVec 32 := 6#32
  let c0_i32_70 : BitVec 32 := 0#32
  let c0_i32_71 : BitVec 32 := 0#32
  ![v2.toNat, 6, 0, 0]

def k0_chk31 (i : grid0.Coords) (v160 : BitVec 32) (v172 : BitVec 32) : Prop :=
  (∀ (k0_h19 : k0_cond19 i = 1#1), ∀ (k0_h34 : k0_cond34 v160 = 1#1), ∀ a, (k0_off166 i v172) a + S1x32x2048.size a ≤ S323x32x6144.size a) ∧
  (∀ (k0_h19 : k0_cond19 i = 1#1), ∀ (k0_h34 : k0_cond34 v160 = 1#1), ∀ (hinb : ∀ a, (k0_off166 i v172) a + S1x32x2048.size a ≤ S323x32x6144.size a), (Rect.unit (s := S323x32x6144) (k0_off166 i v172) S1x32x2048.size hinb).WholeWords (EltTy.packing .i8))
theorem k0_off166_inb : ∀ (i : grid0.Coords) (v160 : BitVec 32) (v172 : BitVec 32) (k0_hw31 : k0_chk31 i v160 v172), ∀ (k0_h19 : k0_cond19 i = 1#1), ∀ (k0_h34 : k0_cond34 v160 = 1#1), ∀ a, (k0_off166 i v172) a + S1x32x2048.size a ≤ S323x32x6144.size a := fun i v160 v172 k0_hw31 k0_h19 k0_h34 => k0_hw31.1 k0_h19 k0_h34
theorem k0_off166_wordsi8 : ∀ (i : grid0.Coords) (v160 : BitVec 32) (v172 : BitVec 32) (k0_hw31 : k0_chk31 i v160 v172), ∀ (k0_h19 : k0_cond19 i = 1#1), ∀ (k0_h34 : k0_cond34 v160 = 1#1), (Rect.unit (s := S323x32x6144) (k0_off166 i v172) S1x32x2048.size (k0_off166_inb i v160 v172 k0_hw31 k0_h19 k0_h34)).WholeWords (EltTy.packing .i8) := fun i v160 v172 k0_hw31 k0_h19 k0_h34 => k0_hw31.2 k0_h19 k0_h34 (k0_off166_inb i v160 v172 k0_hw31 k0_h19 k0_h34)

def k0_off168 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let v164 : Index := Scalar.indexCast v128
  ![v164.toNat]
def k0_off169 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let v171 : Index := Scalar.indexCast v128
  ![v171.toNat]
def k0_mult33 (i : grid0.Coords) : BitVec 32 :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let c3_i32_66 : BitVec 32 := 3#32
  let v169 : BitVec 32 := Scalar.muli v128 c3_i32_66
  let v170 : BitVec 32 := Scalar.subi v1 v169
  let c2048_i32 : BitVec 32 := 2048#32
  let v174 : BitVec 32 := Scalar.muli v170 c2048_i32
  v174
def k0_off170 (i : grid0.Coords) : Fin 1 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off171 (i : grid0.Coords) (v172 : BitVec 32) : Fin 3 → Nat :=
  let c7_i32_67 : BitVec 32 := 7#32
  let v173 : BitVec 32 := Scalar.addi v172 c7_i32_67
  let c0_i32_69 : BitVec 32 := 0#32
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c0_i32_44 : BitVec 32 := 0#32
  let v113 : BitVec 1 := Scalar.cmpi .sgt v1 c0_i32_44
  let v114 : BitVec 32 := Scalar.extui v113
  let c0_i32_45 : BitVec 32 := 0#32
  let v115 : BitVec 1 := Scalar.cmpi .slt v1 c0_i32_45
  let v116 : BitVec 32 := Scalar.extui v115
  let v117 : BitVec 32 := Scalar.subi v114 v116
  let c3_i32_43 : BitVec 32 := 3#32
  let c0_i32_46 : BitVec 32 := 0#32
  let v118 : BitVec 1 := Scalar.cmpi .sgt c3_i32_43 c0_i32_46
  let v119 : BitVec 32 := Scalar.extui v118
  let c0_i32_47 : BitVec 32 := 0#32
  let v120 : BitVec 1 := Scalar.cmpi .slt c3_i32_43 c0_i32_47
  let v121 : BitVec 32 := Scalar.extui v120
  let v122 : BitVec 32 := Scalar.subi v119 v121
  let v123 : BitVec 1 := Scalar.cmpi .ne v117 v122
  let v124 : BitVec 32 := Scalar.remsi v1 c3_i32_43
  let c0_i32_48 : BitVec 32 := 0#32
  let v125 : BitVec 1 := Scalar.cmpi .ne v124 c0_i32_48
  let v126 : BitVec 1 := Scalar.andi v123 v125
  let v112 : BitVec 32 := Scalar.divsi v1 c3_i32_43
  let c1_i32_49 : BitVec 32 := 1#32
  let v127 : BitVec 32 := Scalar.subi v112 c1_i32_49
  let v128 : BitVec 32 := Scalar.select v126 v127 v112
  let c3_i32_66 : BitVec 32 := 3#32
  let v169 : BitVec 32 := Scalar.muli v128 c3_i32_66
  let v170 : BitVec 32 := Scalar.subi v1 v169
  let c2048_i32 : BitVec 32 := 2048#32
  let v174 : BitVec 32 := Scalar.muli v170 c2048_i32
  let v175 : BitVec 32 := v174
  ![v173.toNat, 0, v175.toNat]
def k0_cond35 (v165 : BitVec 32) : BitVec 1 :=
  let c7_i32_64 : BitVec 32 := 7#32
  let v166 : BitVec 1 := Scalar.cmpi .sgt v165 c7_i32_64
  let v167 : BitVec 32 := Scalar.extui v166
  let c0_i32_65 : BitVec 32 := 0#32
  let v168 : BitVec 1 := Scalar.cmpi .ne v167 c0_i32_65
  v168

def k0_off172 (i : grid0.Coords) : Fin 4 → Nat :=
  let arg0 : BitVec 32 := BitVec.ofNat 32 (i 0).val
  let c3_i32 : BitVec 32 := 3#32
  let v0 : BitVec 32 := Scalar.muli arg0 c3_i32
  let arg1 : BitVec 32 := BitVec.ofNat 32 (i 1).val
  let v1 : BitVec 32 := Scalar.addi v0 arg1
  let c2_i32 : BitVec 32 := 2#32
  let v2 : BitVec 32 := Scalar.remsi v1 c2_i32
  let c7_i32_68 : BitVec 32 := 7#32
  let c0_i32_70 : BitVec 32 := 0#32
  let c0_i32_71 : BitVec 32 := 0#32
  ![v2.toNat, 7, 0, 0]

def k0_chk32 (i : grid0.Coords) (v165 : BitVec 32) (v172 : BitVec 32) : Prop :=
  (∀ (k0_h19 : k0_cond19 i = 1#1), ∀ (k0_h35 : k0_cond35 v165 = 1#1), ∀ a, (k0_off171 i v172) a + S1x32x2048.size a ≤ S323x32x6144.size a) ∧
  (∀ (k0_h19 : k0_cond19 i = 1#1), ∀ (k0_h35 : k0_cond35 v165 = 1#1), ∀ (hinb : ∀ a, (k0_off171 i v172) a + S1x32x2048.size a ≤ S323x32x6144.size a), (Rect.unit (s := S323x32x6144) (k0_off171 i v172) S1x32x2048.size hinb).WholeWords (EltTy.packing .i8))
theorem k0_off171_inb : ∀ (i : grid0.Coords) (v165 : BitVec 32) (v172 : BitVec 32) (k0_hw32 : k0_chk32 i v165 v172), ∀ (k0_h19 : k0_cond19 i = 1#1), ∀ (k0_h35 : k0_cond35 v165 = 1#1), ∀ a, (k0_off171 i v172) a + S1x32x2048.size a ≤ S323x32x6144.size a := fun i v165 v172 k0_hw32 k0_h19 k0_h35 => k0_hw32.1 k0_h19 k0_h35
theorem k0_off171_wordsi8 : ∀ (i : grid0.Coords) (v165 : BitVec 32) (v172 : BitVec 32) (k0_hw32 : k0_chk32 i v165 v172), ∀ (k0_h19 : k0_cond19 i = 1#1), ∀ (k0_h35 : k0_cond35 v165 = 1#1), (Rect.unit (s := S323x32x6144) (k0_off171 i v172) S1x32x2048.size (k0_off171_inb i v165 v172 k0_hw32 k0_h19 k0_h35)).WholeWords (EltTy.packing .i8) := fun i v165 v172 k0_hw32 k0_h19 k0_h35 => k0_hw32.2 k0_h19 k0_h35 (k0_off171_inb i v165 v172 k0_hw32 k0_h19 k0_h35)

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S43) ![v0.toNat] S1.size (k0_off1_inb i)) numel1_S1
  let c0_i32 : BitVec 32 := 0#32
  let v2 : BitVec 32 := Scalar.addi v1 c0_i32
  let c319_i32 : BitVec 32 := 319#32
  let v3 : BitVec 32 := Scalar.minsi v2 c319_i32
  let c0_i32_0 : BitVec 32 := 0#32
  ![v3.toNat, arg1.toNat]

def cc0_transform_2 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S43) ![v0.toNat] S1.size (k0_off1_inb i)) numel1_S1
  let c1_i32 : BitVec 32 := 1#32
  let v2 : BitVec 32 := Scalar.addi v1 c1_i32
  let c319_i32 : BitVec 32 := 319#32
  let v3 : BitVec 32 := Scalar.minsi v2 c319_i32
  let c0_i32 : BitVec 32 := 0#32
  ![v3.toNat, arg1.toNat]

def cc0_transform_3 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S43) ![v0.toNat] S1.size (k0_off1_inb i)) numel1_S1
  let c2_i32 : BitVec 32 := 2#32
  let v2 : BitVec 32 := Scalar.addi v1 c2_i32
  let c319_i32 : BitVec 32 := 319#32
  let v3 : BitVec 32 := Scalar.minsi v2 c319_i32
  let c0_i32 : BitVec 32 := 0#32
  ![v3.toNat, arg1.toNat]

def cc0_transform_4 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S43) ![v0.toNat] S1.size (k0_off1_inb i)) numel1_S1
  let c3_i32 : BitVec 32 := 3#32
  let v2 : BitVec 32 := Scalar.addi v1 c3_i32
  let c319_i32 : BitVec 32 := 319#32
  let v3 : BitVec 32 := Scalar.minsi v2 c319_i32
  let c0_i32 : BitVec 32 := 0#32
  ![v3.toNat, arg1.toNat]

def cc0_transform_5 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S43) ![v0.toNat] S1.size (k0_off1_inb i)) numel1_S1
  let c4_i32 : BitVec 32 := 4#32
  let v2 : BitVec 32 := Scalar.addi v1 c4_i32
  let c319_i32 : BitVec 32 := 319#32
  let v3 : BitVec 32 := Scalar.minsi v2 c319_i32
  let c0_i32 : BitVec 32 := 0#32
  ![v3.toNat, arg1.toNat]

def cc0_transform_6 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S43) ![v0.toNat] S1.size (k0_off1_inb i)) numel1_S1
  let c5_i32 : BitVec 32 := 5#32
  let v2 : BitVec 32 := Scalar.addi v1 c5_i32
  let c319_i32 : BitVec 32 := 319#32
  let v3 : BitVec 32 := Scalar.minsi v2 c319_i32
  let c0_i32 : BitVec 32 := 0#32
  ![v3.toNat, arg1.toNat]

def cc0_transform_7 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S43) ![v0.toNat] S1.size (k0_off1_inb i)) numel1_S1
  let c6_i32 : BitVec 32 := 6#32
  let v2 : BitVec 32 := Scalar.addi v1 c6_i32
  let c319_i32 : BitVec 32 := 319#32
  let v3 : BitVec 32 := Scalar.minsi v2 c319_i32
  let c0_i32 : BitVec 32 := 0#32
  ![v3.toNat, arg1.toNat]

def cc0_transform_8 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S43) ![v0.toNat] S1.size (k0_off1_inb i)) numel1_S1
  let c7_i32 : BitVec 32 := 7#32
  let v2 : BitVec 32 := Scalar.addi v1 c7_i32
  let c319_i32 : BitVec 32 := 319#32
  let v3 : BitVec 32 := Scalar.minsi v2 c319_i32
  let c0_i32 : BitVec 32 := 0#32
  ![v3.toNat, arg1.toNat]

def cc0_transform_9 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S43) ![v0.toNat] S1.size (k0_off1_inb i)) numel1_S1
  let c8_i32 : BitVec 32 := 8#32
  let v2 : BitVec 32 := Scalar.addi v1 c8_i32
  let c319_i32 : BitVec 32 := 319#32
  let v3 : BitVec 32 := Scalar.minsi v2 c319_i32
  let c0_i32 : BitVec 32 := 0#32
  ![v3.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x2048 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Proof.Plan.lean ====
/- The tile plan as integer arithmetic, at no program in particular: how many tiles a group of `g` rows owns, where each
   group's tiles end, and which group owns tile `s`. The first half reads the words jnp prints for it; the second half
   is the natural-number facts the kernel's run and the reference share. -/
module

public import Idealize.ShloMosaic.Lib.Routing.Words
public import Idealize.ShloMosaic.Lib.Routing.Ops

@[expose] public section

noncomputable section

namespace Cert.Plan

open Idealize.ShloMosaic Idealize.ShloMosaic.Routing Idealize.ShloMosaic.ValueIdx Idealize.ShloMosaic.WordCmp

/-! ## The natural-number plan -/

/-- The tiles of 256 rows a group of `g` rows owns: `⌈g / 256⌉`, and at least one. -/
def tiles (g : ℕ) : ℕ := max 1 ((g + 255) / 256)

/-- Where group `k`'s tiles end: the sum of the first `k + 1` groups' tiles. -/
def ends (f : ℕ → ℕ) (k : ℕ) : ℕ := ((List.range (k + 1)).map f).sum

/-- The group that owns position `s`: the number of groups that end at or before `s`, the last group owning the rest. -/
def owner (f : ℕ → ℕ) (s : ℕ) : ℕ := min (Nat.count (fun k => ends f k ≤ s) 3) 2

theorem ends_zero (f : ℕ → ℕ) : ends f 0 = f 0 := by simp [ends]
theorem ends_one (f : ℕ → ℕ) : ends f 1 = f 0 + f 1 := by simp [ends, List.range_succ]
theorem ends_two (f : ℕ → ℕ) : ends f 2 = f 0 + f 1 + f 2 := by simp [ends, List.range_succ, Nat.add_assoc]

/-- An owner is one of the three groups. -/
theorem owner_lt (f : ℕ → ℕ) (s : ℕ) : owner f s < 3 := by unfold owner; omega

/-- The owner as a case split on where the groups end. -/
theorem owner_eq (f : ℕ → ℕ) (s : ℕ) :
    owner f s = min ((if f 0 ≤ s then 1 else 0) + (if f 0 + f 1 ≤ s then 1 else 0) + (if f 0 + f 1 + f 2 ≤ s then 1 else 0)) 2 := by
  unfold owner
  simp only [Nat.count_succ, Nat.count_zero, ends_zero, ends_one, ends_two, Nat.zero_add]

/-- Owners do not decrease along the positions. -/
theorem owner_mono (f : ℕ → ℕ) {s s' : ℕ} (h : s ≤ s') : owner f s ≤ owner f s' := by
  simp only [owner_eq]
  split_ifs <;> omega

/-- Every group owns a position below 43, if each has at least one tile and they have at most 43 together. -/
theorem owner_surj (f : ℕ → ℕ) (h0 : 1 ≤ f 0) (h1 : 1 ≤ f 1) (h2 : 1 ≤ f 2) (hs : f 0 + f 1 + f 2 ≤ 43) {e : ℕ} (he : e < 3) :
    ∃ s, s < 43 ∧ owner f s = e := by
  rcases (by omega : e = 0 ∨ e = 1 ∨ e = 2) with rfl | rfl | rfl
  · exact ⟨0, by omega, by rw [owner_eq]; split_ifs <;> omega⟩
  · exact ⟨f 0, by omega, by rw [owner_eq]; split_ifs <;> omega⟩
  · exact ⟨f 0 + f 1, by omega, by rw [owner_eq]; split_ifs <;> omega⟩

/-- The owner of row `r`, the groups counted in rows of whole tiles, is the owner of the row's tile. -/
theorem owner_rows (f : ℕ → ℕ) (r : ℕ) : owner (fun k => 256 * f k) r = owner f (r / 256) := by
  simp only [owner_eq]
  split_ifs <;> omega

theorem one_le_tiles (g : ℕ) : 1 ≤ tiles g := by unfold tiles; omega

/-- A group of at most 10240 rows owns at most 40 tiles. -/
theorem tiles_le {g : ℕ} (h : g ≤ 10240) : tiles g ≤ 40 := by unfold tiles; omega

/-- Three groups of at most 10240 rows together own at most 43 tiles. -/
theorem tiles_sum_le {a b c : ℕ} (h : a + b + c ≤ 10240) : tiles a + tiles b + tiles c ≤ 43 := by unfold tiles; omega

/-- The tiles of group `k`, of the group sizes held in `g`. -/
def groupTiles (g : IVec (shape1 3) 32) (k : ℕ) : ℕ := if h : k < 3 then tiles (g (ix1 ⟨k, h⟩)).toNat else 1

theorem groupTiles_of (g : IVec (shape1 3) 32) (k : Fin 3) : groupTiles g k.val = tiles (g (ix1 k)).toNat := by
  unfold groupTiles; rw [dif_pos k.isLt]

/-! ## The words jnp prints -/

/-- `jnp.maximum((g + 256 - 1) // 256, 1)` as it prints. -/
def stepsV (hb : shape0.BroadcastsInDim (shape1 3) (![] : Fin 0 → Fin (shape1 3).rank)) (g : IVec (shape1 3) 32) : IVec (shape1 3) 32 :=
  maxsi (broadcastInDim (shape1 3) ![] hb (constantI shape0 32 1#32))
    (pyDiv hb (subi (addi g (broadcastInDim (shape1 3) ![] hb (constantI shape0 32 256#32))) (broadcastInDim (shape1 3) ![] hb (constantI shape0 32 1#32)))
      (constantI shape0 32 256#32))

/-- The greater of one and a word holding a natural below `2 ^ 31`. -/
theorem maxsi_one {a : ℕ} (ha : a < 2 ^ 31) : IntOp.maxsi 1#32 (BitVec.ofNat 32 a) = BitVec.ofNat 32 (max 1 a) := by
  unfold IntOp.maxsi
  rw [show (1#32 : BitVec 32) = BitVec.ofNat 32 1 from rfl, slt_ofNat32 ha (by decide)]
  by_cases h : a < 1
  · rw [if_pos (decide_eq_true h), Nat.max_eq_left (by omega)]
  · rw [if_neg (fun e => h (of_decide_eq_true e)), Nat.max_eq_right (by omega)]

/-- The lesser of two and a word holding a natural below `2 ^ 31`. -/
theorem minsi_two {a : ℕ} (ha : a < 2 ^ 31) : IntOp.minsi (BitVec.ofNat 32 a) 2#32 = BitVec.ofNat 32 (min a 2) := by
  unfold IntOp.minsi
  rw [show (2#32 : BitVec 32) = BitVec.ofNat 32 2 from rfl, slt_ofNat32 ha (by decide)]
  by_cases h : a < 2
  · rw [if_pos (decide_eq_true h), Nat.min_eq_left (by omega)]
  · rw [if_neg (fun e => h (of_decide_eq_true e)), Nat.min_eq_right (by omega)]

/-- Entry `k` of those words holds the group's tiles, when the group has at most 10240 rows. -/
theorem stepsV_ap (hb : shape0.BroadcastsInDim (shape1 3) (![] : Fin 0 → Fin (shape1 3).rank)) (g : IVec (shape1 3) 32) (k : Fin 3)
    (hg : (g (ix1 k)).toNat ≤ 10240) : stepsV hb g (ix1 k) = BitVec.ofNat 32 (groupTiles g k.val) := by
  have hx : subi (addi g (broadcastInDim (shape1 3) ![] hb (constantI shape0 32 256#32))) (broadcastInDim (shape1 3) ![] hb (constantI shape0 32 1#32)) (ix1 k)
      = BitVec.ofNat 32 ((g (ix1 k)).toNat + 255) := by
    show IntOp.subi (IntOp.addi (g (ix1 k)) (broadcastInDim (shape1 3) ![] hb (constantI shape0 32 256#32) (ix1 k))) (broadcastInDim (shape1 3) ![] hb (constantI shape0 32 1#32) (ix1 k)) = _
    rw [bc0, bc0]
    show (g (ix1 k) + 256#32) - 1#32 = _
    apply BitVec.eq_of_toNat_eq
    simp only [BitVec.toNat_sub, BitVec.toNat_add, BitVec.toNat_ofNat]
    omega
  show IntOp.maxsi (broadcastInDim (shape1 3) ![] hb (constantI shape0 32 1#32) (ix1 k)) (pyDiv hb _ _ (ix1 k)) = _
  rw [bc0, pyDiv_ap hb _ (constantI shape0 32 256#32) (ix1 k) hx (b := 256) rfl (by omega) (by omega) (by omega), groupTiles_of]
  exact maxsi_one (by omega)

/-- `jnp.cumsum` of the three words, as it prints. -/
def cumV (hw : (shape1 3).ReduceWindows (![3] : Fin 1 → Nat) ![1] ![2] ![0] (shape1 3)) (hb : shape0.BroadcastsInDim shape0 (![] : Fin 0 → Fin shape0.rank))
    (hu : 0 < shape0.numel) (x : IVec (shape1 3) 32) : IVec (shape1 3) 32 :=
  Host.reduceWindow IntOp.addi ![3] ![1] ![2] ![0] x (broadcastInDim shape0 ![] hb (constantI shape0 32 0#32)) hw hu

/-- Entry `k` of the running sum of words holding `f 0, f 1, f 2` holds `f 0 + … + f k`. -/
theorem cumV_ap (hw : (shape1 3).ReduceWindows (![3] : Fin 1 → Nat) ![1] ![2] ![0] (shape1 3)) (hb : shape0.BroadcastsInDim shape0 (![] : Fin 0 → Fin shape0.rank))
    (hu : 0 < shape0.numel) (x : IVec (shape1 3) 32) (f : ℕ → ℕ) (hx : ∀ k : Fin 3, x (ix1 k) = BitVec.ofNat 32 (f k.val)) (k : Fin 3) :
    cumV hw hb hu x (ix1 k) = BitVec.ofNat 32 (ends f k.val) :=
  cumsum1 (N := 3) (Nm1 := 2) rfl x f hx _ (bc0 hb _ ix0) hw hu k

/-- `jnp.minimum(jnp.sum(jnp.arange(n)[:, None] >= ends[None, :], axis = 1), 2)` as it prints. -/
def ownerV (n : ℕ) (h₁ : (shape1 n).BroadcastsInDim (shape2 n 1) (![0] : Fin 1 → Fin (shape2 n 1).rank))
    (h₂ : (shape2 n 1).BroadcastsInDim (shape2 n 3) (![0, 1] : Fin 2 → Fin (shape2 n 3).rank))
    (h₃ : (shape1 3).BroadcastsInDim (shape2 1 3) (![1] : Fin 1 → Fin (shape2 1 3).rank))
    (h₄ : (shape2 1 3).BroadcastsInDim (shape2 n 3) (![0, 1] : Fin 2 → Fin (shape2 n 3).rank))
    (hr : (shape2 n 3).ReducesTo [1] (shape1 n)) (hu : 0 < shape0.numel) (hw : 1 < 32)
    (hb : shape0.BroadcastsInDim (shape1 n) (![] : Fin 0 → Fin (shape1 n).rank)) (e : IVec (shape1 3) 32) : IVec (shape1 n) 32 :=
  minsi (Host.reduce IntOp.addi (extui 32 (cmpi .sge
      (broadcastInDim (shape2 n 3) ![0, 1] h₂ (broadcastInDim (shape2 n 1) ![0] h₁ (iotaInDim (shape1 n) 32 0)))
      (broadcastInDim (shape2 n 3) ![0, 1] h₄ (broadcastInDim (shape2 1 3) ![1] h₃ e))) hw) (constantI shape0 32 0#32) hr hu)
    (broadcastInDim (shape1 n) ![] hb (constantI shape0 32 2#32))

section
variable {n : ℕ} {h₁ : (shape1 n).BroadcastsInDim (shape2 n 1) (![0] : Fin 1 → Fin (shape2 n 1).rank)}
    {h₂ : (shape2 n 1).BroadcastsInDim (shape2 n 3) (![0, 1] : Fin 2 → Fin (shape2 n 3).rank)}
    {h₃ : (shape1 3).BroadcastsInDim (shape2 1 3) (![1] : Fin 1 → Fin (shape2 1 3).rank)}
    {h₄ : (shape2 1 3).BroadcastsInDim (shape2 n 3) (![0, 1] : Fin 2 → Fin (shape2 n 3).rank)}
    {hr : (shape2 n 3).ReducesTo [1] (shape1 n)} {hu : 0 < shape0.numel} {hw : 1 < 32}
    {hb : shape0.BroadcastsInDim (shape1 n) (![] : Fin 0 → Fin (shape1 n).rank)}

/-- Whatever the ends are, entry `s` is the word of a count, cut at two. -/
theorem ownerV_count (e : IVec (shape1 3) 32) (s : Fin n) (Q : ℕ → Prop) [DecidablePred Q]
    (hQ : ∀ q : Fin 3, IntOp.cmpi .sge (BitVec.ofNat 32 s.val) (e (ix1 q)) = 1#1 ↔ Q q.val) :
    ownerV n h₁ h₂ h₃ h₄ hr hu hw hb e (ix1 s) = BitVec.ofNat 32 (min (Nat.count Q 3) 2) := by
  have hc := Nat.count_le (p := Q) (n := 3)
  show IntOp.minsi (Host.reduce IntOp.addi _ _ hr hu (ix1 s)) (broadcastInDim (shape1 n) ![] hb (constantI shape0 32 2#32) (ix1 s)) = _
  rw [bc0, reduce_count (by decide) _ hw hr hu s Q ?_]
  · exact minsi_two (by omega)
  · intro q
    rw [← hQ q]
    show IntOp.cmpi .sge (broadcastInDim (shape2 n 3) ![0, 1] h₂ (broadcastInDim (shape2 n 1) ![0] h₁ (iotaInDim (shape1 n) 32 0)) (ix2 s q))
      (broadcastInDim (shape2 n 3) ![0, 1] h₄ (broadcastInDim (shape2 1 3) ![1] h₃ e) (ix2 s q)) = 1#1 ↔ _
    rw [bcRows, bcCols]
    exact Iff.rfl

/-- Entry `s` is at most two, whatever the ends are. -/
theorem ownerV_lt (e : IVec (shape1 3) 32) (s : Fin n) : (ownerV n h₁ h₂ h₃ h₄ hr hu hw hb e (ix1 s)).toNat < 3 := by
  classical
  rw [ownerV_count e s (fun q => if h : q < 3 then IntOp.cmpi .sge (BitVec.ofNat 32 s.val) (e (ix1 ⟨q, h⟩)) = 1#1 else False)
    (fun q => by rw [dif_pos q.isLt]), BitVec.toNat_ofNat]
  omega

/-- Where the ends' words hold the groups' ends, entry `s` holds the owner of position `s`. -/
theorem ownerV_ap (e : IVec (shape1 3) 32) (f : ℕ → ℕ) (he : ∀ k : Fin 3, e (ix1 k) = BitVec.ofNat 32 (ends f k.val))
    (hf : ends f 2 < 2 ^ 31) (hn : n < 2 ^ 31) (s : Fin n) :
    ownerV n h₁ h₂ h₃ h₄ hr hu hw hb e (ix1 s) = BitVec.ofNat 32 (owner f s.val) := by
  have hs := s.isLt
  refine ownerV_count e s _ fun q => ?_
  rw [he q]
  refine cmpi_sge_ofNat_eq_one_iff (w := 32) (by omega) ?_
  rw [ends_two] at hf
  match q with
  | ⟨0, _⟩ => show ends f 0 < _; rw [ends_zero]; omega
  | ⟨1, _⟩ => show ends f 1 < _; rw [ends_one]; omega
  | ⟨2, _⟩ => show ends f 2 < _; rw [ends_two]; omega

end

end Cert.Plan
-- ==== Proof.Kit.lean ====
/- What the runs of the idealized kernel's one pallas_call are stated over: the schedule of its two input windows, its
   @main up to the region (the tile plan, computed on the host), the prefetched table's contents as the region finds
   them, the windows' blocks, and the condition under which the body clears its output block. -/
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Kit

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule -/

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 2 (by decide) (by decide) (Pipeline.Window.sep_of_coord cc0_transform_0 2 1 (fun _ => rfl) (by decide)) (P := 1) (by decide) t).mpr (Nat.mod_one _) : ∀ t : Fin grid0.N, Pipeline.Window.fetchOf grid0 false cc0_transform_0 t = true)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 2 (by decide) (by decide) (Pipeline.Window.sep_of_coord cc0_transform_1 2 0 (fun _ => rfl) (by decide)) (P := 1) (by decide) t).mpr (Nat.mod_one _) : ∀ t : Fin grid0.N, Pipeline.Window.fetchOf grid0 false cc0_transform_1 t = true)
-- window 2: no schedule fact — its index map reads a prefetched table, so where it is fetched or written back depends on the tables' contents

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_wgrad (grid0.coords t) (Memref.whole main_v17) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S43 .i32 := Memref.whole main_v17
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`the frame claim`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c))⟩) h

/-! ## The body's branch conditions -/

/-- The condition of the body's `scf.if` 0: over WORDS the body reads from its tables or input SMEM windows
    (`v2`, `v6`), so no function of the point — a case variable: a hypothesis of each run, a `by_cases`
    of the obligation and an `if` of `outsAt`, stated over the argument blocks' words there. -/
abbrev cond0_0 (i : grid0.Coords) (v2 : BitVec 32) (v6 : BitVec 32) : Prop := (Scalar.cmpi .ne (Scalar.extui (Scalar.ori (Scalar.cmpi .eq (BitVec.ofNat 32 (i 2).val) 0#32) (Scalar.cmpi .ne v2 v6))) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1024x256 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x2816 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x2816 .f32 := spec0_2.stage ((cfgM m hO).slots t 2)
abbrev hs0_2 (hO : Ok m) (t : Fin (cfgM m hO).N) : (ms0_2 m hO t).IsWhole := hstage0_2 (((cfgM m hO).slots t 2).cast nbuf0_2)

end Cert.KernelIdeal.Kit

end
-- ==== Proof.Body.lean ====
/- The kernel body's two cases, with what each leaves in the output block named: where the body clears first, the block
   ends holding the product of the two input blocks added to zero; elsewhere the product added to what it held. -/
module

public import proofs.«01_k».proof.Proof.Kit
public import Idealize.ShloMosaic.Lib.Pipeline.Value

@[expose] public section

set_option maxRecDepth 16384

noncomputable section

namespace Cert.KernelIdeal.Kit

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the table the body compares at grid point `i` (the tile's own expert). -/
abbrev wordAt (i : grid0.Coords) (c : Dev nD) (xt0 : TbBuf0 (F := F) c tbM0_0) : BitVec 32 :=
  tbM0_0.view.readAt (Elt F) (Rect.unit (s := S43) (k0_off1 i) S1.size (k0_off1_inb i)).toLoadRect xt0 (Shape.Idx.first (numel1_S1.symm ▸ Nat.one_pos))

/-- The word it compares it with (the expert of the tile before; of the tile itself at the first). -/
abbrev wordBefore (i : grid0.Coords) (c : Dev nD) (xt0 : TbBuf0 (F := F) c tbM0_0) : BitVec 32 :=
  tbM0_0.view.readAt (Elt F) (Rect.unit (s := S43) (k0_off2 i) S1.size (k0_off2_inb i)).toLoadRect xt0 (Shape.Idx.first (numel1_S1.symm ▸ Nat.one_pos))

theorem hz2 : (![0, 0] : Fin 2 → Nat) = fun _ => 0 := funext fun a => by fin_cases a <;> rfl
theorem hz3 : (![0, 0, 0] : Fin 3 → Nat) = fun _ => 0 := funext fun a => by fin_cases a <;> rfl

/-- A buffer whose last store covered all of it reads as that store's payload. -/
theorem read_whole_store {Val : EltTy → Type} [∀ e, Nonempty (Val e)] {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

set_option maxHeartbeats 1000000 in
/-- Where the body does not clear: the output block, holding `xo`, ends holding `xo` plus the product of the blocks. -/
theorem run_keep (c : Dev nD) (i : grid0.Coords) (arg4 : Memref sig .tc .vmem S1024x256 .bf16) (harg4 : arg4.IsWhole) (arg5 : Memref sig .tc .vmem S256x2816 .bf16) (harg5 : arg5.IsWhole) (arg6 : Memref sig .tc .vmem S1x1024x2816 .f32) (harg6 : arg6.IsWhole)
    (x0 : Vec F S1024x256 .bf16) (x1 : Vec F S256x2816 .bf16) (xo : Vec F S1x1024x2816 .f32) (xt0 : TbBuf0 (F := F) c tbM0_0)
    (hc0 : ¬cond0_0 i (wordAt i c xt0) (wordBefore i c xt0)) :
      ∀ (E : Set ℕ) (K : PUnit → sProp 𝕄),
        iprop(owns (c : Thread nD τ) arg4 fullShare x0 ∗ owns (c : Thread nD τ) arg5 fullShare x1 ∗ owns (c : Thread nD τ) arg6 fullShare xo ∗ tbPt0 c tbM0_0 xt0
            ∗ (iprop(owns (c : Thread nD τ) arg4 fullShare x0 ∗ owns (c : Thread nD τ) arg5 fullShare x1 ∗ owns (c : Thread nD τ) arg6 fullShare (k0_pay2 xo x0 x1) ∗ tbPt0 c tbM0_0 xt0) -∗ K ⟨⟩))
          ⊢ wp frame (wpE (defs₀ (F := F)) Variants.none c none) E (cc0_wgrad i tbM0_0 htbM0_0 arg4 harg4 arg5 harg5 arg6 harg6) K := by
    intro E K
    simp only [cc0_wgrad_eq_skeleton]; unfold cc0_wgrad_skel
    unfold owns
    iintro ⟨⟨%f0, %hf0, H0⟩, ⟨%f1, %hf1, H1⟩, ⟨%f2, %hf2, H2⟩, HT0, Hk⟩
    obtain rfl := harg4.eq_unread hf0; obtain rfl := harg5.eq_unread hf1; obtain rfl := harg6.eq_unread hf2
    sl_exec (disch := first | sl_exact hc0)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; swap; · iexact H2
      ipureintro
      rw [read_whole_store (S := S1x1024x2816) _ _ hz3]
      simp only [View.readAt_eq_ld, harg4.read_unread, harg5.read_unread, harg6.read_unread, View.ld_unit_zero (S := S1x1024x2816) hz3,
        View.ld_unit_zero (S := S1024x256) hz2, View.ld_unit_zero (S := S256x2816) hz2]
    iexact HT0

set_option maxHeartbeats 1000000 in
/-- Where the body clears: whatever the output block held, it ends holding the product of the blocks added to zero. -/
theorem run_clear (c : Dev nD) (i : grid0.Coords) (arg4 : Memref sig .tc .vmem S1024x256 .bf16) (harg4 : arg4.IsWhole) (arg5 : Memref sig .tc .vmem S256x2816 .bf16) (harg5 : arg5.IsWhole) (arg6 : Memref sig .tc .vmem S1x1024x2816 .f32) (harg6 : arg6.IsWhole)
    (x0 : Vec F S1024x256 .bf16) (x1 : Vec F S256x2816 .bf16) (xt0 : TbBuf0 (F := F) c tbM0_0)
    (hc0 : cond0_0 i (wordAt i c xt0) (wordBefore i c xt0)) :
      ∀ (E : Set ℕ) (K : PUnit → sProp 𝕄),
        iprop(owns (c : Thread nD τ) arg4 fullShare x0 ∗ owns (c : Thread nD τ) arg5 fullShare x1 ∗ (∃ d, owns (c : Thread nD τ) arg6 fullShare d) ∗ tbPt0 c tbM0_0 xt0
            ∗ (iprop(owns (c : Thread nD τ) arg4 fullShare x0 ∗ owns (c : Thread nD τ) arg5 fullShare x1 ∗ owns (c : Thread nD τ) arg6 fullShare (k0_pay2 (k0_pay1 (F := F)) x0 x1) ∗ tbPt0 c tbM0_0 xt0) -∗ K ⟨⟩))
          ⊢ wp frame (wpE (defs₀ (F := F)) Variants.none c none) E (cc0_wgrad i tbM0_0 htbM0_0 arg4 harg4 arg5 harg5 arg6 harg6) K := by
    intro E K
    simp only [cc0_wgrad_eq_skeleton]; unfold cc0_wgrad_skel
    unfold owns
    iintro ⟨⟨%f0, %hf0, H0⟩, ⟨%f1, %hf1, H1⟩, ⟨%d2, %f2, -, H2⟩, HT0, Hk⟩
    obtain rfl := harg4.eq_unread hf0; obtain rfl := harg5.eq_unread hf1
    sl_exec (disch := first | sl_exact hc0)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; swap; · iexact H2
      ipureintro
      sl_unfold_words
      rw [read_whole_store (S := S1x1024x2816) _ _ hz3, View.readCov_unit_zero (S := S1x1024x2816) _ hz3]
      simp only [View.readAt_eq_ld, harg4.read_unread, harg5.read_unread,
        View.ld_unit_zero (S := S1024x256) hz2, View.ld_unit_zero (S := S256x2816) hz2]
    iexact HT0

end Cert.KernelIdeal.Kit

end
-- ==== Proof.Traj.lean ====
/- What the output's staging block holds after every grid point: the product of the point's two input blocks, added to
   zero where the point is the first of its expert's run of tiles and to what the point before left elsewhere — and the
   run of the whole program to it. -/
module

public import proofs.«01_k».proof.Proof.Body
public import Idealize.ShloMosaic.Lib.ValueIdxCore
public import Idealize.ShloMosaic.Lib.Pipeline.Value

@[expose] public section

set_option maxRecDepth 16384

noncomputable section

namespace Cert.KernelIdeal.Kit

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The table's words at a grid point -/

/-- The expert of tile `s`, as the table of the region's entry holds it. -/
abbrev word (s : Fin 43) : BitVec 32 := (tbl m 0 : S43.Idx → BitVec 32) (ix1 s)

/-- The body's own word at point `i` is its tile's. -/
theorem wordAt_eq (i : grid0.Coords) (c : Dev nD) : wordAt i c (tbl m 0) = word m (i 2) := by
  unfold wordAt
  show (tbl m 0 : S43.Idx → BitVec 32) _ = _
  congr 1; funext a; apply Fin.ext
  match a with
  | ⟨0, _⟩ => show k0_off1 i 0 + 1 * 0 = (i 2).val; rw [k0_off1_eq]; rfl

/-- The offsets of the word before, in closed form. -/
theorem k0_off2_eq (i : grid0.Coords) : k0_off2 i = ![(i 2).val - 1] := by
  have h : ∀ n : Fin 43, (Scalar.indexCast (Scalar.maxsi (Scalar.subi (BitVec.ofNat 32 n.val) 1#32) 0#32)).toNat = n.val - 1 := by decide +kernel
  unfold k0_off2
  exact congrArg (fun x => ![x]) (h (i 2))

/-- The word it compares with is the tile before's (its own at tile 0). -/
theorem wordBefore_eq (i : grid0.Coords) (c : Dev nD) :
    wordBefore i c (tbl m 0) = word m ⟨(i 2).val - 1, Nat.lt_of_le_of_lt (Nat.sub_le _ _) (i 2).isLt⟩ := by
  unfold wordBefore
  show (tbl m 0 : S43.Idx → BitVec 32) _ = _
  congr 1; funext a; apply Fin.ext
  match a with
  | ⟨0, _⟩ => show k0_off2 i 0 + 1 * 0 = (i 2).val - 1; rw [k0_off2_eq]; rfl

/-- The body clears at tile 0 and wherever the tile's expert differs from the one it is compared with. -/
theorem cond_iff (i : grid0.Coords) (v w : BitVec 32) : cond0_0 i v w ↔ (i 2).val = 0 ∨ v ≠ w := by
  have h : ∀ (n : Fin 43) (b : BitVec 1), (Scalar.cmpi .ne (Scalar.extui (Scalar.ori (Scalar.cmpi .eq (BitVec.ofNat 32 n.val) 0#32) b)) (0#32 : BitVec 32)) = 1#1
      ↔ n.val = 0 ∨ b = 1#1 := by decide +kernel
  unfold cond0_0
  rw [h (i 2)]
  have : (Scalar.cmpi .ne v w) = 1#1 ↔ v ≠ w := by
    by_cases hvw : v = w
    · subst hvw; simp [Scalar.cmpi, IntOp.cmpi]
    · have hb : (v != w) = true := by simpa using hvw
      simp [Scalar.cmpi, IntOp.cmpi, hvw, hb]
  rw [this]

/-- What the output window's index map reads of the table at a point is its tile's word. -/
theorem tableAt_eq (i : grid0.Coords) :
    (tbl m).at 0 (Rect.unit (s := S43) ![(Scalar.indexCast (BitVec.ofNat 32 (i 2).val)).toNat] S1.size (k0_off1_inb i)) numel1_S1 = word m (i 2) := by
  show (tbl m 0 : S43.Idx → BitVec 32) _ = _
  congr 1; funext a; apply Fin.ext
  match a with
  | ⟨0, _⟩ => show k0_off1 i 0 + 1 * 0 = (i 2).val; rw [k0_off1_eq]; rfl

/-- The output window's block index at a point: the tile's expert, then the block row and column. -/
theorem index2_eq (hO : Ok m) (t : Fin (cfgM m hO).N) :
    ((cfgM m hO).win 2).index t = ![(word m (grid0.coords t 2)).toNat, (grid0.coords t 0).val, (grid0.coords t 1).val] := by
  have h0 : (BitVec.ofNat 32 (grid0.coords t 0).val).toNat = (grid0.coords t 0).val := by
    have h : ∀ n : Fin 6, (BitVec.ofNat 32 n.val).toNat = n.val := by decide
    exact h _
  have h1 : (BitVec.ofNat 32 (grid0.coords t 1).val).toNat = (grid0.coords t 1).val := by
    have h : ∀ n : Fin 2, (BitVec.ofNat 32 n.val).toNat = n.val := by decide
    exact h _
  show cc0_transform_2 k0_off1_inb numel1_S1 (tbl m) (grid0.coords t) = _
  unfold cc0_transform_2
  dsimp only
  rw [h0, h1]
  exact congrArg (fun x : BitVec 32 => (![x.toNat, (grid0.coords t 0).val, (grid0.coords t 1).val] : Fin 3 → ℕ)) (tableAt_eq m (grid0.coords t))

/-! ## A point's coordinates -/

theorem coord0 (t : Fin grid0.N) : (grid0.coords t 0).val = t.val / 86 % 6 := Pipeline.Grid.coords_val t 0 (by decide) rfl
theorem coord1 (t : Fin grid0.N) : (grid0.coords t 1).val = t.val / 43 % 2 := Pipeline.Grid.coords_val t 1 (by decide) rfl
theorem coord2 (t : Fin grid0.N) : (grid0.coords t 2).val = t.val % 43 := by
  rw [Pipeline.Grid.coords_val t 2 (S := 1) (B := 43) (by decide) rfl, Nat.div_one]

/-- The condition the body clears its output block under at point `t`, over the table of the region's entry. -/
abbrev clears (c : Dev nD) (t : Fin grid0.N) : Prop :=
  cond0_0 (grid0.coords t) (wordAt (grid0.coords t) c (tbl m 0)) (wordBefore (grid0.coords t) c (tbl m 0))

/-- Where the body does not clear, the point is not the first, and the point before holds the same output block. -/
theorem keeps_index (hO : Ok m) (c : Dev nD) (t : Fin (cfgM m hO).N) (h : ¬clears m c t) :
    ∃ h0 : t.val ≠ 0, ((cfgM m hO).win 2).index t = ((cfgM m hO).win 2).index ⟨t.val - 1, Nat.lt_of_le_of_lt (Nat.sub_le _ _) t.isLt⟩ := by
  unfold clears at h
  rw [cond_iff, wordAt_eq, wordBefore_eq] at h
  have hs : t.val % 43 ≠ 0 := fun e => h (.inl ((coord2 t).trans e))
  have hw := not_not.mp fun e => h (.inr e)
  have ht0 : t.val ≠ 0 := by intro h0; rw [h0] at hs; exact hs rfl
  refine ⟨ht0, ?_⟩
  rw [index2_eq, index2_eq]
  set t' : Fin (cfgM m hO).N := ⟨t.val - 1, Nat.lt_of_le_of_lt (Nat.sub_le _ _) t.isLt⟩ with ht'
  have e : t'.val = t.val - 1 := rfl
  have h0 : (grid0.coords t' 0).val = (grid0.coords t 0).val := by rw [coord0, coord0, e]; omega
  have h1 : (grid0.coords t' 1).val = (grid0.coords t 1).val := by rw [coord1, coord1, e]; omega
  have h2 : grid0.coords t' 2 = ⟨(grid0.coords t 2).val - 1, Nat.lt_of_le_of_lt (Nat.sub_le _ _) (grid0.coords t 2).isLt⟩ := by
    apply Fin.ext; show (grid0.coords t' 2).val = (grid0.coords t 2).val - 1; rw [coord2, coord2, e]; omega
  rw [h0, h1, h2, hw]
  rfl

/-- So the output block is not written back in between. -/
theorem keeps_unflushed (hO : Ok m) (c : Dev nD) (t : Fin (cfgM m hO).N) (h : ¬clears m c t) :
    ∃ h0 : t.val ≠ 0, ((cfgM m hO).win 2).flush ⟨t.val - 1, Nat.lt_of_le_of_lt (Nat.sub_le _ _) t.isLt⟩ = false := by
  obtain ⟨h0, hi⟩ := keeps_index m hO c t h
  refine ⟨h0, ?_⟩
  rw [← Bool.not_eq_true]
  intro hf
  have hlt := t.isLt
  rcases (Pipeline.Window.flush_out _ rfl _).mp hf with h1 | ⟨h1, h2⟩
  · have : t.val - 1 + 1 = (cfgM m hO).N := h1
    omega
  · apply h2
    have e : (⟨t.val - 1 + 1, h1⟩ : Fin (cfgM m hO).N) = t := Fin.ext (by show t.val - 1 + 1 = t.val; omega)
    rw [← hi]
    exact congrArg _ e

/-! ## What the output's staging block holds -/

/-- The two input blocks of point `t`, at their shapes. -/
abbrev xblk (hO : Ok m) (c : Dev nD) (t : Fin (cfgM m hO).N) : Vec F S1024x256 .bf16 := iblk m hO c 0 t
abbrev yblk (hO : Ok m) (c : Dev nD) (t : Fin (cfgM m hO).N) : Vec F S256x2816 .bf16 := iblk m hO c 1 t

open Classical in
/-- The output block after point `n`: the product of the point's input blocks added to zero where the body clears, and
    to the block after the point before elsewhere. -/
def outsAt (hO : Ok m) (c : Dev nD) : (n : ℕ) → n < (cfgM m hO).N → Vec F S1x1024x2816 .f32
  | 0, h => k0_pay2 (k0_pay1 (F := F)) (xblk m hO c ⟨0, h⟩) (yblk m hO c ⟨0, h⟩)
  | n + 1, h => k0_pay2 (if clears m c ⟨n + 1, h⟩ then k0_pay1 (F := F) else outsAt hO c n (Nat.lt_of_succ_lt h))
      (xblk m hO c ⟨n + 1, h⟩) (yblk m hO c ⟨n + 1, h⟩)

/-- At a point that clears. -/
theorem outsAt_clear (hO : Ok m) (c : Dev nD) (t : Fin (cfgM m hO).N) (h : clears m c t) :
    outsAt m hO c t.val t.isLt = k0_pay2 (k0_pay1 (F := F)) (xblk m hO c t) (yblk m hO c t) := by
  obtain ⟨n, hn⟩ := t
  match n with
  | 0 => rfl
  | n + 1 =>
    show k0_pay2 (if clears m c ⟨n + 1, hn⟩ then _ else _) _ _ = _
    rw [if_pos h]

/-- At a point that does not. -/
theorem outsAt_keep (hO : Ok m) (c : Dev nD) (t : Fin (cfgM m hO).N) (h : ¬clears m c t) :
    outsAt m hO c t.val t.isLt
      = k0_pay2 (outsAt m hO c (t.val - 1) (Nat.lt_of_le_of_lt (Nat.sub_le _ _) t.isLt)) (xblk m hO c t) (yblk m hO c t) := by
  obtain ⟨h0, -⟩ := keeps_index m hO c t h
  obtain ⟨n, hn⟩ := t
  match n with
  | 0 => exact absurd rfl h0
  | n + 1 =>
    show k0_pay2 (if clears m c ⟨n + 1, hn⟩ then _ else _) _ _ = _
    rw [if_neg h]
    rfl

/-- The proof data of the one pipeline on core `c`: the arrays as the region finds them; after the body at point `t` each
    input's buffer at its block and the output's at `outsAt`; the invariant of the class and the table's half; nothing
    owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outsAt m hO c t.val t.isLt
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-- The output's buffer after the body holds the running sum. -/
theorem after0_2 (hO : Ok m) (c : Dev nD) (t : Fin (cfgM m hO).N) : (dats m hO 0 c).after 2 t = outsAt m hO c t.val t.isLt := by dsimp only [dats]; try rfl
/-- Where the body does not clear, the output's buffer holds what the point before left. -/
theorem before0_2 (hO : Ok m) (c : Dev nD) (t : Fin (cfgM m hO).N) (h : ¬clears m c t) (d) :
    (dats m hO 0 c).before 2 t d = outsAt m hO c (t.val - 1) (Nat.lt_of_le_of_lt (Nat.sub_le _ _) t.isLt) := by
  obtain ⟨h0, hfl⟩ := keeps_unflushed m hO c t h
  rw [(dats m hO 0 c).before_out_kept 2 rfl t h0 hfl (fun _ => rfl) (fun _ _ => rfl) d, after0_2]

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

set_option maxHeartbeats 800000 in
/-- The body at any point: the inputs' memrefs hold their blocks, the output's what the point before left where the body
    does not clear; so the case's run applies. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  by_cases h0 : clears m c t
  · rw [outsAt_clear m hO c t h0]
    iintro ⟨⟨HΦ, HT0⟩, Ho, ⟨%d0, H0⟩, ⟨%d1, H1⟩, ⟨%d2, H2⟩⟩
    iapply ((run_clear c (grid0.coords t) _ _ _ _ _ _ (iblk m hO c 0 t) (iblk m hO c 1 t) (tbl m 0) h0) Set.univ _)
    isplitl [H0]; · iexact H0
    isplitl [H1]; · iexact H1
    isplitl [H2]; · iexists _; iexact H2
    isplitl [HT0]; · iexact HT0
    iintro ⟨H0, H1, H2, HT0⟩
    isplitl [HΦ HT0]
    · isplitl [HΦ]
      · iexact HΦ
      iexact HT0
    isplitl [Ho]; · iexact Ho
    isplitl [H0]; · iexact H0
    isplitl [H1]; · iexact H1
    iexact H2
  · rw [outsAt_keep m hO c t h0]
    simp only [before0_2 m hO c t h0]
    iintro ⟨⟨HΦ, HT0⟩, Ho, ⟨%d0, H0⟩, ⟨%d1, H1⟩, ⟨%d2, H2⟩⟩
    iapply ((run_keep c (grid0.coords t) _ _ _ _ _ _ (iblk m hO c 0 t) (iblk m hO c 1 t) (outsAt m hO c (t.val - 1) (Nat.lt_of_le_of_lt (Nat.sub_le _ _) t.isLt)) (tbl m 0) h0) Set.univ _)
    isplitl [H0]; · iexact H0
    isplitl [H1]; · iexact H1
    isplitl [H2]; · iexact H2
    isplitl [HT0]; · iexact HT0
    iintro ⟨H0, H1, H2, HT0⟩
    isplitl [HΦ HT0]
    · isplitl [HΦ]
      · iexact HΦ
      iexact HT0
    isplitl [Ho]; · iexact Ho
    isplitl [H0]; · iexact H0
    isplitl [H1]; · iexact H1
    iexact H2

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
/-- Every execution ends, with each window's array at what the write-backs left of it, every other buffer at its
    region-entry contents, and every semaphore counter at zero. -/
theorem run_main_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The run, read: the result array at what the write-backs left, the arguments unchanged, the counters at zero. -/
theorem run_read (hO : Ok m) : θ_run defs (onTc (τ := τ) (main (F := F))) ⟨m, fun _ => 0, ρ⟩ (fun r => (∀ c : Dev nD,
      r.2.mem ((c.tc : Thread nD τ).loc main_v18) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r (h : _ ∧ _) => ⟨fun c => ⟨(h.1 c).1 2,
      ((h.1 c).2 main_arg0 (by decide : main_arg0 ∈ Pipeline.restRefs sig spec0)).trans (V_main_arg0 m c),
      (((h.1 c).1 0).trans ((dats m hO 0 c).arrAt_in 0 rfl _)).trans (V_main_arg1 m c),
      (((h.1 c).1 1).trans ((dats m hO 0 c).arrAt_in 1 rfl _)).trans (V_main_arg2 m c)⟩, h.2⟩) (run_main_quiescent m ρ hO)

end Cert.KernelIdeal.Kit

end
-- ==== Proof.Table.lean ====
/- The table the idealized kernel's pallas_call reads, as the tile plan of the group sizes; every word of it is a group, so
   the output's blocks are inside the output at every grid point. -/
module

public import proofs.«01_k».proof.Proof.Plan
public import proofs.«01_k».proof.Proof.Traj

@[expose] public section

set_option maxRecDepth 16384

noncomputable section

namespace Cert.KernelIdeal.Kit

open Cert.KernelIdeal Cert.KernelIdeal.Gen
open Idealize.ShloMosaic Idealize.ShloMosaic.TcCoe Idealize.ShloMosaic.Tactic Idealize.ShloMosaic.ValueIdx
open Cert.Plan

variable {F : FTy → Type} [FloatOps F]
variable (m : (ℓ : Loc nD τ sig) → Buf (Elt F) ℓ)

/-- The group sizes the program is launched with. -/
abbrev sizes : IVec (Routing.shape1 3) 32 := m (((0 : Dev nD) : Thread nD τ).loc main_arg0)

set_option maxHeartbeats 4000000 in
/-- The prefetched table is the tile plan of the group sizes: `jnp`'s owner of each of the 43 tiles. -/
theorem table_eq : (V m (0 : Dev nD) main_v17 : S43.Idx → BitVec 32)
    = ownerV 43 Facts₀.bcast_S43_S43x1_0 Facts₀.bcast_S43x1_S43x3_0_1 Facts₀.bcast_S3_S1x3_1 Facts₀.bcast_S1x3_S43x3_0_1
        Facts₀.reducesTo_S43x3_S43_d1 Facts₀.h_S_ Facts₀.natLt_1_32 Facts₀.bcast_S_S43
        (cumV Facts₀.reduceWindows_S3_S3_w3s1p2_0 Facts₀.bcast_S_S_ Facts₀.h_S_ (stepsV Facts₀.bcast_S_S3 (sizes m))) := by
  unfold V
  simp only [hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp
  rfl

/-- Every word of the table is one of the three groups, whatever the group sizes are. -/
theorem word_lt (s : Fin 43) : ((tbl m 0 : S43.Idx → BitVec 32) (ix1 s)).toNat < 3 := by
  rw [show (tbl m 0 : S43.Idx → BitVec 32) = _ from table_eq m]
  exact ownerV_lt _ s

/-- The output window's block is inside its array at every grid point, whatever the group sizes are. -/
theorem ok : Ok m := by
  intro i
  have h2 : (i 2).val < 43 := (i 2).isLt
  have h0 : (i 0).val < 6 := (i 0).isLt
  have h1 : (i 1).val < 2 := (i 1).isLt
  refine ⟨fun a => ?_, .inl rfl⟩
  match a with
  | ⟨0, _⟩ =>
    have hx := word_lt m (i 2)
    have e : (tbl m).at 0 (Rect.unit (s := S43) ![(Scalar.indexCast (BitVec.ofNat 32 (i 2).val)).toNat] S1.size (k0_off1_inb i)) numel1_S1
        = (tbl m 0 : S43.Idx → BitVec 32) (ix1 (i 2)) := by
      show (tbl m 0 : S43.Idx → BitVec 32) _ = _
      congr 1; funext a; apply Fin.ext
      match a with
      | ⟨0, _⟩ => show k0_off1 i 0 + 1 * 0 = (i 2).val; rw [k0_off1_eq]; rfl
    show (((tbl m).at 0 (Rect.unit (s := S43) ![(Scalar.indexCast (BitVec.ofNat 32 (i 2).val)).toNat] S1.size (k0_off1_inb i)) numel1_S1).toNat + 1) * 1 ≤ 3
    rw [e]; omega
  | ⟨1, _⟩ =>
    show ((BitVec.ofNat 32 (i 0).val).toNat + 1) * 1024 ≤ 6144
    rw [BitVec.toNat_ofNat]; omega
  | ⟨2, _⟩ =>
    show ((BitVec.ofNat 32 (i 1).val).toNat + 1) * 2816 ≤ 5632
    rw [BitVec.toNat_ofNat]; omega

end Cert.KernelIdeal.Kit
-- ==== Proof.Block.lean ====
/- One grid point at the extended reals: the output block after the body, entry by entry, and the input blocks as entries
   of the arrays. -/
module

public import proofs.«01_k».proof.Proof.Traj
public import Idealize.ShloMosaic.Lib.MatmulPlain

@[expose] public section

set_option maxRecDepth 16384

noncomputable section

namespace Cert.KernelIdeal.Kit

open Cert.KernelIdeal.Gen
open Idealize.ShloMosaic Idealize.ShloMosaic.TcCoe Idealize.ShloMosaic.Tactic
open Idealize.ShloMosaic.ValueIdx

/-- The block the body clears to is zero everywhere. -/
theorem pay1_apply (j : S1x1024x2816.Idx) : k0_pay1 (F := Ideal) j = 0 := by
  unfold k0_pay1
  exact Ideal.ofBits_zero_f32

/-- Entry `(0, a, b)` after the body: what was there, and the sum over the 256 rows of the tile of the products. -/
theorem pay2_apply (acc : Vec Ideal S1x1024x2816 .f32) (x : Vec Ideal S1024x256 .bf16) (y : Vec Ideal S256x2816 .bf16) (a : Fin 1024) (b : Fin 2816) :
    k0_pay2 (F := Ideal) acc x y (ix3 (0 : Fin 1) a b) = acc (ix3 (0 : Fin 1) a b) + ∑ k : Fin 256, x (ix2 a k) * y (ix2 k b) := by
  unfold k0_pay2
  refine (shapeCast_addUnit_apply ![1024, 2816] _ _ (ix3 (0 : Fin 1) a b)).trans ?_
  have hj : (fun c => (ix3 (0 : Fin 1) a b : S1x1024x2816.Idx) c.succ : S1024x2816.Idx) = ix2 a b := by
    funext c
    match c with
    | ⟨0, _⟩ => rfl
    | ⟨1, _⟩ => rfl
  rw [hj]
  refine (congrArg₂ (· + ·) (shapeCast_dropUnit_apply ![1024, 2816] acc _ (ix2 a b)) (Ideal.matmul_plain_apply (M := 1024) (K := 256) (N := 2816) none x y _ a b)).trans ?_
  have h0 : (constant S1024x2816 .f32 0x00000000#32 : FVec Ideal S1024x2816 .f32) (ix2 a b) = 0 := Ideal.ofBits_zero_f32
  rw [h0, zero_add]
  have hk : (Fin.cons ⟨0, Nat.one_pos⟩ (ix2 a b : S1024x2816.Idx) : S1x1024x2816.Idx) = ix3 (0 : Fin 1) a b := by
    funext c
    match c with
    | ⟨0, _⟩ => rfl
    | ⟨1, _⟩ => rfl
    | ⟨2, _⟩ => rfl
  exact congrArg (fun j : S1x1024x2816.Idx => acc j + _) hk

variable (m : (ℓ : Loc nD τ sig) → Buf (Elt Ideal) ℓ)

/-- Entry `(r, k)` of the left operand, at natural indices (zero outside the array). -/
def X (c : Dev nD) (r k : ℕ) : EReal :=
  if h : r < 6144 ∧ k < 11008 then (m ((c : Thread nD τ).loc main_arg1) : S6144x11008.Idx → EReal) (ix2 ⟨r, h.1⟩ ⟨k, h.2⟩) else 0

/-- Entry `(k, n)` of the right operand, at natural indices (zero outside the array). -/
def Y (c : Dev nD) (k n : ℕ) : EReal :=
  if h : k < 11008 ∧ n < 5632 then (m ((c : Thread nD τ).loc main_arg2) : S11008x5632.Idx → EReal) (ix2 ⟨k, h.1⟩ ⟨n, h.2⟩) else 0

/-- The left operand's block at a point: rows from `1024 i`, columns from `256 s`. -/
theorem xblk_apply (hO : Ok m) (c : Dev nD) (t : Fin (cfgM m hO).N) (a : Fin 1024) (k : Fin 256) :
    xblk m hO c t (ix2 a k) = X m c (1024 * (t.val / 86 % 6) + a.val) (256 * (t.val % 43) + k.val) := by
  have ha := a.isLt
  have hk := k.isLt
  unfold X
  rw [dif_pos (by constructor <;> omega)]
  have e : V m c (Pipeline.arrRef spec0 0) = m ((c : Thread nD τ).loc main_arg1) := V_main_arg1 m c
  refine (View.read_apply (v := (((cfgM m hO).win 0).blk t).view) (V m c (Pipeline.arrRef spec0 0)) _).trans ?_
  rw [e]
  show (m ((c : Thread nD τ).loc main_arg1) : S6144x11008.Idx → EReal) _ = _
  congr 1
  funext d
  apply Fin.ext
  have h0 := coord0 t
  have h2 := coord2 t
  match d with
  | ⟨0, _⟩ =>
    show (BitVec.ofNat 32 (grid0.coords t 0).val).toNat * 1024 + 1 * a.val = 1024 * (t.val / 86 % 6) + a.val
    rw [BitVec.toNat_ofNat]; omega
  | ⟨1, _⟩ =>
    show (BitVec.ofNat 32 (grid0.coords t 2).val).toNat * 256 + 1 * k.val = 256 * (t.val % 43) + k.val
    rw [BitVec.toNat_ofNat]; omega

/-- The right operand's block at a point: rows from `256 s`, columns from `2816 j`. -/
theorem yblk_apply (hO : Ok m) (c : Dev nD) (t : Fin (cfgM m hO).N) (k : Fin 256) (b : Fin 2816) :
    yblk m hO c t (ix2 k b) = Y m c (256 * (t.val % 43) + k.val) (2816 * (t.val / 43 % 2) + b.val) := by
  have hb := b.isLt
  have hk := k.isLt
  unfold Y
  rw [dif_pos (by constructor <;> omega)]
  have e : V m c (Pipeline.arrRef spec0 1) = m ((c : Thread nD τ).loc main_arg2) := V_main_arg2 m c
  refine (View.read_apply (v := (((cfgM m hO).win 1).blk t).view) (V m c (Pipeline.arrRef spec0 1)) _).trans ?_
  rw [e]
  show (m ((c : Thread nD τ).loc main_arg2) : S11008x5632.Idx → EReal) _ = _
  congr 1
  funext d
  apply Fin.ext
  have h1 := coord1 t
  have h2 := coord2 t
  match d with
  | ⟨0, _⟩ =>
    show (BitVec.ofNat 32 (grid0.coords t 2).val).toNat * 256 + 1 * k.val = 256 * (t.val % 43) + k.val
    rw [BitVec.toNat_ofNat]; omega
  | ⟨1, _⟩ =>
    show (BitVec.ofNat 32 (grid0.coords t 1).val).toNat * 2816 + 1 * b.val = 2816 * (t.val / 43 % 2) + b.val
    rw [BitVec.toNat_ofNat]; omega

end Cert.KernelIdeal.Kit
-- ==== Proof.Value.lean ====
/- What the idealized kernel leaves in its result: entry `(e, r, n)` is the sum, over the tiles `s` whose word in the table is
   `e`, of the products of row `r` of the left operand and column `n` of the right one along the tile's 256 positions.
   Stated over any table whose words do not decrease from tile to tile and that names every expert. -/
module

public import proofs.«01_k».proof.Proof.Block

@[expose] public section

set_option maxRecDepth 16384

noncomputable section

namespace Cert.KernelIdeal.Kit

open Cert.KernelIdeal.Gen
open Idealize.ShloMosaic Idealize.ShloMosaic.TcCoe Idealize.ShloMosaic.Tactic
open Idealize.ShloMosaic.ValueIdx
open Idealize.ShloMosaic.Pipeline (Dat)

variable (m : (ℓ : Loc nD τ sig) → Buf (Elt Ideal) ℓ)

/-- Tile `s`'s share of entry `(r, n)`: the products along the tile's 256 positions. -/
def tileSum (c : Dev nD) (r n s : ℕ) : EReal := ∑ k : Fin 256, X m c r (256 * s + k.val) * Y m c (256 * s + k.val) n

variable (own : ℕ → ℕ)

/-- The result: each entry the sum of its expert's tiles' shares. -/
def total (c : Dev nD) : S3x6144x5632.Idx → EReal :=
  fun i => ∑ s ∈ (Finset.range 43).filter (fun s => own s = (i 0).val), tileSum m c (i 1).val (i 2).val s

variable (hw : ∀ s : Fin 43, (word m s).toNat = own s.val) (hmono : ∀ s s' : ℕ, s ≤ s' → own s ≤ own s')

include hw in
/-- The body clears at the first tile of the sweep and where the tile's expert is not the one before's. -/
theorem clears_iff (c : Dev nD) (t : Fin grid0.N) : clears m c t ↔ t.val % 43 = 0 ∨ own (t.val % 43) ≠ own (t.val % 43 - 1) := by
  unfold clears
  rw [cond_iff, wordAt_eq, wordBefore_eq]
  have h1 := hw (grid0.coords t 2)
  have h2 := hw ⟨(grid0.coords t 2).val - 1, Nat.lt_of_le_of_lt (Nat.sub_le _ _) (grid0.coords t 2).isLt⟩
  have e2 := coord2 t
  refine or_congr (by rw [e2]) (not_congr ?_)
  rw [← BitVec.toNat_inj, h1, h2]
  show own (grid0.coords t 2).val = own ((grid0.coords t 2).val - 1) ↔ _
  rw [e2]

include hmono in
/-- The tiles up to the first of an expert's run that are the expert's: that tile alone. -/
theorem filter_first (s : ℕ) (h : s = 0 ∨ own s ≠ own (s - 1)) :
    (Finset.range (s + 1)).filter (fun s' => own s' = own s) = {s} := by
  ext s'
  simp only [Finset.mem_filter, Finset.mem_range, Finset.mem_singleton]
  constructor
  · rintro ⟨h1, h2⟩
    by_contra hne
    rcases h with h | h
    · omega
    · have a := hmono s' (s - 1) (by omega)
      have b := hmono (s - 1) s (by omega)
      omega
  · rintro rfl; exact ⟨by omega, rfl⟩

/-- The tiles up to a later one of the run: those up to the tile before, and that tile. -/
theorem filter_next (s : ℕ) (h0 : s ≠ 0) (h : own s = own (s - 1)) :
    (Finset.range (s + 1)).filter (fun s' => own s' = own s)
      = insert s ((Finset.range (s - 1 + 1)).filter (fun s' => own s' = own (s - 1))) := by
  ext s'
  simp only [Finset.mem_filter, Finset.mem_range, Finset.mem_insert, h]
  constructor
  · rintro ⟨h1, h2⟩
    by_cases e : s' = s
    · exact .inl e
    · exact .inr ⟨by omega, h2⟩
  · rintro (rfl | ⟨h1, h2⟩)
    · exact ⟨by omega, h⟩
    · exact ⟨by omega, h2⟩

/-- One point's product, entry by entry, is its tile's share. -/
theorem point_sum (hO : Ok m) (c : Dev nD) (t : Fin (cfgM m hO).N) (a : Fin 1024) (b : Fin 2816) :
    (∑ k : Fin 256, xblk m hO c t (ix2 a k) * yblk m hO c t (ix2 k b))
      = tileSum m c (1024 * (t.val / 86 % 6) + a.val) (2816 * (t.val / 43 % 2) + b.val) (t.val % 43) := by
  unfold tileSum
  refine Finset.sum_congr rfl fun k _ => ?_
  rw [xblk_apply, yblk_apply]

include hw hmono in
/-- The output block after point `n`: the shares of the expert's tiles so far. -/
theorem outsAt_apply (hO : Ok m) (c : Dev nD) : ∀ (n : ℕ) (h : n < (cfgM m hO).N) (a : Fin 1024) (b : Fin 2816),
    outsAt m hO c n h (ix3 (0 : Fin 1) a b)
      = ∑ s ∈ (Finset.range (n % 43 + 1)).filter (fun s => own s = own (n % 43)),
          tileSum m c (1024 * (n / 86 % 6) + a.val) (2816 * (n / 43 % 2) + b.val) s := by
  intro n
  induction n using Nat.strong_induction_on with
  | _ n ih =>
    intro h a b
    by_cases hc : clears m c ⟨n, h⟩
    · have e := outsAt_clear m hO c ⟨n, h⟩ hc
      dsimp only at e
      rw [e, pay2_apply, pay1_apply, zero_add, point_sum]
      have hc' := (clears_iff m own hw c ⟨n, h⟩).mp hc
      dsimp only at hc' ⊢
      rw [filter_first own hmono _ hc', Finset.sum_singleton]
    · have e := outsAt_keep m hO c ⟨n, h⟩ hc
      dsimp only at e
      have hc' := fun q => hc ((clears_iff m own hw c ⟨n, h⟩).mpr q)
      dsimp only at hc'
      have hs : n % 43 ≠ 0 := fun q => hc' (.inl q)
      have ho : own (n % 43) = own (n % 43 - 1) := not_not.mp fun q => hc' (.inr q)
      rw [e, pay2_apply, ih (n - 1) (by omega), point_sum]
      dsimp only
      have e1 : (n - 1) % 43 = n % 43 - 1 := by omega
      have e2 : (n - 1) / 86 % 6 = n / 86 % 6 := by omega
      have e3 : (n - 1) / 43 % 2 = n / 43 % 2 := by omega
      rw [e1, e2, e3, filter_next own _ hs ho, Finset.sum_insert, add_comm]
      simp only [Finset.mem_filter, Finset.mem_range]
      omega

end Cert.KernelIdeal.Kit
-- ==== Proof.Final.lean ====
/- The result array after the idealized kernel's run: every block that is written back holds its expert's whole sums, and the
   blocks written back cover the array. -/
module

public import proofs.«01_k».proof.Proof.Value

@[expose] public section

set_option maxRecDepth 16384

noncomputable section

namespace Cert.KernelIdeal.Kit

open Cert.KernelIdeal.Gen
open Idealize.ShloMosaic Idealize.ShloMosaic.TcCoe Idealize.ShloMosaic.Tactic
open Idealize.ShloMosaic.ValueIdx
open Idealize.ShloMosaic.Pipeline (Dat)

variable (m : (ℓ : Loc nD τ sig) → Buf (Elt Ideal) ℓ)
variable (own : ℕ → ℕ)
variable (hw : ∀ s : Fin 43, (word m s).toNat = own s.val) (hmono : ∀ s s' : ℕ, s ≤ s' → own s ≤ own s')

/-- The output's block index at a point, as three naturals. -/
abbrev bidx (hO : Ok m) (t : Fin (cfgM m hO).N) : Fin 3 → ℕ := ((cfgM m hO).win 2).index t

include hw in
/-- The output's block index at a point, by the point's number. -/
theorem index2_own (hO : Ok m) (t : Fin (cfgM m hO).N) :
    bidx m hO t = ![own (t.val % 43), t.val / 86 % 6, t.val / 43 % 2] := by
  have h := hw (grid0.coords t 2)
  have e0 := coord0 t
  have e1 := coord1 t
  have e2 := coord2 t
  refine (index2_eq m hO t).trans ?_
  rw [h, e0, e1]
  exact congrArg (fun x => ![own x, t.val / 86 % 6, t.val / 43 % 2]) e2

include hw in
/-- A block is written back exactly at the last tile of a sweep and where the next tile is another expert's. -/
theorem flush_iff (hO : Ok m) (t : Fin (cfgM m hO).N) :
    ((cfgM m hO).win 2).flush t = true ↔ t.val % 43 = 42 ∨ own (t.val % 43 + 1) ≠ own (t.val % 43) := by
  have hN : (cfgM m hO).N = 516 := rfl
  have ht := t.isLt
  rw [Pipeline.Window.flush_out _ rfl t]
  constructor
  · rintro (h | ⟨h, hi⟩)
    · left
      have h' : t.val + 1 = (cfgM m hO).N := h
      omega
    · by_cases h42 : t.val % 43 = 42
      · exact .inl h42
      · right
        intro ho
        apply hi
        refine (index2_own m own hw hO ⟨t.val + 1, h⟩).trans (Eq.trans ?_ (index2_own m own hw hO t).symm)
        dsimp only
        have q0 : (t.val + 1) % 43 = t.val % 43 + 1 := by omega
        have q1 : (t.val + 1) / 86 % 6 = t.val / 86 % 6 := by omega
        have q2 : (t.val + 1) / 43 % 2 = t.val / 43 % 2 := by omega
        rw [q0, q1, q2, ho]
  · intro h
    by_cases hl : t.val + 1 = 516
    · exact .inl hl
    · right
      have hlt : t.val + 1 < (cfgM m hO).N := by omega
      refine ⟨hlt, fun hi => ?_⟩
      have hi' := (index2_own m own hw hO ⟨t.val + 1, hlt⟩).symm.trans (hi.trans (index2_own m own hw hO t))
      have i0 : own ((t.val + 1) % 43) = own (t.val % 43) := congrFun hi' 0
      have i2 : (t.val + 1) / 43 % 2 = t.val / 43 % 2 := congrFun hi' 2
      rcases h with h | h
      · omega
      · have q0 : (t.val + 1) % 43 = t.val % 43 + 1 := by omega
        rw [q0] at i0
        exact h i0

include hmono in
/-- At the end of an expert's run of tiles, the tiles so far that are the expert's are all of them. -/
theorem filter_last (s : ℕ) (hs : s < 43) (h : s = 42 ∨ own (s + 1) ≠ own s) :
    (Finset.range (s + 1)).filter (fun s' => own s' = own s) = (Finset.range 43).filter (fun s' => own s' = own s) := by
  ext s'
  simp only [Finset.mem_filter, Finset.mem_range]
  constructor
  · rintro ⟨h1, h2⟩; exact ⟨by omega, h2⟩
  · rintro ⟨h1, h2⟩
    refine ⟨?_, h2⟩
    by_contra hne
    rcases h with h | h
    · omega
    · have a := hmono (s + 1) s' (by omega)
      have b := hmono s (s + 1) (by omega)
      omega

include hw hmono in
/-- A block written back holds the whole sums of its expert. -/
theorem flushed_eq (hO : Ok m) (c : Dev nD) (t : Fin (cfgM m hO).N) (hf : ((cfgM m hO).win 2).flush t = true) :
    (dats m hO 0 c).flushed 2 t = (((cfgM m hO).win 2).blk t).view.read (Elt Ideal) (total m own c) := by
  have hf' := (flush_iff m own hw hO t).mp hf
  have hlast := filter_last own hmono (t.val % 43) (Nat.mod_lt _ (by decide)) hf'
  have hidx := index2_own m own hw hO t
  have x0 : bidx m hO t 0 = own (t.val % 43) := congrFun hidx (0 : Fin 3)
  have x1 : bidx m hO t 1 = t.val / 86 % 6 := congrFun hidx (1 : Fin 3)
  have x2 : bidx m hO t 2 = t.val / 43 % 2 := congrFun hidx (2 : Fin 3)
  show ((cfgM m hO).win 2).cut (grid0.coords t) ((dats m hO 0 c).after 2 t) = _
  rw [after0_2]
  funext (j : S1x1024x2816.Idx)
  refine Eq.trans ?_ (View.read_apply (Val := Elt Ideal) (v := (((cfgM m hO).win 2).blk t).view) (total m own c) j).symm
  have j0 : (j 0).val < 1 := (j 0).isLt
  have j1 : (j 1).val < 1024 := (j 1).isLt
  have j2 : (j 2).val < 2816 := (j 2).isLt
  have el : ((cfgM m hO).win 2).cut (grid0.coords t) (outsAt m hO c t.val t.isLt) j
      = outsAt m hO c t.val t.isLt (ix3 (0 : Fin 1) ⟨(j 1).val, j1⟩ ⟨(j 2).val, j2⟩) := by
    show outsAt m hO c t.val t.isLt _ = _
    congr 1
    funext d
    apply Fin.ext
    match d with
    | ⟨0, _⟩ => show (j 0).val = 0; omega
    | ⟨1, _⟩ => rfl
    | ⟨2, _⟩ => rfl
  rw [el, outsAt_apply m own hw hmono, hlast]
  set i : S3x6144x5632.Idx := (((cfgM m hO).win 2).blk t).view.emb j with hi
  have i0 : (i 0).val = own (t.val % 43) := by
    show bidx m hO t 0 * 1 + 1 * (j 0).val = _
    omega
  have i1 : (i 1).val = 1024 * (t.val / 86 % 6) + (j 1).val := by
    show bidx m hO t 1 * 1024 + 1 * (j 1).val = _
    omega
  have i2 : (i 2).val = 2816 * (t.val / 43 % 2) + (j 2).val := by
    show bidx m hO t 2 * 2816 + 1 * (j 2).val = _
    omega
  show _ = total m own c i
  unfold total
  rw [i0, i1, i2]

include hw hmono in
/-- Every entry of the result lies in a block that is written back, when every expert owns a tile. -/
theorem covered (hO : Ok m) (hsurj : ∀ e, e < 3 → ∃ s, s < 43 ∧ own s = e) (i : S3x6144x5632.Idx) :
    ∃ t : Fin (cfgM m hO).N, ((cfgM m hO).win 2).flush t = true ∧ i ∈ (((cfgM m hO).win 2).blk t).view.set := by
  have hN : (cfgM m hO).N = 516 := rfl
  have i0 : (i 0).val < 3 := (i 0).isLt
  have i1 : (i 1).val < 6144 := (i 1).isLt
  have i2 : (i 2).val < 5632 := (i 2).isLt
  -- the last tile of the entry's expert
  obtain ⟨s, hs, ho, hlast⟩ : ∃ s, s < 43 ∧ own s = (i 0).val ∧ (s = 42 ∨ own (s + 1) ≠ own s) := by
    obtain ⟨s0, hs0, ho0⟩ := hsurj (i 0).val i0
    by_contra hno
    have hall : ∀ d, s0 + d < 43 → own (s0 + d) = (i 0).val := by
      intro d
      induction d with
      | zero => intro _; exact ho0
      | succ d ih =>
        intro hd
        have hp := ih (by omega)
        by_contra hne
        exact hno ⟨s0 + d, by omega, hp, .inr (by rw [hp]; exact hne)⟩
    exact hno ⟨42, by omega, by have := hall (42 - s0) (by omega); rwa [show s0 + (42 - s0) = 42 by omega] at this, .inl rfl⟩
  have hlt : 86 * ((i 1).val / 1024) + 43 * ((i 2).val / 2816) + s < (cfgM m hO).N := by omega
  set t : Fin (cfgM m hO).N := ⟨86 * ((i 1).val / 1024) + 43 * ((i 2).val / 2816) + s, hlt⟩ with ht
  have tv : t.val = 86 * ((i 1).val / 1024) + 43 * ((i 2).val / 2816) + s := rfl
  have t0 : t.val % 43 = s := by omega
  have t1 : t.val / 86 % 6 = (i 1).val / 1024 := by omega
  have t2 : t.val / 43 % 2 = (i 2).val / 2816 := by omega
  refine ⟨t, (flush_iff m own hw hO t).mpr (by rw [t0]; exact hlast), ?_⟩
  have hidx := index2_own m own hw hO t
  have x0 : bidx m hO t 0 = own (t.val % 43) := congrFun hidx (0 : Fin 3)
  have x1 : bidx m hO t 1 = t.val / 86 % 6 := congrFun hidx (1 : Fin 3)
  have x2 : bidx m hO t 2 = t.val / 43 % 2 := congrFun hidx (2 : Fin 3)
  rw [t0, ho] at x0
  rw [t1] at x1
  rw [t2] at x2
  show i ∈ ((View.whole main_v18).slice (((cfgM m hO).win 2).rect t)).set
  refine (congrArg (i ∈ ·) (View.set_slice_whole main_v18 (((cfgM m hO).win 2).rect t))).mpr ?_
  refine Rect.mem_set_unit.mpr fun a => ?_
  match a with
  | ⟨0, _⟩ =>
    show bidx m hO t 0 * 1 ≤ (i 0).val ∧ (i 0).val < bidx m hO t 0 * 1 + 1
    omega
  | ⟨1, _⟩ =>
    show bidx m hO t 1 * 1024 ≤ (i 1).val ∧ (i 1).val < bidx m hO t 1 * 1024 + 1024
    omega
  | ⟨2, _⟩ =>
    show bidx m hO t 2 * 2816 ≤ (i 2).val ∧ (i 2).val < bidx m hO t 2 * 2816 + 2816
    omega

include hw hmono in
/-- So the result array ends at the sums. -/
theorem final (hO : Ok m) (hsurj : ∀ e, e < 3 → ∃ s, s < 43 ∧ own s = e) (c : Dev nD) :
    (dats m hO 0 c).arrAt 2 (cfgM m hO).N = total m own c :=
  (dats m hO 0 c).arrAt_eq_of_cover 2 (total m own c) (flushed_eq m own hw hmono hO c) (covered m own hw hmono hO hsurj)

end Cert.KernelIdeal.Kit
-- ==== Proof.Pre.lean ====
/- What the precondition says of the group sizes: each is at most 10240 rows, and so is their sum. -/
module

public import proofs.«01_k».proof.Pre_sizes_ok
public import Idealize.ShloMosaic.Lib.Routing.Words
public import Idealize.ShloMosaic.Lib.Routing.Ops
public import Idealize.ShloMosaic.Lib.Affine

@[expose] public section

noncomputable section

namespace Cert.Pre_sizes_ok

open Idealize.ShloMosaic Idealize.ShloMosaic.Routing Idealize.ShloMosaic.ValueIdx Idealize.ShloMosaic.WordCmp

/-- One entry of the three, sliced out and made a scalar. -/
theorem entry_ap (a : IVec S3 32) (j : Fin 3) (h : S3.Slices ![j.val] S1) (hc : S1.ShapeCasts S_) (i : S_.Idx) :
    shapeCast S_ (extractStridedSlice S1 ![j.val] a h) hc i = a (ix1 j) := by
  show a _ = a _
  congr 1
  funext d
  apply Fin.ext
  match d with
  | ⟨0, _⟩ =>
    show j.val + (Shape.reshapeEquiv _ i 0).val = j.val
    have : (Shape.reshapeEquiv hc i 0).val < 1 := (Shape.reshapeEquiv hc i 0).isLt
    omega

/-- The precondition read at an entry: the size is between 0 and 10240 as a signed word, and the words' sum is at most 10240. -/
theorem fn_ap [Facts] {F : FTy → Type} [FloatOps F] (a0 : IVec S3 32) (a1 : FVec F S6144x11008 .bf16) (a2 : FVec F S11008x5632 .bf16) (k : Fin 3) :
    fn a0 a1 a2 (ix1 k) = IntOp.andi (IntOp.andi (IntOp.cmpi .sge (a0 (ix1 k)) 0#32) (IntOp.cmpi .sle (a0 (ix1 k)) 10240#32))
      (IntOp.cmpi .sle (IntOp.addi (IntOp.addi (a0 (ix1 0)) (a0 (ix1 1))) (a0 (ix1 2))) 10240#32) := by
  rw [← entry_ap a0 0 Facts.slices_S3_S1_0 Facts.shapeCasts_S1_S_ ix0, ← entry_ap a0 1 Facts.slices_S3_S1_1 Facts.shapeCasts_S1_S_ ix0,
    ← entry_ap a0 2 Facts.slices_S3_S1_2 Facts.shapeCasts_S1_S_ ix0]
  unfold fn
  exact congrArg (IntOp.andi _) (bc0 Facts.bcast_S_S3 _ (ix1 k))

/-- Where the precondition holds, each group has at most 10240 rows and so have the three together. -/
theorem bounds [Facts] {F : FTy → Type} [FloatOps F] (a0 : IVec S3 32) (a1 : FVec F S6144x11008 .bf16) (a2 : FVec F S11008x5632 .bf16)
    (h : fn a0 a1 a2 = fun _ => 1#1) :
    (∀ k : Fin 3, (a0 (ix1 k)).toNat ≤ 10240) ∧ (a0 (ix1 0)).toNat + (a0 (ix1 1)).toNat + (a0 (ix1 2)).toNat ≤ 10240 := by
  have hk (k : Fin 3) := (fn_ap a0 a1 a2 k).symm.trans (congrFun h (ix1 k))
  have hb : ∀ k : Fin 3, (a0 (ix1 k)).toNat ≤ 10240 := by
    intro k
    obtain ⟨h1, -⟩ := IntOp.andi_eq_one.mp (hk k)
    obtain ⟨hlo, hhi⟩ := IntOp.andi_eq_one.mp h1
    rw [cmpi_sge_zero, ofBool_decide_eq_one_iff] at hlo
    have ea : a0 (ix1 k) = BitVec.ofNat 32 (a0 (ix1 k)).toNat := by
      apply BitVec.eq_of_toNat_eq
      rw [BitVec.toNat_ofNat, Nat.mod_eq_of_lt (a0 (ix1 k)).isLt]
    rw [show (10240#32 : BitVec 32) = BitVec.ofNat 32 10240 from rfl, ea,
      cmpi_sle_ofNat_eq_one_iff hlo (by omega)] at hhi
    exact hhi
  refine ⟨hb, ?_⟩
  obtain ⟨-, h2⟩ := IntOp.andi_eq_one.mp (hk 0)
  have b0 := hb 0
  have b1 := hb 1
  have b2 := hb 2
  have e : IntOp.addi (IntOp.addi (a0 (ix1 0)) (a0 (ix1 1))) (a0 (ix1 2))
      = BitVec.ofNat 32 ((a0 (ix1 0)).toNat + (a0 (ix1 1)).toNat + (a0 (ix1 2)).toNat) := by
    apply BitVec.eq_of_toNat_eq
    show ((a0 (ix1 0)) + (a0 (ix1 1)) + (a0 (ix1 2))).toNat = _
    simp only [BitVec.toNat_add, BitVec.toNat_ofNat]
    omega
  rw [e, show (10240#32 : BitVec 32) = BitVec.ofNat 32 10240 from rfl, cmpi_sle_ofNat_eq_one_iff (by omega) (by omega)] at h2
  exact h2

end Cert.Pre_sizes_ok
-- ==== Proof.Ref.lean ====
/- The reference's result, entry by entry: the sum over the rows that are the entry's expert's, as the sum over the
   expert's tiles of the tiles' shares. -/
module

public import proofs.«01_k».proof.Proof.Plan
public import proofs.«01_k».proof.Proof.Gen.ReferenceIdeal.Read
public import Idealize.ShloMosaic.Lib.Quiescent
public import Idealize.ShloMosaic.Lib.IdealHost

@[expose] public section

set_option maxRecDepth 16384

noncomputable section

namespace Cert.ReferenceIdeal.Sum

open Cert.ReferenceIdeal Cert.ReferenceIdeal.Gen Cert.ReferenceIdeal.Read Cert.Plan
open Idealize.ShloMosaic Idealize.ShloMosaic.TcCoe Idealize.ShloMosaic.Routing Idealize.ShloMosaic.ValueIdx Idealize.ShloMosaic.WordCmp
open Idealize.SL.Sem

/-- A sum over the rows of `n` tiles is the sum over the tiles of the sums over a tile's 256 rows. -/
theorem sum_range_tiles (f : ℕ → EReal) (n : ℕ) :
    ∑ k ∈ Finset.range (256 * n), f k = ∑ s ∈ Finset.range n, ∑ j : Fin 256, f (256 * s + j.val) := by
  induction n with
  | zero => rfl
  | succ n ih =>
    rw [Finset.sum_range_succ, ← ih, Nat.mul_succ, Finset.sum_range_add, Fin.sum_univ_eq_sum_range (fun j => f (256 * n + j)) 256]

/-- The same for the 11008 rows of the 43 tiles. -/
theorem sum_tiles (f : ℕ → EReal) :
    ∑ k : Fin 11008, f k.val = ∑ s ∈ Finset.range 43, ∑ j : Fin 256, f (256 * s + j.val) :=
  (Fin.sum_univ_eq_sum_range f 11008).trans (sum_range_tiles f 43)

/-- A sum over all rows of a term masked by a condition on the row's tile: the sum over the tiles that meet it. -/
theorem sum_masked (p : ℕ → Prop) [DecidablePred p] (f : ℕ → EReal) :
    ∑ k : Fin 11008, (if p (k.val / 256) then f k.val else 0)
      = ∑ s ∈ (Finset.range 43).filter p, ∑ j : Fin 256, f (256 * s + j.val) := by
  rw [sum_tiles (fun k => if p (k / 256) then f k else 0), Finset.sum_filter]
  refine Finset.sum_congr rfl fun s _ => ?_
  have hd (j : Fin 256) : (256 * s + j.val) / 256 = s := by have := j.isLt; omega
  simp only [hd]
  split_ifs <;> simp

variable (x0 : IVec (shape1 3) 32)

/-- The padded sizes' words hold 256 rows for each of the group's tiles. -/
theorem rows_ap (k : Fin 3) (hg : (x0 (ix1 k)).toNat ≤ 10240) :
    val_main_v8 (F := Ideal) x0 (ix1 k) = BitVec.ofNat 32 (256 * groupTiles x0 k.val) := by
  have e6 : val_main_v6 (F := Ideal) x0 (ix1 k) = BitVec.ofNat 32 (groupTiles x0 k.val) := stepsV_ap bcast_S_S3 x0 k hg
  have e7 : val_main_v7 (F := Ideal) (ix1 k) = 256#32 := bc0 bcast_S_S3 _ (ix1 k)
  rw [val_main_v8_apply, e6, e7]
  apply BitVec.eq_of_toNat_eq
  show (256#32 * BitVec.ofNat 32 (groupTiles x0 k.val)).toNat = _
  simp only [BitVec.toNat_mul, BitVec.toNat_ofNat]
  omega

/-- A row's expert word holds the owner of the row's tile. -/
theorem expert_ap (hg : ∀ k : Fin 3, (x0 (ix1 k)).toNat ≤ 10240) (r : Fin 11008) :
    val_main_v19 (F := Ideal) x0 (ix1 r) = BitVec.ofNat 32 (owner (groupTiles x0) (r.val / 256)) := by
  have e9 : ∀ k : Fin 3, val_main_v9 (F := Ideal) x0 (ix1 k) = BitVec.ofNat 32 (ends (fun k => 256 * groupTiles x0 k) k.val) := fun k =>
    cumV_ap reduceWindows_S3_S3_w3s1p2_0 bcast_S_S_ h_S_ (val_main_v8 (F := Ideal) x0) (fun k => 256 * groupTiles x0 k)
      (fun k => rows_ap x0 k (hg k)) k
  have t0 := tiles_le (hg 0)
  have t1 := tiles_le (hg 1)
  have t2 := tiles_le (hg 2)
  rw [← groupTiles_of] at t0 t1 t2
  have t0' : groupTiles x0 0 ≤ 40 := t0
  have t1' : groupTiles x0 1 ≤ 40 := t1
  have t2' : groupTiles x0 2 ≤ 40 := t2
  rw [← owner_rows]
  exact ownerV_ap (val_main_v9 (F := Ideal) x0) (fun k => 256 * groupTiles x0 k) e9 (by rw [ends_two]; omega) (by omega) r

/-- The mask at expert `e`, row `r`: set exactly where the row's tile is the expert's. -/
theorem mask_ap (hg : ∀ k : Fin 3, (x0 (ix1 k)).toNat ≤ 10240) (i : S3x6144x11008.Idx) :
    val_main_call2_v0 (F := Ideal) x0 i = BitVec.ofBool (decide (owner (groupTiles x0) ((i 2).val / 256) = (i 0).val)) := by
  have h0 : (i 0).val < 3 := (i 0).isLt
  have ho := owner_lt (groupTiles x0) ((i 2).val / 256)
  rw [val_main_call2_v0_apply, val_main_v26_apply, val_main_v25_apply, val_main_v23_apply, val_main_v20_apply, val_main_v24_apply,
    val_main_v22_apply, val_main_v21_apply]
  have e : idx_main_v20 (idx_main_v23 (idx_main_v26 (idx_main_call2_v0 i))) = ix1 (⟨(i 2).val, (i 2).isLt⟩ : Fin 11008) := by
    funext a; match a with | ⟨0, _⟩ => rfl
  rw [e, expert_ap x0 hg]
  exact cmpi_eq_ofNat (lt_trans ho (by decide)) (lt_trans h0 (by decide))

variable (x1 : FVec Ideal S6144x11008 .bf16) (x2 : FVec Ideal S11008x5632 .bf16)

/-- The masked operand: the row's value where its tile is the expert's, zero elsewhere. -/
theorem masked_ap (hg : ∀ k : Fin 3, (x0 (ix1 k)).toNat ≤ 10240) (i : S3x6144x11008.Idx) :
    val_main_v28 (F := Ideal) x0 x1 i
      = if owner (groupTiles x0) ((i 2).val / 256) = (i 0).val then (x1 (ix2 (⟨(i 1).val, (i 1).isLt⟩ : Fin 6144) ⟨(i 2).val, (i 2).isLt⟩) : EReal) else (0 : EReal) := by
  rw [val_main_v28_apply, mask_ap x0 hg, val_main_call2_v1_apply, val_main_v27_apply, val_main_call2_v2_apply]
  by_cases h : owner (groupTiles x0) ((i 2).val / 256) = (i 0).val
  · rw [if_pos h, decide_eq_true h]
    refine (if_pos rfl).trans ?_
    congr 1
    funext a; match a with | ⟨0, _⟩ => rfl | ⟨1, _⟩ => rfl
  · rw [if_neg h, decide_eq_false h]
    refine (if_neg (by decide)).trans ?_
    exact Ideal.ofBits_zero_bf16

/-- The reference's result at `(e, r, n)`, over functions of natural indices that agree with the operands. -/
theorem result_apply (hg : ∀ k : Fin 3, (x0 (ix1 k)).toNat ≤ 10240) (X Y : ℕ → ℕ → EReal)
    (hX : ∀ (a : Fin 6144) (k : Fin 11008), X a.val k.val = x1 (ix2 a k)) (hY : ∀ (k : Fin 11008) (n : Fin 5632), Y k.val n.val = x2 (ix2 k n))
    (i : S3x6144x5632.Idx) :
    val_main_v29 (F := Ideal) x0 x1 x2 i
      = ∑ s ∈ (Finset.range 43).filter (fun s => owner (groupTiles x0) s = (i 0).val),
          ∑ j : Fin 256, X (i 1).val (256 * s + j.val) * Y (256 * s + j.val) (i 2).val := by
  rw [val_main_v29_apply, ← sum_masked (fun s => owner (groupTiles x0) s = (i 0).val) (fun k => X (i 1).val k * Y k (i 2).val)]
  refine Finset.sum_congr rfl fun k _ => ?_
  rw [masked_ap x0 x1 hg]
  have ey : ridx_main_v29 i k = ix2 k (⟨(i 2).val, (i 2).isLt⟩ : Fin 5632) := by
    funext a; match a with | ⟨0, _⟩ => rfl | ⟨1, _⟩ => rfl
  rw [ey, ← hY]
  show (if owner (groupTiles x0) (k.val / 256) = (i 0).val then (x1 (ix2 (⟨(i 1).val, (i 1).isLt⟩ : Fin 6144) k) : EReal) else 0) * Y k.val (i 2).val = _
  rw [← hX]
  split_ifs
  · rfl
  · exact zero_mul _

/-- The reference ends with its arguments unchanged and no semaphore raised: it has none. -/
theorem quiet (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (Value.run m ρ)

end Cert.ReferenceIdeal.Sum
-- ==== Proof.Result.lean ====
/- The idealized kernel's result under the precondition, and its agreement with the reference's. -/
module

public import proofs.«01_k».proof.Proof.Table
public import proofs.«01_k».proof.Proof.Final
public import proofs.«01_k».proof.Proof.Pre
public import proofs.«01_k».proof.Proof.Ref

@[expose] public section

set_option maxRecDepth 16384

noncomputable section

namespace Cert.KernelIdeal.Kit

open Cert.KernelIdeal.Gen Cert.Plan
open Idealize.ShloMosaic Idealize.ShloMosaic.TcCoe Idealize.ShloMosaic.ValueIdx

variable (m : (ℓ : Loc nD τ sig) → Buf (Elt Ideal) ℓ)

/-- The expert that owns a tile, by the group sizes the program is launched with. -/
abbrev own : ℕ → ℕ := owner (groupTiles (sizes m))

/-- Where every group has at most 10240 rows, the table's word at a tile holds the tile's owner. -/
theorem word_own (hg : ∀ k : Fin 3, (sizes m (ix1 k)).toNat ≤ 10240) (s : Fin 43) : (word m s).toNat = own m s.val := by
  have t0 : groupTiles (sizes m) 0 ≤ 40 := (groupTiles_of (sizes m) 0).trans_le (tiles_le (hg 0))
  have t1 : groupTiles (sizes m) 1 ≤ 40 := (groupTiles_of (sizes m) 1).trans_le (tiles_le (hg 1))
  have t2 : groupTiles (sizes m) 2 ≤ 40 := (groupTiles_of (sizes m) 2).trans_le (tiles_le (hg 2))
  have ho : own m s.val < 3 := owner_lt (groupTiles (sizes m)) s.val
  have e : word m s = BitVec.ofNat 32 (own m s.val) := by
    show (V m 0 main_v17 : S43.Idx → BitVec 32) (ix1 s) = _
    rw [table_eq m]
    exact ownerV_ap _ (groupTiles (sizes m)) (fun k => cumV_ap _ _ _ _ _ (fun k => stepsV_ap _ _ k (hg k)) k)
      (by rw [ends_two]; omega) (by decide) s
  rw [e, BitVec.toNat_ofNat]
  omega

/-- Where moreover the groups have at most 10240 rows together, every expert owns a tile. -/
theorem own_surj (hs : (sizes m (ix1 0)).toNat + (sizes m (ix1 1)).toNat + (sizes m (ix1 2)).toNat ≤ 10240) (e : ℕ) (he : e < 3) :
    ∃ s, s < 43 ∧ own m s = e := by
  have e0 : groupTiles (sizes m) 0 = tiles (sizes m (ix1 0)).toNat := groupTiles_of (sizes m) 0
  have e1 : groupTiles (sizes m) 1 = tiles (sizes m (ix1 1)).toNat := groupTiles_of (sizes m) 1
  have e2 : groupTiles (sizes m) 2 = tiles (sizes m (ix1 2)).toNat := groupTiles_of (sizes m) 2
  refine owner_surj (groupTiles (sizes m)) ?_ ?_ ?_ ?_ he
  · rw [e0]; exact one_le_tiles _
  · rw [e1]; exact one_le_tiles _
  · rw [e2]; exact one_le_tiles _
  · rw [e0, e1, e2]; exact tiles_sum_le hs

/-- Under both, the result array ends at the sums over each expert's tiles. -/
theorem result (hg : ∀ k : Fin 3, (sizes m (ix1 k)).toNat ≤ 10240)
    (hs : (sizes m (ix1 0)).toNat + (sizes m (ix1 1)).toNat + (sizes m (ix1 2)).toNat ≤ 10240) (c : Dev nD) :
    (dats m (ok m) 0 c).arrAt 2 (cfgM m (ok m)).N = total m (own m) c :=
  final m (own m) (word_own m hg) (fun _ _ h => owner_mono _ h) (ok m) (own_surj m hs) c

/-- Those sums are the reference's result at the same arguments. -/
theorem total_eq (hg : ∀ k : Fin 3, (sizes m (ix1 k)).toNat ≤ 10240) (c : Dev nD) :
    total m (own m) c = Cert.ReferenceIdeal.Read.val_main_v29 (F := Ideal) (m ((c : Thread nD τ).loc main_arg0))
      (m ((c : Thread nD τ).loc main_arg1)) (m ((c : Thread nD τ).loc main_arg2)) := by
  obtain rfl : c = 0 := Subsingleton.elim _ _
  funext i
  refine (Eq.trans ?_ (Cert.ReferenceIdeal.Sum.result_apply (sizes m) (m (((0 : Dev nD) : Thread nD τ).loc main_arg1))
    (m (((0 : Dev nD) : Thread nD τ).loc main_arg2)) hg (X m 0) (Y m 0) ?_ ?_ i).symm)
  · rfl
  · intro a k
    exact (dif_pos ⟨a.isLt, k.isLt⟩)
  · intro k n
    exact (dif_pos ⟨k.isLt, n.isLt⟩)

end Cert.KernelIdeal.Kit
-- ==== Proof.KKit.lean ====
/- What the runs of the kernel's one pallas_call are stated over: the schedule of its two input windows, its
   @main up to the region (the tile plan, computed on the host), the prefetched table's contents as the region finds
   them, the windows' blocks, and the condition under which the body clears its output block. -/
module

public import proofs.«01_k».proof.Proof.Gen.Kernel
public import proofs.«01_k».proof.Proof.Gen.Kernel.Launch
public import proofs.«01_k».proof.Proof.Gen.Kernel.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Kit

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule -/

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 2 (by decide) (by decide) (Pipeline.Window.sep_of_coord cc0_transform_0 2 1 (fun _ => rfl) (by decide)) (P := 1) (by decide) t).mpr (Nat.mod_one _) : ∀ t : Fin grid0.N, Pipeline.Window.fetchOf grid0 false cc0_transform_0 t = true)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 2 (by decide) (by decide) (Pipeline.Window.sep_of_coord cc0_transform_1 2 0 (fun _ => rfl) (by decide)) (P := 1) (by decide) t).mpr (Nat.mod_one _) : ∀ t : Fin grid0.N, Pipeline.Window.fetchOf grid0 false cc0_transform_1 t = true)
-- window 2: no schedule fact — its index map reads a prefetched table, so where it is fetched or written back depends on the tables' contents

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_wgrad (grid0.coords t) (Memref.whole main_v17) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S43 .i32 := Memref.whole main_v17
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`the frame claim`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c))⟩) h

/-! ## The body's branch conditions -/

/-- The condition of the body's `scf.if` 0: over WORDS the body reads from its tables or input SMEM windows
    (`v2`, `v6`), so no function of the point — a case variable: a hypothesis of each run, a `by_cases`
    of the obligation and an `if` of `outsAt`, stated over the argument blocks' words there. -/
abbrev cond0_0 (i : grid0.Coords) (v2 : BitVec 32) (v6 : BitVec 32) : Prop := (Scalar.cmpi .ne (Scalar.extui (Scalar.ori (Scalar.cmpi .eq (BitVec.ofNat 32 (i 2).val) 0#32) (Scalar.cmpi .ne v2 v6))) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1024x256 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x2816 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x2816 .f32 := spec0_2.stage ((cfgM m hO).slots t 2)
abbrev hs0_2 (hO : Ok m) (t : Fin (cfgM m hO).N) : (ms0_2 m hO t).IsWhole := hstage0_2 (((cfgM m hO).slots t 2).cast nbuf0_2)

end Cert.Kernel.Kit

end
-- ==== Proof.KBody.lean ====
/- The kernel body's two cases, with what each leaves in the output block named: where the body clears first, the block
   ends holding the product of the two input blocks added to zero; elsewhere the product added to what it held. -/
module

public import proofs.«01_k».proof.Proof.KKit
public import Idealize.ShloMosaic.Lib.Pipeline.Value

@[expose] public section

set_option maxRecDepth 16384

noncomputable section

namespace Cert.Kernel.Kit

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the table the body compares at grid point `i` (the tile's own expert). -/
abbrev wordAt (i : grid0.Coords) (c : Dev nD) (xt0 : TbBuf0 (F := F) c tbM0_0) : BitVec 32 :=
  tbM0_0.view.readAt (Elt F) (Rect.unit (s := S43) (k0_off1 i) S1.size (k0_off1_inb i)).toLoadRect xt0 (Shape.Idx.first (numel1_S1.symm ▸ Nat.one_pos))

/-- The word it compares it with (the expert of the tile before; of the tile itself at the first). -/
abbrev wordBefore (i : grid0.Coords) (c : Dev nD) (xt0 : TbBuf0 (F := F) c tbM0_0) : BitVec 32 :=
  tbM0_0.view.readAt (Elt F) (Rect.unit (s := S43) (k0_off2 i) S1.size (k0_off2_inb i)).toLoadRect xt0 (Shape.Idx.first (numel1_S1.symm ▸ Nat.one_pos))

theorem hz2 : (![0, 0] : Fin 2 → Nat) = fun _ => 0 := funext fun a => by fin_cases a <;> rfl
theorem hz3 : (![0, 0, 0] : Fin 3 → Nat) = fun _ => 0 := funext fun a => by fin_cases a <;> rfl

/-- A buffer whose last store covered all of it reads as that store's payload. -/
theorem read_whole_store {Val : EltTy → Type} [∀ e, Nonempty (Val e)] {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

set_option maxHeartbeats 1000000 in
/-- Where the body does not clear: the output block, holding `xo`, ends holding `xo` plus the product of the blocks. -/
theorem run_keep (c : Dev nD) (i : grid0.Coords) (arg4 : Memref sig .tc .vmem S1024x256 .bf16) (harg4 : arg4.IsWhole) (arg5 : Memref sig .tc .vmem S256x2816 .bf16) (harg5 : arg5.IsWhole) (arg6 : Memref sig .tc .vmem S1x1024x2816 .f32) (harg6 : arg6.IsWhole)
    (x0 : Vec F S1024x256 .bf16) (x1 : Vec F S256x2816 .bf16) (xo : Vec F S1x1024x2816 .f32) (xt0 : TbBuf0 (F := F) c tbM0_0)
    (hc0 : ¬cond0_0 i (wordAt i c xt0) (wordBefore i c xt0)) :
      ∀ (E : Set ℕ) (K : PUnit → sProp 𝕄),
        iprop(owns (c : Thread nD τ) arg4 fullShare x0 ∗ owns (c : Thread nD τ) arg5 fullShare x1 ∗ owns (c : Thread nD τ) arg6 fullShare xo ∗ tbPt0 c tbM0_0 xt0
            ∗ (iprop(owns (c : Thread nD τ) arg4 fullShare x0 ∗ owns (c : Thread nD τ) arg5 fullShare x1 ∗ owns (c : Thread nD τ) arg6 fullShare (k0_pay2 xo x0 x1) ∗ tbPt0 c tbM0_0 xt0) -∗ K ⟨⟩))
          ⊢ wp frame (wpE (defs₀ (F := F)) Variants.none c none) E (cc0_wgrad i tbM0_0 htbM0_0 arg4 harg4 arg5 harg5 arg6 harg6) K := by
    intro E K
    simp only [cc0_wgrad_eq_skeleton]; unfold cc0_wgrad_skel
    unfold owns
    iintro ⟨⟨%f0, %hf0, H0⟩, ⟨%f1, %hf1, H1⟩, ⟨%f2, %hf2, H2⟩, HT0, Hk⟩
    obtain rfl := harg4.eq_unread hf0; obtain rfl := harg5.eq_unread hf1; obtain rfl := harg6.eq_unread hf2
    sl_exec (disch := first | sl_exact hc0)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; swap; · iexact H2
      ipureintro
      rw [read_whole_store (S := S1x1024x2816) _ _ hz3]
      simp only [View.readAt_eq_ld, harg4.read_unread, harg5.read_unread, harg6.read_unread, View.ld_unit_zero (S := S1x1024x2816) hz3,
        View.ld_unit_zero (S := S1024x256) hz2, View.ld_unit_zero (S := S256x2816) hz2]
    iexact HT0

set_option maxHeartbeats 1000000 in
/-- Where the body clears: whatever the output block held, it ends holding the product of the blocks added to zero. -/
theorem run_clear (c : Dev nD) (i : grid0.Coords) (arg4 : Memref sig .tc .vmem S1024x256 .bf16) (harg4 : arg4.IsWhole) (arg5 : Memref sig .tc .vmem S256x2816 .bf16) (harg5 : arg5.IsWhole) (arg6 : Memref sig .tc .vmem S1x1024x2816 .f32) (harg6 : arg6.IsWhole)
    (x0 : Vec F S1024x256 .bf16) (x1 : Vec F S256x2816 .bf16) (xt0 : TbBuf0 (F := F) c tbM0_0)
    (hc0 : cond0_0 i (wordAt i c xt0) (wordBefore i c xt0)) :
      ∀ (E : Set ℕ) (K : PUnit → sProp 𝕄),
        iprop(owns (c : Thread nD τ) arg4 fullShare x0 ∗ owns (c : Thread nD τ) arg5 fullShare x1 ∗ (∃ d, owns (c : Thread nD τ) arg6 fullShare d) ∗ tbPt0 c tbM0_0 xt0
            ∗ (iprop(owns (c : Thread nD τ) arg4 fullShare x0 ∗ owns (c : Thread nD τ) arg5 fullShare x1 ∗ owns (c : Thread nD τ) arg6 fullShare (k0_pay2 (k0_pay1 (F := F)) x0 x1) ∗ tbPt0 c tbM0_0 xt0) -∗ K ⟨⟩))
          ⊢ wp frame (wpE (defs₀ (F := F)) Variants.none c none) E (cc0_wgrad i tbM0_0 htbM0_0 arg4 harg4 arg5 harg5 arg6 harg6) K := by
    intro E K
    simp only [cc0_wgrad_eq_skeleton]; unfold cc0_wgrad_skel
    unfold owns
    iintro ⟨⟨%f0, %hf0, H0⟩, ⟨%f1, %hf1, H1⟩, ⟨%d2, %f2, -, H2⟩, HT0, Hk⟩
    obtain rfl := harg4.eq_unread hf0; obtain rfl := harg5.eq_unread hf1
    sl_exec (disch := first | sl_exact hc0)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; swap; · iexact H2
      ipureintro
      sl_unfold_words
      rw [read_whole_store (S := S1x1024x2816) _ _ hz3, View.readCov_unit_zero (S := S1x1024x2816) _ hz3]
      simp only [View.readAt_eq_ld, harg4.read_unread, harg5.read_unread,
        View.ld_unit_zero (S := S1024x256) hz2, View.ld_unit_zero (S := S256x2816) hz2]
    iexact HT0

end Cert.Kernel.Kit

end
-- ==== Proof.KTraj.lean ====
/- What the output's staging block holds after every grid point: the product of the point's two input blocks, added to
   zero where the point is the first of its expert's run of tiles and to what the point before left elsewhere — and the
   run of the whole program to it. -/
module

public import proofs.«01_k».proof.Proof.KBody
public import Idealize.ShloMosaic.Lib.ValueIdxCore
public import Idealize.ShloMosaic.Lib.Pipeline.Value

@[expose] public section

set_option maxRecDepth 16384

noncomputable section

namespace Cert.Kernel.Kit

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The table's words at a grid point -/

/-- The expert of tile `s`, as the table of the region's entry holds it. -/
abbrev word (s : Fin 43) : BitVec 32 := (tbl m 0 : S43.Idx → BitVec 32) (ix1 s)

/-- The body's own word at point `i` is its tile's. -/
theorem wordAt_eq (i : grid0.Coords) (c : Dev nD) : wordAt i c (tbl m 0) = word m (i 2) := by
  unfold wordAt
  show (tbl m 0 : S43.Idx → BitVec 32) _ = _
  congr 1; funext a; apply Fin.ext
  match a with
  | ⟨0, _⟩ => show k0_off1 i 0 + 1 * 0 = (i 2).val; rw [k0_off1_eq]; rfl

/-- The offsets of the word before, in closed form. -/
theorem k0_off2_eq (i : grid0.Coords) : k0_off2 i = ![(i 2).val - 1] := by
  have h : ∀ n : Fin 43, (Scalar.indexCast (Scalar.maxsi (Scalar.subi (BitVec.ofNat 32 n.val) 1#32) 0#32)).toNat = n.val - 1 := by decide +kernel
  unfold k0_off2
  exact congrArg (fun x => ![x]) (h (i 2))

/-- The word it compares with is the tile before's (its own at tile 0). -/
theorem wordBefore_eq (i : grid0.Coords) (c : Dev nD) :
    wordBefore i c (tbl m 0) = word m ⟨(i 2).val - 1, Nat.lt_of_le_of_lt (Nat.sub_le _ _) (i 2).isLt⟩ := by
  unfold wordBefore
  show (tbl m 0 : S43.Idx → BitVec 32) _ = _
  congr 1; funext a; apply Fin.ext
  match a with
  | ⟨0, _⟩ => show k0_off2 i 0 + 1 * 0 = (i 2).val - 1; rw [k0_off2_eq]; rfl

/-- The body clears at tile 0 and wherever the tile's expert differs from the one it is compared with. -/
theorem cond_iff (i : grid0.Coords) (v w : BitVec 32) : cond0_0 i v w ↔ (i 2).val = 0 ∨ v ≠ w := by
  have h : ∀ (n : Fin 43) (b : BitVec 1), (Scalar.cmpi .ne (Scalar.extui (Scalar.ori (Scalar.cmpi .eq (BitVec.ofNat 32 n.val) 0#32) b)) (0#32 : BitVec 32)) = 1#1
      ↔ n.val = 0 ∨ b = 1#1 := by decide +kernel
  unfold cond0_0
  rw [h (i 2)]
  have : (Scalar.cmpi .ne v w) = 1#1 ↔ v ≠ w := by
    by_cases hvw : v = w
    · subst hvw; simp [Scalar.cmpi, IntOp.cmpi]
    · have hb : (v != w) = true := by simpa using hvw
      simp [Scalar.cmpi, IntOp.cmpi, hvw, hb]
  rw [this]

/-- What the output window's index map reads of the table at a point is its tile's word. -/
theorem tableAt_eq (i : grid0.Coords) :
    (tbl m).at 0 (Rect.unit (s := S43) ![(Scalar.indexCast (BitVec.ofNat 32 (i 2).val)).toNat] S1.size (k0_off1_inb i)) numel1_S1 = word m (i 2) := by
  show (tbl m 0 : S43.Idx → BitVec 32) _ = _
  congr 1; funext a; apply Fin.ext
  match a with
  | ⟨0, _⟩ => show k0_off1 i 0 + 1 * 0 = (i 2).val; rw [k0_off1_eq]; rfl

/-- The output window's block index at a point: the tile's expert, then the block row and column. -/
theorem index2_eq (hO : Ok m) (t : Fin (cfgM m hO).N) :
    ((cfgM m hO).win 2).index t = ![(word m (grid0.coords t 2)).toNat, (grid0.coords t 0).val, (grid0.coords t 1).val] := by
  have h0 : (BitVec.ofNat 32 (grid0.coords t 0).val).toNat = (grid0.coords t 0).val := by
    have h : ∀ n : Fin 6, (BitVec.ofNat 32 n.val).toNat = n.val := by decide
    exact h _
  have h1 : (BitVec.ofNat 32 (grid0.coords t 1).val).toNat = (grid0.coords t 1).val := by
    have h : ∀ n : Fin 2, (BitVec.ofNat 32 n.val).toNat = n.val := by decide
    exact h _
  show cc0_transform_2 k0_off1_inb numel1_S1 (tbl m) (grid0.coords t) = _
  unfold cc0_transform_2
  dsimp only
  rw [h0, h1]
  exact congrArg (fun x : BitVec 32 => (![x.toNat, (grid0.coords t 0).val, (grid0.coords t 1).val] : Fin 3 → ℕ)) (tableAt_eq m (grid0.coords t))

/-! ## A point's coordinates -/

theorem coord0 (t : Fin grid0.N) : (grid0.coords t 0).val = t.val / 86 % 6 := Pipeline.Grid.coords_val t 0 (by decide) rfl
theorem coord1 (t : Fin grid0.N) : (grid0.coords t 1).val = t.val / 43 % 2 := Pipeline.Grid.coords_val t 1 (by decide) rfl
theorem coord2 (t : Fin grid0.N) : (grid0.coords t 2).val = t.val % 43 := by
  rw [Pipeline.Grid.coords_val t 2 (S := 1) (B := 43) (by decide) rfl, Nat.div_one]

/-- The condition the body clears its output block under at point `t`, over the table of the region's entry. -/
abbrev clears (c : Dev nD) (t : Fin grid0.N) : Prop :=
  cond0_0 (grid0.coords t) (wordAt (grid0.coords t) c (tbl m 0)) (wordBefore (grid0.coords t) c (tbl m 0))

/-- Where the body does not clear, the point is not the first, and the point before holds the same output block. -/
theorem keeps_index (hO : Ok m) (c : Dev nD) (t : Fin (cfgM m hO).N) (h : ¬clears m c t) :
    ∃ h0 : t.val ≠ 0, ((cfgM m hO).win 2).index t = ((cfgM m hO).win 2).index ⟨t.val - 1, Nat.lt_of_le_of_lt (Nat.sub_le _ _) t.isLt⟩ := by
  unfold clears at h
  rw [cond_iff, wordAt_eq, wordBefore_eq] at h
  have hs : t.val % 43 ≠ 0 := fun e => h (.inl ((coord2 t).trans e))
  have hw := not_not.mp fun e => h (.inr e)
  have ht0 : t.val ≠ 0 := by intro h0; rw [h0] at hs; exact hs rfl
  refine ⟨ht0, ?_⟩
  rw [index2_eq, index2_eq]
  set t' : Fin (cfgM m hO).N := ⟨t.val - 1, Nat.lt_of_le_of_lt (Nat.sub_le _ _) t.isLt⟩ with ht'
  have e : t'.val = t.val - 1 := rfl
  have h0 : (grid0.coords t' 0).val = (grid0.coords t 0).val := by rw [coord0, coord0, e]; omega
  have h1 : (grid0.coords t' 1).val = (grid0.coords t 1).val := by rw [coord1, coord1, e]; omega
  have h2 : grid0.coords t' 2 = ⟨(grid0.coords t 2).val - 1, Nat.lt_of_le_of_lt (Nat.sub_le _ _) (grid0.coords t 2).isLt⟩ := by
    apply Fin.ext; show (grid0.coords t' 2).val = (grid0.coords t 2).val - 1; rw [coord2, coord2, e]; omega
  rw [h0, h1, h2, hw]
  rfl

/-- So the output block is not written back in between. -/
theorem keeps_unflushed (hO : Ok m) (c : Dev nD) (t : Fin (cfgM m hO).N) (h : ¬clears m c t) :
    ∃ h0 : t.val ≠ 0, ((cfgM m hO).win 2).flush ⟨t.val - 1, Nat.lt_of_le_of_lt (Nat.sub_le _ _) t.isLt⟩ = false := by
  obtain ⟨h0, hi⟩ := keeps_index m hO c t h
  refine ⟨h0, ?_⟩
  rw [← Bool.not_eq_true]
  intro hf
  have hlt := t.isLt
  rcases (Pipeline.Window.flush_out _ rfl _).mp hf with h1 | ⟨h1, h2⟩
  · have : t.val - 1 + 1 = (cfgM m hO).N := h1
    omega
  · apply h2
    have e : (⟨t.val - 1 + 1, h1⟩ : Fin (cfgM m hO).N) = t := Fin.ext (by show t.val - 1 + 1 = t.val; omega)
    rw [← hi]
    exact congrArg _ e

/-! ## What the output's staging block holds -/

/-- The two input blocks of point `t`, at their shapes. -/
abbrev xblk (hO : Ok m) (c : Dev nD) (t : Fin (cfgM m hO).N) : Vec F S1024x256 .bf16 := iblk m hO c 0 t
abbrev yblk (hO : Ok m) (c : Dev nD) (t : Fin (cfgM m hO).N) : Vec F S256x2816 .bf16 := iblk m hO c 1 t

open Classical in
/-- The output block after point `n`: the product of the point's input blocks added to zero where the body clears, and
    to the block after the point before elsewhere. -/
def outsAt (hO : Ok m) (c : Dev nD) : (n : ℕ) → n < (cfgM m hO).N → Vec F S1x1024x2816 .f32
  | 0, h => k0_pay2 (k0_pay1 (F := F)) (xblk m hO c ⟨0, h⟩) (yblk m hO c ⟨0, h⟩)
  | n + 1, h => k0_pay2 (if clears m c ⟨n + 1, h⟩ then k0_pay1 (F := F) else outsAt hO c n (Nat.lt_of_succ_lt h))
      (xblk m hO c ⟨n + 1, h⟩) (yblk m hO c ⟨n + 1, h⟩)

/-- At a point that clears. -/
theorem outsAt_clear (hO : Ok m) (c : Dev nD) (t : Fin (cfgM m hO).N) (h : clears m c t) :
    outsAt m hO c t.val t.isLt = k0_pay2 (k0_pay1 (F := F)) (xblk m hO c t) (yblk m hO c t) := by
  obtain ⟨n, hn⟩ := t
  match n with
  | 0 => rfl
  | n + 1 =>
    show k0_pay2 (if clears m c ⟨n + 1, hn⟩ then _ else _) _ _ = _
    rw [if_pos h]

/-- At a point that does not. -/
theorem outsAt_keep (hO : Ok m) (c : Dev nD) (t : Fin (cfgM m hO).N) (h : ¬clears m c t) :
    outsAt m hO c t.val t.isLt
      = k0_pay2 (outsAt m hO c (t.val - 1) (Nat.lt_of_le_of_lt (Nat.sub_le _ _) t.isLt)) (xblk m hO c t) (yblk m hO c t) := by
  obtain ⟨h0, -⟩ := keeps_index m hO c t h
  obtain ⟨n, hn⟩ := t
  match n with
  | 0 => exact absurd rfl h0
  | n + 1 =>
    show k0_pay2 (if clears m c ⟨n + 1, hn⟩ then _ else _) _ _ = _
    rw [if_neg h]
    rfl

/-- The proof data of the one pipeline on core `c`: the arrays as the region finds them; after the body at point `t` each
    input's buffer at its block and the output's at `outsAt`; the invariant of the class and the table's half; nothing
    owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outsAt m hO c t.val t.isLt
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-- The output's buffer after the body holds the running sum. -/
theorem after0_2 (hO : Ok m) (c : Dev nD) (t : Fin (cfgM m hO).N) : (dats m hO 0 c).after 2 t = outsAt m hO c t.val t.isLt := by dsimp only [dats]; try rfl
/-- Where the body does not clear, the output's buffer holds what the point before left. -/
theorem before0_2 (hO : Ok m) (c : Dev nD) (t : Fin (cfgM m hO).N) (h : ¬clears m c t) (d) :
    (dats m hO 0 c).before 2 t d = outsAt m hO c (t.val - 1) (Nat.lt_of_le_of_lt (Nat.sub_le _ _) t.isLt) := by
  obtain ⟨h0, hfl⟩ := keeps_unflushed m hO c t h
  rw [(dats m hO 0 c).before_out_kept 2 rfl t h0 hfl (fun _ => rfl) (fun _ _ => rfl) d, after0_2]

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

set_option maxHeartbeats 800000 in
/-- The body at any point: the inputs' memrefs hold their blocks, the output's what the point before left where the body
    does not clear; so the case's run applies. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  by_cases h0 : clears m c t
  · rw [outsAt_clear m hO c t h0]
    iintro ⟨⟨HΦ, HT0⟩, Ho, ⟨%d0, H0⟩, ⟨%d1, H1⟩, ⟨%d2, H2⟩⟩
    iapply ((run_clear c (grid0.coords t) _ _ _ _ _ _ (iblk m hO c 0 t) (iblk m hO c 1 t) (tbl m 0) h0) Set.univ _)
    isplitl [H0]; · iexact H0
    isplitl [H1]; · iexact H1
    isplitl [H2]; · iexists _; iexact H2
    isplitl [HT0]; · iexact HT0
    iintro ⟨H0, H1, H2, HT0⟩
    isplitl [HΦ HT0]
    · isplitl [HΦ]
      · iexact HΦ
      iexact HT0
    isplitl [Ho]; · iexact Ho
    isplitl [H0]; · iexact H0
    isplitl [H1]; · iexact H1
    iexact H2
  · rw [outsAt_keep m hO c t h0]
    simp only [before0_2 m hO c t h0]
    iintro ⟨⟨HΦ, HT0⟩, Ho, ⟨%d0, H0⟩, ⟨%d1, H1⟩, ⟨%d2, H2⟩⟩
    iapply ((run_keep c (grid0.coords t) _ _ _ _ _ _ (iblk m hO c 0 t) (iblk m hO c 1 t) (outsAt m hO c (t.val - 1) (Nat.lt_of_le_of_lt (Nat.sub_le _ _) t.isLt)) (tbl m 0) h0) Set.univ _)
    isplitl [H0]; · iexact H0
    isplitl [H1]; · iexact H1
    isplitl [H2]; · iexact H2
    isplitl [HT0]; · iexact HT0
    iintro ⟨H0, H1, H2, HT0⟩
    isplitl [HΦ HT0]
    · isplitl [HΦ]
      · iexact HΦ
      iexact HT0
    isplitl [Ho]; · iexact Ho
    isplitl [H0]; · iexact H0
    isplitl [H1]; · iexact H1
    iexact H2

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
/-- Every execution ends, with each window's array at what the write-backs left of it, every other buffer at its
    region-entry contents, and every semaphore counter at zero. -/
theorem run_main_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The run, read: the result array at what the write-backs left, the arguments unchanged, the counters at zero. -/
theorem run_read (hO : Ok m) : θ_run defs (onTc (τ := τ) (main (F := F))) ⟨m, fun _ => 0, ρ⟩ (fun r => (∀ c : Dev nD,
      r.2.mem ((c.tc : Thread nD τ).loc main_v18) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r (h : _ ∧ _) => ⟨fun c => ⟨(h.1 c).1 2,
      ((h.1 c).2 main_arg0 (by decide : main_arg0 ∈ Pipeline.restRefs sig spec0)).trans (V_main_arg0 m c),
      (((h.1 c).1 0).trans ((dats m hO 0 c).arrAt_in 0 rfl _)).trans (V_main_arg1 m c),
      (((h.1 c).1 1).trans ((dats m hO 0 c).arrAt_in 1 rfl _)).trans (V_main_arg2 m c)⟩, h.2⟩) (run_main_quiescent m ρ hO)

end Cert.Kernel.Kit

end
-- ==== Proof.KTable.lean ====
/- The table the kernel's pallas_call reads, as the tile plan of the group sizes; every word of it is a group, so
   the output's blocks are inside the output at every grid point. -/
module

public import proofs.«01_k».proof.Proof.Plan
public import proofs.«01_k».proof.Proof.KTraj

@[expose] public section

set_option maxRecDepth 16384

noncomputable section

namespace Cert.Kernel.Kit

open Cert.Kernel Cert.Kernel.Gen
open Idealize.ShloMosaic Idealize.ShloMosaic.TcCoe Idealize.ShloMosaic.Tactic Idealize.ShloMosaic.ValueIdx
open Cert.Plan

variable {F : FTy → Type} [FloatOps F]
variable (m : (ℓ : Loc nD τ sig) → Buf (Elt F) ℓ)

/-- The group sizes the program is launched with. -/
abbrev sizes : IVec (Routing.shape1 3) 32 := m (((0 : Dev nD) : Thread nD τ).loc main_arg0)

set_option maxHeartbeats 4000000 in
/-- The prefetched table is the tile plan of the group sizes: `jnp`'s owner of each of the 43 tiles. -/
theorem table_eq : (V m (0 : Dev nD) main_v17 : S43.Idx → BitVec 32)
    = ownerV 43 Facts₀.bcast_S43_S43x1_0 Facts₀.bcast_S43x1_S43x3_0_1 Facts₀.bcast_S3_S1x3_1 Facts₀.bcast_S1x3_S43x3_0_1
        Facts₀.reducesTo_S43x3_S43_d1 Facts₀.h_S_ Facts₀.natLt_1_32 Facts₀.bcast_S_S43
        (cumV Facts₀.reduceWindows_S3_S3_w3s1p2_0 Facts₀.bcast_S_S_ Facts₀.h_S_ (stepsV Facts₀.bcast_S_S3 (sizes m))) := by
  unfold V
  simp only [hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp
  rfl

/-- Every word of the table is one of the three groups, whatever the group sizes are. -/
theorem word_lt (s : Fin 43) : ((tbl m 0 : S43.Idx → BitVec 32) (ix1 s)).toNat < 3 := by
  rw [show (tbl m 0 : S43.Idx → BitVec 32) = _ from table_eq m]
  exact ownerV_lt _ s

/-- The output window's block is inside its array at every grid point, whatever the group sizes are. -/
theorem ok : Ok m := by
  intro i
  have h2 : (i 2).val < 43 := (i 2).isLt
  have h0 : (i 0).val < 6 := (i 0).isLt
  have h1 : (i 1).val < 2 := (i 1).isLt
  refine ⟨fun a => ?_, .inl rfl⟩
  match a with
  | ⟨0, _⟩ =>
    have hx := word_lt m (i 2)
    have e : (tbl m).at 0 (Rect.unit (s := S43) ![(Scalar.indexCast (BitVec.ofNat 32 (i 2).val)).toNat] S1.size (k0_off1_inb i)) numel1_S1
        = (tbl m 0 : S43.Idx → BitVec 32) (ix1 (i 2)) := by
      show (tbl m 0 : S43.Idx → BitVec 32) _ = _
      congr 1; funext a; apply Fin.ext
      match a with
      | ⟨0, _⟩ => show k0_off1 i 0 + 1 * 0 = (i 2).val; rw [k0_off1_eq]; rfl
    show (((tbl m).at 0 (Rect.unit (s := S43) ![(Scalar.indexCast (BitVec.ofNat 32 (i 2).val)).toNat] S1.size (k0_off1_inb i)) numel1_S1).toNat + 1) * 1 ≤ 3
    rw [e]; omega
  | ⟨1, _⟩ =>
    show ((BitVec.ofNat 32 (i 0).val).toNat + 1) * 1024 ≤ 6144
    rw [BitVec.toNat_ofNat]; omega
  | ⟨2, _⟩ =>
    show ((BitVec.ofNat 32 (i 1).val).toNat + 1) * 2816 ≤ 5632
    rw [BitVec.toNat_ofNat]; omega

end Cert.Kernel.Kit
-- ==== Proof.QPlan.lean ====
/- The step plan of the first quantising call as integer arithmetic, at no program in particular: which group a step of 256
   rows belongs to, which block of 32 rows its window starts at, how many blocks of codes it writes and where the first of
   them lies. The first half is about natural numbers; the second reads the words jnp prints. -/
module

public import proofs.«01_k».proof.Proof.Plan
public import Idealize.ShloMosaic.Lib.Routing.OpsSet

@[expose] public section

noncomputable section

namespace Cert.QuantPlan

open Idealize.ShloMosaic Idealize.ShloMosaic.Routing Idealize.ShloMosaic.ValueIdx Idealize.ShloMosaic.WordCmp
open Cert.Plan

/-! ## The natural-number plan -/

/-- The blocks of 32 rows that `g` rows fill. -/
def blocks (g : ℕ) : ℕ := (g + 31) / 32

/-- Where group `k` starts, the groups being of the sizes `f`: the sum of the sizes before it. -/
def start (f : ℕ → ℕ) (k : ℕ) : ℕ := ends f k - f k

theorem start_zero (f : ℕ → ℕ) : start f 0 = 0 := by rw [start, ends_zero]; omega
theorem start_one (f : ℕ → ℕ) : start f 1 = f 0 := by rw [start, ends_one]; omega
theorem start_two (f : ℕ → ℕ) : start f 2 = f 0 + f 1 := by rw [start, ends_two]; omega

section
variable (G : ℕ → ℕ)

/-- The group of step `s`. -/
def expert (s : ℕ) : ℕ := owner (fun k => tiles (G k)) s
/-- Which of its group's steps step `s` is. -/
def pass (s : ℕ) : ℕ := s - start (fun k => tiles (G k)) (expert G s)
/-- The first row of step `s`. -/
def row (s : ℕ) : ℕ := start G (expert G s) + pass G s * 256
/-- The rows of step `s` that belong to its group. -/
def valid (s : ℕ) : ℕ := min (G (expert G s) - pass G s * 256) 256
/-- The blocks all the groups fill. -/
def used : ℕ := blocks (G 0) + blocks (G 1) + blocks (G 2)
/-- The blocks of codes step `s` writes; the last step writes the blocks no group fills. -/
def count (s : ℕ) : ℕ := if s = 42 then 323 - used G else (valid G s + 31) / 32
/-- The first block of codes of step `s`. -/
def first (s : ℕ) : ℕ := if s = 42 then used G else start (fun k => blocks (G k)) (expert G s) + pass G s * 8

theorem expert_lt (s : ℕ) : expert G s < 3 := owner_lt _ s

theorem start_le (s : ℕ) : start (fun k => tiles (G k)) (expert G s) ≤ s := by
  have h : expert G s = min ((if tiles (G 0) ≤ s then 1 else 0) + (if tiles (G 0) + tiles (G 1) ≤ s then 1 else 0) + (if tiles (G 0) + tiles (G 1) + tiles (G 2) ≤ s then 1 else 0)) 2 := owner_eq _ s
  have h0 := expert_lt G s
  have z : start (fun k => tiles (G k)) 0 = 0 := start_zero _
  have o : start (fun k => tiles (G k)) 1 = tiles (G 0) := start_one _
  have t : start (fun k => tiles (G k)) 2 = tiles (G 0) + tiles (G 1) := start_two _
  rcases (by omega : expert G s = 0 ∨ expert G s = 1 ∨ expert G s = 2) with e | e | e <;> rw [e] <;> rw [e] at h
  · omega
  · rw [o]; split_ifs at h <;> omega
  · rw [t]; split_ifs at h <;> omega

/-- The next step is the same group's next step, or the first step of the next group. -/
theorem next_step (s : ℕ) :
    (expert G (s + 1) = expert G s ∧ pass G (s + 1) = pass G s + 1) ∨ (expert G (s + 1) = expert G s + 1 ∧ pass G (s + 1) = 0) := by
  have h : expert G s = min ((if tiles (G 0) ≤ s then 1 else 0) + (if tiles (G 0) + tiles (G 1) ≤ s then 1 else 0) + (if tiles (G 0) + tiles (G 1) + tiles (G 2) ≤ s then 1 else 0)) 2 := owner_eq _ s
  have h' : expert G (s + 1) = min ((if tiles (G 0) ≤ s + 1 then 1 else 0) + (if tiles (G 0) + tiles (G 1) ≤ s + 1 then 1 else 0) + (if tiles (G 0) + tiles (G 1) + tiles (G 2) ≤ s + 1 then 1 else 0)) 2 := owner_eq _ (s + 1)
  have hs := start_le G s
  have hs' := start_le G (s + 1)
  have z : start (fun k => tiles (G k)) 0 = 0 := start_zero _
  have o : start (fun k => tiles (G k)) 1 = tiles (G 0) := start_one _
  have t : start (fun k => tiles (G k)) 2 = tiles (G 0) + tiles (G 1) := start_two _
  have p0 := one_le_tiles (G 0)
  have p1 := one_le_tiles (G 1)
  have p2 := one_le_tiles (G 2)
  have l := expert_lt G s
  have l' := expert_lt G (s + 1)
  unfold pass
  rcases (by omega : expert G s = 0 ∨ expert G s = 1 ∨ expert G s = 2) with e | e | e <;>
    rcases (by omega : expert G (s + 1) = 0 ∨ expert G (s + 1) = 1 ∨ expert G (s + 1) = 2) with e' | e' | e' <;>
    rw [e] at h hs ⊢ <;> rw [e'] at h' hs' ⊢ <;> simp only [z, o, t, true_and] at hs hs' ⊢ <;> split_ifs at h h' <;> omega

variable (hG : G 0 + G 1 + G 2 ≤ 10240)

theorem count_le (s : ℕ) : count G s ≤ 323 := by
  unfold count valid
  split_ifs <;> omega

/-- A step that writes writes blocks of its own group. -/
theorem within (s : ℕ) (hs : s ≠ 42) : count G s = 0 ∨ (start (fun k => blocks (G k)) (expert G s) ≤ first G s
    ∧ first G s + count G s ≤ start (fun k => blocks (G k)) (expert G s) + blocks (G (expert G s)) ∧ count G s ≤ 8) := by
  unfold count first valid blocks
  rw [if_neg hs, if_neg hs]
  omega

include hG in
/-- Each group's blocks lie below the blocks used. -/
theorem group_le (e : ℕ) (he : e < 3) : start (fun k => blocks (G k)) e + blocks (G e) ≤ used G := by
  have z : start (fun k => blocks (G k)) 0 = 0 := start_zero _
  have o : start (fun k => blocks (G k)) 1 = blocks (G 0) := start_one _
  have t : start (fun k => blocks (G k)) 2 = blocks (G 0) + blocks (G 1) := start_two _
  unfold used
  rcases (by omega : e = 0 ∨ e = 1 ∨ e = 2) with rfl | rfl | rfl
  · rw [z]; omega
  · rw [o]; omega
  · rw [t]

theorem group_step (e : ℕ) (he : e < 2) : start (fun k => blocks (G k)) e + blocks (G e) = start (fun k => blocks (G k)) (e + 1) := by
  have z : start (fun k => blocks (G k)) 0 = 0 := start_zero _
  have o : start (fun k => blocks (G k)) 1 = blocks (G 0) := start_one _
  have t : start (fun k => blocks (G k)) 2 = blocks (G 0) + blocks (G 1) := start_two _
  rcases (by omega : e = 0 ∨ e = 1) with rfl | rfl
  · rw [z, o]; omega
  · rw [o, t]

include hG in
theorem used_le : used G ≤ 323 := by unfold used blocks; omega

include hG in
/-- The blocks a step writes lie in the codes array. -/
theorem fit (s : ℕ) : count G s = 0 ∨ first G s + min 8 (count G s) ≤ 323 := by
  have u := used_le G hG
  by_cases hs : s = 42
  · right; unfold first count; rw [if_pos hs, if_pos hs]; omega
  · have w := within G s hs
    have g := group_le G hG _ (expert_lt G s)
    omega

include hG in
/-- The blocks a step writes lie below those of the next step. -/
theorem next (s : ℕ) (hs : s + 1 < 43) : count G s = 0 ∨ count G (s + 1) = 0 ∨ first G s + min 8 (count G s) ≤ first G (s + 1) := by
  have w := within G s (by omega)
  have g := group_le G hG _ (expert_lt G s)
  by_cases h : s + 1 = 42
  · have : first G (s + 1) = used G := if_pos h
    omega
  · have f : first G s = start (fun k => blocks (G k)) (expert G s) + pass G s * 8 := if_neg (by omega)
    have f' : first G (s + 1) = start (fun k => blocks (G k)) (expert G (s + 1)) + pass G (s + 1) * 8 := if_neg h
    have l := expert_lt G (s + 1)
    rcases next_step G s with ⟨e, p⟩ | ⟨e, p⟩
    · rw [e, p] at f'; omega
    · have st := group_step G (expert G s) (by omega)
      rw [e, p] at f'; omega

theorem pass_le (s : ℕ) : pass G s ≤ s := Nat.sub_le _ _

include hG in
theorem start_le_total (e : ℕ) (he : e < 3) : start G e ≤ 10240 ∧ G e ≤ 10240 := by
  rcases (by omega : e = 0 ∨ e = 1 ∨ e = 2) with rfl | rfl | rfl
  · rw [start_zero]; omega
  · rw [start_one]; omega
  · rw [start_two]; omega

end

/-! ## The words jnp prints -/

/-- The rows of group `k`, of the group sizes held in `g`. -/
def size (g : IVec (shape1 3) 32) (k : ℕ) : ℕ := if h : k < 3 then (g (ix1 ⟨k, h⟩)).toNat else 0

theorem size_of (g : IVec (shape1 3) 32) (k : Fin 3) : size g k.val = (g (ix1 k)).toNat := by unfold size; rw [dif_pos k.isLt]

theorem word_size (g : IVec (shape1 3) 32) (k : Fin 3) : g (ix1 k) = BitVec.ofNat 32 (size g k.val) := by
  rw [size_of]; apply BitVec.eq_of_toNat_eq; rw [BitVec.toNat_ofNat]; exact (Nat.mod_eq_of_lt (g (ix1 k)).isLt).symm

/-- The shape relations the plan's operations take. -/
structure Side : Prop where
  b0 : shape0.BroadcastsInDim shape0 (![] : Fin 0 → Fin shape0.rank)
  b3 : shape0.BroadcastsInDim (shape1 3) (![] : Fin 0 → Fin (shape1 3).rank)
  b43 : shape0.BroadcastsInDim (shape1 43) (![] : Fin 0 → Fin (shape1 43).rank)
  h₁ : (shape1 43).BroadcastsInDim (shape2 43 1) (![0] : Fin 1 → Fin (shape2 43 1).rank)
  h₂ : (shape2 43 1).BroadcastsInDim (shape2 43 3) (![0, 1] : Fin 2 → Fin (shape2 43 3).rank)
  h₃ : (shape1 3).BroadcastsInDim (shape2 1 3) (![1] : Fin 1 → Fin (shape2 1 3).rank)
  h₄ : (shape2 1 3).BroadcastsInDim (shape2 43 3) (![0, 1] : Fin 2 → Fin (shape2 43 3).rank)
  hr : (shape2 43 3).ReducesTo [1] (shape1 43)
  hs : (shape1 3).ReducesTo [0] shape0
  hu : 0 < shape0.numel
  hw : 1 < 32
  hc : (shape1 3).ReduceWindows (![3] : Fin 1 → Nat) ![1] ![2] ![0] (shape1 3)

variable (S : Side) (d : GatherDims (shape1 3) (shape2 43 1) (shape1 43)) (g : IVec (shape1 3) 32)

/-- A constant over the groups. -/
abbrev k3 (n : BitVec 32) : IVec (shape1 3) 32 := broadcastInDim (shape1 3) ![] S.b3 (constantI shape0 32 n)
/-- A constant over the steps. -/
abbrev k43 (n : BitVec 32) : IVec (shape1 43) 32 := broadcastInDim (shape1 43) ![] S.b43 (constantI shape0 32 n)

theorem k3_ap (n : BitVec 32) (i : (shape1 3).Idx) : k3 S n i = n := bc0 S.b3 _ i
theorem k43_ap (n : BitVec 32) (i : (shape1 43).Idx) : k43 S n i = n := bc0 S.b43 _ i

def startV : IVec (shape1 3) 32 := subi (cumV S.hc S.b0 S.hu g) g
def blocksV : IVec (shape1 3) 32 := pyDiv S.b3 (subi (addi g (k3 S 32#32)) (k3 S 1#32)) (constantI shape0 32 32#32)
def blockStartV : IVec (shape1 3) 32 := subi (cumV S.hc S.b0 S.hu (blocksV S g)) (blocksV S g)
def stepEndV : IVec (shape1 3) 32 := cumV S.hc S.b0 S.hu (stepsV S.b3 g)
def expertV : IVec (shape1 43) 32 := ownerV 43 S.h₁ S.h₂ S.h₃ S.h₄ S.hr S.hu S.hw S.b43 (stepEndV S g)
/-- `x[e]`, the group of each step read in a vector over the groups. -/
def takeV (x : IVec (shape1 3) 32) : IVec (shape1 43) 32 :=
  Host.gather d x (broadcastInDim (shape2 43 1) ![0] S.h₁ (select (cmpi .slt (expertV S g) (k43 S 0#32)) (addi (expertV S g) (k43 S 3#32)) (expertV S g)))
def passV : IVec (shape1 43) 32 := subi (iotaInDim (shape1 43) 32 0) (takeV S d g (subi (stepEndV S g) (stepsV S.b3 g)))
def rowV : IVec (shape1 43) 32 := addi (takeV S d g (startV S g)) (muli (passV S d g) (k43 S 256#32))
def validV : IVec (shape1 43) 32 := minsi (k43 S 256#32) (maxsi (k43 S 0#32) (subi (takeV S d g g) (muli (passV S d g) (k43 S 256#32))))
def winV : IVec (shape1 43) 32 := minsi (pyDiv S.b43 (rowV S d g) (constantI shape0 32 32#32)) (k43 S 319#32)
def usedV : IVec shape0 32 := Host.reduce IntOp.addi (blocksV S g) (constantI shape0 32 0#32) S.hs S.hu
def tailV : IVec (shape1 43) 1 := cmpi .eq (iotaInDim (shape1 43) 32 0) (k43 S 42#32)
def countV : IVec (shape1 43) 32 :=
  select (tailV S) (broadcastInDim (shape1 43) ![] S.b43 (subi (constantI shape0 32 323#32) (usedV S g)))
    (pyDiv S.b43 (subi (addi (validV S d g) (k43 S 32#32)) (k43 S 1#32)) (constantI shape0 32 32#32))
def firstV : IVec (shape1 43) 32 :=
  select (tailV S) (broadcastInDim (shape1 43) ![] S.b43 (usedV S g)) (addi (takeV S d g (blockStartV S g)) (muli (passV S d g) (k43 S 8#32)))

/-! ## The words, entry by entry -/

section
variable (hG : size g 0 + size g 1 + size g 2 ≤ 10240)
include hG

theorem size_le (k : Fin 3) : size g k.val ≤ 10240 := by
  match k with
  | ⟨0, _⟩ => show size g 0 ≤ _; omega
  | ⟨1, _⟩ => show size g 1 ≤ _; omega
  | ⟨2, _⟩ => show size g 2 ≤ _; omega

omit hG in
/-- A running sum less its own last summand is the sum before. -/
theorem cum_sub (x : IVec (shape1 3) 32) (f : ℕ → ℕ) (hx : ∀ k : Fin 3, x (ix1 k) = BitVec.ofNat 32 (f k.val)) (k : Fin 3) :
    subi (cumV S.hc S.b0 S.hu x) x (ix1 k) = BitVec.ofNat 32 (start f k.val) := by
  rw [subi_ap, cumV_ap S.hc S.b0 S.hu x f hx, hx]
  refine ofNat32_sub ?_
  match k with
  | ⟨0, _⟩ => show f 0 ≤ ends f 0; rw [ends_zero]
  | ⟨1, _⟩ => show f 1 ≤ ends f 1; rw [ends_one]; omega
  | ⟨2, _⟩ => show f 2 ≤ ends f 2; rw [ends_two]; omega

theorem startV_ap (k : Fin 3) : startV S g (ix1 k) = BitVec.ofNat 32 (start (size g) k.val) := cum_sub S g _ (word_size g) k

theorem blocksV_ap (k : Fin 3) : blocksV S g (ix1 k) = BitVec.ofNat 32 (blocks (size g k.val)) := by
  have hl := size_le g hG k
  have hx : subi (addi g (k3 S 32#32)) (k3 S 1#32) (ix1 k) = BitVec.ofNat 32 (size g k.val + 31) := by
    rw [subi_ap, addi_ap, k3_ap, k3_ap, word_size g k]
    apply BitVec.eq_of_toNat_eq
    show (BitVec.ofNat 32 _ + 32#32 - 1#32).toNat = _
    simp only [BitVec.toNat_sub, BitVec.toNat_add, BitVec.toNat_ofNat]
    omega
  unfold blocksV
  rw [pyDiv_ap S.b3 _ (constantI shape0 32 32#32) (ix1 k) hx (b := 32) rfl (by omega) (by omega) (by omega)]
  rfl

theorem blockStartV_ap (k : Fin 3) : blockStartV S g (ix1 k) = BitVec.ofNat 32 (start (fun k => blocks (size g k)) k.val) :=
  cum_sub S _ (fun k => blocks (size g k)) (blocksV_ap S g hG) k

theorem steps_ap (k : Fin 3) : stepsV S.b3 g (ix1 k) = BitVec.ofNat 32 (tiles (size g k.val)) := by
  have hl := size_le g hG k
  rw [size_of] at hl ⊢
  rw [stepsV_ap S.b3 g k hl, groupTiles_of]

theorem stepEndV_ap (k : Fin 3) : stepEndV S g (ix1 k) = BitVec.ofNat 32 (ends (fun k => tiles (size g k)) k.val) :=
  cumV_ap S.hc S.b0 S.hu _ (fun k => tiles (size g k)) (steps_ap S g hG) k

theorem expertV_ap (s : Fin 43) : expertV S g (ix1 s) = BitVec.ofNat 32 (expert (size g) s.val) := by
  refine ownerV_ap (stepEndV S g) (fun k => tiles (size g k)) (stepEndV_ap S g hG) ?_ (by decide) s
  rw [ends_two]
  have h0 := tiles_le (size_le g hG 0)
  have h1 := tiles_le (size_le g hG 1)
  have h2 := tiles_le (size_le g hG 2)
  change tiles (size g 0) ≤ 40 at h0
  change tiles (size g 1) ≤ 40 at h1
  change tiles (size g 2) ≤ 40 at h2
  omega

variable (hcoll : d.collapsedSliceDims = [0]) (hob : d.operandBatchingDims = []) (hsim : d.startIndexMap = [0]) (hivd : d.indexVectorDim = 1)
include hcoll hob hsim hivd

theorem takeV_ap (x : IVec (shape1 3) 32) (f : ℕ → ℕ) (hx : ∀ k : Fin 3, x (ix1 k) = BitVec.ofNat 32 (f k.val)) (s : Fin 43) :
    takeV S d g x (ix1 s) = BitVec.ofNat 32 (f (expert (size g) s.val)) := by
  have hl := expert_lt (size g) s.val
  unfold takeV
  rw [gather_take1 d hcoll hob hsim hivd x _ s ⟨expert (size g) s.val, hl⟩ ?_ (by decide)]
  · exact hx _
  · rw [bcCol, select_at, cmpi_at, k43_ap, expertV_ap S g hG, show (0#32 : BitVec 32) = BitVec.ofNat 32 0 from rfl,
      cmpi_slt_ofNat (w := 32) (by omega) (by decide), select_decide, if_neg (by omega)]

theorem passV_ap (s : Fin 43) : passV S d g (ix1 s) = BitVec.ofNat 32 (pass (size g) s.val) := by
  unfold passV
  rw [subi_ap, takeV_ap S d g hG hcoll hob hsim hivd (subi (stepEndV S g) (stepsV S.b3 g)) _ (cum_sub S _ (fun k => tiles (size g k)) (steps_ap S g hG))]
  exact ofNat32_sub (start_le (size g) s.val)

omit hG hcoll hob hsim hivd in
theorem mul_word (a b : ℕ) : BitVec.ofNat 32 a * BitVec.ofNat 32 b = BitVec.ofNat 32 (a * b) := (BitVec.ofNat_mul ..).symm

theorem rowV_ap (s : Fin 43) : rowV S d g (ix1 s) = BitVec.ofNat 32 (row (size g) s.val) := by
  unfold rowV
  rw [addi_ap, muli_ap, takeV_ap S d g hG hcoll hob hsim hivd _ _ (startV_ap S g hG), passV_ap S d g hG hcoll hob hsim hivd, k43_ap,
    show (256#32 : BitVec 32) = BitVec.ofNat 32 256 from rfl, mul_word, ← BitVec.ofNat_add]
  rfl

/-- The window starts at one of the 320 blocks of rows. -/
theorem winV_le (s : Fin 43) : (winV S d g (ix1 s)).toNat ≤ 319 := by
  have h1 := (start_le_total (size g) hG _ (expert_lt (size g) s.val)).1
  have h2 := pass_le (size g) s.val
  have hs := s.isLt
  have hr : row (size g) s.val < 2 ^ 31 := by unfold row; omega
  show (IntOp.minsi (pyDiv S.b43 (rowV S d g) (constantI shape0 32 32#32) (ix1 s)) (k43 S 319#32 (ix1 s))).toNat ≤ 319
  rw [pyDiv_ap S.b43 _ (constantI shape0 32 32#32) (ix1 s) (rowV_ap S d g hG hcoll hob hsim hivd s) (b := 32) rfl hr (by omega) (by omega), k43_ap]
  unfold IntOp.minsi
  rw [show (319#32 : BitVec 32) = BitVec.ofNat 32 319 from rfl, slt_ofNat32 (by omega) (by decide)]
  by_cases h : row (size g) s.val / 32 < 319
  · rw [if_pos (decide_eq_true h), BitVec.toNat_ofNat]; omega
  · rw [if_neg (fun e => h (of_decide_eq_true e))]; decide

omit hG hcoll hob hsim hivd in
/-- A difference of two small words cut below at zero and above at 256. -/
theorem clip_word (a b : ℕ) (ha : a < 2 ^ 20) (hb : b < 2 ^ 20) :
    IntOp.minsi 256#32 (IntOp.maxsi 0#32 (BitVec.ofNat 32 a - BitVec.ofNat 32 b)) = BitVec.ofNat 32 (min (a - b) 256) := by
  by_cases h : b ≤ a
  · rw [ofNat32_sub h, maxsi_zero_left (by omega)]
    unfold IntOp.minsi
    rw [show (256#32 : BitVec 32) = BitVec.ofNat 32 256 from rfl, slt_ofNat32 (by decide) (by omega)]
    by_cases h' : 256 < a - b
    · rw [if_pos (decide_eq_true h'), Nat.min_eq_right (by omega)]
    · rw [if_neg (fun e => h' (of_decide_eq_true e)), Nat.min_eq_left (by omega)]
  · have e : IntOp.maxsi 0#32 (BitVec.ofNat 32 a - BitVec.ofNat 32 b) = 0#32 := by
      unfold IntOp.maxsi
      rw [if_pos]
      unfold BitVec.slt
      rw [decide_eq_true_iff, BitVec.toInt_eq_toNat_cond, BitVec.toNat_sub, BitVec.toNat_ofNat, BitVec.toNat_ofNat]
      have : (0#32 : BitVec 32).toInt = 0 := by decide
      rw [this]
      split_ifs <;> omega
    rw [e, show min (a - b) 256 = 0 by omega]
    decide

theorem validV_ap (s : Fin 43) : validV S d g (ix1 s) = BitVec.ofNat 32 (valid (size g) s.val) := by
  have h1 := (start_le_total (size g) hG _ (expert_lt (size g) s.val)).2
  have h2 := pass_le (size g) s.val
  have hs := s.isLt
  show IntOp.minsi (k43 S 256#32 (ix1 s)) (IntOp.maxsi (k43 S 0#32 (ix1 s)) (subi (takeV S d g g) (muli (passV S d g) (k43 S 256#32)) (ix1 s))) = _
  rw [subi_ap, muli_ap, takeV_ap S d g hG hcoll hob hsim hivd _ _ (word_size g), passV_ap S d g hG hcoll hob hsim hivd, k43_ap, k43_ap,
    show BitVec.ofNat 32 (pass (size g) s.val) * 256#32 = BitVec.ofNat 32 (pass (size g) s.val * 256) from mul_word _ _]
  exact clip_word _ _ (by omega) (by omega)

omit hcoll hob hsim hivd in
theorem usedV_ap : usedV S g ix0 = BitVec.ofNat 32 (used (size g)) := by
  unfold usedV
  rw [reduce_sum (N := 3) _ (fun k => blocks (size g k)) (blocksV_ap S g hG)]
  unfold used
  simp [List.range_succ, Nat.add_assoc]

omit hG hcoll hob hsim hivd in
theorem tailV_ap {α : Type} (s : Fin 43) (x y : α) : Scalar.select (tailV S (ix1 s)) x y = if s.val = 42 then x else y := by
  have hs := s.isLt
  unfold tailV
  rw [cmpi_at, iota1_ap, k43_ap, show (42#32 : BitVec 32) = BitVec.ofNat 32 42 from rfl, cmpi_eq_ofNat (w := 32) (by omega) (by decide), select_decide]

/-- The second table holds how many blocks of codes each step writes. -/
theorem countV_ap (s : Fin 43) : countV S d g (ix1 s) = BitVec.ofNat 32 (count (size g) s.val) := by
  have hx : subi (addi (validV S d g) (k43 S 32#32)) (k43 S 1#32) (ix1 s) = BitVec.ofNat 32 (valid (size g) s.val + 31) := by
    have hv : valid (size g) s.val ≤ 256 := by unfold valid; omega
    rw [subi_ap, addi_ap, k43_ap, k43_ap, validV_ap S d g hG hcoll hob hsim hivd]
    apply BitVec.eq_of_toNat_eq
    show (BitVec.ofNat 32 _ + 32#32 - 1#32).toNat = _
    simp only [BitVec.toNat_sub, BitVec.toNat_add, BitVec.toNat_ofNat]
    omega
  have hv : valid (size g) s.val ≤ 256 := by unfold valid; omega
  unfold countV
  rw [select_at, tailV_ap, bc0, subi_ap, usedV_ap S g hG, constantI_at, pyDiv_ap S.b43 _ (constantI shape0 32 32#32) (ix1 s) hx (b := 32) rfl (by omega) (by omega) (by omega),
    show (323#32 : BitVec 32) = BitVec.ofNat 32 323 from rfl, ofNat32_sub (used_le (size g) hG)]
  unfold count
  split_ifs <;> rfl

/-- The third table holds the first block of codes of each step. -/
theorem firstV_ap (s : Fin 43) : firstV S d g (ix1 s) = BitVec.ofNat 32 (first (size g) s.val) := by
  unfold firstV
  rw [select_at, tailV_ap, bc0, usedV_ap S g hG, addi_ap, muli_ap, takeV_ap S d g hG hcoll hob hsim hivd _ _ (blockStartV_ap S g hG), passV_ap S d g hG hcoll hob hsim hivd, k43_ap,
    show (8#32 : BitVec 32) = BitVec.ofNat 32 8 from rfl, mul_word, ← BitVec.ofNat_add]
  unfold first
  split_ifs <;> rfl

end

end Cert.QuantPlan
-- ==== Proof.QSite.lean ====
/- One guarded transfer of the quantiser's codes, as the body starts it and as it waits for it: what is held of the codes
   array and of the code buffer before and after, stated once for every one of the body's sites. -/
module

public import proofs.«01_k».proof.Proof.Gen.QuantIdeal
public import proofs.«01_k».proof.Proof.Gen.QuantIdeal.Launch
public import proofs.«01_k».proof.Proof.Gen.QuantIdeal.Loops
public import proofs.«01_k».proof.Proof.Gen.QuantIdeal.Skeleton
public import Idealize.ShloMosaic.Lib.Pipeline.Kit
public import Idealize.ShloMosaic.Lib.Pipeline.Frame
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.QuantIdeal.Kit

open Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! ## The pieces -/

/-- The codes array's slabs `p … p + m - 1` at the columns of block column `k`. -/
def slabs (p m k : ℕ) : Finset S323x32x6144.Idx :=
  Finset.univ.filter fun i => (p ≤ (i 0).val ∧ (i 0).val < p + m) ∧ 2048 * k ≤ (i 2).val ∧ (i 2).val < 2048 * k + 2048

/-- The code buffer's tiles `t … t + m - 1` of slot `sl`. -/
def tiles (sl t m : ℕ) : Finset S2x8x32x2048.Idx :=
  Finset.univ.filter fun i => (i 0).val = sl ∧ t ≤ (i 1).val ∧ (i 1).val < t + m

/-- The elements `K` of a memref, held at some contents. -/
def own (c : Dev nD) {sp : Space} {s : Shape} {e : EltTy} (m : Memref sig .tc sp s e) (K : Finset s.Idx) : sProp 𝕄 :=
  iprop(∃ f, m.view.loc (c : Thread nD τ) ↦[m.view.setOn K]{fullShare} f)

/-- What transfer `t` of a step's transfers gives back: the slab written and the tile read. -/
def deliv (c : Dev nD) (a16 : Memref sig .tc .hbm S323x32x6144 .i8) (a20 : Memref sig .tc .vmem S2x8x32x2048 .i8) (p k sl : ℕ) {n : ℕ}
    (t : Fin n) : sProp 𝕄 :=
  iprop(own (F := F) c a16 (slabs (p + t.val) 1 k) ∗ own (F := F) c a20 (tiles sl t.val 1))

theorem slab_set {o : Fin 3 → ℕ} (inb : ∀ a, o a + S1x32x2048.size a ≤ S323x32x6144.size a) {p k : ℕ} (h0 : o 0 = p) (h1 : o 1 = 0)
    (h2 : o 2 = 2048 * k) : (Rect.unit (s := S323x32x6144) o S1x32x2048.size inb).set = slabs p 1 k := by
  ext i
  rw [Rect.mem_set_unit]
  simp only [slabs, Finset.mem_filter, Finset.mem_univ, true_and]
  constructor
  · intro h
    have a0 := h 0; have a2 := h 2
    rw [h0] at a0; rw [h2] at a2
    exact ⟨⟨a0.1, a0.2⟩, a2.1, a2.2⟩
  · rintro ⟨⟨u, v⟩, w, x⟩ a
    fin_cases a
    · show o 0 ≤ (i 0).val ∧ (i 0).val < o 0 + 1
      omega
    · show o 1 ≤ (i 1).val ∧ (i 1).val < o 1 + 32
      have : (i 1).val < 32 := (i 1).isLt
      omega
    · show o 2 ≤ (i 2).val ∧ (i 2).val < o 2 + 2048
      omega

theorem tile_set {o : Fin 4 → ℕ} (inb : ∀ a, o a + S1x1x32x2048.size a ≤ S2x8x32x2048.size a) {sl t : ℕ} (h0 : o 0 = sl) (h1 : o 1 = t)
    (h2 : o 2 = 0) (h3 : o 3 = 0) : (Rect.unit (s := S2x8x32x2048) o S1x1x32x2048.size inb).set = tiles sl t 1 := by
  ext i
  rw [Rect.mem_set_unit]
  simp only [tiles, Finset.mem_filter, Finset.mem_univ, true_and]
  constructor
  · intro h
    have a0 := h 0; have a1 := h 1
    rw [h0] at a0; rw [h1] at a1
    have b0 : (i 0).val < sl + 1 := a0.2
    have b1 : (i 1).val < t + 1 := a1.2
    exact ⟨Nat.le_antisymm (Nat.lt_succ_iff.mp b0) a0.1, a1.1, b1⟩
  · rintro ⟨u, w, x⟩ a
    fin_cases a
    · show o 0 ≤ (i 0).val ∧ (i 0).val < o 0 + 1
      omega
    · show o 1 ≤ (i 1).val ∧ (i 1).val < o 1 + 1
      omega
    · show o 2 ≤ (i 2).val ∧ (i 2).val < o 2 + 32
      have : (i 2).val < 32 := (i 2).isLt
      omega
    · show o 3 ≤ (i 3).val ∧ (i 3).val < o 3 + 2048
      have : (i 3).val < 2048 := (i 3).isLt
      omega

/-- A part `J` of the elements held, set apart from the others. -/
theorem own_split (c : Dev nD) {sp : Space} {s : Shape} {e : EltTy} (m : Memref sig .tc sp s e) {K J : Finset s.Idx} (h : J ⊆ K) :
    own (F := F) c m K ⊢ (iprop(own (F := F) c m J ∗ own (F := F) c m (K \ J)) : sProp 𝕄) := by
  unfold own
  iintro ⟨%f, H⟩
  have hs : m.view.setOn J ⊆ m.view.setOn K := Finset.map_subset_map.mpr h
  have he : m.view.setOn (K \ J) = m.view.setOn K \ m.view.setOn J := by classical exact Finset.map_sdiff K J
  ihave ⟨H1, H2⟩ := (pointsTo_split_subset hs).mp $$ H
  isplitl [H1]
  · iexists f; iexact H1
  · iexists f; rw [he]; iexact H2

/-- Two disjoint parts held are their union held. -/
theorem own_join (c : Dev nD) {sp : Space} {s : Shape} {e : EltTy} (m : Memref sig .tc sp s e) {K J : Finset s.Idx} (h : Disjoint K J) :
    (iprop(own (F := F) c m K ∗ own (F := F) c m J) : sProp 𝕄) ⊢ own (F := F) c m (K ∪ J) := by
  unfold own
  iintro ⟨⟨%f, H⟩, ⟨%g, H'⟩⟩
  have hs : Disjoint (m.view.setOn K) (m.view.setOn J) := (Finset.disjoint_map _).mpr h
  have he : m.view.setOn (K ∪ J) = m.view.setOn K ∪ m.view.setOn J := by classical exact Finset.map_union K J
  rw [he]
  iexists (m.view.setOn J).piecewise g f
  iapply (pointsTo_join (f := f) (g := g) hs)
  isplitl [H]
  · iexact H
  · iexact H'

/-! ## The two sites -/

/-- The array's credit of one transfer is `N`, wherever it lands. -/
abbrev credit (a16 : Memref sig .tc .hbm S323x32x6144 .i8) (N : ℕ) : Prop :=
  ∀ (o : Fin 3 → ℕ) (i : ∀ a, o a + S1x32x2048.size a ≤ S323x32x6144.size a),
    ((a16.slice (Rect.unit (s := S323x32x6144) o S1x32x2048.size i) (fun _ => rfl)).squeeze S32x2048 squeezes_S1x32x2048_S32x2048).view.dmaCredit = N

/-- What a step's starts hold once `m` of its `n` transfers are under way. -/
def started (c : Dev nD) (a16 : Memref sig .tc .hbm S323x32x6144 .i8) (a20 : Memref sig .tc .vmem S2x8x32x2048 .i8) (sm : DmaSem sig)
    (N : ℕ) (K : Finset S323x32x6144.Idx) (J : Finset S2x8x32x2048.Idx) (p k sl n m : ℕ) : sProp 𝕄 :=
  iprop(own (F := F) c a16 (K \ slabs p m k) ∗ own (F := F) c a20 (J \ tiles sl 0 m)
    ∗ Transfers.Batch (countersEmb (U := UD sig nD τ)) (c : Thread nD τ) (.dma sm) () N (deliv (F := F) c a16 a20 p k sl (n := n)) m 0)

/-- One guarded start. -/
abbrev startSite {α : Type} (a5 : Memref sig .tc .smem S43 .i32) (a16 : Memref sig .tc .hbm S323x32x6144 .i8) (h16 : a16.IsWhole)
    (a20 : Memref sig .tc .vmem S2x8x32x2048 .i8) (h20 : a20.IsWhole) (a21 : DmaSems sig S2)
    (P : Prop) [Decidable P] (oA : Fin 1 → ℕ) (iA : ∀ a, oA a + S1.size a ≤ S43.size a)
    (chk : BitVec 32 → Prop) (dec : ∀ v, Decidable (chk v)) (oB : Fin 1 → ℕ) (iB : ∀ a, oB a + S1.size a ≤ S2.size a)
    (oC : BitVec 32 → Fin 3 → ℕ) (iC : ∀ v, chk v → P → ∀ a, oC v a + S1x32x2048.size a ≤ S323x32x6144.size a)
    (wC : ∀ v (hw : chk v) (hp : P), (Rect.unit (s := S323x32x6144) (oC v) S1x32x2048.size (iC v hw hp)).WholeWords (EltTy.packing .i8))
    (oD : Fin 4 → ℕ) (iD : ∀ a, oD a + S1x1x32x2048.size a ≤ S2x8x32x2048.size a)
    (wD : (Rect.unit (s := S2x8x32x2048) oD S1x1x32x2048.size iD).WholeWords (EltTy.packing .i8))
    (kk : Prog (TpuEff nD τ sig (Elt F) Λ₀ .tc) α) :
    Prog (TpuEff nD τ sig (Elt F) Λ₀ .tc) α :=
  if hp : P then do
    let v54 : Elt F .i32 ← smemLoad a5 (Rect.unit (s := S43) oA S1.size iA) numel1_S1 rfl
    have hw : chk v54 := (← Prog.lift (TpuEff.assume (chk v54) (dec v54))).down
    let v58 : DmaSems sig S1 := a21.slice (Rect.unit (s := S2) oB S1.size iB)
    let v59 : DmaSems sig S_ := v58.squeeze S_ squeezes_S1_S_
    let v60 : Memref sig .tc .hbm S1x32x2048 .i8 := a16.slice (Rect.unit (s := S323x32x6144) (oC v54) S1x32x2048.size (iC v54 hw hp)) (fun _ => rfl)
    let v61 : Memref sig .tc .hbm S32x2048 .i8 := v60.squeeze S32x2048 squeezes_S1x32x2048_S32x2048
    let v62 : Memref sig .tc .vmem S1x1x32x2048 .i8 := a20.slice (Rect.unit (s := S2x8x32x2048) oD S1x1x32x2048.size iD) (fun _ => rfl)
    let v63 : Memref sig .tc .vmem S32x2048 .i8 := v62.squeeze S32x2048 squeezes_S1x1x32x2048_S32x2048
    Prog.lift (.enqueueDma v63 (.here v61) (.dma v59.sem) ((h20.wordExact_slice rfl _ wD).reshape _ _) ((h16.wordExact_slice rfl _ (wC v54 hw hp)).reshape _ _) ⟨Or.inl rfl, trivial⟩)
    kk
  else kk

/-- One guarded wait. -/
abbrev waitSite {α : Type} (a5 : Memref sig .tc .smem S43 .i32) (a16 : Memref sig .tc .hbm S323x32x6144 .i8) (h16 : a16.IsWhole)
    (a20 : Memref sig .tc .vmem S2x8x32x2048 .i8) (h20 : a20.IsWhole) (a21 : DmaSems sig S2)
    (P : Prop) [Decidable P] (oA : Fin 1 → ℕ) (iA : ∀ a, oA a + S1.size a ≤ S43.size a)
    (chk : BitVec 32 → Prop) (dec : ∀ v, Decidable (chk v)) (oB : Fin 1 → ℕ) (iB : ∀ a, oB a + S1.size a ≤ S2.size a)
    (oC : BitVec 32 → Fin 3 → ℕ) (iC : ∀ v, chk v → P → ∀ a, oC v a + S1x32x2048.size a ≤ S323x32x6144.size a)
    (wC : ∀ v (hw : chk v) (hp : P), (Rect.unit (s := S323x32x6144) (oC v) S1x32x2048.size (iC v hw hp)).WholeWords (EltTy.packing .i8))
    (oD : Fin 4 → ℕ) (iD : ∀ a, oD a + S1x1x32x2048.size a ≤ S2x8x32x2048.size a)
    (wD : (Rect.unit (s := S2x8x32x2048) oD S1x1x32x2048.size iD).WholeWords (EltTy.packing .i8))
    (kk : Prog (TpuEff nD τ sig (Elt F) Λ₀ .tc) α) :
    Prog (TpuEff nD τ sig (Elt F) Λ₀ .tc) α :=
  if hp : P then do
    let v54 : Elt F .i32 ← smemLoad a5 (Rect.unit (s := S43) oA S1.size iA) numel1_S1 rfl
    have hw : chk v54 := (← Prog.lift (TpuEff.assume (chk v54) (dec v54))).down
    let v58 : DmaSems sig S1 := a21.slice (Rect.unit (s := S2) oB S1.size iB)
    let v59 : DmaSems sig S_ := v58.squeeze S_ squeezes_S1_S_
    let v60 : Memref sig .tc .hbm S1x32x2048 .i8 := a16.slice (Rect.unit (s := S323x32x6144) (oC v54) S1x32x2048.size (iC v54 hw hp)) (fun _ => rfl)
    let v61 : Memref sig .tc .hbm S32x2048 .i8 := v60.squeeze S32x2048 squeezes_S1x32x2048_S32x2048
    let v62 : Memref sig .tc .vmem S1x1x32x2048 .i8 := a20.slice (Rect.unit (s := S2x8x32x2048) oD S1x1x32x2048.size iD) (fun _ => rfl)
    let v63 : Memref sig .tc .vmem S32x2048 .i8 := v62.squeeze S32x2048 squeezes_S1x1x32x2048_S32x2048
    Prog.lift (.waitDma2 v59.sem v63 v61 ((h20.wordExact_slice rfl _ wD).reshape _ _) ((h16.wordExact_slice rfl _ (wC v54 hw hp)).reshape _ _))
    kk
  else kk

/-- The word a scalar load finds. -/
abbrev wordOf (a5 : Memref sig .tc .smem S43 .i32) (c : Dev nD) (x : Buf (Elt F) (a5.view.loc (c : Thread nD τ)))
    (oA : Fin 1 → ℕ) (iA : ∀ a, oA a + S1.size a ≤ S43.size a) : BitVec 32 :=
  (a5.access (Rect.unit (s := S43) oA S1.size iA)).read (Elt F) x (Shape.Idx.first (numel1_S1.symm ▸ Nat.one_pos))

variable (c : Dev nD) (a5 : Memref sig .tc .smem S43 .i32) (a16 : Memref sig .tc .hbm S323x32x6144 .i8) (h16 : a16.IsWhole)
    (a20 : Memref sig .tc .vmem S2x8x32x2048 .i8) (h20 : a20.IsWhole) (a21 : DmaSems sig S2)
    (P : Prop) [Decidable P] (oA : Fin 1 → ℕ) (iA : ∀ a, oA a + S1.size a ≤ S43.size a)
    (chk : BitVec 32 → Prop) (dec : ∀ v, Decidable (chk v)) (oB : Fin 1 → ℕ) (iB : ∀ a, oB a + S1.size a ≤ S2.size a)
    (oC : BitVec 32 → Fin 3 → ℕ) (iC : ∀ v, chk v → P → ∀ a, oC v a + S1x32x2048.size a ≤ S323x32x6144.size a)
    (wC : ∀ v (hw : chk v) (hp : P), (Rect.unit (s := S323x32x6144) (oC v) S1x32x2048.size (iC v hw hp)).WholeWords (EltTy.packing .i8))
    (oD : Fin 4 → ℕ) (iD : ∀ a, oD a + S1x1x32x2048.size a ≤ S2x8x32x2048.size a)
    (wD : (Rect.unit (s := S2x8x32x2048) oD S1x1x32x2048.size iD).WholeWords (EltTy.packing .i8))

/-- A start: the step's next transfer is under way, if it has one. -/
theorem start_site (x : Buf (Elt F) (a5.view.loc (c : Thread nD τ))) (q : PosShare TreeShare) (sm : DmaSem sig) (N : ℕ)
    (K : Finset S323x32x6144.Idx) (J : Finset S2x8x32x2048.Idx) (p k sl n b : ℕ)
    (hsm : ((a21.slice (Rect.unit (s := S2) oB S1.size iB)).squeeze S_ squeezes_S1_S_).sem = sm)
    (hN : credit a16 N) (hP : P ↔ b < n) (hK : slabs p n k ⊆ K) (hJ : tiles sl 0 n ⊆ J)
    (hc : b < n → chk (wordOf a5 c x oA iA))
    (hC0 : b < n → oC (wordOf a5 c x oA iA) 0 = p + b) (hC1 : b < n → oC (wordOf a5 c x oA iA) 1 = 0) (hC2 : b < n → oC (wordOf a5 c x oA iA) 2 = 2048 * k)
    (hD0 : oD 0 = sl) (hD1 : oD 1 = b) (hD2 : oD 2 = 0) (hD3 : oD 3 = 0) {α : Type} (kk : Prog (TpuEff nD τ sig (Elt F) Λ₀ .tc) α) (Q : α → sProp 𝕄) :
    iprop((a5.view.loc (c : Thread nD τ) ↦{q} x) ∗ started (F := F) c a16 a20 sm N K J p k sl n (min b n))
      ⊢ iprop((iprop((a5.view.loc (c : Thread nD τ) ↦{q} x) ∗ started (F := F) c a16 a20 sm N K J p k sl n (min (b + 1) n)) -∗ wp frame (wpE (defs₀ (F := F)) Variants.none (c : Thread nD τ) none) Set.univ kk Q)
        -∗ wp frame (wpE (defs₀ (F := F)) Variants.none (c : Thread nD τ) none) Set.univ
          (startSite (F := F) a5 a16 h16 a20 h20 a21 P oA iA chk dec oB iB oC iC wC oD iD wD kk) Q) := by
  unfold startSite
  by_cases hb : b < n
  · rw [dif_pos (hP.mpr hb), Nat.min_eq_left hb.le, Nat.min_eq_left hb]
    iintro ⟨HT, HS⟩ HQ
    simp only [smemLoad, smemLoadElt, Prog.lift, Prog.bind_op, Prog.bind_ret]
    iapply (wp_load_rect Variants.none (c : Thread nD τ) none Set.univ (m := a5) (r := Rect.unit (s := S43) oA S1.size iA) (S := Finset.univ) (Finset.subset_univ _)) $$ HT
    iintro HT
    iapply (wp_assume Variants.none (c : Thread nD τ) none Set.univ (hc hb))
    have eS : ∀ i : ∀ a, oC (wordOf a5 c x oA iA) a + S1x32x2048.size a ≤ S323x32x6144.size a,
        (((a16.slice (Rect.unit (s := S323x32x6144) (oC (wordOf a5 c x oA iA)) S1x32x2048.size i) (fun _ => rfl)).squeeze S32x2048 squeezes_S1x32x2048_S32x2048).view.set)
          = a16.view.setOn (slabs (p + b) 1 k) := fun i => by
      rw [← slab_set i (hC0 hb) (hC1 hb) (hC2 hb)]
      exact (View.set_reshape _ _).trans (View.set_slice _ _)
    have eT : (((a20.slice (Rect.unit (s := S2x8x32x2048) oD S1x1x32x2048.size iD) (fun _ => rfl)).squeeze S32x2048 squeezes_S1x1x32x2048_S32x2048).view.set)
          = a20.view.setOn (tiles sl b 1) := by
      rw [← tile_set iD hD0 hD1 hD2 hD3]
      exact (View.set_reshape _ _).trans (View.set_slice _ _)
    unfold started
    icases HS with ⟨H16, H20, HB⟩
    have sK : slabs (p + b) 1 k ⊆ K \ slabs p b k := fun i hi => by
      have hi' := hi
      simp only [slabs, Finset.mem_filter, Finset.mem_univ, true_and] at hi'
      refine Finset.mem_sdiff.mpr ⟨hK ?_, ?_⟩
      · simp only [slabs, Finset.mem_filter, Finset.mem_univ, true_and]; omega
      · simp only [slabs, Finset.mem_filter, Finset.mem_univ, true_and]; omega
    have sJ : tiles sl b 1 ⊆ J \ tiles sl 0 b := fun i hi => by
      have hi' := hi
      simp only [tiles, Finset.mem_filter, Finset.mem_univ, true_and] at hi'
      refine Finset.mem_sdiff.mpr ⟨hJ ?_, ?_⟩
      · simp only [tiles, Finset.mem_filter, Finset.mem_univ, true_and]; omega
      · simp only [tiles, Finset.mem_filter, Finset.mem_univ, true_and]; omega
    have eK : (K \ slabs p b k) \ slabs (p + b) 1 k = K \ slabs p (b + 1) k := by
      ext i
      simp only [slabs, Finset.mem_sdiff, Finset.mem_filter, Finset.mem_univ, true_and]
      constructor
      · rintro ⟨⟨h1, h2⟩, h3⟩; exact ⟨h1, by omega⟩
      · rintro ⟨h1, h2⟩; exact ⟨⟨h1, by omega⟩, by omega⟩
    have eJ : (J \ tiles sl 0 b) \ tiles sl b 1 = J \ tiles sl 0 (b + 1) := by
      ext i
      simp only [tiles, Finset.mem_sdiff, Finset.mem_filter, Finset.mem_univ, true_and]
      constructor
      · rintro ⟨⟨h1, h2⟩, h3⟩; exact ⟨h1, by omega⟩
      · rintro ⟨h1, h2⟩; exact ⟨⟨h1, by omega⟩, by omega⟩
    ihave ⟨H16, R16⟩ := (own_split (F := F) c a16 sK) $$ H16
    ihave ⟨H20, R20⟩ := (own_split (F := F) c a20 sJ) $$ H20
    rw [eK, eJ]
    unfold own
    icases H16 with ⟨%fd, H16⟩
    icases H20 with ⟨%fs, H20⟩
    rw [← eT]
    subst hsm
    iapply (Transfers.wp_dmaBatch (countersEmb (U := UD sig nD τ)) Variants.none (c : Thread nD τ) none
      (src := (a20.slice (Rect.unit (s := S2x8x32x2048) oD S1x1x32x2048.size iD) (fun _ => rfl)).squeeze S32x2048 squeezes_S1x1x32x2048_S32x2048)
      (dst := (a16.slice (Rect.unit (s := S323x32x6144) (oC (wordOf a5 c x oA iA)) S1x32x2048.size (iC _ (hc hb) (hP.mpr hb))) (fun _ => rfl)).squeeze S32x2048 squeezes_S1x32x2048_S32x2048)
      (sm := .dma ((a21.slice (Rect.unit (s := S2) oB S1.size iB)).squeeze S_ squeezes_S1_S_).sem) (fd := fd) (fs := fs) (q := fullShare)
      (Sd := a16.view.setOn (slabs (p + b) 1 k)) () N ((View.amount_dma _ _).trans (hN _ _)) (eS _).subset hb (Nat.zero_le _) (D := deliv (F := F) c a16 a20 p k sl) ?_) $$ [H16 H20 HB]
    · unfold deliv own
      iintro ⟨HA, HB⟩
      isplitl [HA]
      · iexists _; iexact HA
      · iexists _; rw [← eT]; iexact HB
    · isplitl [H20]
      · iexact H20
      isplitl [H16]
      · iexact H16
      iexact HB
    iintro HB
    iapply HQ
    isplitl [HT]
    · iexact HT
    isplitl [R16]
    · iexact R16
    isplitl [R20]
    · iexact R20
    iexact HB
  · have : n ≤ b := Nat.le_of_not_lt hb
    rw [dif_neg (fun h => hb (hP.mp h)), Nat.min_eq_right this, Nat.min_eq_right (by omega)]
    iintro HS HQ
    iapply HQ; iexact HS

/-- A wait: one more of the step's transfers is received, if it started another. -/
theorem wait_site (x : Buf (Elt F) (a5.view.loc (c : Thread nD τ))) (q : PosShare TreeShare) (sm : DmaSem sig) (N : ℕ)
    (p k sl n b : ℕ)
    (hsm : ((a21.slice (Rect.unit (s := S2) oB S1.size iB)).squeeze S_ squeezes_S1_S_).sem = sm)
    (hN : credit a16 N) (hP : P ↔ b < n)
    (hc : b < n → chk (wordOf a5 c x oA iA)) {α : Type} (kk : Prog (TpuEff nD τ sig (Elt F) Λ₀ .tc) α) (Q : α → sProp 𝕄) (B : Set (SemLoc sig × Unit)) (hB : (SemLoc.dma sm, ()) ∈ B) :
    iprop((a5.view.loc (c : Thread nD τ) ↦{q} x) ∗ Pipeline.owesWithin c 0 B
        ∗ Transfers.Batch (countersEmb (U := UD sig nD τ)) (c : Thread nD τ) (.dma sm) () N (deliv (F := F) c a16 a20 p k sl (n := n)) n (N * min b n))
      ⊢ iprop((iprop((a5.view.loc (c : Thread nD τ) ↦{q} x) ∗ Pipeline.owesWithin c 0 B
        ∗ Transfers.Batch (countersEmb (U := UD sig nD τ)) (c : Thread nD τ) (.dma sm) () N (deliv (F := F) c a16 a20 p k sl (n := n)) n (N * min (b + 1) n)) -∗ wp frame (wpE (defs₀ (F := F)) Variants.none (c : Thread nD τ) none) Set.univ kk Q)
        -∗ wp frame (wpE (defs₀ (F := F)) Variants.none (c : Thread nD τ) none) Set.univ
          (waitSite (F := F) a5 a16 h16 a20 h20 a21 P oA iA chk dec oB iB oC iC wC oD iD wD kk) Q) := by
  unfold waitSite
  by_cases hb : b < n
  · rw [dif_pos (hP.mpr hb), Nat.min_eq_left hb.le, Nat.min_eq_left (Nat.succ_le_of_lt hb)]
    iintro ⟨HT, HO, HB⟩ HQ
    simp only [smemLoad, smemLoadElt, Prog.lift, Prog.bind_op, Prog.bind_ret]
    iapply (wp_load_rect Variants.none (c : Thread nD τ) none Set.univ (m := a5) (r := Rect.unit (s := S43) oA S1.size iA) (S := Finset.univ) (Finset.subset_univ _)) $$ HT
    iintro HT
    iapply (wp_assume Variants.none (c : Thread nD τ) none Set.univ (hc hb))
    subst hsm
    unfold Pipeline.owesWithin
    icases HO with ⟨%W, %hW, HO⟩
    have e1 : N * b + 1 * N = N * (b + 1) := by rw [Nat.one_mul, Nat.mul_succ]
    have e2 : N * b + 1 * N ≤ N * n := by rw [e1]; exact Nat.mul_le_mul_left _ hb
    iapply (Transfers.wp_waitBatchMul (countersEmb (U := UD sig nD τ)) Variants.none (c : Thread nD τ) none
      (sem := ((a21.slice (Rect.unit (s := S2) oB S1.size iB)).squeeze S_ squeezes_S1_S_).sem)
      (srcw := (a20.slice (Rect.unit (s := S2x8x32x2048) oD S1x1x32x2048.size iD) (fun _ => rfl)).squeeze S32x2048 squeezes_S1x1x32x2048_S32x2048)
      (dstw := (a16.slice (Rect.unit (s := S323x32x6144) (oC (wordOf a5 c x oA iA)) S1x32x2048.size (iC _ (hc hb) (hP.mpr hb))) (fun _ => rfl)).squeeze S32x2048 squeezes_S1x32x2048_S32x2048)
      () 1 ((hN _ _).trans (Nat.one_mul N).symm) (D := deliv (F := F) c a16 a20 p k sl (n := n)) e2 (W := W)) $$ [HB HO]
    · isplitl [HB]
      · iexact HB
      · iexact HO
    iintro ⟨HB, HO⟩
    iapply HQ
    isplitl [HT]
    · iexact HT
    isplitl [HO]
    · iexists _
      isplitr
      · ipureintro
        intro y hy
        rcases Finset.mem_insert.mp (Finset.mem_coe.mp hy) with rfl | h
        · exact hB
        · exact hW (Finset.mem_coe.mpr h)
      · iexact HO
    rw [e1]
    iexact HB
  · have : n ≤ b := Nat.le_of_not_lt hb
    rw [dif_neg (fun h => hb (hP.mp h)), Nat.min_eq_right this, Nat.min_eq_right (by omega)]
    iintro HS HQ
    iapply HQ; iexact HS

omit [Decidable P] in
/-- A scalar load from a table held at `x`. -/
theorem word_load (x : Buf (Elt F) (a5.view.loc (c : Thread nD τ))) (q : PosShare TreeShare) {α : Type}
    (kk : Elt F .i32 → Prog (TpuEff nD τ sig (Elt F) Λ₀ .tc) α) (Q : α → sProp 𝕄) :
    iprop((a5.view.loc (c : Thread nD τ) ↦{q} x))
      ⊢ iprop((iprop((a5.view.loc (c : Thread nD τ) ↦{q} x)) -∗ wp frame (wpE (defs₀ (F := F)) Variants.none (c : Thread nD τ) none) Set.univ (kk (wordOf a5 c x oA iA)) Q)
        -∗ wp frame (wpE (defs₀ (F := F)) Variants.none (c : Thread nD τ) none) Set.univ
          (smemLoad a5 (Rect.unit (s := S43) oA S1.size iA) numel1_S1 rfl >>= kk) Q) := by
  iintro HT HQ
  simp only [smemLoad, smemLoadElt, Prog.lift, Prog.bind_op, Prog.bind_ret]
  iapply (wp_load_rect Variants.none (c : Thread nD τ) none Set.univ (m := a5) (r := Rect.unit (s := S43) oA S1.size iA) (S := Finset.univ) (Finset.subset_univ _)) $$ HT
  iintro HT
  iapply HQ
  iexact HT

end Cert.QuantIdeal.Kit
-- ==== Proof.QWords.lean ====
/- The words of the quantiser's offsets: at every grid point the transfers started are the step's own, the ones received first are those of
   two points before, and the last point receives what is left. -/
module

public import proofs.«01_k».proof.Proof.QSite

@[expose] public section

set_option maxRecDepth 65536

noncomputable section

namespace Cert.QuantIdeal.Kit

open Cert.QuantIdeal.Gen
open Idealize.ShloMosaic

/-- The position of a grid point in the order of the launch. -/
abbrev pt (i : grid0.Coords) : ℕ := 3 * (i 0).val + (i 1).val

/-- The offsets of a site of the point's transfers `h`: the two table words, the semaphore, the block column. -/
abbrev Offs (h : ℕ) (oN oA oB : Fin 1 → ℕ) (oC : Fin 3 → ℕ) : Prop :=
  oN 0 = (h - 2) / 3 ∧ oA 0 = (h - 2) / 3 ∧ oB 0 = h % 2 ∧ oC 2 = 2048 * ((h - 2) % 3)

/-- The offsets of the tile `b` of slot `sl`. -/
abbrev Tile (sl b : ℕ) (o : Fin 4 → ℕ) : Prop := o 0 = sl ∧ o 1 = b ∧ o 2 = 0 ∧ o 3 = 0

theorem offs1 : ∀ i : grid0.Coords, k0_cond2 i = 1#1 → Offs (pt i) (k0_off3 i) (k0_off4 i) (k0_off5 i) (k0_off6 i 0#32) := by decide +kernel

theorem offs2 : ∀ i : grid0.Coords, k0_cond2 i = 1#1 → Offs (pt i) (k0_off8 i) (k0_off9 i) (k0_off10 i) (k0_off11 i 0#32) := by decide +kernel

theorem offs3 : ∀ i : grid0.Coords, k0_cond2 i = 1#1 → Offs (pt i) (k0_off13 i) (k0_off14 i) (k0_off15 i) (k0_off16 i 0#32) := by decide +kernel

theorem offs4 : ∀ i : grid0.Coords, k0_cond2 i = 1#1 → Offs (pt i) (k0_off18 i) (k0_off19 i) (k0_off20 i) (k0_off21 i 0#32) := by decide +kernel

theorem offs5 : ∀ i : grid0.Coords, k0_cond2 i = 1#1 → Offs (pt i) (k0_off23 i) (k0_off24 i) (k0_off25 i) (k0_off26 i 0#32) := by decide +kernel

theorem offs6 : ∀ i : grid0.Coords, k0_cond2 i = 1#1 → Offs (pt i) (k0_off28 i) (k0_off29 i) (k0_off30 i) (k0_off31 i 0#32) := by decide +kernel

theorem offs7 : ∀ i : grid0.Coords, k0_cond2 i = 1#1 → Offs (pt i) (k0_off33 i) (k0_off34 i) (k0_off35 i) (k0_off36 i 0#32) := by decide +kernel

theorem offs8 : ∀ i : grid0.Coords, k0_cond2 i = 1#1 → Offs (pt i) (k0_off38 i) (k0_off39 i) (k0_off40 i) (k0_off41 i 0#32) := by decide +kernel

theorem offs9 : ∀ i : grid0.Coords, Offs ((pt i + 2)) (k0_off1 i) (k0_off54 i) (k0_off55 i) (k0_off56 i 0#32) ∧ Tile (pt i % 2) 0 (k0_off57 i) := by decide +kernel

theorem offs10 : ∀ i : grid0.Coords, Offs ((pt i + 2)) (k0_off58 i) (k0_off59 i) (k0_off60 i) (k0_off61 i 0#32) ∧ Tile (pt i % 2) 1 (k0_off62 i) := by decide +kernel

theorem offs11 : ∀ i : grid0.Coords, Offs ((pt i + 2)) (k0_off63 i) (k0_off64 i) (k0_off65 i) (k0_off66 i 0#32) ∧ Tile (pt i % 2) 2 (k0_off67 i) := by decide +kernel

theorem offs12 : ∀ i : grid0.Coords, Offs ((pt i + 2)) (k0_off68 i) (k0_off69 i) (k0_off70 i) (k0_off71 i 0#32) ∧ Tile (pt i % 2) 3 (k0_off72 i) := by decide +kernel

theorem offs13 : ∀ i : grid0.Coords, Offs ((pt i + 2)) (k0_off73 i) (k0_off74 i) (k0_off75 i) (k0_off76 i 0#32) ∧ Tile (pt i % 2) 4 (k0_off77 i) := by decide +kernel

theorem offs14 : ∀ i : grid0.Coords, Offs ((pt i + 2)) (k0_off78 i) (k0_off79 i) (k0_off80 i) (k0_off81 i 0#32) ∧ Tile (pt i % 2) 5 (k0_off82 i) := by decide +kernel

theorem offs15 : ∀ i : grid0.Coords, Offs ((pt i + 2)) (k0_off83 i) (k0_off84 i) (k0_off85 i) (k0_off86 i 0#32) ∧ Tile (pt i % 2) 6 (k0_off87 i) := by decide +kernel

theorem offs16 : ∀ i : grid0.Coords, Offs ((pt i + 2)) (k0_off88 i) (k0_off89 i) (k0_off90 i) (k0_off91 i 0#32) ∧ Tile (pt i % 2) 7 (k0_off92 i) := by decide +kernel

theorem offs17 : ∀ i : grid0.Coords, k0_cond19 i = 1#1 → Offs ((pt i + 1)) (k0_off93 i) (k0_off94 i) (k0_off95 i) (k0_off96 i 0#32) := by decide +kernel

theorem offs18 : ∀ i : grid0.Coords, k0_cond19 i = 1#1 → Offs ((pt i + 1)) (k0_off98 i) (k0_off99 i) (k0_off100 i) (k0_off101 i 0#32) := by decide +kernel

theorem offs19 : ∀ i : grid0.Coords, k0_cond19 i = 1#1 → Offs ((pt i + 1)) (k0_off103 i) (k0_off104 i) (k0_off105 i) (k0_off106 i 0#32) := by decide +kernel

theorem offs20 : ∀ i : grid0.Coords, k0_cond19 i = 1#1 → Offs ((pt i + 1)) (k0_off108 i) (k0_off109 i) (k0_off110 i) (k0_off111 i 0#32) := by decide +kernel

theorem offs21 : ∀ i : grid0.Coords, k0_cond19 i = 1#1 → Offs ((pt i + 1)) (k0_off113 i) (k0_off114 i) (k0_off115 i) (k0_off116 i 0#32) := by decide +kernel

theorem offs22 : ∀ i : grid0.Coords, k0_cond19 i = 1#1 → Offs ((pt i + 1)) (k0_off118 i) (k0_off119 i) (k0_off120 i) (k0_off121 i 0#32) := by decide +kernel

theorem offs23 : ∀ i : grid0.Coords, k0_cond19 i = 1#1 → Offs ((pt i + 1)) (k0_off123 i) (k0_off124 i) (k0_off125 i) (k0_off126 i 0#32) := by decide +kernel

theorem offs24 : ∀ i : grid0.Coords, k0_cond19 i = 1#1 → Offs ((pt i + 1)) (k0_off128 i) (k0_off129 i) (k0_off130 i) (k0_off131 i 0#32) := by decide +kernel

theorem offs25 : ∀ i : grid0.Coords, k0_cond19 i = 1#1 → Offs ((pt i + 2)) (k0_off133 i) (k0_off134 i) (k0_off135 i) (k0_off136 i 0#32) := by decide +kernel

theorem offs26 : ∀ i : grid0.Coords, k0_cond19 i = 1#1 → Offs ((pt i + 2)) (k0_off138 i) (k0_off139 i) (k0_off140 i) (k0_off141 i 0#32) := by decide +kernel

theorem offs27 : ∀ i : grid0.Coords, k0_cond19 i = 1#1 → Offs ((pt i + 2)) (k0_off143 i) (k0_off144 i) (k0_off145 i) (k0_off146 i 0#32) := by decide +kernel

theorem offs28 : ∀ i : grid0.Coords, k0_cond19 i = 1#1 → Offs ((pt i + 2)) (k0_off148 i) (k0_off149 i) (k0_off150 i) (k0_off151 i 0#32) := by decide +kernel

theorem offs29 : ∀ i : grid0.Coords, k0_cond19 i = 1#1 → Offs ((pt i + 2)) (k0_off153 i) (k0_off154 i) (k0_off155 i) (k0_off156 i 0#32) := by decide +kernel

theorem offs30 : ∀ i : grid0.Coords, k0_cond19 i = 1#1 → Offs ((pt i + 2)) (k0_off158 i) (k0_off159 i) (k0_off160 i) (k0_off161 i 0#32) := by decide +kernel

theorem offs31 : ∀ i : grid0.Coords, k0_cond19 i = 1#1 → Offs ((pt i + 2)) (k0_off163 i) (k0_off164 i) (k0_off165 i) (k0_off166 i 0#32) := by decide +kernel

theorem offs32 : ∀ i : grid0.Coords, k0_cond19 i = 1#1 → Offs ((pt i + 2)) (k0_off168 i) (k0_off169 i) (k0_off170 i) (k0_off171 i 0#32) := by decide +kernel

theorem offs_t44 : ∀ (i : grid0.Coords) (k : Fin k0_t1_loop.trips), k0_off44 i k 0 = pt i % 2 := by decide +kernel

theorem offs_t45 : ∀ (i : grid0.Coords) (k : Fin k0_t1_loop.trips), k0_off45 i k 0 = pt i % 2 := by decide +kernel

theorem offs_t46 : ∀ (i : grid0.Coords) (k : Fin k0_t1_loop.trips), k0_off46 i k 0 = pt i % 2 := by decide +kernel

theorem offs_t47 : ∀ (i : grid0.Coords) (k : Fin k0_t1_loop.trips), k0_off47 i k 0 = pt i % 2 := by decide +kernel

theorem offs_t48 : ∀ (i : grid0.Coords) (k : Fin k0_t1_loop.trips), k0_off48 i k 0 = pt i % 2 := by decide +kernel

theorem offs_t49 : ∀ (i : grid0.Coords) (k : Fin k0_t1_loop.trips), k0_off49 i k 0 = pt i % 2 := by decide +kernel

theorem offs_t50 : ∀ (i : grid0.Coords) (k : Fin k0_t1_loop.trips), k0_off50 i k 0 = pt i % 2 := by decide +kernel

theorem offs_t51 : ∀ (i : grid0.Coords) (k : Fin k0_t1_loop.trips), k0_off51 i k 0 = pt i % 2 := by decide +kernel

theorem cond2_iff : ∀ i : grid0.Coords, k0_cond2 i = 1#1 ↔ 2 ≤ pt i := by decide +kernel

theorem cond19_iff : ∀ i : grid0.Coords, k0_cond19 i = 1#1 ↔ pt i = 128 := by decide +kernel

theorem pt_lt (i : grid0.Coords) : pt i < 129 := by
  have h0 : (i 0).val < 43 := (i 0).isLt
  have h1 : (i 1).val < 3 := (i 1).isLt
  show 3 * (i 0).val + (i 1).val < 129
  omega

end Cert.QuantIdeal.Kit
-- ==== Proof.QStep.lean ====
/- The sites again, by what the prefetched plan says: the transfers `h` of a grid point, their number, where they land and which slot
   of the code buffer and which semaphore they use. -/
module

public import proofs.«01_k».proof.Proof.QWords

@[expose] public section

set_option maxRecDepth 16384

noncomputable section

namespace Cert.QuantIdeal.Kit

open Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! ## The plan -/

/-- A table holds the words of `f`. -/
def Tab (c : Dev nD) (a : Memref sig .tc .smem S43 .i32) (x : Buf (Elt F) (a.view.loc (c : Thread nD τ))) (f : ℕ → ℕ) : Prop :=
  ∀ (o : Fin 1 → ℕ) (i : ∀ a, o a + S1.size a ≤ S43.size a), wordOf a c x o i = BitVec.ofNat 32 (f (o 0))

/-- How many transfers a grid point's step makes: `h` is the point plus two, and the two turns before the first make none. -/
def num (nb : ℕ → ℕ) (h : ℕ) : ℕ := if h < 2 then 0 else min 8 (nb ((h - 2) / 3))

/-- The first slab of the transfers `h`. -/
def pos (first : ℕ → ℕ) (h : ℕ) : ℕ := first ((h - 2) / 3)

/-- The block column of the transfers `h`. -/
def col (h : ℕ) : ℕ := (h - 2) % 3

/-- What the plan guarantees: the slabs of a step lie in the codes array, and a step's slabs are none of the next step's. -/
structure Plan (nb first : ℕ → ℕ) : Prop where
  nb_le : ∀ s, s < 43 → nb s ≤ 323
  fit : ∀ s, s < 43 → nb s = 0 ∨ first s + min 8 (nb s) ≤ 323
  next : ∀ s, s + 1 < 43 → nb s = 0 ∨ nb (s + 1) = 0 ∨ first s + min 8 (nb s) ≤ first (s + 1)

/-- The semaphore of the transfers `h`. -/
def semOf (a21 : DmaSems sig S2) (h : ℕ) : DmaSem sig :=
  ((a21.slice (Rect.unit (s := S2) ![h % 2] S1.size (by
    intro a; fin_cases a; show h % 2 + 1 ≤ 2; omega))).squeeze S_ squeezes_S1_S_).sem

theorem semOf_eq (a21 : DmaSems sig S2) {h : ℕ} {oB : Fin 1 → ℕ} (iB : ∀ a, oB a + S1.size a ≤ S2.size a) (e : oB 0 = h % 2) :
    ((a21.slice (Rect.unit (s := S2) oB S1.size iB)).squeeze S_ squeezes_S1_S_).sem = semOf a21 h := by
  have : oB = ![h % 2] := by funext a; fin_cases a; exact e
  subst this
  rfl

theorem semOf_add_two (a21 : DmaSems sig S2) (h : ℕ) : semOf a21 (h + 2) = semOf a21 h :=
  semOf_eq a21 (h := h) (oB := ![(h + 2) % 2]) _ (Nat.add_mod_right h 2)

/-! ## Words -/

theorem ofNat_toInt {n : ℕ} (h : n ≤ 323) : (BitVec.ofNat 32 n).toInt = n := by
  have : (BitVec.ofNat 32 n).toNat = n := by rw [BitVec.toNat_ofNat]; exact Nat.mod_eq_of_lt (by omega)
  rw [BitVec.toInt_eq_toNat_cond, this, if_pos (by omega)]

theorem gt_iff {n b : ℕ} (h : n ≤ 323) (hb : b < 8) :
    (Scalar.cmpi .ne (Scalar.extui (Scalar.cmpi .sgt (BitVec.ofNat 32 n) (BitVec.ofNat 32 b))) 0#32) = 1#1 ↔ b < n := by
  have e : (Scalar.cmpi .sgt (BitVec.ofNat 32 n) (BitVec.ofNat 32 b)) = BitVec.ofBool (decide (b < n)) := by
    show BitVec.ofBool ((BitVec.ofNat 32 b).slt (BitVec.ofNat 32 n)) = _
    rw [BitVec.slt, ofNat_toInt h, ofNat_toInt (by omega)]
    congr 1
    simp
  rw [e]
  by_cases hn : b < n
  · simp [hn]; decide
  · simp [hn]; decide

theorem add_ofNat {p b : ℕ} (h : p + b ≤ 323) : (Scalar.addi (BitVec.ofNat 32 p) (BitVec.ofNat 32 b)).toNat = p + b := by
  show (BitVec.ofNat 32 p + BitVec.ofNat 32 b).toNat = p + b
  rw [← BitVec.ofNat_add, BitVec.toNat_ofNat]
  exact Nat.mod_eq_of_lt (by omega)

theorem slab_inb {o : Fin 3 → ℕ} {p k : ℕ} (h0 : o 0 = p) (h1 : o 1 = 0) (h2 : o 2 = 2048 * k) (hp : p < 323) (hk : k < 3) :
    ∀ a, o a + S1x32x2048.size a ≤ S323x32x6144.size a := by
  intro a
  fin_cases a
  · show o 0 + 1 ≤ 323; omega
  · show o 1 + 32 ≤ 32; omega
  · show o 2 + 2048 ≤ 6144; omega

theorem slab_words {o : Fin 3 → ℕ} (h1 : o 1 = 0) (i : ∀ a, o a + S1x32x2048.size a ≤ S323x32x6144.size a) :
    (Rect.unit (s := S323x32x6144) o S1x32x2048.size i).WholeWords (EltTy.packing .i8) :=
  Or.inr ⟨by decide, rfl, h1, rfl⟩

/-! ## The sites -/

variable (c : Dev nD) (a4 a5 : Memref sig .tc .smem S43 .i32) (a16 : Memref sig .tc .hbm S323x32x6144 .i8) (h16 : a16.IsWhole)
    (a20 : Memref sig .tc .vmem S2x8x32x2048 .i8) (h20 : a20.IsWhole) (a21 : DmaSems sig S2)
    {nb first : ℕ → ℕ} (pl : Plan nb first)
    (x4 : Buf (Elt F) (a4.view.loc (c : Thread nD τ))) (t4 : Tab c a4 x4 nb) (x5 : Buf (Elt F) (a5.view.loc (c : Thread nD τ))) (t5 : Tab c a5 x5 first)
    (q : PosShare TreeShare) (N : ℕ) (hN : credit a16 N)

/-- The transfers `h`, `m` of them started and `r` of them received. -/
abbrev flight (nb first : ℕ → ℕ) (h m r : ℕ) : sProp 𝕄 :=
  Transfers.Batch (countersEmb (U := UD sig nD τ)) (c : Thread nD τ) (.dma (semOf a21 h)) () N (deliv (F := F) c a16 a20 (pos first h) (col h) (h % 2) (n := num nb h)) m (N * r)

include pl t4 t5 hN in
/-- One wait of the transfers `h`. -/
theorem wait_one (h b : ℕ) (hh : 2 ≤ h ∧ h < 131) (hb : b < 8) {oN : Fin 1 → ℕ} (iN : ∀ a, oN a + S1.size a ≤ S43.size a)
    (cnd : BitVec 32 → BitVec 1) (ecnd : ∀ v, cnd v = Scalar.cmpi .ne (Scalar.extui (Scalar.cmpi .sgt v (BitVec.ofNat 32 b))) 0#32)
    {oA : Fin 1 → ℕ} (iA : ∀ a, oA a + S1.size a ≤ S43.size a)
    (chk : BitVec 32 → BitVec 32 → Prop) (dec : ∀ w v, Decidable (chk w v)) {oB : Fin 1 → ℕ} (iB : ∀ a, oB a + S1.size a ≤ S2.size a)
    (oC : BitVec 32 → Fin 3 → ℕ) (iC : ∀ w v, chk w v → cnd w = 1#1 → ∀ a, oC v a + S1x32x2048.size a ≤ S323x32x6144.size a)
    (wC : ∀ w v (hw : chk w v) (hp : cnd w = 1#1), (Rect.unit (s := S323x32x6144) (oC v) S1x32x2048.size (iC w v hw hp)).WholeWords (EltTy.packing .i8))
    {oD : Fin 4 → ℕ} (iD : ∀ a, oD a + S1x1x32x2048.size a ≤ S2x8x32x2048.size a)
    (wD : (Rect.unit (s := S2x8x32x2048) oD S1x1x32x2048.size iD).WholeWords (EltTy.packing .i8))
    (hchk : ∀ w v, (∀ a, oC v a + S1x32x2048.size a ≤ S323x32x6144.size a) →
      (∀ i, (Rect.unit (s := S323x32x6144) (oC v) S1x32x2048.size i).WholeWords (EltTy.packing .i8)) → chk w v)
    (eC : ∀ v, oC v = ![(Scalar.addi v (BitVec.ofNat 32 b)).toNat, 0, oC 0#32 2])
    (eo : Offs h oN oA oB (oC 0#32)) {α : Type} (kk : Prog (TpuEff nD τ sig (Elt F) Λ₀ .tc) α) (Q : α → sProp 𝕄) :
    iprop((a5.view.loc (c : Thread nD τ) ↦{q} x5) ∗ Pipeline.owesWithin c 0 Set.univ ∗ flight (F := F) c a16 a20 a21 N nb first h (num nb h) (min b (num nb h)))
      ⊢ iprop((iprop((a5.view.loc (c : Thread nD τ) ↦{q} x5) ∗ Pipeline.owesWithin c 0 Set.univ ∗ flight (F := F) c a16 a20 a21 N nb first h (num nb h) (min (b + 1) (num nb h)))
          -∗ wp frame (wpE (defs₀ (F := F)) Variants.none (c : Thread nD τ) none) Set.univ kk Q)
        -∗ wp frame (wpE (defs₀ (F := F)) Variants.none (c : Thread nD τ) none) Set.univ
          (waitSite (F := F) a5 a16 h16 a20 h20 a21 (cnd (wordOf a4 c x4 oN iN) = 1#1) oA iA (chk (wordOf a4 c x4 oN iN)) (dec (wordOf a4 c x4 oN iN)) oB iB oC
            (iC (wordOf a4 c x4 oN iN)) (wC (wordOf a4 c x4 oN iN)) oD iD wD kk) Q) := by
  obtain ⟨eN, eA, eB, eC2⟩ := eo
  have hs : (h - 2) / 3 < 43 := by omega
  have hn : num nb h = min 8 (nb ((h - 2) / 3)) := if_neg (by omega)
  have f5 := pl.fit _ hs
  refine wait_site (F := F) c a5 a16 h16 a20 h20 a21 _ oA iA _ _ oB iB oC _ _ oD iD wD x5 q (semOf a21 h) N (pos first h) (col h) (h % 2) (num nb h) b
    (semOf_eq a21 iB eB) hN ?_ ?_ kk Q Set.univ trivial
  · rw [ecnd, t4, eN, gt_iff (pl.nb_le _ hs) hb, hn]; omega
  · intro hlt
    have e0 : oC (wordOf a5 c x5 oA iA) 0 = first ((h - 2) / 3) + b := by
      rw [t5, eA, eC]; exact add_ofNat (by omega)
    have e1 : oC (wordOf a5 c x5 oA iA) 1 = 0 := by rw [eC]; rfl
    have e2 : oC (wordOf a5 c x5 oA iA) 2 = 2048 * ((h - 2) % 3) := by rw [eC]; exact eC2
    exact hchk _ _ (slab_inb e0 e1 e2 (by omega) (by omega)) (fun i => slab_words e1 i)

include pl t4 t5 hN in
/-- One start of the transfers `h`. -/
theorem start_one (K : Finset S323x32x6144.Idx) (J : Finset S2x8x32x2048.Idx) (h b : ℕ) (hh : 2 ≤ h ∧ h < 131) (hb : b < 8)
    (hK : slabs (pos first h) (num nb h) (col h) ⊆ K) (hJ : tiles (h % 2) 0 (num nb h) ⊆ J) {oN : Fin 1 → ℕ} (iN : ∀ a, oN a + S1.size a ≤ S43.size a)
    (cnd : BitVec 32 → BitVec 1) (ecnd : ∀ v, cnd v = Scalar.cmpi .ne (Scalar.extui (Scalar.cmpi .sgt v (BitVec.ofNat 32 b))) 0#32)
    {oA : Fin 1 → ℕ} (iA : ∀ a, oA a + S1.size a ≤ S43.size a)
    (chk : BitVec 32 → BitVec 32 → Prop) (dec : ∀ w v, Decidable (chk w v)) {oB : Fin 1 → ℕ} (iB : ∀ a, oB a + S1.size a ≤ S2.size a)
    (oC : BitVec 32 → Fin 3 → ℕ) (iC : ∀ w v, chk w v → cnd w = 1#1 → ∀ a, oC v a + S1x32x2048.size a ≤ S323x32x6144.size a)
    (wC : ∀ w v (hw : chk w v) (hp : cnd w = 1#1), (Rect.unit (s := S323x32x6144) (oC v) S1x32x2048.size (iC w v hw hp)).WholeWords (EltTy.packing .i8))
    {oD : Fin 4 → ℕ} (iD : ∀ a, oD a + S1x1x32x2048.size a ≤ S2x8x32x2048.size a)
    (wD : (Rect.unit (s := S2x8x32x2048) oD S1x1x32x2048.size iD).WholeWords (EltTy.packing .i8))
    (hchk : ∀ w v, (∀ a, oC v a + S1x32x2048.size a ≤ S323x32x6144.size a) →
      (∀ i, (Rect.unit (s := S323x32x6144) (oC v) S1x32x2048.size i).WholeWords (EltTy.packing .i8)) → chk w v)
    (eC : ∀ v, oC v = ![(Scalar.addi v (BitVec.ofNat 32 b)).toNat, 0, oC 0#32 2])
    (eo : Offs h oN oA oB (oC 0#32)) (eD : Tile (h % 2) b oD) {α : Type} (kk : Prog (TpuEff nD τ sig (Elt F) Λ₀ .tc) α) (Q : α → sProp 𝕄) :
    iprop((a5.view.loc (c : Thread nD τ) ↦{q} x5) ∗ started (F := F) c a16 a20 (semOf a21 h) N K J (pos first h) (col h) (h % 2) (num nb h) (min b (num nb h)))
      ⊢ iprop((iprop((a5.view.loc (c : Thread nD τ) ↦{q} x5) ∗ started (F := F) c a16 a20 (semOf a21 h) N K J (pos first h) (col h) (h % 2) (num nb h) (min (b + 1) (num nb h)))
          -∗ wp frame (wpE (defs₀ (F := F)) Variants.none (c : Thread nD τ) none) Set.univ kk Q)
        -∗ wp frame (wpE (defs₀ (F := F)) Variants.none (c : Thread nD τ) none) Set.univ
          (startSite (F := F) a5 a16 h16 a20 h20 a21 (cnd (wordOf a4 c x4 oN iN) = 1#1) oA iA (chk (wordOf a4 c x4 oN iN)) (dec (wordOf a4 c x4 oN iN)) oB iB oC
            (iC (wordOf a4 c x4 oN iN)) (wC (wordOf a4 c x4 oN iN)) oD iD wD kk) Q) := by
  obtain ⟨eN, eA, eB, eC2⟩ := eo
  obtain ⟨d0, d1, d2, d3⟩ := eD
  have hs : (h - 2) / 3 < 43 := by omega
  have hn : num nb h = min 8 (nb ((h - 2) / 3)) := if_neg (by omega)
  have f5 := pl.fit _ hs
  have e0 : b < num nb h → oC (wordOf a5 c x5 oA iA) 0 = first ((h - 2) / 3) + b := fun hlt => by
    rw [t5, eA, eC]; exact add_ofNat (by omega)
  have e1 : oC (wordOf a5 c x5 oA iA) 1 = 0 := by rw [eC]; rfl
  have e2 : oC (wordOf a5 c x5 oA iA) 2 = 2048 * ((h - 2) % 3) := by rw [eC]; exact eC2
  refine start_site (F := F) c a5 a16 h16 a20 h20 a21 _ oA iA _ _ oB iB oC _ _ oD iD wD x5 q (semOf a21 h) N K J (pos first h) (col h) (h % 2) (num nb h) b
    (semOf_eq a21 iB eB) hN ?_ hK hJ ?_ e0 (fun _ => e1) (fun _ => e2) d0 d1 d2 d3 kk Q
  · rw [ecnd, t4, eN, gt_iff (pl.nb_le _ hs) hb, hn]; omega
  · intro hlt
    exact hchk _ _ (slab_inb (e0 hlt) e1 e2 (by omega) (by omega)) (fun i => slab_words e1 i)

end Cert.QuantIdeal.Kit
-- ==== Proof.QParts.lean ====
/- The parts of the quantiser's body that start and receive its transfers: each hands the tables back unchanged, and the transfers it
   received or started. -/
module

public import proofs.«01_k».proof.Proof.QStep

@[expose] public section

set_option maxRecDepth 16384

noncomputable section

namespace Cert.QuantIdeal.Kit

open Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (c : Dev nD) (i : grid0.Coords) (arg2 : Memref sig .tc .smem S43 .i32) (harg2 : arg2.IsWhole) (arg3 : Memref sig .tc .smem S43 .i32) (harg3 : arg3.IsWhole) (arg4 : Memref sig .tc .smem S43 .i32) (harg4 : arg4.IsWhole) (arg5 : Memref sig .tc .smem S43 .i32) (harg5 : arg5.IsWhole) (arg6 : Memref sig .tc .vmem S1x1x288 .f32) (harg6 : arg6.IsWhole) (arg7 : Memref sig .tc .vmem S32x2048 .bf16) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S32x2048 .bf16) (harg14 : arg14.IsWhole) (arg15 : Memref sig .tc .vmem S32x2048 .bf16) (harg15 : arg15.IsWhole) (arg16 : Memref sig .tc .hbm S323x32x6144 .i8) (harg16 : arg16.IsWhole) (arg17 : Memref sig .tc .vmem S8x2048 .i32) (harg17 : arg17.IsWhole) (arg18 : Memref sig .tc .vmem S2048x256 .bf16) (harg18 : arg18.IsWhole) (arg19 : Memref sig .tc .vmem S256x288 .bf16) (harg19 : arg19.IsWhole) (arg20 : Memref sig .tc .vmem S2x8x32x2048 .i8) (harg20 : arg20.IsWhole) (arg21 : DmaSems sig S2)
    {nb first : ℕ → ℕ} (pl : Plan nb first)
    (x4 : Buf (Elt F) (arg4.view.loc (c : Thread nD τ))) (t4 : Tab c arg4 x4 nb) (x5 : Buf (Elt F) (arg5.view.loc (c : Thread nD τ))) (t5 : Tab c arg5 x5 first)
    (q : PosShare TreeShare) (N : ℕ) (hN : credit arg16 N)

/-- What the waits hold: the two tables, and the transfers `h` with `r` of them received. -/
def wres (nb first : ℕ → ℕ) (h r : ℕ) : sProp 𝕄 :=
  iprop((arg4.view.loc (c : Thread nD τ) ↦{q} x4) ∗ (arg5.view.loc (c : Thread nD τ) ↦{q} x5) ∗ Pipeline.owesWithin c 0 Set.univ
    ∗ flight (F := F) c arg16 arg20 arg21 N nb first h (num nb h) (min r (num nb h)))

/-- What the starts hold: the two tables, and the transfers `h` with `m` of them started. -/
def sres (nb first : ℕ → ℕ) (K : Finset S323x32x6144.Idx) (J : Finset S2x8x32x2048.Idx) (h m : ℕ) : sProp 𝕄 :=
  iprop((arg4.view.loc (c : Thread nD τ) ↦{q} x4) ∗ (arg5.view.loc (c : Thread nD τ) ↦{q} x5)
    ∗ started (F := F) c arg16 arg20 (semOf arg21 h) N K J (pos first h) (col h) (h % 2) (num nb h) (min m (num nb h)))

theorem parity_tile {i : grid0.Coords} {b : ℕ} {o : Fin 4 → ℕ} (h : Tile (pt i % 2) b o) : Tile ((pt i + 2) % 2) b o :=
  ⟨h.1.trans (Nat.add_mod_right _ 2).symm, h.2⟩

include pl t4 t5 hN in
set_option maxHeartbeats 4000000 in
/-- The first four of the waits of two points before, and the fifth's count. -/
theorem part1_wp (v1 : BitVec 32) (k0_h2 : k0_cond2 i = 1#1)
    (Q : (Σ' (v53 : BitVec 32) (v70 : BitVec 32), Elt F .i32) → sProp 𝕄) :
    wres (F := F) c arg4 arg5 arg16 arg20 arg21 x4 x5 q N nb first (pt i) 0
      ⊢ iprop((∀ v53 v70, wres (F := F) c arg4 arg5 arg16 arg20 arg21 x4 x5 q N nb first (pt i) 4 -∗ Q ⟨v53, v70, (wordOf arg4 c x4 (k0_off23 i) (k0_off23_inb i k0_h2))⟩)
        -∗ wp frame (wpE (defs₀ (F := F)) Variants.none (c : Thread nD τ) none) Set.univ (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 k0_h2) Q) := by
  have hh : 2 ≤ pt i ∧ pt i < 131 := ⟨(cond2_iff i).mp k0_h2, Nat.lt_trans (pt_lt i) (by decide)⟩
  rw [k0_part1_eq_skeleton]
  unfold k0_part1_skel
  unfold wres
  iintro ⟨H4, H5, HO, HB⟩ HQ
  iapply (word_load (F := F) c arg4 (k0_off3 i) (k0_off3_inb i k0_h2) x4 q) $$ H4
  iintro H4
  iapply (wait_one (F := F) c arg4 arg5 arg16 harg16 arg20 harg20 arg21 pl x4 t4 x5 t5 q N hN (pt i) 0 hh (by decide) (k0_off3_inb i k0_h2) k0_cond3 (fun _ => rfl) (k0_off4_inb i k0_h2) (k0_chk1 i) (k0_chk1.dec i) (k0_off5_inb i k0_h2) (k0_off6 i) (fun w v hw hp => k0_off6_inb i w v hw k0_h2 hp) (fun w v hw hp => k0_off6_wordsi8 i w v hw k0_h2 hp) (k0_off7_inb i k0_h2) (k0_off7_wordsi8 i k0_h2) (fun w v a b => ⟨fun _ _ => a, fun _ _ i => b i⟩) (fun _ => rfl) (offs1 i k0_h2)) $$ [H5 HO HB]
  · isplitl [H5]
    · iexact H5
    isplitl [HO]
    · iexact HO
    iexact HB
  iintro ⟨H5, HO, HB⟩
  iapply (word_load (F := F) c arg4 (k0_off8 i) (k0_off8_inb i k0_h2) x4 q) $$ H4
  iintro H4
  iapply (wait_one (F := F) c arg4 arg5 arg16 harg16 arg20 harg20 arg21 pl x4 t4 x5 t5 q N hN (pt i) 1 hh (by decide) (k0_off8_inb i k0_h2) k0_cond4 (fun _ => rfl) (k0_off9_inb i k0_h2) (k0_chk2 i) (k0_chk2.dec i) (k0_off10_inb i k0_h2) (k0_off11 i) (fun w v hw hp => k0_off11_inb i w v hw k0_h2 hp) (fun w v hw hp => k0_off11_wordsi8 i w v hw k0_h2 hp) (k0_off12_inb i k0_h2) (k0_off12_wordsi8 i k0_h2) (fun w v a b => ⟨fun _ _ => a, fun _ _ i => b i⟩) (fun _ => rfl) (offs2 i k0_h2)) $$ [H5 HO HB]
  · isplitl [H5]
    · iexact H5
    isplitl [HO]
    · iexact HO
    iexact HB
  iintro ⟨H5, HO, HB⟩
  iapply (word_load (F := F) c arg4 (k0_off13 i) (k0_off13_inb i k0_h2) x4 q) $$ H4
  iintro H4
  iapply (wait_one (F := F) c arg4 arg5 arg16 harg16 arg20 harg20 arg21 pl x4 t4 x5 t5 q N hN (pt i) 2 hh (by decide) (k0_off13_inb i k0_h2) k0_cond5 (fun _ => rfl) (k0_off14_inb i k0_h2) (k0_chk3 i) (k0_chk3.dec i) (k0_off15_inb i k0_h2) (k0_off16 i) (fun w v hw hp => k0_off16_inb i w v hw k0_h2 hp) (fun w v hw hp => k0_off16_wordsi8 i w v hw k0_h2 hp) (k0_off17_inb i k0_h2) (k0_off17_wordsi8 i k0_h2) (fun w v a b => ⟨fun _ _ => a, fun _ _ i => b i⟩) (fun _ => rfl) (offs3 i k0_h2)) $$ [H5 HO HB]
  · isplitl [H5]
    · iexact H5
    isplitl [HO]
    · iexact HO
    iexact HB
  iintro ⟨H5, HO, HB⟩
  iapply (word_load (F := F) c arg4 (k0_off18 i) (k0_off18_inb i k0_h2) x4 q) $$ H4
  iintro H4
  iapply (wait_one (F := F) c arg4 arg5 arg16 harg16 arg20 harg20 arg21 pl x4 t4 x5 t5 q N hN (pt i) 3 hh (by decide) (k0_off18_inb i k0_h2) k0_cond6 (fun _ => rfl) (k0_off19_inb i k0_h2) (k0_chk4 i) (k0_chk4.dec i) (k0_off20_inb i k0_h2) (k0_off21 i) (fun w v hw hp => k0_off21_inb i w v hw k0_h2 hp) (fun w v hw hp => k0_off21_wordsi8 i w v hw k0_h2 hp) (k0_off22_inb i k0_h2) (k0_off22_wordsi8 i k0_h2) (fun w v a b => ⟨fun _ _ => a, fun _ _ i => b i⟩) (fun _ => rfl) (offs4 i k0_h2)) $$ [H5 HO HB]
  · isplitl [H5]
    · iexact H5
    isplitl [HO]
    · iexact HO
    iexact HB
  iintro ⟨H5, HO, HB⟩
  iapply (word_load (F := F) c arg4 (k0_off23 i) (k0_off23_inb i k0_h2) x4 q) $$ H4
  iintro H4
  rw [wp_pure]
  imodintro
  iapply HQ
  isplitl [H4]
  · iexact H4
  isplitl [H5]
  · iexact H5
  isplitl [HO]
  · iexact HO
  iexact HB

include pl t4 t5 hN in
set_option maxHeartbeats 4000000 in
/-- The first four of the last point's waits for the point before. -/
theorem part11_wp (v1 v2 : BitVec 32) (k0_h19 : k0_cond19 i = 1#1)
    (Q : (Σ' (v53 : BitVec 32), BitVec 32) → sProp 𝕄) :
    wres (F := F) c arg4 arg5 arg16 arg20 arg21 x4 x5 q N nb first (pt i + 1) 0
      ⊢ iprop((∀ v53 v71, wres (F := F) c arg4 arg5 arg16 arg20 arg21 x4 x5 q N nb first (pt i + 1) 4 -∗ Q ⟨v53, v71⟩)
        -∗ wp frame (wpE (defs₀ (F := F)) Variants.none (c : Thread nD τ) none) Set.univ (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 v2 k0_h19) Q) := by
  have hh : 2 ≤ pt i + 1 ∧ pt i + 1 < 131 := by have := (cond19_iff i).mp k0_h19; omega
  rw [k0_part11_eq_skeleton]
  unfold k0_part11_skel
  unfold wres
  iintro ⟨H4, H5, HO, HB⟩ HQ
  iapply (word_load (F := F) c arg4 (k0_off93 i) (k0_off93_inb i k0_h19) x4 q) $$ H4
  iintro H4
  iapply (wait_one (F := F) c arg4 arg5 arg16 harg16 arg20 harg20 arg21 pl x4 t4 x5 t5 q N hN ((pt i + 1)) 0 hh (by decide) (k0_off93_inb i k0_h19) k0_cond20 (fun _ => rfl) (k0_off94_inb i k0_h19) (k0_chk17 i) (k0_chk17.dec i) (k0_off95_inb i k0_h19) (k0_off96 i) (fun w v hw hp => k0_off96_inb i w v hw k0_h19 hp) (fun w v hw hp => k0_off96_wordsi8 i w v hw k0_h19 hp) (k0_off97_inb i k0_h19) (k0_off97_wordsi8 i k0_h19) (fun w v a b => ⟨fun _ _ => a, fun _ _ i => b i⟩) (fun _ => rfl) (offs17 i k0_h19)) $$ [H5 HO HB]
  · isplitl [H5]
    · iexact H5
    isplitl [HO]
    · iexact HO
    iexact HB
  iintro ⟨H5, HO, HB⟩
  iapply (word_load (F := F) c arg4 (k0_off98 i) (k0_off98_inb i k0_h19) x4 q) $$ H4
  iintro H4
  iapply (wait_one (F := F) c arg4 arg5 arg16 harg16 arg20 harg20 arg21 pl x4 t4 x5 t5 q N hN ((pt i + 1)) 1 hh (by decide) (k0_off98_inb i k0_h19) k0_cond21 (fun _ => rfl) (k0_off99_inb i k0_h19) (k0_chk18 i) (k0_chk18.dec i) (k0_off100_inb i k0_h19) (k0_off101 i) (fun w v hw hp => k0_off101_inb i w v hw k0_h19 hp) (fun w v hw hp => k0_off101_wordsi8 i w v hw k0_h19 hp) (k0_off102_inb i k0_h19) (k0_off102_wordsi8 i k0_h19) (fun w v a b => ⟨fun _ _ => a, fun _ _ i => b i⟩) (fun _ => rfl) (offs18 i k0_h19)) $$ [H5 HO HB]
  · isplitl [H5]
    · iexact H5
    isplitl [HO]
    · iexact HO
    iexact HB
  iintro ⟨H5, HO, HB⟩
  iapply (word_load (F := F) c arg4 (k0_off103 i) (k0_off103_inb i k0_h19) x4 q) $$ H4
  iintro H4
  iapply (wait_one (F := F) c arg4 arg5 arg16 harg16 arg20 harg20 arg21 pl x4 t4 x5 t5 q N hN ((pt i + 1)) 2 hh (by decide) (k0_off103_inb i k0_h19) k0_cond22 (fun _ => rfl) (k0_off104_inb i k0_h19) (k0_chk19 i) (k0_chk19.dec i) (k0_off105_inb i k0_h19) (k0_off106 i) (fun w v hw hp => k0_off106_inb i w v hw k0_h19 hp) (fun w v hw hp => k0_off106_wordsi8 i w v hw k0_h19 hp) (k0_off107_inb i k0_h19) (k0_off107_wordsi8 i k0_h19) (fun w v a b => ⟨fun _ _ => a, fun _ _ i => b i⟩) (fun _ => rfl) (offs19 i k0_h19)) $$ [H5 HO HB]
  · isplitl [H5]
    · iexact H5
    isplitl [HO]
    · iexact HO
    iexact HB
  iintro ⟨H5, HO, HB⟩
  iapply (word_load (F := F) c arg4 (k0_off108 i) (k0_off108_inb i k0_h19) x4 q) $$ H4
  iintro H4
  iapply (wait_one (F := F) c arg4 arg5 arg16 harg16 arg20 harg20 arg21 pl x4 t4 x5 t5 q N hN ((pt i + 1)) 3 hh (by decide) (k0_off108_inb i k0_h19) k0_cond23 (fun _ => rfl) (k0_off109_inb i k0_h19) (k0_chk20 i) (k0_chk20.dec i) (k0_off110_inb i k0_h19) (k0_off111 i) (fun w v hw hp => k0_off111_inb i w v hw k0_h19 hp) (fun w v hw hp => k0_off111_wordsi8 i w v hw k0_h19 hp) (k0_off112_inb i k0_h19) (k0_off112_wordsi8 i k0_h19) (fun w v a b => ⟨fun _ _ => a, fun _ _ i => b i⟩) (fun _ => rfl) (offs20 i k0_h19)) $$ [H5 HO HB]
  · isplitl [H5]
    · iexact H5
    isplitl [HO]
    · iexact HO
    iexact HB
  iintro ⟨H5, HO, HB⟩
  rw [wp_pure]
  imodintro
  iapply HQ
  isplitl [H4]
  · iexact H4
  isplitl [H5]
  · iexact H5
  isplitl [HO]
  · iexact HO
  iexact HB

include pl t4 t5 hN in
set_option maxHeartbeats 4000000 in
/-- The other four, and the count of the last point's own. -/
theorem part12_wp (v1 : BitVec 32) (k0_h19 : k0_cond19 i = 1#1) (v53 v71 : BitVec 32)
    (Q : (Σ' (v128 : BitVec 32) (v130 : Elt F .i32), BitVec 1) → sProp 𝕄) :
    wres (F := F) c arg4 arg5 arg16 arg20 arg21 x4 x5 q N nb first (pt i + 1) 4
      ⊢ iprop((∀ v128 v131, wres (F := F) c arg4 arg5 arg16 arg20 arg21 x4 x5 q N nb first (pt i + 1) 8 -∗ Q ⟨v128, (wordOf arg4 c x4 (k0_off133 i) (k0_off133_inb i k0_h19)), v131⟩)
        -∗ wp frame (wpE (defs₀ (F := F)) Variants.none (c : Thread nD τ) none) Set.univ (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 k0_h19 v53 v71) Q) := by
  have hh : 2 ≤ pt i + 1 ∧ pt i + 1 < 131 := by have := (cond19_iff i).mp k0_h19; omega
  rw [k0_part12_eq_skeleton]
  unfold k0_part12_skel
  unfold wres
  iintro ⟨H4, H5, HO, HB⟩ HQ
  iapply (word_load (F := F) c arg4 (k0_off113 i) (k0_off113_inb i k0_h19) x4 q) $$ H4
  iintro H4
  iapply (wait_one (F := F) c arg4 arg5 arg16 harg16 arg20 harg20 arg21 pl x4 t4 x5 t5 q N hN ((pt i + 1)) 4 hh (by decide) (k0_off113_inb i k0_h19) k0_cond24 (fun _ => rfl) (k0_off114_inb i k0_h19) (k0_chk21 i) (k0_chk21.dec i) (k0_off115_inb i k0_h19) (k0_off116 i) (fun w v hw hp => k0_off116_inb i w v hw k0_h19 hp) (fun w v hw hp => k0_off116_wordsi8 i w v hw k0_h19 hp) (k0_off117_inb i k0_h19) (k0_off117_wordsi8 i k0_h19) (fun w v a b => ⟨fun _ _ => a, fun _ _ i => b i⟩) (fun _ => rfl) (offs21 i k0_h19)) $$ [H5 HO HB]
  · isplitl [H5]
    · iexact H5
    isplitl [HO]
    · iexact HO
    iexact HB
  iintro ⟨H5, HO, HB⟩
  iapply (word_load (F := F) c arg4 (k0_off118 i) (k0_off118_inb i k0_h19) x4 q) $$ H4
  iintro H4
  iapply (wait_one (F := F) c arg4 arg5 arg16 harg16 arg20 harg20 arg21 pl x4 t4 x5 t5 q N hN ((pt i + 1)) 5 hh (by decide) (k0_off118_inb i k0_h19) k0_cond25 (fun _ => rfl) (k0_off119_inb i k0_h19) (k0_chk22 i) (k0_chk22.dec i) (k0_off120_inb i k0_h19) (k0_off121 i) (fun w v hw hp => k0_off121_inb i w v hw k0_h19 hp) (fun w v hw hp => k0_off121_wordsi8 i w v hw k0_h19 hp) (k0_off122_inb i k0_h19) (k0_off122_wordsi8 i k0_h19) (fun w v a b => ⟨fun _ _ => a, fun _ _ i => b i⟩) (fun _ => rfl) (offs22 i k0_h19)) $$ [H5 HO HB]
  · isplitl [H5]
    · iexact H5
    isplitl [HO]
    · iexact HO
    iexact HB
  iintro ⟨H5, HO, HB⟩
  iapply (word_load (F := F) c arg4 (k0_off123 i) (k0_off123_inb i k0_h19) x4 q) $$ H4
  iintro H4
  iapply (wait_one (F := F) c arg4 arg5 arg16 harg16 arg20 harg20 arg21 pl x4 t4 x5 t5 q N hN ((pt i + 1)) 6 hh (by decide) (k0_off123_inb i k0_h19) k0_cond26 (fun _ => rfl) (k0_off124_inb i k0_h19) (k0_chk23 i) (k0_chk23.dec i) (k0_off125_inb i k0_h19) (k0_off126 i) (fun w v hw hp => k0_off126_inb i w v hw k0_h19 hp) (fun w v hw hp => k0_off126_wordsi8 i w v hw k0_h19 hp) (k0_off127_inb i k0_h19) (k0_off127_wordsi8 i k0_h19) (fun w v a b => ⟨fun _ _ => a, fun _ _ i => b i⟩) (fun _ => rfl) (offs23 i k0_h19)) $$ [H5 HO HB]
  · isplitl [H5]
    · iexact H5
    isplitl [HO]
    · iexact HO
    iexact HB
  iintro ⟨H5, HO, HB⟩
  iapply (word_load (F := F) c arg4 (k0_off128 i) (k0_off128_inb i k0_h19) x4 q) $$ H4
  iintro H4
  iapply (wait_one (F := F) c arg4 arg5 arg16 harg16 arg20 harg20 arg21 pl x4 t4 x5 t5 q N hN ((pt i + 1)) 7 hh (by decide) (k0_off128_inb i k0_h19) k0_cond27 (fun _ => rfl) (k0_off129_inb i k0_h19) (k0_chk24 i) (k0_chk24.dec i) (k0_off130_inb i k0_h19) (k0_off131 i) (fun w v hw hp => k0_off131_inb i w v hw k0_h19 hp) (fun w v hw hp => k0_off131_wordsi8 i w v hw k0_h19 hp) (k0_off132_inb i k0_h19) (k0_off132_wordsi8 i k0_h19) (fun w v a b => ⟨fun _ _ => a, fun _ _ i => b i⟩) (fun _ => rfl) (offs24 i k0_h19)) $$ [H5 HO HB]
  · isplitl [H5]
    · iexact H5
    isplitl [HO]
    · iexact HO
    iexact HB
  iintro ⟨H5, HO, HB⟩
  iapply (word_load (F := F) c arg4 (k0_off133 i) (k0_off133_inb i k0_h19) x4 q) $$ H4
  iintro H4
  rw [wp_pure]
  imodintro
  iapply HQ
  isplitl [H4]
  · iexact H4
  isplitl [H5]
  · iexact H5
  isplitl [HO]
  · iexact HO
  iexact HB

include pl t4 t5 hN in
set_option maxHeartbeats 4000000 in
/-- The last point's waits for its own transfers. -/
theorem part13_wp (v1 : BitVec 32) (k0_h19 : k0_cond19 i = 1#1) (v128 : BitVec 32) (v131 : BitVec 1)
    (Q : PUnit → sProp 𝕄) :
    wres (F := F) c arg4 arg5 arg16 arg20 arg21 x4 x5 q N nb first (pt i + 2) 0
      ⊢ iprop((wres (F := F) c arg4 arg5 arg16 arg20 arg21 x4 x5 q N nb first (pt i + 2) 8 -∗ Q ⟨⟩)
        -∗ wp frame (wpE (defs₀ (F := F)) Variants.none (c : Thread nD τ) none) Set.univ (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 k0_h19 v128 (wordOf arg4 c x4 (k0_off133 i) (k0_off133_inb i k0_h19)) v131) Q) := by
  have hh : 2 ≤ pt i + 2 ∧ pt i + 2 < 131 := by have := (cond19_iff i).mp k0_h19; omega
  rw [k0_part13_eq_skeleton]
  unfold k0_part13_skel
  unfold wres
  iintro ⟨H4, H5, HO, HB⟩ HQ
  iapply (wait_one (F := F) c arg4 arg5 arg16 harg16 arg20 harg20 arg21 pl x4 t4 x5 t5 q N hN ((pt i + 2)) 0 hh (by decide) (k0_off133_inb i k0_h19) k0_cond28 (fun _ => rfl) (k0_off134_inb i k0_h19) (k0_chk25 i) (k0_chk25.dec i) (k0_off135_inb i k0_h19) (k0_off136 i) (fun w v hw hp => k0_off136_inb i w v hw k0_h19 hp) (fun w v hw hp => k0_off136_wordsi8 i w v hw k0_h19 hp) (k0_off137_inb i k0_h19) (k0_off137_wordsi8 i k0_h19) (fun w v a b => ⟨fun _ _ => a, fun _ _ i => b i⟩) (fun _ => rfl) (offs25 i k0_h19)) $$ [H5 HO HB]
  · isplitl [H5]
    · iexact H5
    isplitl [HO]
    · iexact HO
    iexact HB
  iintro ⟨H5, HO, HB⟩
  iapply (word_load (F := F) c arg4 (k0_off138 i) (k0_off138_inb i k0_h19) x4 q) $$ H4
  iintro H4
  iapply (wait_one (F := F) c arg4 arg5 arg16 harg16 arg20 harg20 arg21 pl x4 t4 x5 t5 q N hN ((pt i + 2)) 1 hh (by decide) (k0_off138_inb i k0_h19) k0_cond29 (fun _ => rfl) (k0_off139_inb i k0_h19) (k0_chk26 i) (k0_chk26.dec i) (k0_off140_inb i k0_h19) (k0_off141 i) (fun w v hw hp => k0_off141_inb i w v hw k0_h19 hp) (fun w v hw hp => k0_off141_wordsi8 i w v hw k0_h19 hp) (k0_off142_inb i k0_h19) (k0_off142_wordsi8 i k0_h19) (fun w v a b => ⟨fun _ _ => a, fun _ _ i => b i⟩) (fun _ => rfl) (offs26 i k0_h19)) $$ [H5 HO HB]
  · isplitl [H5]
    · iexact H5
    isplitl [HO]
    · iexact HO
    iexact HB
  iintro ⟨H5, HO, HB⟩
  iapply (word_load (F := F) c arg4 (k0_off143 i) (k0_off143_inb i k0_h19) x4 q) $$ H4
  iintro H4
  iapply (wait_one (F := F) c arg4 arg5 arg16 harg16 arg20 harg20 arg21 pl x4 t4 x5 t5 q N hN ((pt i + 2)) 2 hh (by decide) (k0_off143_inb i k0_h19) k0_cond30 (fun _ => rfl) (k0_off144_inb i k0_h19) (k0_chk27 i) (k0_chk27.dec i) (k0_off145_inb i k0_h19) (k0_off146 i) (fun w v hw hp => k0_off146_inb i w v hw k0_h19 hp) (fun w v hw hp => k0_off146_wordsi8 i w v hw k0_h19 hp) (k0_off147_inb i k0_h19) (k0_off147_wordsi8 i k0_h19) (fun w v a b => ⟨fun _ _ => a, fun _ _ i => b i⟩) (fun _ => rfl) (offs27 i k0_h19)) $$ [H5 HO HB]
  · isplitl [H5]
    · iexact H5
    isplitl [HO]
    · iexact HO
    iexact HB
  iintro ⟨H5, HO, HB⟩
  iapply (word_load (F := F) c arg4 (k0_off148 i) (k0_off148_inb i k0_h19) x4 q) $$ H4
  iintro H4
  iapply (wait_one (F := F) c arg4 arg5 arg16 harg16 arg20 harg20 arg21 pl x4 t4 x5 t5 q N hN ((pt i + 2)) 3 hh (by decide) (k0_off148_inb i k0_h19) k0_cond31 (fun _ => rfl) (k0_off149_inb i k0_h19) (k0_chk28 i) (k0_chk28.dec i) (k0_off150_inb i k0_h19) (k0_off151 i) (fun w v hw hp => k0_off151_inb i w v hw k0_h19 hp) (fun w v hw hp => k0_off151_wordsi8 i w v hw k0_h19 hp) (k0_off152_inb i k0_h19) (k0_off152_wordsi8 i k0_h19) (fun w v a b => ⟨fun _ _ => a, fun _ _ i => b i⟩) (fun _ => rfl) (offs28 i k0_h19)) $$ [H5 HO HB]
  · isplitl [H5]
    · iexact H5
    isplitl [HO]
    · iexact HO
    iexact HB
  iintro ⟨H5, HO, HB⟩
  iapply (word_load (F := F) c arg4 (k0_off153 i) (k0_off153_inb i k0_h19) x4 q) $$ H4
  iintro H4
  iapply (wait_one (F := F) c arg4 arg5 arg16 harg16 arg20 harg20 arg21 pl x4 t4 x5 t5 q N hN ((pt i + 2)) 4 hh (by decide) (k0_off153_inb i k0_h19) k0_cond32 (fun _ => rfl) (k0_off154_inb i k0_h19) (k0_chk29 i) (k0_chk29.dec i) (k0_off155_inb i k0_h19) (k0_off156 i) (fun w v hw hp => k0_off156_inb i w v hw k0_h19 hp) (fun w v hw hp => k0_off156_wordsi8 i w v hw k0_h19 hp) (k0_off157_inb i k0_h19) (k0_off157_wordsi8 i k0_h19) (fun w v a b => ⟨fun _ _ => a, fun _ _ i => b i⟩) (fun _ => rfl) (offs29 i k0_h19)) $$ [H5 HO HB]
  · isplitl [H5]
    · iexact H5
    isplitl [HO]
    · iexact HO
    iexact HB
  iintro ⟨H5, HO, HB⟩
  iapply (word_load (F := F) c arg4 (k0_off158 i) (k0_off158_inb i k0_h19) x4 q) $$ H4
  iintro H4
  iapply (wait_one (F := F) c arg4 arg5 arg16 harg16 arg20 harg20 arg21 pl x4 t4 x5 t5 q N hN ((pt i + 2)) 5 hh (by decide) (k0_off158_inb i k0_h19) k0_cond33 (fun _ => rfl) (k0_off159_inb i k0_h19) (k0_chk30 i) (k0_chk30.dec i) (k0_off160_inb i k0_h19) (k0_off161 i) (fun w v hw hp => k0_off161_inb i w v hw k0_h19 hp) (fun w v hw hp => k0_off161_wordsi8 i w v hw k0_h19 hp) (k0_off162_inb i k0_h19) (k0_off162_wordsi8 i k0_h19) (fun w v a b => ⟨fun _ _ => a, fun _ _ i => b i⟩) (fun _ => rfl) (offs30 i k0_h19)) $$ [H5 HO HB]
  · isplitl [H5]
    · iexact H5
    isplitl [HO]
    · iexact HO
    iexact HB
  iintro ⟨H5, HO, HB⟩
  iapply (word_load (F := F) c arg4 (k0_off163 i) (k0_off163_inb i k0_h19) x4 q) $$ H4
  iintro H4
  iapply (wait_one (F := F) c arg4 arg5 arg16 harg16 arg20 harg20 arg21 pl x4 t4 x5 t5 q N hN ((pt i + 2)) 6 hh (by decide) (k0_off163_inb i k0_h19) k0_cond34 (fun _ => rfl) (k0_off164_inb i k0_h19) (k0_chk31 i) (k0_chk31.dec i) (k0_off165_inb i k0_h19) (k0_off166 i) (fun w v hw hp => k0_off166_inb i w v hw k0_h19 hp) (fun w v hw hp => k0_off166_wordsi8 i w v hw k0_h19 hp) (k0_off167_inb i k0_h19) (k0_off167_wordsi8 i k0_h19) (fun w v a b => ⟨fun _ _ => a, fun _ _ i => b i⟩) (fun _ => rfl) (offs31 i k0_h19)) $$ [H5 HO HB]
  · isplitl [H5]
    · iexact H5
    isplitl [HO]
    · iexact HO
    iexact HB
  iintro ⟨H5, HO, HB⟩
  iapply (word_load (F := F) c arg4 (k0_off168 i) (k0_off168_inb i k0_h19) x4 q) $$ H4
  iintro H4
  iapply (wait_one (F := F) c arg4 arg5 arg16 harg16 arg20 harg20 arg21 pl x4 t4 x5 t5 q N hN ((pt i + 2)) 7 hh (by decide) (k0_off168_inb i k0_h19) k0_cond35 (fun _ => rfl) (k0_off169_inb i k0_h19) (k0_chk32 i) (k0_chk32.dec i) (k0_off170_inb i k0_h19) (k0_off171 i) (fun w v hw hp => k0_off171_inb i w v hw k0_h19 hp) (fun w v hw hp => k0_off171_wordsi8 i w v hw k0_h19 hp) (k0_off172_inb i k0_h19) (k0_off172_wordsi8 i k0_h19) (fun w v a b => ⟨fun _ _ => a, fun _ _ i => b i⟩) (fun _ => rfl) (offs32 i k0_h19)) $$ [H5 HO HB]
  · isplitl [H5]
    · iexact H5
    isplitl [HO]
    · iexact HO
    iexact HB
  iintro ⟨H5, HO, HB⟩
  rw [wp_pure]
  imodintro
  iapply HQ
  isplitl [H4]
  · iexact H4
  isplitl [H5]
  · iexact H5
  isplitl [HO]
  · iexact HO
  iexact HB

end Cert.QuantIdeal.Kit
-- ==== Proof.QLoop.lean ====
/- The quantiser's counted loop over the columns: it reads the windows and the Hadamard operand and writes the scales, the values
   and the current slot of the code buffer; the contents are not followed. -/
module

public import proofs.«01_k».proof.Proof.QSite

@[expose] public section

set_option maxRecDepth 16384

noncomputable section

namespace Cert.QuantIdeal.Kit

open Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (c : Dev nD) (i : grid0.Coords) (arg2 : Memref sig .tc .smem S43 .i32) (harg2 : arg2.IsWhole) (arg3 : Memref sig .tc .smem S43 .i32) (harg3 : arg3.IsWhole) (arg4 : Memref sig .tc .smem S43 .i32) (harg4 : arg4.IsWhole) (arg5 : Memref sig .tc .smem S43 .i32) (harg5 : arg5.IsWhole) (arg6 : Memref sig .tc .vmem S1x1x288 .f32) (harg6 : arg6.IsWhole) (arg7 : Memref sig .tc .vmem S32x2048 .bf16) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S32x2048 .bf16) (harg14 : arg14.IsWhole) (arg15 : Memref sig .tc .vmem S32x2048 .bf16) (harg15 : arg15.IsWhole) (arg16 : Memref sig .tc .hbm S323x32x6144 .i8) (harg16 : arg16.IsWhole) (arg17 : Memref sig .tc .vmem S8x2048 .i32) (harg17 : arg17.IsWhole) (arg18 : Memref sig .tc .vmem S2048x256 .bf16) (harg18 : arg18.IsWhole) (arg19 : Memref sig .tc .vmem S256x288 .bf16) (harg19 : arg19.IsWhole) (arg20 : Memref sig .tc .vmem S2x8x32x2048 .i8) (harg20 : arg20.IsWhole) (arg21 : DmaSems sig S2)

/-- What a trip reads: the windows and the Hadamard operand, at some contents. -/
def readOnly : sProp 𝕄 :=
  iprop((∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg19.view.loc (c : Thread nD τ) ↦[arg19.view.set]{fullShare} f)))

/-- What a trip writes: the two output blocks and the slot `sl` of the code buffer, at some contents. -/
def written (sl : ℕ) : sProp 𝕄 :=
  iprop((∃ f, (arg17.view.loc (c : Thread nD τ) ↦[arg17.view.set]{fullShare} f)) ∗ (∃ f, (arg18.view.loc (c : Thread nD τ) ↦[arg18.view.set]{fullShare} f)) ∗ own (F := F) c arg20 (tiles sl 0 8))

theorem slot_inb {sl : ℕ} (h : sl < 2) : ∀ a, (![sl, 0, 0, 0] : Fin 4 → ℕ) a + (![1, 8, 32, 2048] : Fin 4 → ℕ) a ≤ S2x8x32x2048.size a := by
  intro a; fin_cases a
  · show sl + 1 ≤ 2; omega
  · exact le_refl _
  · exact le_refl _
  · exact le_refl _

/-- A slot of the code buffer is a rectangle of it. -/
theorem slot_set {sl : ℕ} (h : sl < 2) : tiles sl 0 8 = (Rect.unit (s := S2x8x32x2048) ![sl, 0, 0, 0] ![1, 8, 32, 2048] (slot_inb h)).set := by
  ext j
  rw [Rect.mem_set_unit]
  simp only [tiles, Finset.mem_filter, Finset.mem_univ, true_and]
  have b1 : (j 1).val < 8 := (j 1).isLt
  have b2 : (j 2).val < 32 := (j 2).isLt
  have b3 : (j 3).val < 2048 := (j 3).isLt
  constructor
  · rintro ⟨u, w, x⟩ a
    fin_cases a
    · show sl ≤ (j 0).val ∧ (j 0).val < sl + 1
      omega
    · show 0 ≤ (j 1).val ∧ (j 1).val < 0 + 8
      omega
    · show 0 ≤ (j 2).val ∧ (j 2).val < 0 + 32
      omega
    · show 0 ≤ (j 3).val ∧ (j 3).val < 0 + 2048
      omega
  · intro g
    have a0 : sl ≤ (j 0).val ∧ (j 0).val < sl + 1 := g 0
    omega

/-- A part of a column range of one tile lies in its slot. -/
theorem part_sub {o : Fin 4 → ℕ} (inb : ∀ a, o a + S1x1x32x256.size a ≤ S2x8x32x2048.size a) {sl : ℕ} (hsl : sl < 2) (h0 : o 0 = sl) :
    (arg20.access (Rect.unit (s := S2x8x32x2048) o S1x1x32x256.size inb)).set ⊆ (arg20.slice (Rect.unit (s := S2x8x32x2048) ![sl, 0, 0, 0] ![1, 8, 32, 2048] (slot_inb hsl)) (fun _ => rfl)).view.set := by
  rw [show (arg20.slice (Rect.unit (s := S2x8x32x2048) ![sl, 0, 0, 0] ![1, 8, 32, 2048] (slot_inb hsl)) (fun _ => rfl)).view.set = arg20.view.setOn (tiles sl 0 8) from (View.set_slice _ _).trans (congrArg arg20.view.setOn (slot_set hsl).symm)]
  refine (View.set_slice _ _).subset.trans ?_
  refine Finset.map_subset_map.mpr fun j hj => ?_
  rw [Rect.mem_set_unit] at hj
  simp only [tiles, Finset.mem_filter, Finset.mem_univ, true_and]
  have a0 := hj 0
  rw [h0] at a0
  have b0 : (j 0).val < sl + 1 := a0.2
  have b1 : (j 1).val < 8 := (j 1).isLt
  exact ⟨Nat.le_antisymm (Nat.lt_succ_iff.mp b0) a0.1, Nat.zero_le _, by omega⟩

/-- One trip. -/
theorem trip (v2 : BitVec 32) (sl : ℕ) (hsl : sl < 2) (k : Fin k0_t1_loop.trips)
    (h44 : k0_off44 i k 0 = sl) (h45 : k0_off45 i k 0 = sl) (h46 : k0_off46 i k 0 = sl) (h47 : k0_off47 i k 0 = sl) (h48 : k0_off48 i k 0 = sl) (h49 : k0_off49 i k 0 = sl) (h50 : k0_off50 i k 0 = sl) (h51 : k0_off51 i k 0 = sl) :
    iprop(readOnly (F := F) c arg7 arg8 arg9 arg10 arg11 arg12 arg13 arg14 arg15 arg19 ∗ written (F := F) c arg17 arg18 arg20 sl)
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 k ())
          (fun _ => iprop(readOnly (F := F) c arg7 arg8 arg9 arg10 arg11 arg12 arg13 arg14 arg15 arg19 ∗ written (F := F) c arg17 arg18 arg20 sl)) := by
  have hk : k.val < 8 := Nat.lt_of_lt_of_le k.isLt k0_t1_abs.2.1
  have s44 := part_sub arg20 (k0_off44_inb i k) hsl h44
  have u44 : (arg20.access (Rect.unit (s := S2x8x32x2048) (k0_off44 i k) S1x1x32x256.size (k0_off44_inb i k))).setOn Finset.univ ⊆ (arg20.slice (Rect.unit (s := S2x8x32x2048) ![sl, 0, 0, 0] ![1, 8, 32, 2048] (slot_inb hsl)) (fun _ => rfl)).view.set := (View.setOn_univ _).subset.trans s44
  have s45 := part_sub arg20 (k0_off45_inb i k) hsl h45
  have u45 : (arg20.access (Rect.unit (s := S2x8x32x2048) (k0_off45 i k) S1x1x32x256.size (k0_off45_inb i k))).setOn Finset.univ ⊆ (arg20.slice (Rect.unit (s := S2x8x32x2048) ![sl, 0, 0, 0] ![1, 8, 32, 2048] (slot_inb hsl)) (fun _ => rfl)).view.set := (View.setOn_univ _).subset.trans s45
  have s46 := part_sub arg20 (k0_off46_inb i k) hsl h46
  have u46 : (arg20.access (Rect.unit (s := S2x8x32x2048) (k0_off46 i k) S1x1x32x256.size (k0_off46_inb i k))).setOn Finset.univ ⊆ (arg20.slice (Rect.unit (s := S2x8x32x2048) ![sl, 0, 0, 0] ![1, 8, 32, 2048] (slot_inb hsl)) (fun _ => rfl)).view.set := (View.setOn_univ _).subset.trans s46
  have s47 := part_sub arg20 (k0_off47_inb i k) hsl h47
  have u47 : (arg20.access (Rect.unit (s := S2x8x32x2048) (k0_off47 i k) S1x1x32x256.size (k0_off47_inb i k))).setOn Finset.univ ⊆ (arg20.slice (Rect.unit (s := S2x8x32x2048) ![sl, 0, 0, 0] ![1, 8, 32, 2048] (slot_inb hsl)) (fun _ => rfl)).view.set := (View.setOn_univ _).subset.trans s47
  have s48 := part_sub arg20 (k0_off48_inb i k) hsl h48
  have u48 : (arg20.access (Rect.unit (s := S2x8x32x2048) (k0_off48 i k) S1x1x32x256.size (k0_off48_inb i k))).setOn Finset.univ ⊆ (arg20.slice (Rect.unit (s := S2x8x32x2048) ![sl, 0, 0, 0] ![1, 8, 32, 2048] (slot_inb hsl)) (fun _ => rfl)).view.set := (View.setOn_univ _).subset.trans s48
  have s49 := part_sub arg20 (k0_off49_inb i k) hsl h49
  have u49 : (arg20.access (Rect.unit (s := S2x8x32x2048) (k0_off49 i k) S1x1x32x256.size (k0_off49_inb i k))).setOn Finset.univ ⊆ (arg20.slice (Rect.unit (s := S2x8x32x2048) ![sl, 0, 0, 0] ![1, 8, 32, 2048] (slot_inb hsl)) (fun _ => rfl)).view.set := (View.setOn_univ _).subset.trans s49
  have s50 := part_sub arg20 (k0_off50_inb i k) hsl h50
  have u50 : (arg20.access (Rect.unit (s := S2x8x32x2048) (k0_off50 i k) S1x1x32x256.size (k0_off50_inb i k))).setOn Finset.univ ⊆ (arg20.slice (Rect.unit (s := S2x8x32x2048) ![sl, 0, 0, 0] ![1, 8, 32, 2048] (slot_inb hsl)) (fun _ => rfl)).view.set := (View.setOn_univ _).subset.trans s50
  have s51 := part_sub arg20 (k0_off51_inb i k) hsl h51
  have u51 : (arg20.access (Rect.unit (s := S2x8x32x2048) (k0_off51 i k) S1x1x32x256.size (k0_off51_inb i k))).setOn Finset.univ ⊆ (arg20.slice (Rect.unit (s := S2x8x32x2048) ![sl, 0, 0, 0] ![1, 8, 32, 2048] (slot_inb hsl)) (fun _ => rfl)).view.set := (View.setOn_univ _).subset.trans s51
  unfold readOnly written own k0_t1_body
  have e20 : arg20.view.setOn (tiles sl 0 8) = (arg20.slice (Rect.unit (s := S2x8x32x2048) ![sl, 0, 0, 0] ![1, 8, 32, 2048] (slot_inb hsl)) (fun _ => rfl)).view.set := ((View.set_slice _ _).trans (congrArg arg20.view.setOn (slot_set hsl).symm)).symm
  have to20 : ∀ f : Buf (Elt F) (arg20.view.loc (c : Thread nD τ)), (arg20.view.loc (c : Thread nD τ) ↦[arg20.view.setOn (tiles sl 0 8)]{fullShare} f : sProp 𝕄)
      ⊢ ((arg20.slice (Rect.unit (s := S2x8x32x2048) ![sl, 0, 0, 0] ![1, 8, 32, 2048] (slot_inb hsl)) (fun _ => rfl)).view.loc (c : Thread nD τ) ↦[(arg20.slice (Rect.unit (s := S2x8x32x2048) ![sl, 0, 0, 0] ![1, 8, 32, 2048] (slot_inb hsl)) (fun _ => rfl)).view.set]{fullShare} f) := fun f => by rw [e20]
  have of20 : ∀ f : Buf (Elt F) (arg20.view.loc (c : Thread nD τ)), ((arg20.slice (Rect.unit (s := S2x8x32x2048) ![sl, 0, 0, 0] ![1, 8, 32, 2048] (slot_inb hsl)) (fun _ => rfl)).view.loc (c : Thread nD τ) ↦[(arg20.slice (Rect.unit (s := S2x8x32x2048) ![sl, 0, 0, 0] ![1, 8, 32, 2048] (slot_inb hsl)) (fun _ => rfl)).view.set]{fullShare} f : sProp 𝕄)
      ⊢ (arg20.view.loc (c : Thread nD τ) ↦[arg20.view.setOn (tiles sl 0 8)]{fullShare} f) := fun f => by rw [e20]
  iintro ⟨⟨⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f19, H19⟩⟩, ⟨%f17, H17⟩, ⟨%f18, H18⟩, ⟨%f20, H20⟩⟩
  ihave H20 := to20 f20 $$ H20
  sl_exec
  sl_step
  isplitl [H7 H8 H9 H10 H11 H12 H13 H14 H15 H19]
  · isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    iexists _; iexact H19
  isplitl [H17]
  · iexists _; iexact H17
  isplitl [H18]
  · iexists _; iexact H18
  iexists _; iapply of20; iexact H20

end Cert.QuantIdeal.Kit
-- ==== Proof.QPieces.lean ====
/- What a step's transfers give back once all are received, gathered into the codes array and the code buffer; a new batch of transfers;
   and the counted loop as a whole. -/
module

public import proofs.«01_k».proof.Proof.QStep
public import proofs.«01_k».proof.Proof.QLoop

@[expose] public section

set_option maxRecDepth 16384

noncomputable section

namespace Cert.QuantIdeal.Kit

open Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (c : Dev nD) (a16 : Memref sig .tc .hbm S323x32x6144 .i8) (a20 : Memref sig .tc .vmem S2x8x32x2048 .i8) (a21 : DmaSems sig S2)

instance deliv_storable (p k sl : ℕ) {n : ℕ} (t : Fin n) : Storable (upEmb : UEmb _ 𝕄) (deliv (F := F) c a16 a20 p k sl t) := by
  unfold deliv own; infer_instance

theorem mem_slabs {p m k : ℕ} {i : S323x32x6144.Idx} :
    i ∈ slabs p m k ↔ (p ≤ (i 0).val ∧ (i 0).val < p + m) ∧ 2048 * k ≤ (i 2).val ∧ (i 2).val < 2048 * k + 2048 := by
  simp only [slabs, Finset.mem_filter, Finset.mem_univ, true_and]

theorem mem_tiles {sl t m : ℕ} {i : S2x8x32x2048.Idx} : i ∈ tiles sl t m ↔ (i 0).val = sl ∧ t ≤ (i 1).val ∧ (i 1).val < t + m := by
  simp only [tiles, Finset.mem_filter, Finset.mem_univ, true_and]

theorem gather_fin (K : Finset S323x32x6144.Idx) (J : Finset S2x8x32x2048.Idx) (p k sl n : ℕ) (hK : Disjoint K (slabs p n k)) (hJ : Disjoint J (tiles sl 0 n))
    (S : Finset (Fin n)) :
    (iprop(own (F := F) c a16 K ∗ own (F := F) c a20 J ∗ bigSep S (deliv (F := F) c a16 a20 p k sl (n := n))) : sProp 𝕄)
      ⊢ iprop(own (F := F) c a16 (K ∪ S.biUnion fun t => slabs (p + t.val) 1 k) ∗ own (F := F) c a20 (J ∪ S.biUnion fun t => tiles sl t.val 1)) := by
  classical
  induction S using Finset.induction_on with
  | empty =>
    rw [Finset.biUnion_empty, Finset.biUnion_empty, Finset.union_empty, Finset.union_empty]
    iintro ⟨H16, H20, -⟩
    isplitl [H16]
    · iexact H16
    · iexact H20
  | insert t S ht ih =>
    have eS : bigSep (insert t S) (deliv (F := F) c a16 a20 p k sl (n := n))
        = iprop(deliv (F := F) c a16 a20 p k sl t ∗ bigSep S (deliv (F := F) c a16 a20 p k sl (n := n))) := bigSep_insert ht
    rw [eS]
    have d16 : Disjoint (K ∪ S.biUnion fun t => slabs (p + t.val) 1 k) (slabs (p + t.val) 1 k) := by
      rw [Finset.disjoint_left]
      intro j hj hj'
      have h' := mem_slabs.mp hj'
      rcases Finset.mem_union.mp hj with h | h
      · exact Finset.disjoint_left.mp hK h (mem_slabs.mpr (by have := t.isLt; omega))
      · obtain ⟨u, hu, h⟩ := Finset.mem_biUnion.mp h
        have h := mem_slabs.mp h
        have : u = t := Fin.ext (by omega)
        exact ht (this ▸ hu)
    have d20 : Disjoint (J ∪ S.biUnion fun t => tiles sl t.val 1) (tiles sl t.val 1) := by
      rw [Finset.disjoint_left]
      intro j hj hj'
      have h' := mem_tiles.mp hj'
      rcases Finset.mem_union.mp hj with h | h
      · exact Finset.disjoint_left.mp hJ h (mem_tiles.mpr (by have := t.isLt; omega))
      · obtain ⟨u, hu, h⟩ := Finset.mem_biUnion.mp h
        have h := mem_tiles.mp h
        have : u = t := Fin.ext (by omega)
        exact ht (this ▸ hu)
    have e16 : (K ∪ (insert t S).biUnion fun t => slabs (p + t.val) 1 k) = (K ∪ S.biUnion fun t => slabs (p + t.val) 1 k) ∪ slabs (p + t.val) 1 k := by
      rw [Finset.biUnion_insert, Finset.union_assoc, Finset.union_comm (slabs (p + t.val) 1 k)]
    have e20 : (J ∪ (insert t S).biUnion fun t => tiles sl t.val 1) = (J ∪ S.biUnion fun t => tiles sl t.val 1) ∪ tiles sl t.val 1 := by
      rw [Finset.biUnion_insert, Finset.union_assoc, Finset.union_comm (tiles sl t.val 1)]
    rw [e16, e20]
    iintro ⟨H16, H20, HD, HS⟩
    ihave ⟨H16, H20⟩ := ih $$ [H16 H20 HS]
    · isplitl [H16]
      · iexact H16
      isplitl [H20]
      · iexact H20
      iexact HS
    unfold deliv
    icases HD with ⟨D16, D20⟩
    isplitl [H16 D16]
    · iapply (own_join (F := F) c a16 d16)
      isplitl [H16]
      · iexact H16
      · iexact D16
    · iapply (own_join (F := F) c a20 d20)
      isplitl [H20]
      · iexact H20
      · iexact D20

/-- All of a step's transfers received: its slabs and its tiles are held again. -/
theorem gather (K : Finset S323x32x6144.Idx) (J : Finset S2x8x32x2048.Idx) (p k sl n : ℕ) (hK : Disjoint K (slabs p n k)) (hJ : Disjoint J (tiles sl 0 n)) :
    (iprop(own (F := F) c a16 K ∗ own (F := F) c a20 J ∗ bigSep Finset.univ (deliv (F := F) c a16 a20 p k sl (n := n))) : sProp 𝕄)
      ⊢ iprop(own (F := F) c a16 (K ∪ slabs p n k) ∗ own (F := F) c a20 (J ∪ tiles sl 0 n)) := by
  have e16 : slabs p n k = Finset.univ.biUnion fun t : Fin n => slabs (p + t.val) 1 k := by
    ext j
    rw [Finset.mem_biUnion, mem_slabs]
    constructor
    · rintro ⟨⟨h1, h2⟩, h3, h4⟩
      exact ⟨⟨(j 0).val - p, by omega⟩, Finset.mem_univ _, mem_slabs.mpr ⟨by show p + ((j 0).val - p) ≤ _ ∧ _ < p + ((j 0).val - p) + 1; omega, h3, h4⟩⟩
    · rintro ⟨t, -, h⟩
      have h := mem_slabs.mp h
      have := t.isLt
      omega
  have e20 : tiles sl 0 n = Finset.univ.biUnion fun t : Fin n => tiles sl t.val 1 := by
    ext j
    rw [Finset.mem_biUnion, mem_tiles]
    constructor
    · rintro ⟨h0, h1, h2⟩
      exact ⟨⟨(j 1).val, by omega⟩, Finset.mem_univ _, mem_tiles.mpr ⟨h0, by show (j 1).val ≤ (j 1).val ∧ (j 1).val < (j 1).val + 1; omega⟩⟩
    · rintro ⟨t, -, h⟩
      have h := mem_tiles.mp h
      have := t.isLt
      omega
  refine (gather_fin (F := F) c a16 a20 K J p k sl n hK hJ Finset.univ).trans ?_
  rw [← e16, ← e20]

/-- The transfers `h` all received: their slabs and tiles are held again, and their semaphore is idle. -/
theorem collect (N : ℕ) (hN0 : 0 < N) (nb first : ℕ → ℕ) (h : ℕ) (K : Finset S323x32x6144.Idx) (J : Finset S2x8x32x2048.Idx)
    (hK : Disjoint K (slabs (pos first h) (num nb h) (col h))) (hJ : Disjoint J (tiles (h % 2) 0 (num nb h))) (hn : num nb h ≤ 8) :
    (iprop(own (F := F) c a16 K ∗ own (F := F) c a20 J ∗ flight (F := F) c a16 a20 a21 N nb first h (num nb h) (min 8 (num nb h))) : sProp 𝕄)
      ⊢ iprop(|={Set.univ}=> iprop(own (F := F) c a16 (K ∪ slabs (pos first h) (num nb h) (col h)) ∗ own (F := F) c a20 (J ∪ tiles (h % 2) 0 (num nb h))
          ∗ semVal ((c : Thread nD τ), .dma (semOf a21 h)) 0)) := by
  rw [Nat.min_eq_right hn]
  iintro ⟨H16, H20, HB⟩
  imod (Transfers.batch_collect' (countersEmb (U := UD sig nD τ)) (c : Thread nD τ) hN0) $$ HB with ⟨HD, HS⟩
  imodintro
  ihave ⟨H16, H20⟩ := (gather (F := F) c a16 a20 K J _ _ _ _ hK hJ) $$ [H16 H20 HD]
  · isplitl [H16]
    · iexact H16
    isplitl [H20]
    · iexact H20
    iexact HD
  isplitl [H16]
  · iexact H16
  isplitl [H20]
  · iexact H20
  iexact HS

/-- A new batch: none of the transfers `h` is started. -/
theorem newBatch (N : ℕ) (nb first : ℕ → ℕ) (h : ℕ) (K : Finset S323x32x6144.Idx) (J : Finset S2x8x32x2048.Idx) :
    (iprop(own (F := F) c a16 K ∗ own (F := F) c a20 J ∗ semVal ((c : Thread nD τ), .dma (semOf a21 h)) 0) : sProp 𝕄)
      ⊢ iprop(|={Set.univ}=> started (F := F) c a16 a20 (semOf a21 h) N K J (pos first h) (col h) (h % 2) (num nb h) (min 0 (num nb h))) := by
  rw [Nat.zero_min]
  iintro ⟨H16, H20, HS⟩
  imod (Transfers.batch_alloc' (countersEmb (U := UD sig nD τ)) (c : Thread nD τ) () N (deliv (F := F) c a16 a20 (pos first h) (col h) (h % 2) (n := num nb h))
    (sm := .dma (semOf a21 h)) (E := Set.univ)) $$ HS with HB
  imodintro
  unfold started
  have e16 : K \ slabs (pos first h) 0 (col h) = K := by
    apply Finset.sdiff_eq_self_of_disjoint
    rw [Finset.disjoint_left]; intro j _ hj; have := mem_slabs.mp hj; omega
  have e20 : J \ tiles (h % 2) 0 0 = J := by
    apply Finset.sdiff_eq_self_of_disjoint
    rw [Finset.disjoint_left]; intro j _ hj; have := mem_tiles.mp hj; omega
  rw [e16, e20]
  isplitl [H16]
  · iexact H16
  isplitl [H20]
  · iexact H20
  iexact HB

section Loop

variable (i : grid0.Coords) (arg2 : Memref sig .tc .smem S43 .i32) (harg2 : arg2.IsWhole) (arg3 : Memref sig .tc .smem S43 .i32) (harg3 : arg3.IsWhole) (arg4 : Memref sig .tc .smem S43 .i32) (harg4 : arg4.IsWhole) (arg5 : Memref sig .tc .smem S43 .i32) (harg5 : arg5.IsWhole) (arg6 : Memref sig .tc .vmem S1x1x288 .f32) (harg6 : arg6.IsWhole) (arg7 : Memref sig .tc .vmem S32x2048 .bf16) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S32x2048 .bf16) (harg14 : arg14.IsWhole) (arg15 : Memref sig .tc .vmem S32x2048 .bf16) (harg15 : arg15.IsWhole) (arg16 : Memref sig .tc .hbm S323x32x6144 .i8) (harg16 : arg16.IsWhole) (arg17 : Memref sig .tc .vmem S8x2048 .i32) (harg17 : arg17.IsWhole) (arg18 : Memref sig .tc .vmem S2048x256 .bf16) (harg18 : arg18.IsWhole) (arg19 : Memref sig .tc .vmem S256x288 .bf16) (harg19 : arg19.IsWhole) (arg20 : Memref sig .tc .vmem S2x8x32x2048 .i8) (harg20 : arg20.IsWhole) (arg21 : DmaSems sig S2)

/-- The counted loop. -/
theorem loop_wp (v2 : BitVec 32) {α : Type} (kk : Unit → Prog (TpuEff nD τ sig (Elt F) Λ₀ .tc) α) (Q : α → sProp 𝕄) :
    (iprop(readOnly (F := F) c arg7 arg8 arg9 arg10 arg11 arg12 arg13 arg14 arg15 arg19 ∗ written (F := F) c arg17 arg18 arg20 (pt i % 2)) : sProp 𝕄)
      ⊢ iprop((iprop(readOnly (F := F) c arg7 arg8 arg9 arg10 arg11 arg12 arg13 arg14 arg15 arg19 ∗ written (F := F) c arg17 arg18 arg20 (pt i % 2)) -∗ wp frame (wpE (defs₀ (F := F)) Variants.none (c : Thread nD τ) none) Set.univ (kk ()) Q)
        -∗ wp frame (wpE (defs₀ (F := F)) Variants.none (c : Thread nD τ) none) Set.univ (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2) >>= kk) Q) := by
  iintro H HQ
  iapply (Scf.wp_for_bind frame (wpE (defs₀ (F := F)) Variants.none (c : Thread nD τ) none) Set.univ k0_t1_loop.lb k0_t1_loop.ub k0_t1_loop.st k0_t1_ok ⟨⟩
    (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2)
    (fun _ _ => iprop(readOnly (F := F) c arg7 arg8 arg9 arg10 arg11 arg12 arg13 arg14 arg15 arg19 ∗ written (F := F) c arg17 arg18 arg20 (pt i % 2))) ?_) $$ H
  · intro k acc
    exact trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 (pt i % 2) (Nat.mod_lt _ (by decide)) k (offs_t44 i k) (offs_t45 i k) (offs_t46 i k) (offs_t47 i k) (offs_t48 i k) (offs_t49 i k) (offs_t50 i k) (offs_t51 i k)
  iintro %acc H
  iapply HQ
  iexact H

end Loop

end Cert.QuantIdeal.Kit
-- ==== Proof.QDrain.lean ====
/- The quantiser's body up to its fourth start: the operand filled, the transfers of two points before received, the columns quantised. -/
module

public import proofs.«01_k».proof.Proof.QParts
public import proofs.«01_k».proof.Proof.QPieces

@[expose] public section

set_option maxRecDepth 16384

noncomputable section

namespace Cert.QuantIdeal.Kit

open Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (c : Dev nD) (i : grid0.Coords) (arg2 : Memref sig .tc .smem S43 .i32) (harg2 : arg2.IsWhole) (arg3 : Memref sig .tc .smem S43 .i32) (harg3 : arg3.IsWhole) (arg4 : Memref sig .tc .smem S43 .i32) (harg4 : arg4.IsWhole) (arg5 : Memref sig .tc .smem S43 .i32) (harg5 : arg5.IsWhole) (arg6 : Memref sig .tc .vmem S1x1x288 .f32) (harg6 : arg6.IsWhole) (arg7 : Memref sig .tc .vmem S32x2048 .bf16) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S32x2048 .bf16) (harg14 : arg14.IsWhole) (arg15 : Memref sig .tc .vmem S32x2048 .bf16) (harg15 : arg15.IsWhole) (arg16 : Memref sig .tc .hbm S323x32x6144 .i8) (harg16 : arg16.IsWhole) (arg17 : Memref sig .tc .vmem S8x2048 .i32) (harg17 : arg17.IsWhole) (arg18 : Memref sig .tc .vmem S2048x256 .bf16) (harg18 : arg18.IsWhole) (arg19 : Memref sig .tc .vmem S256x288 .bf16) (harg19 : arg19.IsWhole) (arg20 : Memref sig .tc .vmem S2x8x32x2048 .i8) (harg20 : arg20.IsWhole) (arg21 : DmaSems sig S2)
    {nb first : ℕ → ℕ} (pl : Plan nb first)
    (x4 : Buf (Elt F) (arg4.view.loc (c : Thread nD τ))) (t4 : Tab c arg4 x4 nb) (x5 : Buf (Elt F) (arg5.view.loc (c : Thread nD τ))) (t5 : Tab c arg5 x5 first)
    (q : PosShare TreeShare) (N : ℕ) (hN : credit arg16 N)

/-- The Hadamard operand, filled at the first block column of a step. -/
abbrev fillSite {α : Type} (kk : Prog (TpuEff nD τ sig (Elt F) Λ₀ .tc) α) : Prog (TpuEff nD τ sig (Elt F) Λ₀ .tc) α :=
  if k0_h1 : k0_cond1 i = 1#1 then do
    let v54 : Elt F .i32 ← smemLoad arg3 (Rect.unit (s := S43) (k0_off2 i) S1.size (k0_off2_inb i k0_h1)) numel1_S1 rfl
    let v55 : Vec F S1x1x288 .f32 ← Prog.lift (.load arg6 (Rect.unit (s := S1x1x288) ![0, 0, 0] S1x1x288.size inb_S1x1x288_S1x1x288_0_0_0).toLoadRect (View.loadsAt_vmem h_S1x1x288))
    let v89 : Vec F S256x288 .bf16 ← Prog.lift (.load arg19 (Rect.unit (s := S256x288) ![0, 0] S256x288.size inb_S256x288_S256x288_0_0).toLoadRect (View.loadsAt_vmem h_S256x288))
    Prog.lift (.store arg19 (Rect.unit (s := S256x288) ![0, 0] S256x288.size inb_S256x288_S256x288_0_0) (k0_pay38 v54 v55) Finset.univ (View.stores_vmem h_S256x288 (harg19.storeExact_slice rfl _ packedbf16_S256x288_S256x288_0_0) (fun _ => rfl)) (.inl rfl))
    kk
  else do
    kk

/-- The waits for the transfers of two points before. -/
abbrev drainSite {α : Type} (v1 : BitVec 32) (kk : Prog (TpuEff nD τ sig (Elt F) Λ₀ .tc) α) : Prog (TpuEff nD τ sig (Elt F) Λ₀ .tc) α :=
  if k0_h2 : k0_cond2 i = 1#1 then do
    let ⟨v53, v70, v92⟩ : Σ' (v53 : BitVec 32) (v70 : BitVec 32), Elt F .i32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 k0_h2
    if k0_h7 : k0_cond7 v92 = 1#1 then do
      let v114 : Elt F .i32 ← smemLoad arg5 (Rect.unit (s := S43) (k0_off24 i) S1.size (k0_off24_inb i k0_h2)) numel1_S1 rfl
      have k0_hw5 : k0_chk5 i v92 v114 := (← Prog.lift (TpuEff.assume (k0_chk5 i v92 v114) (k0_chk5.dec i v92 v114))).down
      let v118 : DmaSems sig S1 := arg21.slice (Rect.unit (s := S2) (k0_off25 i) S1.size (k0_off25_inb i k0_h2))
      let v119 : DmaSems sig S_ := v118.squeeze S_ squeezes_S1_S_
      let v120 : Memref sig .tc .hbm S1x32x2048 .i8 := arg16.slice (Rect.unit (s := S323x32x6144) (k0_off26 i v114) S1x32x2048.size (k0_off26_inb i v92 v114 k0_hw5 k0_h2 k0_h7)) (fun _ => rfl)
      let v121 : Memref sig .tc .hbm S32x2048 .i8 := v120.squeeze S32x2048 squeezes_S1x32x2048_S32x2048
      let v122 : Memref sig .tc .vmem S1x1x32x2048 .i8 := arg20.slice (Rect.unit (s := S2x8x32x2048) (k0_off27 i) S1x1x32x2048.size (k0_off27_inb i k0_h2)) (fun _ => rfl)
      let v123 : Memref sig .tc .vmem S32x2048 .i8 := v122.squeeze S32x2048 squeezes_S1x1x32x2048_S32x2048
      Prog.lift (.waitDma2 v119.sem v123 v121 ((harg20.wordExact_slice rfl _ (k0_off27_wordsi8 i k0_h2)).reshape _ _) ((harg16.wordExact_slice rfl _ (k0_off26_wordsi8 i v92 v114 k0_hw5 k0_h2 k0_h7)).reshape _ _))
      pure ⟨⟩
    else do
      pure ⟨⟩
    let v97 : Elt F .i32 ← smemLoad arg4 (Rect.unit (s := S43) (k0_off28 i) S1.size (k0_off28_inb i k0_h2)) numel1_S1 rfl
    if k0_h8 : k0_cond8 v97 = 1#1 then do
      let v114 : Elt F .i32 ← smemLoad arg5 (Rect.unit (s := S43) (k0_off29 i) S1.size (k0_off29_inb i k0_h2)) numel1_S1 rfl
      have k0_hw6 : k0_chk6 i v97 v114 := (← Prog.lift (TpuEff.assume (k0_chk6 i v97 v114) (k0_chk6.dec i v97 v114))).down
      let v118 : DmaSems sig S1 := arg21.slice (Rect.unit (s := S2) (k0_off30 i) S1.size (k0_off30_inb i k0_h2))
      let v119 : DmaSems sig S_ := v118.squeeze S_ squeezes_S1_S_
      let v120 : Memref sig .tc .hbm S1x32x2048 .i8 := arg16.slice (Rect.unit (s := S323x32x6144) (k0_off31 i v114) S1x32x2048.size (k0_off31_inb i v97 v114 k0_hw6 k0_h2 k0_h8)) (fun _ => rfl)
      let v121 : Memref sig .tc .hbm S32x2048 .i8 := v120.squeeze S32x2048 squeezes_S1x32x2048_S32x2048
      let v122 : Memref sig .tc .vmem S1x1x32x2048 .i8 := arg20.slice (Rect.unit (s := S2x8x32x2048) (k0_off32 i) S1x1x32x2048.size (k0_off32_inb i k0_h2)) (fun _ => rfl)
      let v123 : Memref sig .tc .vmem S32x2048 .i8 := v122.squeeze S32x2048 squeezes_S1x1x32x2048_S32x2048
      Prog.lift (.waitDma2 v119.sem v123 v121 ((harg20.wordExact_slice rfl _ (k0_off32_wordsi8 i k0_h2)).reshape _ _) ((harg16.wordExact_slice rfl _ (k0_off31_wordsi8 i v97 v114 k0_hw6 k0_h2 k0_h8)).reshape _ _))
      pure ⟨⟩
    else do
      pure ⟨⟩
    let v102 : Elt F .i32 ← smemLoad arg4 (Rect.unit (s := S43) (k0_off33 i) S1.size (k0_off33_inb i k0_h2)) numel1_S1 rfl
    if k0_h9 : k0_cond9 v102 = 1#1 then do
      let v114 : Elt F .i32 ← smemLoad arg5 (Rect.unit (s := S43) (k0_off34 i) S1.size (k0_off34_inb i k0_h2)) numel1_S1 rfl
      have k0_hw7 : k0_chk7 i v102 v114 := (← Prog.lift (TpuEff.assume (k0_chk7 i v102 v114) (k0_chk7.dec i v102 v114))).down
      let v118 : DmaSems sig S1 := arg21.slice (Rect.unit (s := S2) (k0_off35 i) S1.size (k0_off35_inb i k0_h2))
      let v119 : DmaSems sig S_ := v118.squeeze S_ squeezes_S1_S_
      let v120 : Memref sig .tc .hbm S1x32x2048 .i8 := arg16.slice (Rect.unit (s := S323x32x6144) (k0_off36 i v114) S1x32x2048.size (k0_off36_inb i v102 v114 k0_hw7 k0_h2 k0_h9)) (fun _ => rfl)
      let v121 : Memref sig .tc .hbm S32x2048 .i8 := v120.squeeze S32x2048 squeezes_S1x32x2048_S32x2048
      let v122 : Memref sig .tc .vmem S1x1x32x2048 .i8 := arg20.slice (Rect.unit (s := S2x8x32x2048) (k0_off37 i) S1x1x32x2048.size (k0_off37_inb i k0_h2)) (fun _ => rfl)
      let v123 : Memref sig .tc .vmem S32x2048 .i8 := v122.squeeze S32x2048 squeezes_S1x1x32x2048_S32x2048
      Prog.lift (.waitDma2 v119.sem v123 v121 ((harg20.wordExact_slice rfl _ (k0_off37_wordsi8 i k0_h2)).reshape _ _) ((harg16.wordExact_slice rfl _ (k0_off36_wordsi8 i v102 v114 k0_hw7 k0_h2 k0_h9)).reshape _ _))
      pure ⟨⟩
    else do
      pure ⟨⟩
    let v107 : Elt F .i32 ← smemLoad arg4 (Rect.unit (s := S43) (k0_off38 i) S1.size (k0_off38_inb i k0_h2)) numel1_S1 rfl
    if k0_h10 : k0_cond10 v107 = 1#1 then do
      let v114 : Elt F .i32 ← smemLoad arg5 (Rect.unit (s := S43) (k0_off39 i) S1.size (k0_off39_inb i k0_h2)) numel1_S1 rfl
      have k0_hw8 : k0_chk8 i v107 v114 := (← Prog.lift (TpuEff.assume (k0_chk8 i v107 v114) (k0_chk8.dec i v107 v114))).down
      let v118 : DmaSems sig S1 := arg21.slice (Rect.unit (s := S2) (k0_off40 i) S1.size (k0_off40_inb i k0_h2))
      let v119 : DmaSems sig S_ := v118.squeeze S_ squeezes_S1_S_
      let v120 : Memref sig .tc .hbm S1x32x2048 .i8 := arg16.slice (Rect.unit (s := S323x32x6144) (k0_off41 i v114) S1x32x2048.size (k0_off41_inb i v107 v114 k0_hw8 k0_h2 k0_h10)) (fun _ => rfl)
      let v121 : Memref sig .tc .hbm S32x2048 .i8 := v120.squeeze S32x2048 squeezes_S1x32x2048_S32x2048
      let v122 : Memref sig .tc .vmem S1x1x32x2048 .i8 := arg20.slice (Rect.unit (s := S2x8x32x2048) (k0_off42 i) S1x1x32x2048.size (k0_off42_inb i k0_h2)) (fun _ => rfl)
      let v123 : Memref sig .tc .vmem S32x2048 .i8 := v122.squeeze S32x2048 squeezes_S1x1x32x2048_S32x2048
      Prog.lift (.waitDma2 v119.sem v123 v121 ((harg20.wordExact_slice rfl _ (k0_off42_wordsi8 i k0_h2)).reshape _ _) ((harg16.wordExact_slice rfl _ (k0_off41_wordsi8 i v107 v114 k0_hw8 k0_h2 k0_h10)).reshape _ _))
      pure ⟨⟩
    else do
      pure ⟨⟩
    kk
  else do
    kk

set_option maxHeartbeats 4000000 in
/-- The fill: the table is read, the operand is written. -/
theorem fill_wp (x3 : Buf (Elt F) (arg3.view.loc (c : Thread nD τ))) {α : Type} (kk : Prog (TpuEff nD τ sig (Elt F) Λ₀ .tc) α) (Q : α → sProp 𝕄) :
    (iprop((arg3.view.loc (c : Thread nD τ) ↦{q} x3) ∗ (∃ f, (arg6.view.loc (c : Thread nD τ) ↦[arg6.view.set]{fullShare} f)) ∗ (∃ f, (arg19.view.loc (c : Thread nD τ) ↦[arg19.view.set]{fullShare} f))) : sProp 𝕄)
      ⊢ iprop((iprop((arg3.view.loc (c : Thread nD τ) ↦{q} x3) ∗ (∃ f, (arg6.view.loc (c : Thread nD τ) ↦[arg6.view.set]{fullShare} f)) ∗ (∃ f, (arg19.view.loc (c : Thread nD τ) ↦[arg19.view.set]{fullShare} f))) -∗ wp frame (wpE (defs₀ (F := F)) Variants.none (c : Thread nD τ) none) Set.univ kk Q)
        -∗ wp frame (wpE (defs₀ (F := F)) Variants.none (c : Thread nD τ) none) Set.univ (fillSite (F := F) i arg3 arg6 arg19 harg19 kk) Q) := by
  unfold fillSite
  iintro ⟨H3, ⟨%f6, H6⟩, ⟨%f19, H19⟩⟩ HQ
  by_cases h : k0_cond1 i = 1#1
  · rw [dif_pos h]
    iapply (word_load (F := F) c arg3 (k0_off2 i) (k0_off2_inb i h) x3 q) $$ H3
    iintro H3
    simp only [Prog.lift, Prog.bind_op, Prog.bind_ret]
    sl_step
    sl_step
    sl_step
    iapply HQ
    isplitl [H3]
    · iexact H3
    isplitl [H6]
    · iexists _; iexact H6
    · iexists _; iexact H19
  · rw [dif_neg h]
    iapply HQ
    isplitl [H3]
    · iexact H3
    isplitl [H6]
    · iexists _; iexact H6
    · iexists _; iexact H19

include pl t4 t5 hN in
set_option maxHeartbeats 4000000 in
/-- All eight of the waits of two points before. -/
theorem drain_wp (v1 : BitVec 32) {α : Type} (kk : Prog (TpuEff nD τ sig (Elt F) Λ₀ .tc) α) (Q : α → sProp 𝕄) :
    wres (F := F) c arg4 arg5 arg16 arg20 arg21 x4 x5 q N nb first (pt i) 0
      ⊢ iprop((wres (F := F) c arg4 arg5 arg16 arg20 arg21 x4 x5 q N nb first (pt i) 8 -∗ wp frame (wpE (defs₀ (F := F)) Variants.none (c : Thread nD τ) none) Set.univ kk Q)
        -∗ wp frame (wpE (defs₀ (F := F)) Variants.none (c : Thread nD τ) none) Set.univ (drainSite (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 kk) Q) := by
  unfold drainSite
  iintro HW HQ
  by_cases k0_h2 : k0_cond2 i = 1#1
  · rw [dif_pos k0_h2]
    have hh : 2 ≤ pt i ∧ pt i < 131 := ⟨(cond2_iff i).mp k0_h2, Nat.lt_trans (pt_lt i) (by decide)⟩
    rw [wp_bind]
    iapply (part1_wp (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 pl x4 t4 x5 t5 q N hN v1 k0_h2) $$ HW
    iintro %v53 %v70 HW
    unfold wres
    icases HW with ⟨H4, H5, HO, HB⟩
    iapply (wait_one (F := F) c arg4 arg5 arg16 harg16 arg20 harg20 arg21 pl x4 t4 x5 t5 q N hN (pt i) 4 hh (by decide) (k0_off23_inb i k0_h2) k0_cond7 (fun _ => rfl) (k0_off24_inb i k0_h2) (k0_chk5 i) (k0_chk5.dec i) (k0_off25_inb i k0_h2) (k0_off26 i) (fun w v hw hp => k0_off26_inb i w v hw k0_h2 hp) (fun w v hw hp => k0_off26_wordsi8 i w v hw k0_h2 hp) (k0_off27_inb i k0_h2) (k0_off27_wordsi8 i k0_h2) (fun w v a b => ⟨fun _ _ => a, fun _ _ i => b i⟩) (fun _ => rfl) (offs5 i k0_h2)) $$ [H5 HO HB]
    · isplitl [H5]
      · iexact H5
      isplitl [HO]
      · iexact HO
      iexact HB
    iintro ⟨H5, HO, HB⟩
    iapply (word_load (F := F) c arg4 (k0_off28 i) (k0_off28_inb i k0_h2) x4 q) $$ H4
    iintro H4
    iapply (wait_one (F := F) c arg4 arg5 arg16 harg16 arg20 harg20 arg21 pl x4 t4 x5 t5 q N hN (pt i) 5 hh (by decide) (k0_off28_inb i k0_h2) k0_cond8 (fun _ => rfl) (k0_off29_inb i k0_h2) (k0_chk6 i) (k0_chk6.dec i) (k0_off30_inb i k0_h2) (k0_off31 i) (fun w v hw hp => k0_off31_inb i w v hw k0_h2 hp) (fun w v hw hp => k0_off31_wordsi8 i w v hw k0_h2 hp) (k0_off32_inb i k0_h2) (k0_off32_wordsi8 i k0_h2) (fun w v a b => ⟨fun _ _ => a, fun _ _ i => b i⟩) (fun _ => rfl) (offs6 i k0_h2)) $$ [H5 HO HB]
    · isplitl [H5]
      · iexact H5
      isplitl [HO]
      · iexact HO
      iexact HB
    iintro ⟨H5, HO, HB⟩
    iapply (word_load (F := F) c arg4 (k0_off33 i) (k0_off33_inb i k0_h2) x4 q) $$ H4
    iintro H4
    iapply (wait_one (F := F) c arg4 arg5 arg16 harg16 arg20 harg20 arg21 pl x4 t4 x5 t5 q N hN (pt i) 6 hh (by decide) (k0_off33_inb i k0_h2) k0_cond9 (fun _ => rfl) (k0_off34_inb i k0_h2) (k0_chk7 i) (k0_chk7.dec i) (k0_off35_inb i k0_h2) (k0_off36 i) (fun w v hw hp => k0_off36_inb i w v hw k0_h2 hp) (fun w v hw hp => k0_off36_wordsi8 i w v hw k0_h2 hp) (k0_off37_inb i k0_h2) (k0_off37_wordsi8 i k0_h2) (fun w v a b => ⟨fun _ _ => a, fun _ _ i => b i⟩) (fun _ => rfl) (offs7 i k0_h2)) $$ [H5 HO HB]
    · isplitl [H5]
      · iexact H5
      isplitl [HO]
      · iexact HO
      iexact HB
    iintro ⟨H5, HO, HB⟩
    iapply (word_load (F := F) c arg4 (k0_off38 i) (k0_off38_inb i k0_h2) x4 q) $$ H4
    iintro H4
    iapply (wait_one (F := F) c arg4 arg5 arg16 harg16 arg20 harg20 arg21 pl x4 t4 x5 t5 q N hN (pt i) 7 hh (by decide) (k0_off38_inb i k0_h2) k0_cond10 (fun _ => rfl) (k0_off39_inb i k0_h2) (k0_chk8 i) (k0_chk8.dec i) (k0_off40_inb i k0_h2) (k0_off41 i) (fun w v hw hp => k0_off41_inb i w v hw k0_h2 hp) (fun w v hw hp => k0_off41_wordsi8 i w v hw k0_h2 hp) (k0_off42_inb i k0_h2) (k0_off42_wordsi8 i k0_h2) (fun w v a b => ⟨fun _ _ => a, fun _ _ i => b i⟩) (fun _ => rfl) (offs8 i k0_h2)) $$ [H5 HO HB]
    · isplitl [H5]
      · iexact H5
      isplitl [HO]
      · iexact HO
      iexact HB
    iintro ⟨H5, HO, HB⟩
    iapply HQ
    isplitl [H4]
    · iexact H4
    isplitl [H5]
    · iexact H5
    isplitl [HO]
    · iexact HO
    iexact HB
  · rw [dif_neg k0_h2]
    have h0 : num nb (pt i) = 0 := if_pos (Nat.lt_of_not_le fun h => k0_h2 ((cond2_iff i).mpr h))
    iapply HQ
    unfold wres
    rw [h0]
    iexact HW

end Cert.QuantIdeal.Kit
-- ==== Proof.QBody.lean ====
/- The quantiser's body at one grid point: the operand filled, the transfers of two points before received, the columns quantised, the point's own
   transfers started; the last point receives what is left. -/
module

public import proofs.«01_k».proof.Proof.QDrain

@[expose] public section

set_option maxRecDepth 16384

noncomputable section

namespace Cert.QuantIdeal.Kit

open Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (c : Dev nD) (i : grid0.Coords) (arg2 : Memref sig .tc .smem S43 .i32) (harg2 : arg2.IsWhole) (arg3 : Memref sig .tc .smem S43 .i32) (harg3 : arg3.IsWhole) (arg4 : Memref sig .tc .smem S43 .i32) (harg4 : arg4.IsWhole) (arg5 : Memref sig .tc .smem S43 .i32) (harg5 : arg5.IsWhole) (arg6 : Memref sig .tc .vmem S1x1x288 .f32) (harg6 : arg6.IsWhole) (arg7 : Memref sig .tc .vmem S32x2048 .bf16) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S32x2048 .bf16) (harg14 : arg14.IsWhole) (arg15 : Memref sig .tc .vmem S32x2048 .bf16) (harg15 : arg15.IsWhole) (arg16 : Memref sig .tc .hbm S323x32x6144 .i8) (harg16 : arg16.IsWhole) (arg17 : Memref sig .tc .vmem S8x2048 .i32) (harg17 : arg17.IsWhole) (arg18 : Memref sig .tc .vmem S2048x256 .bf16) (harg18 : arg18.IsWhole) (arg19 : Memref sig .tc .vmem S256x288 .bf16) (harg19 : arg19.IsWhole) (arg20 : Memref sig .tc .vmem S2x8x32x2048 .i8) (harg20 : arg20.IsWhole) (arg21 : DmaSems sig S2)
    {nb first : ℕ → ℕ} (pl : Plan nb first)
    (x4 : Buf (Elt F) (arg4.view.loc (c : Thread nD τ))) (t4 : Tab c arg4 x4 nb) (x5 : Buf (Elt F) (arg5.view.loc (c : Thread nD τ))) (t5 : Tab c arg5 x5 first)
    (q : PosShare TreeShare) (N : ℕ) (hN : credit arg16 N)

section Sets

/-- The slabs of the transfers `h`. -/
abbrev slabsAt (nb first : ℕ → ℕ) (h : ℕ) : Finset S323x32x6144.Idx := slabs (pos first h) (num nb h) (col h)

/-- The tiles of the transfers `h`. -/
abbrev tilesAt (nb : ℕ → ℕ) (h : ℕ) : Finset S2x8x32x2048.Idx := tiles (h % 2) 0 (num nb h)

theorem num_le (nb : ℕ → ℕ) (h : ℕ) : num nb h ≤ 8 := by
  unfold num; split <;> omega

theorem tiles_disj (nb : ℕ → ℕ) (h : ℕ) : Disjoint (tilesAt nb h) (tilesAt nb (h + 1)) := by
  rw [Finset.disjoint_left]
  intro j h1 h2
  have h1 := mem_tiles.mp h1
  have h2 := mem_tiles.mp h2
  omega

theorem slabs_disj {nb first : ℕ → ℕ} (pl : Plan nb first) (h : ℕ) (hh : h < 130) : Disjoint (slabsAt nb first h) (slabsAt nb first (h + 1)) := by
  rw [Finset.disjoint_left]
  intro j h1 h2
  have h1 := mem_slabs.mp h1
  have h2 := mem_slabs.mp h2
  by_cases hl : h < 2
  · have : num nb h = 0 := if_pos hl
    omega
  have e1 : num nb h = min 8 (nb ((h - 2) / 3)) := if_neg hl
  have e2 : num nb (h + 1) = min 8 (nb ((h + 1 - 2) / 3)) := if_neg (by omega)
  unfold pos col at h1 h2
  by_cases hc : (h + 1 - 2) / 3 = (h - 2) / 3
  · have : (h + 1 - 2) % 3 ≠ (h - 2) % 3 := by omega
    omega
  have e3 : (h + 1 - 2) / 3 = (h - 2) / 3 + 1 := by omega
  have nx := pl.next ((h - 2) / 3) (by omega)
  rw [e3] at h2 e2
  omega

theorem sdiff_union {I : Type} [Fintype I] [DecidableEq I] {A B : Finset I} (h : Disjoint A B) : (Finset.univ \ (A ∪ B)) ∪ A = Finset.univ \ B := by
  ext x
  simp only [Finset.mem_union, Finset.mem_sdiff, Finset.mem_univ, true_and]
  have := @Finset.disjoint_left _ A B
  constructor
  · rintro (g | g)
    · exact fun hb => g (Or.inr hb)
    · exact this.mp h g
  · intro g
    by_cases hx : x ∈ A
    · exact Or.inr hx
    · exact Or.inl fun hh => hh.elim hx g

theorem disj_sdiff {I : Type} [Fintype I] [DecidableEq I] {A B : Finset I} : Disjoint (Finset.univ \ (A ∪ B)) A := by
  rw [Finset.disjoint_left]
  intro x h1 h2
  exact (Finset.mem_sdiff.mp h1).2 (Finset.mem_union_left _ h2)

theorem sub_sdiff {I : Type} [Fintype I] [DecidableEq I] {A B : Finset I} (h : Disjoint A B) : B ⊆ Finset.univ \ A := fun x hx =>
  Finset.mem_sdiff.mpr ⟨Finset.mem_univ _, fun hA => Finset.disjoint_left.mp h hA hx⟩

theorem sdiff_sdiff {I : Type} [Fintype I] [DecidableEq I] {A B : Finset I} : (Finset.univ \ A) \ B = Finset.univ \ (A ∪ B) := by
  ext x
  simp only [Finset.mem_union, Finset.mem_sdiff, Finset.mem_univ, true_and]
  exact ⟨fun h hh => hh.elim h.1 h.2, fun h => ⟨fun a => h (Or.inl a), fun b => h (Or.inr b)⟩⟩

end Sets

/-- What a point's body holds besides the transfers: the tables, the debts, the windows, the operand and the two output blocks. -/
def around (x3 : Buf (Elt F) (arg3.view.loc (c : Thread nD τ))) : sProp 𝕄 :=
  iprop((arg3.view.loc (c : Thread nD τ) ↦{q} x3) ∗ (∃ f, (arg6.view.loc (c : Thread nD τ) ↦[arg6.view.set]{fullShare} f)) ∗ readOnly (F := F) c arg7 arg8 arg9 arg10 arg11 arg12 arg13 arg14 arg15 arg19 ∗ (∃ f, (arg17.view.loc (c : Thread nD τ) ↦[arg17.view.set]{fullShare} f)) ∗ (∃ f, (arg18.view.loc (c : Thread nD τ) ↦[arg18.view.set]{fullShare} f)))

/-- The state before point `g`: the transfers of the two points before are under way. -/
def mid (nb first : ℕ → ℕ) (g : ℕ) : sProp 𝕄 :=
  iprop(own (F := F) c arg16 (Finset.univ \ (slabsAt nb first g ∪ slabsAt nb first (g + 1))) ∗ own (F := F) c arg20 (Finset.univ \ (tilesAt nb g ∪ tilesAt nb (g + 1)))
    ∗ flight (F := F) c arg16 arg20 arg21 N nb first g (num nb g) (min 0 (num nb g)) ∗ flight (F := F) c arg16 arg20 arg21 N nb first (g + 1) (num nb (g + 1)) (min 0 (num nb (g + 1))))

/-- The state with nothing under way. -/
def idle : sProp 𝕄 :=
  iprop(own (F := F) c arg16 Finset.univ ∗ own (F := F) c arg20 Finset.univ
    ∗ semVal ((c : Thread nD τ), .dma (semOf arg21 0)) 0 ∗ semVal ((c : Thread nD τ), .dma (semOf arg21 1)) 0)

/-- The first four starts, and the fifth's count. -/
def startFour : Prog (TpuEff nD τ sig (Elt F) Λ₀ .tc) (Σ' (arg0 : BitVec 32) (arg1 : BitVec 32) (v1 : BitVec 32) (v2 : BitVec 32) (v31 : Elt F .i32), BitVec 32) := do
  let v11 : Elt F .i32 ← smemLoad arg4 (Rect.unit (s := S43) (k0_off1 i) S1.size (k0_off1_inb i)) numel1_S1 rfl
  if k0_h11 : k0_cond11 v11 = 1#1 then do
    let v54 : Elt F .i32 ← smemLoad arg5 (Rect.unit (s := S43) (k0_off54 i) S1.size (k0_off54_inb i)) numel1_S1 rfl
    have k0_hw9 : k0_chk9 i v11 v54 := (← Prog.lift (TpuEff.assume (k0_chk9 i v11 v54) (k0_chk9.dec i v11 v54))).down
    let v58 : DmaSems sig S1 := arg21.slice (Rect.unit (s := S2) (k0_off55 i) S1.size (k0_off55_inb i))
    let v59 : DmaSems sig S_ := v58.squeeze S_ squeezes_S1_S_
    let v60 : Memref sig .tc .hbm S1x32x2048 .i8 := arg16.slice (Rect.unit (s := S323x32x6144) (k0_off56 i v54) S1x32x2048.size (k0_off56_inb i v11 v54 k0_hw9 k0_h11)) (fun _ => rfl)
    let v61 : Memref sig .tc .hbm S32x2048 .i8 := v60.squeeze S32x2048 squeezes_S1x32x2048_S32x2048
    let v62 : Memref sig .tc .vmem S1x1x32x2048 .i8 := arg20.slice (Rect.unit (s := S2x8x32x2048) (k0_off57 i) S1x1x32x2048.size (k0_off57_inb i)) (fun _ => rfl)
    let v63 : Memref sig .tc .vmem S32x2048 .i8 := v62.squeeze S32x2048 squeezes_S1x1x32x2048_S32x2048
    Prog.lift (.enqueueDma v63 (.here v61) (.dma v59.sem) ((harg20.wordExact_slice rfl _ (k0_off57_wordsi8 i)).reshape _ _) ((harg16.wordExact_slice rfl _ (k0_off56_wordsi8 i v11 v54 k0_hw9 k0_h11)).reshape _ _) ⟨Or.inl rfl, trivial⟩)
    pure ⟨⟩
  else do
    pure ⟨⟩
  let v16 : Elt F .i32 ← smemLoad arg4 (Rect.unit (s := S43) (k0_off58 i) S1.size (k0_off58_inb i)) numel1_S1 rfl
  if k0_h12 : k0_cond12 v16 = 1#1 then do
    let v54 : Elt F .i32 ← smemLoad arg5 (Rect.unit (s := S43) (k0_off59 i) S1.size (k0_off59_inb i)) numel1_S1 rfl
    have k0_hw10 : k0_chk10 i v16 v54 := (← Prog.lift (TpuEff.assume (k0_chk10 i v16 v54) (k0_chk10.dec i v16 v54))).down
    let v58 : DmaSems sig S1 := arg21.slice (Rect.unit (s := S2) (k0_off60 i) S1.size (k0_off60_inb i))
    let v59 : DmaSems sig S_ := v58.squeeze S_ squeezes_S1_S_
    let v60 : Memref sig .tc .hbm S1x32x2048 .i8 := arg16.slice (Rect.unit (s := S323x32x6144) (k0_off61 i v54) S1x32x2048.size (k0_off61_inb i v16 v54 k0_hw10 k0_h12)) (fun _ => rfl)
    let v61 : Memref sig .tc .hbm S32x2048 .i8 := v60.squeeze S32x2048 squeezes_S1x32x2048_S32x2048
    let v62 : Memref sig .tc .vmem S1x1x32x2048 .i8 := arg20.slice (Rect.unit (s := S2x8x32x2048) (k0_off62 i) S1x1x32x2048.size (k0_off62_inb i)) (fun _ => rfl)
    let v63 : Memref sig .tc .vmem S32x2048 .i8 := v62.squeeze S32x2048 squeezes_S1x1x32x2048_S32x2048
    Prog.lift (.enqueueDma v63 (.here v61) (.dma v59.sem) ((harg20.wordExact_slice rfl _ (k0_off62_wordsi8 i)).reshape _ _) ((harg16.wordExact_slice rfl _ (k0_off61_wordsi8 i v16 v54 k0_hw10 k0_h12)).reshape _ _) ⟨Or.inl rfl, trivial⟩)
    pure ⟨⟩
  else do
    pure ⟨⟩
  let v21 : Elt F .i32 ← smemLoad arg4 (Rect.unit (s := S43) (k0_off63 i) S1.size (k0_off63_inb i)) numel1_S1 rfl
  if k0_h13 : k0_cond13 v21 = 1#1 then do
    let v54 : Elt F .i32 ← smemLoad arg5 (Rect.unit (s := S43) (k0_off64 i) S1.size (k0_off64_inb i)) numel1_S1 rfl
    have k0_hw11 : k0_chk11 i v21 v54 := (← Prog.lift (TpuEff.assume (k0_chk11 i v21 v54) (k0_chk11.dec i v21 v54))).down
    let v58 : DmaSems sig S1 := arg21.slice (Rect.unit (s := S2) (k0_off65 i) S1.size (k0_off65_inb i))
    let v59 : DmaSems sig S_ := v58.squeeze S_ squeezes_S1_S_
    let v60 : Memref sig .tc .hbm S1x32x2048 .i8 := arg16.slice (Rect.unit (s := S323x32x6144) (k0_off66 i v54) S1x32x2048.size (k0_off66_inb i v21 v54 k0_hw11 k0_h13)) (fun _ => rfl)
    let v61 : Memref sig .tc .hbm S32x2048 .i8 := v60.squeeze S32x2048 squeezes_S1x32x2048_S32x2048
    let v62 : Memref sig .tc .vmem S1x1x32x2048 .i8 := arg20.slice (Rect.unit (s := S2x8x32x2048) (k0_off67 i) S1x1x32x2048.size (k0_off67_inb i)) (fun _ => rfl)
    let v63 : Memref sig .tc .vmem S32x2048 .i8 := v62.squeeze S32x2048 squeezes_S1x1x32x2048_S32x2048
    Prog.lift (.enqueueDma v63 (.here v61) (.dma v59.sem) ((harg20.wordExact_slice rfl _ (k0_off67_wordsi8 i)).reshape _ _) ((harg16.wordExact_slice rfl _ (k0_off66_wordsi8 i v21 v54 k0_hw11 k0_h13)).reshape _ _) ⟨Or.inl rfl, trivial⟩)
    pure ⟨⟩
  else do
    pure ⟨⟩
  let v26 : Elt F .i32 ← smemLoad arg4 (Rect.unit (s := S43) (k0_off68 i) S1.size (k0_off68_inb i)) numel1_S1 rfl
  if k0_h14 : k0_cond14 v26 = 1#1 then do
    let v54 : Elt F .i32 ← smemLoad arg5 (Rect.unit (s := S43) (k0_off69 i) S1.size (k0_off69_inb i)) numel1_S1 rfl
    have k0_hw12 : k0_chk12 i v26 v54 := (← Prog.lift (TpuEff.assume (k0_chk12 i v26 v54) (k0_chk12.dec i v26 v54))).down
    let v58 : DmaSems sig S1 := arg21.slice (Rect.unit (s := S2) (k0_off70 i) S1.size (k0_off70_inb i))
    let v59 : DmaSems sig S_ := v58.squeeze S_ squeezes_S1_S_
    let v60 : Memref sig .tc .hbm S1x32x2048 .i8 := arg16.slice (Rect.unit (s := S323x32x6144) (k0_off71 i v54) S1x32x2048.size (k0_off71_inb i v26 v54 k0_hw12 k0_h14)) (fun _ => rfl)
    let v61 : Memref sig .tc .hbm S32x2048 .i8 := v60.squeeze S32x2048 squeezes_S1x32x2048_S32x2048
    let v62 : Memref sig .tc .vmem S1x1x32x2048 .i8 := arg20.slice (Rect.unit (s := S2x8x32x2048) (k0_off72 i) S1x1x32x2048.size (k0_off72_inb i)) (fun _ => rfl)
    let v63 : Memref sig .tc .vmem S32x2048 .i8 := v62.squeeze S32x2048 squeezes_S1x1x32x2048_S32x2048
    Prog.lift (.enqueueDma v63 (.here v61) (.dma v59.sem) ((harg20.wordExact_slice rfl _ (k0_off72_wordsi8 i)).reshape _ _) ((harg16.wordExact_slice rfl _ (k0_off71_wordsi8 i v26 v54 k0_hw12 k0_h14)).reshape _ _) ⟨Or.inl rfl, trivial⟩)
    pure ⟨⟩
  else do
    pure ⟨⟩
  let v31 : Elt F .i32 ← smemLoad arg4 (Rect.unit (s := S43) (k0_off73 i) S1.size (k0_off73_inb i)) numel1_S1 rfl
  pure ⟨BitVec.ofNat 32 (i 0).val, BitVec.ofNat 32 (i 1).val, Scalar.addi (Scalar.muli (BitVec.ofNat 32 (i 0).val) 3#32) (BitVec.ofNat 32 (i 1).val), Scalar.remsi (Scalar.addi (Scalar.muli (BitVec.ofNat 32 (i 0).val) 3#32) (BitVec.ofNat 32 (i 1).val)) 2#32, v31, 4#32⟩

set_option maxHeartbeats 4000000 in
/-- The body up to its fourth start, by its pieces. -/
theorem part14_eq : k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 =
    fillSite (F := F) i arg3 arg6 arg19 harg19 (drainSite (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (Scalar.addi (Scalar.muli (BitVec.ofNat 32 (i 0).val) 3#32) (BitVec.ofNat 32 (i 1).val))
      (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (Scalar.remsi (Scalar.addi (Scalar.muli (BitVec.ofNat 32 (i 0).val) 3#32) (BitVec.ofNat 32 (i 1).val)) 2#32)) >>= fun _ => startFour (F := F) i arg4 arg5 arg16 harg16 arg20 harg20 arg21)) := rfl

include pl t4 t5 hN in
set_option maxHeartbeats 8000000 in
theorem startFour_wp (K : Finset S323x32x6144.Idx) (J : Finset S2x8x32x2048.Idx) (hK : slabs (pos first (pt i + 2)) (num nb (pt i + 2)) (col (pt i + 2)) ⊆ K)
    (hJ : tiles ((pt i + 2) % 2) 0 (num nb (pt i + 2)) ⊆ J) (Q : (Σ' (arg0 : BitVec 32) (arg1 : BitVec 32) (v1 : BitVec 32) (v2 : BitVec 32) (v31 : Elt F .i32), BitVec 32) → sProp 𝕄) :
    sres (F := F) c arg4 arg5 arg16 arg20 arg21 x4 x5 q N nb first K J (pt i + 2) 0
      ⊢ iprop((∀ v0 v1 v2 v3 v5, sres (F := F) c arg4 arg5 arg16 arg20 arg21 x4 x5 q N nb first K J (pt i + 2) 4 -∗ Q ⟨v0, v1, v2, v3, (wordOf arg4 c x4 (k0_off73 i) (k0_off73_inb i)), v5⟩)
        -∗ wp frame (wpE (defs₀ (F := F)) Variants.none (c : Thread nD τ) none) Set.univ (startFour (F := F) i arg4 arg5 arg16 harg16 arg20 harg20 arg21) Q) := by
  have hh : 2 ≤ pt i + 2 ∧ pt i + 2 < 131 := by have := pt_lt i; omega
  unfold startFour sres
  iintro ⟨H4, H5, HB⟩ HQ
  iapply (word_load (F := F) c arg4 (k0_off1 i) (k0_off1_inb i) x4 q) $$ H4
  iintro H4
  iapply (start_one (F := F) c arg4 arg5 arg16 harg16 arg20 harg20 arg21 pl x4 t4 x5 t5 q N hN K J ((pt i + 2)) 0 hh (by decide) hK hJ (k0_off1_inb i) k0_cond11 (fun _ => rfl) (k0_off54_inb i) (k0_chk9 i) (k0_chk9.dec i) (k0_off55_inb i) (k0_off56 i) (fun w v hw hp => k0_off56_inb i w v hw hp) (fun w v hw hp => k0_off56_wordsi8 i w v hw hp) (k0_off57_inb i) (k0_off57_wordsi8 i) (fun w v a b => ⟨fun _ => a, fun _ i => b i⟩) (fun _ => rfl) (offs9 i).1 (parity_tile (offs9 i).2)) $$ [H5 HB]
  · isplitl [H5]
    · iexact H5
    iexact HB
  iintro ⟨H5, HB⟩
  iapply (word_load (F := F) c arg4 (k0_off58 i) (k0_off58_inb i) x4 q) $$ H4
  iintro H4
  iapply (start_one (F := F) c arg4 arg5 arg16 harg16 arg20 harg20 arg21 pl x4 t4 x5 t5 q N hN K J ((pt i + 2)) 1 hh (by decide) hK hJ (k0_off58_inb i) k0_cond12 (fun _ => rfl) (k0_off59_inb i) (k0_chk10 i) (k0_chk10.dec i) (k0_off60_inb i) (k0_off61 i) (fun w v hw hp => k0_off61_inb i w v hw hp) (fun w v hw hp => k0_off61_wordsi8 i w v hw hp) (k0_off62_inb i) (k0_off62_wordsi8 i) (fun w v a b => ⟨fun _ => a, fun _ i => b i⟩) (fun _ => rfl) (offs10 i).1 (parity_tile (offs10 i).2)) $$ [H5 HB]
  · isplitl [H5]
    · iexact H5
    iexact HB
  iintro ⟨H5, HB⟩
  iapply (word_load (F := F) c arg4 (k0_off63 i) (k0_off63_inb i) x4 q) $$ H4
  iintro H4
  iapply (start_one (F := F) c arg4 arg5 arg16 harg16 arg20 harg20 arg21 pl x4 t4 x5 t5 q N hN K J ((pt i + 2)) 2 hh (by decide) hK hJ (k0_off63_inb i) k0_cond13 (fun _ => rfl) (k0_off64_inb i) (k0_chk11 i) (k0_chk11.dec i) (k0_off65_inb i) (k0_off66 i) (fun w v hw hp => k0_off66_inb i w v hw hp) (fun w v hw hp => k0_off66_wordsi8 i w v hw hp) (k0_off67_inb i) (k0_off67_wordsi8 i) (fun w v a b => ⟨fun _ => a, fun _ i => b i⟩) (fun _ => rfl) (offs11 i).1 (parity_tile (offs11 i).2)) $$ [H5 HB]
  · isplitl [H5]
    · iexact H5
    iexact HB
  iintro ⟨H5, HB⟩
  iapply (word_load (F := F) c arg4 (k0_off68 i) (k0_off68_inb i) x4 q) $$ H4
  iintro H4
  iapply (start_one (F := F) c arg4 arg5 arg16 harg16 arg20 harg20 arg21 pl x4 t4 x5 t5 q N hN K J ((pt i + 2)) 3 hh (by decide) hK hJ (k0_off68_inb i) k0_cond14 (fun _ => rfl) (k0_off69_inb i) (k0_chk12 i) (k0_chk12.dec i) (k0_off70_inb i) (k0_off71 i) (fun w v hw hp => k0_off71_inb i w v hw hp) (fun w v hw hp => k0_off71_wordsi8 i w v hw hp) (k0_off72_inb i) (k0_off72_wordsi8 i) (fun w v a b => ⟨fun _ => a, fun _ i => b i⟩) (fun _ => rfl) (offs12 i).1 (parity_tile (offs12 i).2)) $$ [H5 HB]
  · isplitl [H5]
    · iexact H5
    iexact HB
  iintro ⟨H5, HB⟩
  iapply (word_load (F := F) c arg4 (k0_off73 i) (k0_off73_inb i) x4 q) $$ H4
  iintro H4
  rw [wp_pure]
  imodintro
  iapply HQ
  isplitl [H4]
  · iexact H4
  isplitl [H5]
  · iexact H5
  iexact HB

end Cert.QuantIdeal.Kit
-- ==== Proof.QPoint.lean ====
/- The quantiser's body at one grid point, whole: the operand filled, the transfers of two points before received, the columns quantised, the point's own
   transfers started; the last point receives what is left. -/
module

public import proofs.«01_k».proof.Proof.QBody

@[expose] public section

set_option maxRecDepth 16384

noncomputable section

namespace Cert.QuantIdeal.Kit

open Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (c : Dev nD) (i : grid0.Coords) (arg2 : Memref sig .tc .smem S43 .i32) (harg2 : arg2.IsWhole) (arg3 : Memref sig .tc .smem S43 .i32) (harg3 : arg3.IsWhole) (arg4 : Memref sig .tc .smem S43 .i32) (harg4 : arg4.IsWhole) (arg5 : Memref sig .tc .smem S43 .i32) (harg5 : arg5.IsWhole) (arg6 : Memref sig .tc .vmem S1x1x288 .f32) (harg6 : arg6.IsWhole) (arg7 : Memref sig .tc .vmem S32x2048 .bf16) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S32x2048 .bf16) (harg14 : arg14.IsWhole) (arg15 : Memref sig .tc .vmem S32x2048 .bf16) (harg15 : arg15.IsWhole) (arg16 : Memref sig .tc .hbm S323x32x6144 .i8) (harg16 : arg16.IsWhole) (arg17 : Memref sig .tc .vmem S8x2048 .i32) (harg17 : arg17.IsWhole) (arg18 : Memref sig .tc .vmem S2048x256 .bf16) (harg18 : arg18.IsWhole) (arg19 : Memref sig .tc .vmem S256x288 .bf16) (harg19 : arg19.IsWhole) (arg20 : Memref sig .tc .vmem S2x8x32x2048 .i8) (harg20 : arg20.IsWhole) (arg21 : DmaSems sig S2)
    {nb first : ℕ → ℕ} (pl : Plan nb first)
    (x4 : Buf (Elt F) (arg4.view.loc (c : Thread nD τ))) (t4 : Tab c arg4 x4 nb) (x5 : Buf (Elt F) (arg5.view.loc (c : Thread nD τ))) (t5 : Tab c arg5 x5 first)
    (q : PosShare TreeShare) (N : ℕ) (hN : credit arg16 N)

include pl t4 t5 hN in
set_option maxHeartbeats 8000000 in
/-- The body up to its fourth start. -/
theorem part14_wp (hN0 : 0 < N) (x3 : Buf (Elt F) (arg3.view.loc (c : Thread nD τ))) (Q : (Σ' (arg0 : BitVec 32) (arg1 : BitVec 32) (v1 : BitVec 32) (v2 : BitVec 32) (v31 : Elt F .i32), BitVec 32) → sProp 𝕄) :
    (iprop(around (F := F) c arg3 arg6 arg7 arg8 arg9 arg10 arg11 arg12 arg13 arg14 arg15 arg17 arg18 arg19 q x3 ∗ (arg4.view.loc (c : Thread nD τ) ↦{q} x4) ∗ (arg5.view.loc (c : Thread nD τ) ↦{q} x5) ∗ Pipeline.owesWithin c 0 Set.univ ∗ mid (F := F) c arg16 arg20 arg21 N nb first (pt i)) : sProp 𝕄)
      ⊢ iprop((∀ v0 v1 v2 v3 v5, iprop(around (F := F) c arg3 arg6 arg7 arg8 arg9 arg10 arg11 arg12 arg13 arg14 arg15 arg17 arg18 arg19 q x3 ∗ (arg4.view.loc (c : Thread nD τ) ↦{q} x4) ∗ (arg5.view.loc (c : Thread nD τ) ↦{q} x5) ∗ Pipeline.owesWithin c 0 Set.univ ∗ started (F := F) c arg16 arg20 (semOf arg21 (pt i + 2)) N (Finset.univ \ slabsAt nb first (pt i + 1)) (Finset.univ \ tilesAt nb (pt i + 1)) (pos first (pt i + 2)) (col (pt i + 2)) ((pt i + 2) % 2) (num nb (pt i + 2)) (min 4 (num nb (pt i + 2)))
            ∗ flight (F := F) c arg16 arg20 arg21 N nb first (pt i + 1) (num nb (pt i + 1)) (min 0 (num nb (pt i + 1)))) -∗ Q ⟨v0, v1, v2, v3, (wordOf arg4 c x4 (k0_off73 i) (k0_off73_inb i)), v5⟩)
        -∗ wp frame (wpE (defs₀ (F := F)) Variants.none (c : Thread nD τ) none) Set.univ (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21) Q) := by
  have hlt := pt_lt i
  unfold around mid
  iintro ⟨⟨H3, H6, HR, H17, H18⟩, H4, H5, HO, H16, H20, HA, HF⟩ HQ
  rw [part14_eq]
  unfold readOnly
  icases HR with ⟨R7, R8, R9, R10, R11, R12, R13, R14, R15, R19⟩
  iapply (fill_wp (F := F) c i arg3 arg6 arg19 harg19 q x3) $$ [H3 H6 R19]
  · isplitl [H3]
    · iexact H3
    isplitl [H6]
    · iexact H6
    iexact R19
  iintro ⟨H3, H6, R19⟩
  iapply (drain_wp (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 pl x4 t4 x5 t5 q N hN) $$ [H4 H5 HO HA]
  · unfold wres
    isplitl [H4]
    · iexact H4
    isplitl [H5]
    · iexact H5
    isplitl [HO]
    · iexact HO
    iexact HA
  unfold wres
  iintro ⟨H4, H5, HO, HA⟩
  imod (collect (F := F) c arg16 arg20 arg21 N hN0 nb first (pt i) (Finset.univ \ (slabsAt nb first (pt i) ∪ slabsAt nb first (pt i + 1)))
    (Finset.univ \ (tilesAt nb (pt i) ∪ tilesAt nb (pt i + 1))) disj_sdiff disj_sdiff (num_le nb _)) $$ [H16 H20 HA] with ⟨H16, H20, HS⟩
  · isplitl [H16]
    · iexact H16
    isplitl [H20]
    · iexact H20
    iexact HA
  rw [sdiff_union (slabs_disj pl (pt i) (by omega)), sdiff_union (tiles_disj nb (pt i))]
  have hW : tiles (pt i % 2) 0 8 ⊆ (Finset.univ \ tilesAt nb (pt i + 1)) := fun j hj => Finset.mem_sdiff.mpr ⟨Finset.mem_univ _, fun h => by
    have h1 := mem_tiles.mp hj
    have h2 := mem_tiles.mp h
    omega⟩
  ihave ⟨HW, H20⟩ := (own_split (F := F) c arg20 hW) $$ H20
  iapply (loop_wp (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21) $$ [R7 R8 R9 R10 R11 R12 R13 R14 R15 R19 H17 H18 HW]
  · unfold readOnly written
    isplitl [R7 R8 R9 R10 R11 R12 R13 R14 R15 R19]
    · isplitl [R7]
      · iexact R7
      isplitl [R8]
      · iexact R8
      isplitl [R9]
      · iexact R9
      isplitl [R10]
      · iexact R10
      isplitl [R11]
      · iexact R11
      isplitl [R12]
      · iexact R12
      isplitl [R13]
      · iexact R13
      isplitl [R14]
      · iexact R14
      isplitl [R15]
      · iexact R15
      iexact R19
    isplitl [H17]
    · iexact H17
    isplitl [H18]
    · iexact H18
    iexact HW
  unfold written
  iintro ⟨HR, H17, H18, HW⟩
  ihave H20 := (own_join (F := F) c arg20 (K := (Finset.univ \ tilesAt nb (pt i + 1)) \ tiles (pt i % 2) 0 8) (J := tiles (pt i % 2) 0 8) Finset.sdiff_disjoint) $$ [H20 HW]
  · isplitl [H20]
    · iexact H20
    iexact HW
  rw [Finset.sdiff_union_of_subset hW]
  imod (newBatch (F := F) c arg16 arg20 arg21 N nb first (pt i + 2) (Finset.univ \ slabsAt nb first (pt i + 1)) (Finset.univ \ tilesAt nb (pt i + 1))) $$ [H16 H20 HS] with HB
  · isplitl [H16]
    · iexact H16
    isplitl [H20]
    · iexact H20
    rw [semOf_add_two]
    iexact HS
  iapply (startFour_wp (F := F) c i arg4 arg5 arg16 harg16 arg20 harg20 arg21 pl x4 t4 x5 t5 q N hN (Finset.univ \ slabsAt nb first (pt i + 1)) (Finset.univ \ tilesAt nb (pt i + 1))
    (sub_sdiff (slabs_disj pl (pt i + 1) (by omega))) (sub_sdiff (tiles_disj nb (pt i + 1)))) $$ [H4 H5 HB]
  · unfold sres
    isplitl [H4]
    · iexact H4
    isplitl [H5]
    · iexact H5
    iexact HB
  iintro %v0 %v1 %v2 %v3 %v5 HB
  iapply HQ
  unfold sres
  icases HB with ⟨H4, H5, HB⟩
  isplitl [H3 H6 HR H17 H18]
  · isplitl [H3]
    · iexact H3
    isplitl [H6]
    · iexact H6
    isplitl [HR]
    · unfold readOnly; iexact HR
    isplitl [H17]
    · iexact H17
    iexact H18
  isplitl [H4]
  · iexact H4
  isplitl [H5]
  · iexact H5
  isplitl [HO]
  · iexact HO
  isplitl [HB]
  · iexact HB
  iexact HF

include pl t4 t5 hN in
set_option maxHeartbeats 8000000 in
/-- One grid point. -/
theorem body_wp (hN0 : 0 < N) (x3 : Buf (Elt F) (arg3.view.loc (c : Thread nD τ))) :
    (iprop(around (F := F) c arg3 arg6 arg7 arg8 arg9 arg10 arg11 arg12 arg13 arg14 arg15 arg17 arg18 arg19 q x3 ∗ (arg4.view.loc (c : Thread nD τ) ↦{q} x4) ∗ (arg5.view.loc (c : Thread nD τ) ↦{q} x5) ∗ Pipeline.owesWithin c 0 Set.univ ∗ mid (F := F) c arg16 arg20 arg21 N nb first (pt i)) : sProp 𝕄)
      ⊢ wp frame (wpE (defs₀ (F := F)) Variants.none (c : Thread nD τ) none) Set.univ (cc0_quant_x (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21)
          (fun _ => iprop(around (F := F) c arg3 arg6 arg7 arg8 arg9 arg10 arg11 arg12 arg13 arg14 arg15 arg17 arg18 arg19 q x3 ∗ (arg4.view.loc (c : Thread nD τ) ↦{q} x4) ∗ (arg5.view.loc (c : Thread nD τ) ↦{q} x5) ∗ Pipeline.owesWithin c 0 Set.univ ∗ (if pt i = 128 then idle (F := F) c arg16 arg20 arg21 else mid (F := F) c arg16 arg20 arg21 N nb first (pt i + 1)))) := by
  have hlt := pt_lt i
  have hh : 2 ≤ pt i + 2 ∧ pt i + 2 < 131 := by omega
  have hK := sub_sdiff (slabs_disj pl (pt i + 1) (by omega))
  have hJ := sub_sdiff (tiles_disj nb (pt i + 1))
  rw [cc0_quant_x_eq_skeleton]
  unfold cc0_quant_x_skel
  rw [wp_bind]
  iintro H
  iapply (part14_wp (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 pl x4 t4 x5 t5 q N hN hN0 x3) $$ H
  iintro %v0 %v1 %v2 %v3 %v5 ⟨HR, H4, H5, HO, HB, HF⟩
  iapply (start_one (F := F) c arg4 arg5 arg16 harg16 arg20 harg20 arg21 pl x4 t4 x5 t5 q N hN (Finset.univ \ slabsAt nb first (pt i + 1)) (Finset.univ \ tilesAt nb (pt i + 1)) ((pt i + 2)) 4 hh (by decide) hK hJ (k0_off73_inb i) k0_cond15 (fun _ => rfl) (k0_off74_inb i) (k0_chk13 i) (k0_chk13.dec i) (k0_off75_inb i) (k0_off76 i) (fun w v hw hp => k0_off76_inb i w v hw hp) (fun w v hw hp => k0_off76_wordsi8 i w v hw hp) (k0_off77_inb i) (k0_off77_wordsi8 i) (fun w v a b => ⟨fun _ => a, fun _ i => b i⟩) (fun _ => rfl) (offs13 i).1 (parity_tile (offs13 i).2)) $$ [H5 HB]
  · isplitl [H5]
    · iexact H5
    iexact HB
  iintro ⟨H5, HB⟩
  iapply (word_load (F := F) c arg4 (k0_off78 i) (k0_off78_inb i) x4 q) $$ H4
  iintro H4
  iapply (start_one (F := F) c arg4 arg5 arg16 harg16 arg20 harg20 arg21 pl x4 t4 x5 t5 q N hN (Finset.univ \ slabsAt nb first (pt i + 1)) (Finset.univ \ tilesAt nb (pt i + 1)) ((pt i + 2)) 5 hh (by decide) hK hJ (k0_off78_inb i) k0_cond16 (fun _ => rfl) (k0_off79_inb i) (k0_chk14 i) (k0_chk14.dec i) (k0_off80_inb i) (k0_off81 i) (fun w v hw hp => k0_off81_inb i w v hw hp) (fun w v hw hp => k0_off81_wordsi8 i w v hw hp) (k0_off82_inb i) (k0_off82_wordsi8 i) (fun w v a b => ⟨fun _ => a, fun _ i => b i⟩) (fun _ => rfl) (offs14 i).1 (parity_tile (offs14 i).2)) $$ [H5 HB]
  · isplitl [H5]
    · iexact H5
    iexact HB
  iintro ⟨H5, HB⟩
  iapply (word_load (F := F) c arg4 (k0_off83 i) (k0_off83_inb i) x4 q) $$ H4
  iintro H4
  iapply (start_one (F := F) c arg4 arg5 arg16 harg16 arg20 harg20 arg21 pl x4 t4 x5 t5 q N hN (Finset.univ \ slabsAt nb first (pt i + 1)) (Finset.univ \ tilesAt nb (pt i + 1)) ((pt i + 2)) 6 hh (by decide) hK hJ (k0_off83_inb i) k0_cond17 (fun _ => rfl) (k0_off84_inb i) (k0_chk15 i) (k0_chk15.dec i) (k0_off85_inb i) (k0_off86 i) (fun w v hw hp => k0_off86_inb i w v hw hp) (fun w v hw hp => k0_off86_wordsi8 i w v hw hp) (k0_off87_inb i) (k0_off87_wordsi8 i) (fun w v a b => ⟨fun _ => a, fun _ i => b i⟩) (fun _ => rfl) (offs15 i).1 (parity_tile (offs15 i).2)) $$ [H5 HB]
  · isplitl [H5]
    · iexact H5
    iexact HB
  iintro ⟨H5, HB⟩
  iapply (word_load (F := F) c arg4 (k0_off88 i) (k0_off88_inb i) x4 q) $$ H4
  iintro H4
  iapply (start_one (F := F) c arg4 arg5 arg16 harg16 arg20 harg20 arg21 pl x4 t4 x5 t5 q N hN (Finset.univ \ slabsAt nb first (pt i + 1)) (Finset.univ \ tilesAt nb (pt i + 1)) ((pt i + 2)) 7 hh (by decide) hK hJ (k0_off88_inb i) k0_cond18 (fun _ => rfl) (k0_off89_inb i) (k0_chk16 i) (k0_chk16.dec i) (k0_off90_inb i) (k0_off91 i) (fun w v hw hp => k0_off91_inb i w v hw hp) (fun w v hw hp => k0_off91_wordsi8 i w v hw hp) (k0_off92_inb i) (k0_off92_wordsi8 i) (fun w v a b => ⟨fun _ => a, fun _ i => b i⟩) (fun _ => rfl) (offs16 i).1 (parity_tile (offs16 i).2)) $$ [H5 HB]
  · isplitl [H5]
    · iexact H5
    iexact HB
  iintro ⟨H5, HB⟩
  unfold started
  icases HB with ⟨H16, H20, HB⟩
  rw [Nat.min_eq_right (num_le nb (pt i + 2)), sdiff_sdiff, sdiff_sdiff]
  by_cases k0_h19 : k0_cond19 i = 1#1
  · have e128 := (cond19_iff i).mp k0_h19
    rw [dif_pos k0_h19, if_pos e128, wp_bind]
    iapply (part11_wp (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 pl x4 t4 x5 t5 q N hN) $$ [H4 H5 HO HF]
    · unfold wres
      isplitl [H4]
      · iexact H4
      isplitl [H5]
      · iexact H5
      isplitl [HO]
      · iexact HO
      iexact HF
    iintro %v53 %v71 HW
    rw [wp_bind]
    iapply (part12_wp (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 pl x4 t4 x5 t5 q N hN) $$ HW
    iintro %v128 %v131 HW
    unfold wres
    icases HW with ⟨H4, H5, HO, HF⟩
    imod (collect (F := F) c arg16 arg20 arg21 N hN0 nb first (pt i + 1) (Finset.univ \ (slabsAt nb first (pt i + 1) ∪ slabsAt nb first (pt i + 2)))
      (Finset.univ \ (tilesAt nb (pt i + 1) ∪ tilesAt nb (pt i + 2))) disj_sdiff disj_sdiff (num_le nb _)) $$ [H16 H20 HF] with ⟨H16, H20, HS1⟩
    · isplitl [H16]
      · iexact H16
      isplitl [H20]
      · iexact H20
      iexact HF
    rw [sdiff_union (slabs_disj pl (pt i + 1) (by omega)), sdiff_union (tiles_disj nb (pt i + 1)), wp_bind]
    iapply (part13_wp (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 pl x4 t4 x5 t5 q N hN) $$ [H4 H5 HO HB]
    · unfold wres
      rw [Nat.zero_min]
      isplitl [H4]
      · iexact H4
      isplitl [H5]
      · iexact H5
      isplitl [HO]
      · iexact HO
      iexact HB
    unfold wres
    iintro ⟨H4, H5, HO, HB⟩
    imod (collect (F := F) c arg16 arg20 arg21 N hN0 nb first (pt i + 2) (Finset.univ \ slabsAt nb first (pt i + 2))
      (Finset.univ \ tilesAt nb (pt i + 2)) Finset.sdiff_disjoint Finset.sdiff_disjoint (num_le nb _)) $$ [H16 H20 HB] with ⟨H16, H20, HS0⟩
    · isplitl [H16]
      · iexact H16
      isplitl [H20]
      · iexact H20
      iexact HB
    rw [Finset.sdiff_union_of_subset (Finset.subset_univ _), Finset.sdiff_union_of_subset (Finset.subset_univ _), e128]
    rw [wp_pure]
    imodintro
    isplitl [HR]
    · iexact HR
    isplitl [H4]
    · iexact H4
    isplitl [H5]
    · iexact H5
    isplitl [HO]
    · iexact HO
    unfold idle
    isplitl [H16]
    · iexact H16
    isplitl [H20]
    · iexact H20
    isplitl [HS0]
    · iexact HS0
    iexact HS1
  · have n128 : ¬ pt i = 128 := fun h => k0_h19 ((cond19_iff i).mpr h)
    rw [dif_neg k0_h19, if_neg n128, wp_pure]
    imodintro
    isplitl [HR]
    · iexact HR
    isplitl [H4]
    · iexact H4
    isplitl [H5]
    · iexact H5
    isplitl [HO]
    · iexact HO
    unfold mid
    isplitl [H16]
    · iexact H16
    isplitl [H20]
    · iexact H20
    isplitl [HF]
    · iexact HF
    rw [Nat.zero_min]
    iexact HB

end Cert.QuantIdeal.Kit
-- ==== Proof.QEntry.lean ====
/- What the run of the quantising call is stated over: its @main up to the call (the plan and the signs' columns, computed on the host), and the prefetched
   tables as the call finds them. -/
module

public import proofs.«01_k».proof.Proof.QPoint
public import Idealize.ShloMosaic.Lib.Pipeline.FrameBody

@[expose] public section

set_option maxRecDepth 16384

noncomputable section

namespace Cert.QuantIdeal.Kit

open Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- Core `c`'s TensorCore buffers when the call is entered: after all host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor

set_option maxHeartbeats 4000000 in
/-- @main up to the call. -/
theorem hmain (𝒱₀ : Variants) : Pipeline.HMainP (Ix := Unit) (Name := ℕ) (U := UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh⟩) main_chain

set_option maxHeartbeats 4000000

/-- No host operation before the call writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the call writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the call writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The tables' contents when the call is entered. -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl

/-- Every window whose index map reads a table has its block inside its array at every point. -/
abbrev Ok : Prop := ok0 (F := F) (tbl m)
/-- The tables' contents as admissible contents, and the pipeline at them. -/
abbrev adm (hO : Ok m) : (pcfg0 (F := F)).Adm := ⟨tbl m, hO⟩
abbrev cfgM (hO : Ok m) : Pipeline.Cfg sig Λ₀ := cfg0 (adm m hO)

end Cert.QuantIdeal.Kit

end
-- ==== Proof.QRun.lean ====
/- The run of the quantising call: its invariant between grid points, the body at every point, and the frame. -/
module

public import proofs.«01_k».proof.Proof.QEntry
public import Idealize.ShloMosaic.Lib.Pipeline.FrameBody

@[expose] public section

set_option maxRecDepth 16384

noncomputable section

namespace Cert.QuantIdeal.Kit

open Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The codes' array, the code buffer and the four tables, whole. -/
abbrev codesM : Memref sig .tc .hbm S323x32x6144 .i8 := Memref.whole main_v109_0
abbrev cbufM : Memref sig .tc .vmem S2x8x32x2048 .i8 := Memref.whole cc0_scratch1
abbrev offM : Memref sig .tc .smem S43 .i32 := Memref.whole main_v62
abbrev nbM : Memref sig .tc .smem S43 .i32 := Memref.whole main_v72
abbrev firstM : Memref sig .tc .smem S43 .i32 := Memref.whole main_v83

/-- The codes' array's credit of a transfer. -/
def perCopy : ℕ := ((codesM.slice (Rect.unit (s := S323x32x6144) ![0, 0, 0] S1x32x2048.size (by decide)) (fun _ => rfl)).squeeze S32x2048 squeezes_S1x32x2048_S32x2048).view.dmaCredit

theorem credit_codes : credit codesM perCopy := fun _ _ => rfl

theorem perCopy_pos : 0 < perCopy := by decide +kernel

/-- What is under way before point `n`: nothing at the start and at the end. -/
def state (c : Dev nD) (nb first : ℕ → ℕ) (n : ℕ) : sProp 𝕄 :=
  if n = 0 ∨ n = 129 then idle (F := F) c codesM cbufM cc0_scratch2 else mid (F := F) c codesM cbufM cc0_scratch2 perCopy nb first n

/-- The invariant before point `n`. -/
def inv (c : Dev nD) (nb first : ℕ → ℕ) (n : ℕ) : sProp 𝕄 :=
  iprop((∃ f : Buf (Elt F) ((c : Thread nD τ).loc cc0_scratch0), ((c : Thread nD τ).loc cc0_scratch0) ↦{fullShare} f) ∗ (∃ r, prngReg c r)
    ∗ Pipeline.ΦT pre0 (tbl m) c ∗ state (F := F) c nb first n)

/-- The proof data: nothing is named of what the windows hold. -/
def dats (hO : Ok m) (nb first : ℕ → ℕ) (_ : Fin 1) (c : Dev nD) : Dat τ (Elt F) Unit ℕ (UD sig nD τ) ℕ (cfgM m hO) c where
  A w := V m c (Pipeline.arrRef spec0 w)
  after w t := Pipeline.Dat.unnamed w t
  Φ t := inv (F := F) m c nb first t.val
  q w := Pipeline.shareOf spec0 w
  owed _ := 0

theorem A_eq (hO : Ok m) (nb first : ℕ → ℕ) (c : Dev nD) (w : Fin (cfgM m hO).W) : (dats m hO nb first 0 c).A w = V m c (Pipeline.arrRef spec0 w) := by
  dsimp only [dats]

/-- The tables' halves, table by table. -/
theorem PhiT0_eq (c : Dev nD) : (Pipeline.ΦT pre0 (tbl m) c : sProp 𝕄)
    = iprop((((Memref.whole main_v59 : Memref sig .tc .smem S43 .i32).view.loc (c : Thread nD τ)) ↦{fullShare.right} tbl m 0) ∗ ((offM.view.loc (c : Thread nD τ)) ↦{fullShare.right} tbl m 1)
      ∗ ((nbM.view.loc (c : Thread nD τ)) ↦{fullShare.right} tbl m 2) ∗ ((firstM.view.loc (c : Thread nD τ)) ↦{fullShare.right} tbl m 3)) := by
  unfold Pipeline.ΦT Pipeline.prefHeld
  rw [bigSep_univ_eq_bigSepL [(0 : Fin 4), 1, 2, 3] (by decide) (by decide)]
  rfl

/-- A whole buffer held in full is the memref over it owned at every index. -/
theorem own_whole (c : Dev nD) (b : Ref sig .tc) :
    (iprop(∃ f : Buf (Elt F) ((c : Thread nD τ).loc b), ((c : Thread nD τ).loc b) ↦{fullShare} f) : sProp 𝕄) = own (F := F) c (Memref.whole b) Finset.univ := by
  unfold own
  have e : (Memref.whole b).view.setOn Finset.univ = (Finset.univ : Finset (Memref.whole b).view.ty.Idx) := View.set_whole _
  rw [e]

/-- A whole buffer held in full, as the memref over it. -/
theorem held_whole (c : Dev nD) (b : Ref sig .tc) :
    (iprop(∃ f : Buf (Elt F) ((c : Thread nD τ).loc b), ((c : Thread nD τ).loc b) ↦{fullShare} f) : sProp 𝕄)
      = iprop(∃ f, ((Memref.whole b).view.loc (c : Thread nD τ) ↦[(Memref.whole b).view.set]{fullShare} f)) := by
  have e : (Memref.whole b).view.set = (Finset.univ : Finset (Memref.whole b).view.ty.Idx) := View.set_whole _
  rw [e]

theorem coord_pt : ∀ t : Fin grid0.N, pt (grid0.coords t) = t.val := by decide +kernel

/-- From nothing under way to the state before the first point: two empty batches. -/
theorem idle_mid (c : Dev nD) (nb first : ℕ → ℕ) :
    (idle (F := F) c codesM cbufM cc0_scratch2 : sProp 𝕄) ⊢ iprop(|={Set.univ}=> mid (F := F) c codesM cbufM cc0_scratch2 perCopy nb first 0) := by
  unfold idle mid flight
  have e16 : (Finset.univ : Finset S323x32x6144.Idx) \ (slabsAt nb first 0 ∪ slabsAt nb first (0 + 1)) = Finset.univ := by
    apply Finset.sdiff_eq_self_of_disjoint
    rw [Finset.disjoint_left]; intro j _ hj
    rcases Finset.mem_union.mp hj with h | h
    · have := mem_slabs.mp h; rw [show num nb 0 = 0 from rfl] at this; omega
    · have := mem_slabs.mp h; rw [show num nb (0 + 1) = 0 from rfl] at this; omega
  have e20 : (Finset.univ : Finset S2x8x32x2048.Idx) \ (tilesAt nb 0 ∪ tilesAt nb (0 + 1)) = Finset.univ := by
    apply Finset.sdiff_eq_self_of_disjoint
    rw [Finset.disjoint_left]; intro j _ hj
    rcases Finset.mem_union.mp hj with h | h
    · have := mem_tiles.mp h; rw [show num nb 0 = 0 from rfl] at this; omega
    · have := mem_tiles.mp h; rw [show num nb (0 + 1) = 0 from rfl] at this; omega
  rw [e16, e20]
  iintro ⟨H16, H20, S0, S1⟩
  imod (Transfers.batch_alloc' (countersEmb (U := UD sig nD τ)) (c : Thread nD τ) () perCopy (deliv (F := F) c codesM cbufM (pos first 0) (col 0) (0 % 2) (n := num nb 0))
    (sm := .dma (semOf cc0_scratch2 0)) (E := Set.univ)) $$ S0 with B0
  imod (Transfers.batch_alloc' (countersEmb (U := UD sig nD τ)) (c : Thread nD τ) () perCopy (deliv (F := F) c codesM cbufM (pos first (0 + 1)) (col (0 + 1)) ((0 + 1) % 2) (n := num nb (0 + 1)))
    (sm := .dma (semOf cc0_scratch2 (0 + 1))) (E := Set.univ)) $$ S1 with B1
  imodintro
  isplitl [H16]
  · iexact H16
  isplitl [H20]
  · iexact H20
  isplitl [B0]
  · iexact B0
  iexact B1

/-- Before a point, what is under way is `mid`, after the empty batches at the first. -/
theorem state_mid (c : Dev nD) (nb first : ℕ → ℕ) (n : ℕ) (h : n < 129) :
    (state (F := F) c nb first n : sProp 𝕄) ⊢ iprop(|={Set.univ}=> mid (F := F) c codesM cbufM cc0_scratch2 perCopy nb first n) := by
  unfold state
  by_cases h0 : n = 0
  · subst h0
    rw [if_pos (Or.inl rfl)]
    exact idle_mid c nb first
  · rw [if_neg (by omega)]
    iintro H
    imodintro
    iexact H

theorem state_next (c : Dev nD) (nb first : ℕ → ℕ) (n : ℕ) (h : n < 129) :
    (if n = 128 then idle (F := F) c codesM cbufM cc0_scratch2 else mid (F := F) c codesM cbufM cc0_scratch2 perCopy nb first (n + 1) : sProp 𝕄)
      = state (F := F) c nb first (n + 1) := by
  unfold state
  by_cases h1 : n = 128
  · rw [if_pos h1, if_pos (by omega)]
  · rw [if_neg h1, if_neg (by omega)]

/-- The body at point `t`, on what the pipeline calls it with. -/
abbrev bodyAt0 (hO : Ok m) (t : Fin (cfgM m hO).N) : Prog (TpuEff nD τ sig (Elt F) Λ₀ .tc) PUnit :=
  cc0_quant_x (grid0.coords t) (Memref.whole main_v59) (Memref.isWhole_whole _) (Memref.whole main_v62) (Memref.isWhole_whole _) (Memref.whole main_v72) (Memref.isWhole_whole _) (Memref.whole main_v83) (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) (spec0_7.stage ((cfgM m hO).slots t 7)) (hstage0_7 (((cfgM m hO).slots t 7).cast nbuf0_7)) (spec0_8.stage ((cfgM m hO).slots t 8)) (hstage0_8 (((cfgM m hO).slots t 8).cast nbuf0_8)) (spec0_9.stage ((cfgM m hO).slots t 9)) (hstage0_9 (((cfgM m hO).slots t 9).cast nbuf0_9)) (Memref.whole main_v109_0) (Memref.isWhole_whole _) (spec0_10.stage ((cfgM m hO).slots t 10)) (hstage0_10 (((cfgM m hO).slots t 10).cast nbuf0_10)) (spec0_11.stage ((cfgM m hO).slots t 11)) (hstage0_11 (((cfgM m hO).slots t 11).cast nbuf0_11)) (Memref.whole cc0_scratch0) (Memref.isWhole_whole _) (Memref.whole cc0_scratch1) (Memref.isWhole_whole _) cc0_scratch2

theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

set_option maxHeartbeats 4000000 in
/-- The body at any point keeps the invariant. -/
theorem sound_body (hO : Ok m) {nb first : ℕ → ℕ} (pl : Plan nb first) (c : Dev nD) (t4 : Tab (F := F) c nbM (tbl m 2) nb) (t5 : Tab (F := F) c firstM (tbl m 3) first) (t : Fin (cfgM m hO).N) :
    (iprop(inv (F := F) m c nb first t.val ∗ Pipeline.owesWithin c 0 Set.univ
      ∗ (∃ X, owns (c : Thread nD τ) (spec0_0.stage ((cfgM m hO).slots t 0)) fullShare X) ∗ (∃ X, owns (c : Thread nD τ) (spec0_1.stage ((cfgM m hO).slots t 1)) fullShare X) ∗ (∃ X, owns (c : Thread nD τ) (spec0_2.stage ((cfgM m hO).slots t 2)) fullShare X) ∗ (∃ X, owns (c : Thread nD τ) (spec0_3.stage ((cfgM m hO).slots t 3)) fullShare X) ∗ (∃ X, owns (c : Thread nD τ) (spec0_4.stage ((cfgM m hO).slots t 4)) fullShare X) ∗ (∃ X, owns (c : Thread nD τ) (spec0_5.stage ((cfgM m hO).slots t 5)) fullShare X) ∗ (∃ X, owns (c : Thread nD τ) (spec0_6.stage ((cfgM m hO).slots t 6)) fullShare X) ∗ (∃ X, owns (c : Thread nD τ) (spec0_7.stage ((cfgM m hO).slots t 7)) fullShare X) ∗ (∃ X, owns (c : Thread nD τ) (spec0_8.stage ((cfgM m hO).slots t 8)) fullShare X) ∗ (∃ X, owns (c : Thread nD τ) (spec0_9.stage ((cfgM m hO).slots t 9)) fullShare X) ∗ (∃ X, owns (c : Thread nD τ) (spec0_10.stage ((cfgM m hO).slots t 10)) fullShare X) ∗ (∃ X, owns (c : Thread nD τ) (spec0_11.stage ((cfgM m hO).slots t 11)) fullShare X)) : sProp 𝕄)
      ⊢ wp frame (wpE (defs₀ (F := F)) Variants.none c none) Set.univ (bodyAt0 m hO t) (fun _ =>
        iprop(inv (F := F) m c nb first (t.val + 1) ∗ Pipeline.owesWithin c 0 Set.univ
          ∗ (∃ X, owns (c : Thread nD τ) (spec0_0.stage ((cfgM m hO).slots t 0)) fullShare X) ∗ (∃ X, owns (c : Thread nD τ) (spec0_1.stage ((cfgM m hO).slots t 1)) fullShare X) ∗ (∃ X, owns (c : Thread nD τ) (spec0_2.stage ((cfgM m hO).slots t 2)) fullShare X) ∗ (∃ X, owns (c : Thread nD τ) (spec0_3.stage ((cfgM m hO).slots t 3)) fullShare X) ∗ (∃ X, owns (c : Thread nD τ) (spec0_4.stage ((cfgM m hO).slots t 4)) fullShare X) ∗ (∃ X, owns (c : Thread nD τ) (spec0_5.stage ((cfgM m hO).slots t 5)) fullShare X) ∗ (∃ X, owns (c : Thread nD τ) (spec0_6.stage ((cfgM m hO).slots t 6)) fullShare X) ∗ (∃ X, owns (c : Thread nD τ) (spec0_7.stage ((cfgM m hO).slots t 7)) fullShare X) ∗ (∃ X, owns (c : Thread nD τ) (spec0_8.stage ((cfgM m hO).slots t 8)) fullShare X) ∗ (∃ X, owns (c : Thread nD τ) (spec0_9.stage ((cfgM m hO).slots t 9)) fullShare X) ∗ (∃ X, owns (c : Thread nD τ) (spec0_10.stage ((cfgM m hO).slots t 10)) fullShare X) ∗ (∃ X, owns (c : Thread nD τ) (spec0_11.stage ((cfgM m hO).slots t 11)) fullShare X))) := by
  have hlt : t.val < 129 := t.isLt
  unfold inv owns bodyAt0
  rw [PhiT0_eq, held_whole]
  iintro ⟨⟨HL, HP, ⟨T2, T3, T4, T5⟩, HS⟩, HO, ⟨%X0, %f0, -, H0⟩, ⟨%X1, %f1, -, H1⟩, ⟨%X2, %f2, -, H2⟩, ⟨%X3, %f3, -, H3⟩, ⟨%X4, %f4, -, H4⟩, ⟨%X5, %f5, -, H5⟩, ⟨%X6, %f6, -, H6⟩, ⟨%X7, %f7, -, H7⟩, ⟨%X8, %f8, -, H8⟩, ⟨%X9, %f9, -, H9⟩, ⟨%X10, %f10, -, H10⟩, ⟨%X11, %f11, -, H11⟩⟩
  imod (state_mid (F := F) c nb first t.val hlt) $$ HS with HS
  have hb := body_wp (F := F) c (grid0.coords t) (Memref.whole main_v59) (Memref.isWhole_whole _) (Memref.whole main_v62) (Memref.isWhole_whole _) (Memref.whole main_v72) (Memref.isWhole_whole _) (Memref.whole main_v83) (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) (spec0_7.stage ((cfgM m hO).slots t 7)) (hstage0_7 (((cfgM m hO).slots t 7).cast nbuf0_7)) (spec0_8.stage ((cfgM m hO).slots t 8)) (hstage0_8 (((cfgM m hO).slots t 8).cast nbuf0_8)) (spec0_9.stage ((cfgM m hO).slots t 9)) (hstage0_9 (((cfgM m hO).slots t 9).cast nbuf0_9)) (Memref.whole main_v109_0) (Memref.isWhole_whole _) (spec0_10.stage ((cfgM m hO).slots t 10)) (hstage0_10 (((cfgM m hO).slots t 10).cast nbuf0_10)) (spec0_11.stage ((cfgM m hO).slots t 11)) (hstage0_11 (((cfgM m hO).slots t 11).cast nbuf0_11)) (Memref.whole cc0_scratch0) (Memref.isWhole_whole _) (Memref.whole cc0_scratch1) (Memref.isWhole_whole _) cc0_scratch2 pl (tbl m 2) t4 (tbl m 3) t5 fullShare.right perCopy credit_codes perCopy_pos (tbl m 1)
  rw [coord_pt t, state_next (F := F) c nb first t.val hlt] at hb
  iapply (wp_wand_r Idealize.ShloMosaic.frame (wpE (defs₀ (F := F)) Variants.none (c : Thread nD τ) none) Set.univ)
  isplitl [HL T3 T4 T5 HS HO H0 H1 H2 H3 H4 H5 H6 H7 H8 H9 H10 H11]
  · iapply hb
    isplitl [HL T3 H0 H1 H2 H3 H4 H5 H6 H7 H8 H9 H10 H11]
    · unfold around readOnly
      isplitl [T3]; · iexact T3
      isplitl [H0]; · iexists f0; iexact H0
      isplitl [HL H1 H2 H3 H4 H5 H6 H7 H8 H9]
      · isplitl [H1]; · iexists f1; iexact H1
        isplitl [H2]; · iexists f2; iexact H2
        isplitl [H3]; · iexists f3; iexact H3
        isplitl [H4]; · iexists f4; iexact H4
        isplitl [H5]; · iexists f5; iexact H5
        isplitl [H6]; · iexists f6; iexact H6
        isplitl [H7]; · iexists f7; iexact H7
        isplitl [H8]; · iexists f8; iexact H8
        isplitl [H9]; · iexists f9; iexact H9
        iexact HL
      isplitl [H10]; · iexists f10; iexact H10
      iexists f11; iexact H11
    isplitl [T4]; · iexact T4
    isplitl [T5]; · iexact T5
    isplitl [HO]; · iexact HO
    iexact HS
  iintro %_ ⟨HR, T4, T5, HO, HS⟩
  unfold around readOnly
  icases HR with ⟨T3, ⟨%g0, H0⟩, ⟨⟨%g1, H1⟩, ⟨%g2, H2⟩, ⟨%g3, H3⟩, ⟨%g4, H4⟩, ⟨%g5, H5⟩, ⟨%g6, H6⟩, ⟨%g7, H7⟩, ⟨%g8, H8⟩, ⟨%g9, H9⟩, HL⟩, ⟨%g10, H10⟩, ⟨%g11, H11⟩⟩
  isplitl [HL HP T2 T3 T4 T5 HS]
  · isplitl [HL]; · iexact HL
    isplitl [HP]; · iexact HP
    isplitl [T2 T3 T4 T5]
    · isplitl [T2]; · iexact T2
      isplitl [T3]; · iexact T3
      isplitl [T4]; · iexact T4
      iexact T5
    iexact HS
  isplitl [HO]; · iexact HO
  isplitl [H0]; · iexists _; iexists g0; isplitr; (ipureintro; rfl); iexact H0
  isplitl [H1]; · iexists _; iexists g1; isplitr; (ipureintro; rfl); iexact H1
  isplitl [H2]; · iexists _; iexists g2; isplitr; (ipureintro; rfl); iexact H2
  isplitl [H3]; · iexists _; iexists g3; isplitr; (ipureintro; rfl); iexact H3
  isplitl [H4]; · iexists _; iexists g4; isplitr; (ipureintro; rfl); iexact H4
  isplitl [H5]; · iexists _; iexists g5; isplitr; (ipureintro; rfl); iexact H5
  isplitl [H6]; · iexists _; iexists g6; isplitr; (ipureintro; rfl); iexact H6
  isplitl [H7]; · iexists _; iexists g7; isplitr; (ipureintro; rfl); iexact H7
  isplitl [H8]; · iexists _; iexists g8; isplitr; (ipureintro; rfl); iexact H8
  isplitl [H9]; · iexists _; iexists g9; isplitr; (ipureintro; rfl); iexact H9
  isplitl [H10]; · iexists _; iexists g10; isplitr; (ipureintro; rfl); iexact H10
  iexists _; iexists g11; isplitr; · ipureintro; rfl
  iexact H11

/-- The library's body obligation, at every point, with every window forgotten. -/
theorem body_obligation (hO : Ok m) {nb first : ℕ → ℕ} (pl : Plan nb first) (c : Dev nD) (t4 : Tab (F := F) c nbM (tbl m 2) nb) (t5 : Tab (F := F) c firstM (tbl m 3) first) :
    Pipeline.BodyObligation (dats (F := F) m hO nb first 0 c) (defs₀ (F := F)) Variants.none () Set.univ (fun _ => true) := fun t => by
  rw [bigSep_W0, defs₀_row m hO]
  have e0 : (dats m hO nb first 0 c).owesAt () t.castSucc = Pipeline.owesWithin c 0 Set.univ := by
    unfold Pipeline.Dat.owesAt Pipeline.Dat.bound
    rw [show (dats m hO nb first 0 c).recorded t.castSucc = Set.univ from rfl, Set.univ_union]; rfl
  have e1 : (dats m hO nb first 0 c).owesAt () t.succ = Pipeline.owesWithin c 0 Set.univ := by
    unfold Pipeline.Dat.owesAt Pipeline.Dat.bound
    rw [show (dats m hO nb first 0 c).recorded t.succ = Set.univ from rfl, Set.univ_union]; rfl
  rw [e0, e1]
  exact triple_restated (sound_body m hO pl c t4 t5 t) rfl .rfl fun _ => .rfl

/-- The call's own semaphores: the two of the code buffer. -/
def osem (k : Fin 2) : SemLoc sig := .dma (semOf cc0_scratch2 k.val)

theorem ownFacts : Pipeline.OwnSemFacts spec0 osem := by decide +kernel

theorem own_sems (c : Dev nD) : (Pipeline.ownSems0 osem c : sProp 𝕄)
    = iprop(semVal ((c : Thread nD τ), .dma (semOf cc0_scratch2 0)) 0 ∗ semVal ((c : Thread nD τ), .dma (semOf cc0_scratch2 1)) 0) := by
  rw [Pipeline.ownSems0_eq_of_list (τ := τ) c osem [0, 1] (by decide) (by decide)]
  rfl

theorem codes_rest : ({main_v109_0} : Finset (Ref sig .tc)) ⊆ Pipeline.restRefsP sig pre0 spec0 \ ∅ := by decide +kernel

theorem arg1_rest : main_arg1 ∈ Pipeline.restRefs sig spec0 \ {main_v109_0} := by decide +kernel
theorem arg2_rest : main_arg2 ∈ Pipeline.restRefs sig spec0 \ {main_v109_0} := by decide +kernel

/-- Entering: everything the call is handed is the invariant before the first point. -/
theorem enter (c : Dev nD) (nb first : ℕ → ℕ) :
    (iprop(Pipeline.ΦDR (Val := Elt F) osem spec0 ∅ {main_v109_0} (V m) c ∗ Pipeline.ΦT pre0 (tbl m) c) : sProp 𝕄) ⊢ inv (F := F) m c nb first 0 := by
  rw [Pipeline.ΦDR_eq, scopedRest0_eq, own_sems]
  unfold Pipeline.owned
  rw [bigSep_empty, bigSep_singleton, own_whole c main_v109_0, own_whole c cc0_scratch1]
  unfold inv state idle
  rw [if_pos (Or.inl rfl)]
  iintro ⟨⟨⟨HL, HC⟩, HP, ⟨S0, S1⟩, -, H16⟩, HT⟩
  isplitl [HL]; · iexact HL
  isplitl [HP]; · iexact HP
  isplitl [HT]; · iexact HT
  isplitl [H16]; · iexact H16
  isplitl [HC]; · iexact HC
  isplitl [S0]; · iexact S0
  iexact S1

/-- Leaving: the invariant after the last point gives everything back. -/
theorem leave (c : Dev nD) (nb first : ℕ → ℕ) :
    (inv (F := F) m c nb first 129 : sProp 𝕄) ⊢ Pipeline.ΦDR (Val := Elt F) osem spec0 ∅ {main_v109_0} (V m) c := by
  rw [Pipeline.ΦDR_eq, scopedRest0_eq, own_sems]
  unfold Pipeline.owned
  rw [bigSep_empty, bigSep_singleton, own_whole c main_v109_0, own_whole c cc0_scratch1]
  unfold inv state idle
  rw [if_pos (Or.inr rfl)]
  iintro ⟨HL, HP, -, H16, HC, S0, S1⟩
  isplitl [HL HC]
  · isplitl [HL]; · iexact HL
    iexact HC
  isplitl [HP]; · iexact HP
  isplitl [S0 S1]
  · isplitl [S0]; · iexact S0
    iexact S1
  isplitr; · iapply (show (iprop(emp) : sProp 𝕄) ⊢ BI.emp from .rfl); iempintro
  iexact H16

set_option backward.isDefEq.respectTransparency.types false in
set_option maxHeartbeats 4000000 in
/-- Every execution ends, with the arguments unchanged and every semaphore counter at zero. -/
theorem run_frame (hO : Ok m) {nb first : ℕ → ℕ} (pl : Plan nb first) (t4 : Tab (F := F) (0 : Dev nD) nbM (tbl m 2) nb) (t5 : Tab (F := F) (0 : Dev nD) firstM (tbl m 3) first) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frameP_dmaR_forget_shared (Q' := _) pcfgs (fun _ => adm m hO) (dats m hO nb first) (0 : Fin 1) launch₀0 osem defs₀ Variants.none (fun _ => true) ownFacts ∅ {main_v109_0}
    (Finset.empty_subset _) codes_rest m ρ main
    (hbody := fun c => by obtain rfl : c = 0 := Subsingleton.elim _ _; exact (body_obligation m hO pl 0 t4 t5).loose) (hq := fun _ _ _ => rfl)
    (howed := fun _ _ => rfl) (V := V m) (hmain := hmain m Variants.none) (hA := A_eq m hO nb first) (hpf := V_pre m)
    (hin := fun c => enter m c nb first) (hout := fun c => leave m c nb first)
    (hQ' := fun r h => ⟨fun c => ⟨(Pipeline.RDat.FramePostR.arr_in h.1 c 1 rfl).trans (V_main_arg0 m c),
      ((h.1 c).2 main_arg1 arg1_rest).trans (V_main_arg1 m c), ((h.1 c).2 main_arg2 arg2_rest).trans (V_main_arg2 m c)⟩, h.2⟩)

end Cert.QuantIdeal.Kit

end
-- ==== Proof.QTable.lean ====
/- The tables the first quantising call reads, as the step plan of the group sizes: every window lies in the rows, and the
   blocks of codes a step writes lie in the codes array and below those of the next step. -/
module

public import proofs.«01_k».proof.Proof.QPlan
public import proofs.«01_k».proof.Proof.QRun

@[expose] public section

set_option maxRecDepth 16384

noncomputable section

namespace Cert.QuantIdeal.Kit

open Cert.QuantIdeal Cert.QuantIdeal.Gen
open Idealize.ShloMosaic Idealize.ShloMosaic.TcCoe Idealize.ShloMosaic.Tactic Idealize.ShloMosaic.ValueIdx
open Idealize.SL Idealize.SL.Sem
open Cert.QuantPlan

variable {F : FTy → Type} [FloatOps F]
variable (m : (ℓ : Loc nD τ sig) → Buf (Elt F) ℓ) (ρ : Dev nD → PrngReg)

/-- The group sizes the program is launched with. -/
abbrev sizes : IVec (Routing.shape1 3) 32 := m (((0 : Dev nD) : Thread nD τ).loc main_arg1)

theorem side : Side where
  b0 := Facts₀.bcast_S_S_
  b3 := Facts₀.bcast_S_S3
  b43 := Facts₀.bcast_S_S43
  h₁ := Facts₀.bcast_S43_S43x1_0
  h₂ := Facts₀.bcast_S43x1_S43x3_0_1
  h₃ := Facts₀.bcast_S3_S1x3_1
  h₄ := Facts₀.bcast_S1x3_S43x3_0_1
  hr := Facts₀.reducesTo_S43x3_S43_d1
  hs := Facts₀.reducesTo_S3_S_d0
  hu := Facts₀.h_S_
  hw := Facts₀.natLt_1_32
  hc := Facts₀.reduceWindows_S3_S3_w3s1p2_0

/-- The take the plan's reads print. -/
abbrev takeD : GatherDims (Routing.shape1 3) (Routing.shape2 43 1) (Routing.shape1 43) := gather_S3_S43x1_S43_n_0_n_n_0_1_1

set_option maxHeartbeats 16000000 in
/-- The first table is the window starts. -/
theorem win_eq : (V m (0 : Dev nD) main_v59 : S43.Idx → BitVec 32) = winV side takeD (sizes m) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp
  rfl

set_option maxHeartbeats 16000000 in
/-- The third table is how many blocks of codes each step writes. -/
theorem count_eq : (V m (0 : Dev nD) main_v72 : S43.Idx → BitVec 32) = countV side takeD (sizes m) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp
  rfl

set_option maxHeartbeats 16000000 in
/-- The fourth table is each step's first block of codes. -/
theorem first_eq : (V m (0 : Dev nD) main_v83 : S43.Idx → BitVec 32) = firstV side takeD (sizes m) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp
  rfl

/-- A table read one word at a time holds the numbers its entries hold. -/
theorem tab_of (b : Ref sig .tc) (a : Memref sig .tc .smem S43 .i32) (x : Buf (Elt F) (a.view.loc ((0 : Dev nD) : Thread nD τ))) (f : ℕ → ℕ)
    (y : S43.Idx → BitVec 32) (hxy : ∀ (o : Fin 1 → ℕ) (i : ∀ a, o a + S1.size a ≤ S43.size a) (k : Fin 43), k.val = o 0 → wordOf a (0 : Dev nD) x o i = y (ix1 k))
    (hy : ∀ k : Fin 43, y (ix1 k) = BitVec.ofNat 32 (f k.val)) : Tab (F := F) (0 : Dev nD) a x f := by
  intro o i
  have h : o 0 + 1 ≤ 43 := i 0
  rw [hxy o i ⟨o 0, by omega⟩ rfl, hy]

section
variable (hG : size (sizes m) 0 + size (sizes m) 1 + size (sizes m) 2 ≤ 10240)
include hG

/-- What the body's transfers need of the plan. -/
theorem plan : Plan (count (size (sizes m))) (first (size (sizes m))) where
  nb_le s _ := count_le _ s
  fit s _ := fit _ hG s
  next s hs := next _ hG s hs

theorem tab_count : Tab (F := F) (0 : Dev nD) nbM (tbl m 2) (count (size (sizes m))) := by
  refine tab_of main_v72 nbM _ _ (V m (0 : Dev nD) main_v72) (fun o i k hk => ?_) fun k => ?_
  · show (V m (0 : Dev nD) main_v72 : S43.Idx → BitVec 32) _ = _
    congr 1; funext a; apply Fin.ext
    match a with
    | ⟨0, _⟩ => show o 0 + 1 * 0 = k.val; omega
  · rw [count_eq]; exact countV_ap side takeD (sizes m) hG rfl rfl rfl rfl k

theorem tab_first : Tab (F := F) (0 : Dev nD) firstM (tbl m 3) (first (size (sizes m))) := by
  refine tab_of main_v83 firstM _ _ (V m (0 : Dev nD) main_v83) (fun o i k hk => ?_) fun k => ?_
  · show (V m (0 : Dev nD) main_v83 : S43.Idx → BitVec 32) _ = _
    congr 1; funext a; apply Fin.ext
    match a with
    | ⟨0, _⟩ => show o 0 + 1 * 0 = k.val; omega
  · rw [first_eq]; exact firstV_ap side takeD (sizes m) hG rfl rfl rfl rfl k

/-- Every word of the first table is a block of rows. -/
theorem win_le (s : Fin 43) : ((tbl m 0 : S43.Idx → BitVec 32) (ix1 s)).toNat ≤ 319 := by
  rw [show (tbl m 0 : S43.Idx → BitVec 32) = _ from win_eq m]
  exact winV_le side takeD (sizes m) hG rfl rfl rfl rfl s

omit hG in
/-- A block of rows moved on by less than nine and cut at the last block is a block of rows. -/
theorem cut_le (w k : BitVec 32) (hw : w.toNat ≤ 319) (hk : k.toNat ≤ 8) : (Scalar.minsi (Scalar.addi w k) 319#32).toNat ≤ 319 := by
  show (IntOp.minsi (w + k) 319#32).toNat ≤ 319
  have e : w + k = BitVec.ofNat 32 (w.toNat + k.toNat) := by
    apply BitVec.eq_of_toNat_eq
    rw [BitVec.toNat_add, BitVec.toNat_ofNat]
  unfold IntOp.minsi
  rw [e, show (319#32 : BitVec 32) = BitVec.ofNat 32 319 from rfl, Routing.slt_ofNat32 (by omega) (by decide)]
  by_cases h : w.toNat + k.toNat < 319
  · rw [if_pos (decide_eq_true h), BitVec.toNat_ofNat]; omega
  · rw [if_neg (fun e => h (of_decide_eq_true e))]; decide

/-- A window's block lies in the rows. -/
theorem win_ok (i : grid0.Coords) (k : BitVec 32) (hk : k.toNat ≤ 8) :
    (∀ a, ((![(Scalar.minsi (Scalar.addi ((tbl m).at 0 (Rect.unit (s := S43) ![(Scalar.indexCast (BitVec.ofNat 32 (i 0).val)).toNat] S1.size (k0_off1_inb i)) numel1_S1) k) 319#32).toNat,
      (BitVec.ofNat 32 (i 1).val).toNat] : Fin 2 → ℕ) a + 1) * S32x2048.size a ≤ S10240x6144.size a) := by
  have h0 : (i 0).val < 43 := (i 0).isLt
  have h1 : (i 1).val < 3 := (i 1).isLt
  have e : (tbl m).at 0 (Rect.unit (s := S43) ![(Scalar.indexCast (BitVec.ofNat 32 (i 0).val)).toNat] S1.size (k0_off1_inb i)) numel1_S1
      = (tbl m 0 : S43.Idx → BitVec 32) (ix1 (i 0)) := by
    show (tbl m 0 : S43.Idx → BitVec 32) _ = _
    congr 1; funext a; apply Fin.ext
    match a with
    | ⟨0, _⟩ => show k0_off1 i 0 + 1 * 0 = (i 0).val; rw [k0_off1_eq]; rfl
  rw [e]
  have c := cut_le _ k (win_le m hG (i 0)) hk
  intro a
  match a with
  | ⟨0, _⟩ =>
    show ((Scalar.minsi (Scalar.addi ((tbl m 0 : S43.Idx → BitVec 32) (ix1 (i 0))) k) 319#32).toNat + 1) * 32 ≤ 10240
    omega
  | ⟨1, _⟩ =>
    show ((BitVec.ofNat 32 (i 1).val).toNat + 1) * 2048 ≤ 6144
    rw [BitVec.toNat_ofNat]; omega

omit hG in
/-- A block of 32 rows is whole words. -/
theorem block_words (o : Fin 2 → ℕ) (h : ∀ a, (o a + 1) * S32x2048.size a ≤ S10240x6144.size a) :
    (Rect.block (s := S10240x6144) S32x2048.size o h).WholeWords (EltTy.packing .bf16) :=
  .inl (.inr ⟨by decide, rfl, .inl ⟨⟨o 0 * 16, by show o 0 * 32 = 2 * (o 0 * 16); omega⟩, ⟨16, rfl⟩⟩⟩)

/-- Every window lies in the rows at every grid point, and its transfers end at whole words. -/
theorem ok : Ok m :=
  ⟨fun i => ⟨win_ok m hG i 0#32 (by decide), .inr (block_words _ _)⟩, fun i => ⟨win_ok m hG i 1#32 (by decide), .inr (block_words _ _)⟩, fun i => ⟨win_ok m hG i 2#32 (by decide), .inr (block_words _ _)⟩,
    fun i => ⟨win_ok m hG i 3#32 (by decide), .inr (block_words _ _)⟩, fun i => ⟨win_ok m hG i 4#32 (by decide), .inr (block_words _ _)⟩, fun i => ⟨win_ok m hG i 5#32 (by decide), .inr (block_words _ _)⟩,
    fun i => ⟨win_ok m hG i 6#32 (by decide), .inr (block_words _ _)⟩, fun i => ⟨win_ok m hG i 7#32 (by decide), .inr (block_words _ _)⟩, fun i => ⟨win_ok m hG i 8#32 (by decide), .inr (block_words _ _)⟩⟩

/-- Where the group sizes add up to at most the rows, every execution ends with the arguments unchanged and every
    semaphore counter at zero. -/
theorem run_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  run_frame m ρ (ok m hG) (plan m hG) (tab_count m hG) (tab_first m hG)

end

end Cert.QuantIdeal.Kit
-- ==== Proof.KQSite.lean ====
/- One guarded transfer of the quantiser's codes, as the body starts it and as it waits for it: what is held of the codes
   array and of the code buffer before and after, stated once for every one of the body's sites. -/
module

public import proofs.«01_k».proof.Proof.Gen.Quant
public import proofs.«01_k».proof.Proof.Gen.Quant.Launch
public import proofs.«01_k».proof.Proof.Gen.Quant.Loops
public import proofs.«01_k».proof.Proof.Gen.Quant.Skeleton
public import Idealize.ShloMosaic.Lib.Pipeline.Kit
public import Idealize.ShloMosaic.Lib.Pipeline.Frame
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Quant.Kit

open Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! ## The pieces -/

/-- The codes array's slabs `p … p + m - 1` at the columns of block column `k`. -/
def slabs (p m k : ℕ) : Finset S323x32x6144.Idx :=
  Finset.univ.filter fun i => (p ≤ (i 0).val ∧ (i 0).val < p + m) ∧ 2048 * k ≤ (i 2).val ∧ (i 2).val < 2048 * k + 2048

/-- The code buffer's tiles `t … t + m - 1` of slot `sl`. -/
def tiles (sl t m : ℕ) : Finset S2x8x32x2048.Idx :=
  Finset.univ.filter fun i => (i 0).val = sl ∧ t ≤ (i 1).val ∧ (i 1).val < t + m

/-- The elements `K` of a memref, held at some contents. -/
def own (c : Dev nD) {sp : Space} {s : Shape} {e : EltTy} (m : Memref sig .tc sp s e) (K : Finset s.Idx) : sProp 𝕄 :=
  iprop(∃ f, m.view.loc (c : Thread nD τ) ↦[m.view.setOn K]{fullShare} f)

/-- What transfer `t` of a step's transfers gives back: the slab written and the tile read. -/
def deliv (c : Dev nD) (a16 : Memref sig .tc .hbm S323x32x6144 .i8) (a20 : Memref sig .tc .vmem S2x8x32x2048 .i8) (p k sl : ℕ) {n : ℕ}
    (t : Fin n) : sProp 𝕄 :=
  iprop(own (F := F) c a16 (slabs (p + t.val) 1 k) ∗ own (F := F) c a20 (tiles sl t.val 1))

theorem slab_set {o : Fin 3 → ℕ} (inb : ∀ a, o a + S1x32x2048.size a ≤ S323x32x6144.size a) {p k : ℕ} (h0 : o 0 = p) (h1 : o 1 = 0)
    (h2 : o 2 = 2048 * k) : (Rect.unit (s := S323x32x6144) o S1x32x2048.size inb).set = slabs p 1 k := by
  ext i
  rw [Rect.mem_set_unit]
  simp only [slabs, Finset.mem_filter, Finset.mem_univ, true_and]
  constructor
  · intro h
    have a0 := h 0; have a2 := h 2
    rw [h0] at a0; rw [h2] at a2
    exact ⟨⟨a0.1, a0.2⟩, a2.1, a2.2⟩
  · rintro ⟨⟨u, v⟩, w, x⟩ a
    fin_cases a
    · show o 0 ≤ (i 0).val ∧ (i 0).val < o 0 + 1
      omega
    · show o 1 ≤ (i 1).val ∧ (i 1).val < o 1 + 32
      have : (i 1).val < 32 := (i 1).isLt
      omega
    · show o 2 ≤ (i 2).val ∧ (i 2).val < o 2 + 2048
      omega

theorem tile_set {o : Fin 4 → ℕ} (inb : ∀ a, o a + S1x1x32x2048.size a ≤ S2x8x32x2048.size a) {sl t : ℕ} (h0 : o 0 = sl) (h1 : o 1 = t)
    (h2 : o 2 = 0) (h3 : o 3 = 0) : (Rect.unit (s := S2x8x32x2048) o S1x1x32x2048.size inb).set = tiles sl t 1 := by
  ext i
  rw [Rect.mem_set_unit]
  simp only [tiles, Finset.mem_filter, Finset.mem_univ, true_and]
  constructor
  · intro h
    have a0 := h 0; have a1 := h 1
    rw [h0] at a0; rw [h1] at a1
    have b0 : (i 0).val < sl + 1 := a0.2
    have b1 : (i 1).val < t + 1 := a1.2
    exact ⟨Nat.le_antisymm (Nat.lt_succ_iff.mp b0) a0.1, a1.1, b1⟩
  · rintro ⟨u, w, x⟩ a
    fin_cases a
    · show o 0 ≤ (i 0).val ∧ (i 0).val < o 0 + 1
      omega
    · show o 1 ≤ (i 1).val ∧ (i 1).val < o 1 + 1
      omega
    · show o 2 ≤ (i 2).val ∧ (i 2).val < o 2 + 32
      have : (i 2).val < 32 := (i 2).isLt
      omega
    · show o 3 ≤ (i 3).val ∧ (i 3).val < o 3 + 2048
      have : (i 3).val < 2048 := (i 3).isLt
      omega

/-- A part `J` of the elements held, set apart from the others. -/
theorem own_split (c : Dev nD) {sp : Space} {s : Shape} {e : EltTy} (m : Memref sig .tc sp s e) {K J : Finset s.Idx} (h : J ⊆ K) :
    own (F := F) c m K ⊢ (iprop(own (F := F) c m J ∗ own (F := F) c m (K \ J)) : sProp 𝕄) := by
  unfold own
  iintro ⟨%f, H⟩
  have hs : m.view.setOn J ⊆ m.view.setOn K := Finset.map_subset_map.mpr h
  have he : m.view.setOn (K \ J) = m.view.setOn K \ m.view.setOn J := by classical exact Finset.map_sdiff K J
  ihave ⟨H1, H2⟩ := (pointsTo_split_subset hs).mp $$ H
  isplitl [H1]
  · iexists f; iexact H1
  · iexists f; rw [he]; iexact H2

/-- Two disjoint parts held are their union held. -/
theorem own_join (c : Dev nD) {sp : Space} {s : Shape} {e : EltTy} (m : Memref sig .tc sp s e) {K J : Finset s.Idx} (h : Disjoint K J) :
    (iprop(own (F := F) c m K ∗ own (F := F) c m J) : sProp 𝕄) ⊢ own (F := F) c m (K ∪ J) := by
  unfold own
  iintro ⟨⟨%f, H⟩, ⟨%g, H'⟩⟩
  have hs : Disjoint (m.view.setOn K) (m.view.setOn J) := (Finset.disjoint_map _).mpr h
  have he : m.view.setOn (K ∪ J) = m.view.setOn K ∪ m.view.setOn J := by classical exact Finset.map_union K J
  rw [he]
  iexists (m.view.setOn J).piecewise g f
  iapply (pointsTo_join (f := f) (g := g) hs)
  isplitl [H]
  · iexact H
  · iexact H'

/-! ## The two sites -/

/-- The array's credit of one transfer is `N`, wherever it lands. -/
abbrev credit (a16 : Memref sig .tc .hbm S323x32x6144 .i8) (N : ℕ) : Prop :=
  ∀ (o : Fin 3 → ℕ) (i : ∀ a, o a + S1x32x2048.size a ≤ S323x32x6144.size a),
    ((a16.slice (Rect.unit (s := S323x32x6144) o S1x32x2048.size i) (fun _ => rfl)).squeeze S32x2048 squeezes_S1x32x2048_S32x2048).view.dmaCredit = N

/-- What a step's starts hold once `m` of its `n` transfers are under way. -/
def started (c : Dev nD) (a16 : Memref sig .tc .hbm S323x32x6144 .i8) (a20 : Memref sig .tc .vmem S2x8x32x2048 .i8) (sm : DmaSem sig)
    (N : ℕ) (K : Finset S323x32x6144.Idx) (J : Finset S2x8x32x2048.Idx) (p k sl n m : ℕ) : sProp 𝕄 :=
  iprop(own (F := F) c a16 (K \ slabs p m k) ∗ own (F := F) c a20 (J \ tiles sl 0 m)
    ∗ Transfers.Batch (countersEmb (U := UD sig nD τ)) (c : Thread nD τ) (.dma sm) () N (deliv (F := F) c a16 a20 p k sl (n := n)) m 0)

/-- One guarded start. -/
abbrev startSite {α : Type} (a5 : Memref sig .tc .smem S43 .i32) (a16 : Memref sig .tc .hbm S323x32x6144 .i8) (h16 : a16.IsWhole)
    (a20 : Memref sig .tc .vmem S2x8x32x2048 .i8) (h20 : a20.IsWhole) (a21 : DmaSems sig S2)
    (P : Prop) [Decidable P] (oA : Fin 1 → ℕ) (iA : ∀ a, oA a + S1.size a ≤ S43.size a)
    (chk : BitVec 32 → Prop) (dec : ∀ v, Decidable (chk v)) (oB : Fin 1 → ℕ) (iB : ∀ a, oB a + S1.size a ≤ S2.size a)
    (oC : BitVec 32 → Fin 3 → ℕ) (iC : ∀ v, chk v → P → ∀ a, oC v a + S1x32x2048.size a ≤ S323x32x6144.size a)
    (wC : ∀ v (hw : chk v) (hp : P), (Rect.unit (s := S323x32x6144) (oC v) S1x32x2048.size (iC v hw hp)).WholeWords (EltTy.packing .i8))
    (oD : Fin 4 → ℕ) (iD : ∀ a, oD a + S1x1x32x2048.size a ≤ S2x8x32x2048.size a)
    (wD : (Rect.unit (s := S2x8x32x2048) oD S1x1x32x2048.size iD).WholeWords (EltTy.packing .i8))
    (kk : Prog (TpuEff nD τ sig (Elt F) Λ₀ .tc) α) :
    Prog (TpuEff nD τ sig (Elt F) Λ₀ .tc) α :=
  if hp : P then do
    let v54 : Elt F .i32 ← smemLoad a5 (Rect.unit (s := S43) oA S1.size iA) numel1_S1 rfl
    have hw : chk v54 := (← Prog.lift (TpuEff.assume (chk v54) (dec v54))).down
    let v58 : DmaSems sig S1 := a21.slice (Rect.unit (s := S2) oB S1.size iB)
    let v59 : DmaSems sig S_ := v58.squeeze S_ squeezes_S1_S_
    let v60 : Memref sig .tc .hbm S1x32x2048 .i8 := a16.slice (Rect.unit (s := S323x32x6144) (oC v54) S1x32x2048.size (iC v54 hw hp)) (fun _ => rfl)
    let v61 : Memref sig .tc .hbm S32x2048 .i8 := v60.squeeze S32x2048 squeezes_S1x32x2048_S32x2048
    let v62 : Memref sig .tc .vmem S1x1x32x2048 .i8 := a20.slice (Rect.unit (s := S2x8x32x2048) oD S1x1x32x2048.size iD) (fun _ => rfl)
    let v63 : Memref sig .tc .vmem S32x2048 .i8 := v62.squeeze S32x2048 squeezes_S1x1x32x2048_S32x2048
    Prog.lift (.enqueueDma v63 (.here v61) (.dma v59.sem) ((h20.wordExact_slice rfl _ wD).reshape _ _) ((h16.wordExact_slice rfl _ (wC v54 hw hp)).reshape _ _) ⟨Or.inl rfl, trivial⟩)
    kk
  else kk

/-- One guarded wait. -/
abbrev waitSite {α : Type} (a5 : Memref sig .tc .smem S43 .i32) (a16 : Memref sig .tc .hbm S323x32x6144 .i8) (h16 : a16.IsWhole)
    (a20 : Memref sig .tc .vmem S2x8x32x2048 .i8) (h20 : a20.IsWhole) (a21 : DmaSems sig S2)
    (P : Prop) [Decidable P] (oA : Fin 1 → ℕ) (iA : ∀ a, oA a + S1.size a ≤ S43.size a)
    (chk : BitVec 32 → Prop) (dec : ∀ v, Decidable (chk v)) (oB : Fin 1 → ℕ) (iB : ∀ a, oB a + S1.size a ≤ S2.size a)
    (oC : BitVec 32 → Fin 3 → ℕ) (iC : ∀ v, chk v → P → ∀ a, oC v a + S1x32x2048.size a ≤ S323x32x6144.size a)
    (wC : ∀ v (hw : chk v) (hp : P), (Rect.unit (s := S323x32x6144) (oC v) S1x32x2048.size (iC v hw hp)).WholeWords (EltTy.packing .i8))
    (oD : Fin 4 → ℕ) (iD : ∀ a, oD a + S1x1x32x2048.size a ≤ S2x8x32x2048.size a)
    (wD : (Rect.unit (s := S2x8x32x2048) oD S1x1x32x2048.size iD).WholeWords (EltTy.packing .i8))
    (kk : Prog (TpuEff nD τ sig (Elt F) Λ₀ .tc) α) :
    Prog (TpuEff nD τ sig (Elt F) Λ₀ .tc) α :=
  if hp : P then do
    let v54 : Elt F .i32 ← smemLoad a5 (Rect.unit (s := S43) oA S1.size iA) numel1_S1 rfl
    have hw : chk v54 := (← Prog.lift (TpuEff.assume (chk v54) (dec v54))).down
    let v58 : DmaSems sig S1 := a21.slice (Rect.unit (s := S2) oB S1.size iB)
    let v59 : DmaSems sig S_ := v58.squeeze S_ squeezes_S1_S_
    let v60 : Memref sig .tc .hbm S1x32x2048 .i8 := a16.slice (Rect.unit (s := S323x32x6144) (oC v54) S1x32x2048.size (iC v54 hw hp)) (fun _ => rfl)
    let v61 : Memref sig .tc .hbm S32x2048 .i8 := v60.squeeze S32x2048 squeezes_S1x32x2048_S32x2048
    let v62 : Memref sig .tc .vmem S1x1x32x2048 .i8 := a20.slice (Rect.unit (s := S2x8x32x2048) oD S1x1x32x2048.size iD) (fun _ => rfl)
    let v63 : Memref sig .tc .vmem S32x2048 .i8 := v62.squeeze S32x2048 squeezes_S1x1x32x2048_S32x2048
    Prog.lift (.waitDma2 v59.sem v63 v61 ((h20.wordExact_slice rfl _ wD).reshape _ _) ((h16.wordExact_slice rfl _ (wC v54 hw hp)).reshape _ _))
    kk
  else kk

/-- The word a scalar load finds. -/
abbrev wordOf (a5 : Memref sig .tc .smem S43 .i32) (c : Dev nD) (x : Buf (Elt F) (a5.view.loc (c : Thread nD τ)))
    (oA : Fin 1 → ℕ) (iA : ∀ a, oA a + S1.size a ≤ S43.size a) : BitVec 32 :=
  (a5.access (Rect.unit (s := S43) oA S1.size iA)).read (Elt F) x (Shape.Idx.first (numel1_S1.symm ▸ Nat.one_pos))

variable (c : Dev nD) (a5 : Memref sig .tc .smem S43 .i32) (a16 : Memref sig .tc .hbm S323x32x6144 .i8) (h16 : a16.IsWhole)
    (a20 : Memref sig .tc .vmem S2x8x32x2048 .i8) (h20 : a20.IsWhole) (a21 : DmaSems sig S2)
    (P : Prop) [Decidable P] (oA : Fin 1 → ℕ) (iA : ∀ a, oA a + S1.size a ≤ S43.size a)
    (chk : BitVec 32 → Prop) (dec : ∀ v, Decidable (chk v)) (oB : Fin 1 → ℕ) (iB : ∀ a, oB a + S1.size a ≤ S2.size a)
    (oC : BitVec 32 → Fin 3 → ℕ) (iC : ∀ v, chk v → P → ∀ a, oC v a + S1x32x2048.size a ≤ S323x32x6144.size a)
    (wC : ∀ v (hw : chk v) (hp : P), (Rect.unit (s := S323x32x6144) (oC v) S1x32x2048.size (iC v hw hp)).WholeWords (EltTy.packing .i8))
    (oD : Fin 4 → ℕ) (iD : ∀ a, oD a + S1x1x32x2048.size a ≤ S2x8x32x2048.size a)
    (wD : (Rect.unit (s := S2x8x32x2048) oD S1x1x32x2048.size iD).WholeWords (EltTy.packing .i8))

/-- A start: the step's next transfer is under way, if it has one. -/
theorem start_site (x : Buf (Elt F) (a5.view.loc (c : Thread nD τ))) (q : PosShare TreeShare) (sm : DmaSem sig) (N : ℕ)
    (K : Finset S323x32x6144.Idx) (J : Finset S2x8x32x2048.Idx) (p k sl n b : ℕ)
    (hsm : ((a21.slice (Rect.unit (s := S2) oB S1.size iB)).squeeze S_ squeezes_S1_S_).sem = sm)
    (hN : credit a16 N) (hP : P ↔ b < n) (hK : slabs p n k ⊆ K) (hJ : tiles sl 0 n ⊆ J)
    (hc : b < n → chk (wordOf a5 c x oA iA))
    (hC0 : b < n → oC (wordOf a5 c x oA iA) 0 = p + b) (hC1 : b < n → oC (wordOf a5 c x oA iA) 1 = 0) (hC2 : b < n → oC (wordOf a5 c x oA iA) 2 = 2048 * k)
    (hD0 : oD 0 = sl) (hD1 : oD 1 = b) (hD2 : oD 2 = 0) (hD3 : oD 3 = 0) {α : Type} (kk : Prog (TpuEff nD τ sig (Elt F) Λ₀ .tc) α) (Q : α → sProp 𝕄) :
    iprop((a5.view.loc (c : Thread nD τ) ↦{q} x) ∗ started (F := F) c a16 a20 sm N K J p k sl n (min b n))
      ⊢ iprop((iprop((a5.view.loc (c : Thread nD τ) ↦{q} x) ∗ started (F := F) c a16 a20 sm N K J p k sl n (min (b + 1) n)) -∗ wp frame (wpE (defs₀ (F := F)) Variants.none (c : Thread nD τ) none) Set.univ kk Q)
        -∗ wp frame (wpE (defs₀ (F := F)) Variants.none (c : Thread nD τ) none) Set.univ
          (startSite (F := F) a5 a16 h16 a20 h20 a21 P oA iA chk dec oB iB oC iC wC oD iD wD kk) Q) := by
  unfold startSite
  by_cases hb : b < n
  · rw [dif_pos (hP.mpr hb), Nat.min_eq_left hb.le, Nat.min_eq_left hb]
    iintro ⟨HT, HS⟩ HQ
    simp only [smemLoad, smemLoadElt, Prog.lift, Prog.bind_op, Prog.bind_ret]
    iapply (wp_load_rect Variants.none (c : Thread nD τ) none Set.univ (m := a5) (r := Rect.unit (s := S43) oA S1.size iA) (S := Finset.univ) (Finset.subset_univ _)) $$ HT
    iintro HT
    iapply (wp_assume Variants.none (c : Thread nD τ) none Set.univ (hc hb))
    have eS : ∀ i : ∀ a, oC (wordOf a5 c x oA iA) a + S1x32x2048.size a ≤ S323x32x6144.size a,
        (((a16.slice (Rect.unit (s := S323x32x6144) (oC (wordOf a5 c x oA iA)) S1x32x2048.size i) (fun _ => rfl)).squeeze S32x2048 squeezes_S1x32x2048_S32x2048).view.set)
          = a16.view.setOn (slabs (p + b) 1 k) := fun i => by
      rw [← slab_set i (hC0 hb) (hC1 hb) (hC2 hb)]
      exact (View.set_reshape _ _).trans (View.set_slice _ _)
    have eT : (((a20.slice (Rect.unit (s := S2x8x32x2048) oD S1x1x32x2048.size iD) (fun _ => rfl)).squeeze S32x2048 squeezes_S1x1x32x2048_S32x2048).view.set)
          = a20.view.setOn (tiles sl b 1) := by
      rw [← tile_set iD hD0 hD1 hD2 hD3]
      exact (View.set_reshape _ _).trans (View.set_slice _ _)
    unfold started
    icases HS with ⟨H16, H20, HB⟩
    have sK : slabs (p + b) 1 k ⊆ K \ slabs p b k := fun i hi => by
      have hi' := hi
      simp only [slabs, Finset.mem_filter, Finset.mem_univ, true_and] at hi'
      refine Finset.mem_sdiff.mpr ⟨hK ?_, ?_⟩
      · simp only [slabs, Finset.mem_filter, Finset.mem_univ, true_and]; omega
      · simp only [slabs, Finset.mem_filter, Finset.mem_univ, true_and]; omega
    have sJ : tiles sl b 1 ⊆ J \ tiles sl 0 b := fun i hi => by
      have hi' := hi
      simp only [tiles, Finset.mem_filter, Finset.mem_univ, true_and] at hi'
      refine Finset.mem_sdiff.mpr ⟨hJ ?_, ?_⟩
      · simp only [tiles, Finset.mem_filter, Finset.mem_univ, true_and]; omega
      · simp only [tiles, Finset.mem_filter, Finset.mem_univ, true_and]; omega
    have eK : (K \ slabs p b k) \ slabs (p + b) 1 k = K \ slabs p (b + 1) k := by
      ext i
      simp only [slabs, Finset.mem_sdiff, Finset.mem_filter, Finset.mem_univ, true_and]
      constructor
      · rintro ⟨⟨h1, h2⟩, h3⟩; exact ⟨h1, by omega⟩
      · rintro ⟨h1, h2⟩; exact ⟨⟨h1, by omega⟩, by omega⟩
    have eJ : (J \ tiles sl 0 b) \ tiles sl b 1 = J \ tiles sl 0 (b + 1) := by
      ext i
      simp only [tiles, Finset.mem_sdiff, Finset.mem_filter, Finset.mem_univ, true_and]
      constructor
      · rintro ⟨⟨h1, h2⟩, h3⟩; exact ⟨h1, by omega⟩
      · rintro ⟨h1, h2⟩; exact ⟨⟨h1, by omega⟩, by omega⟩
    ihave ⟨H16, R16⟩ := (own_split (F := F) c a16 sK) $$ H16
    ihave ⟨H20, R20⟩ := (own_split (F := F) c a20 sJ) $$ H20
    rw [eK, eJ]
    unfold own
    icases H16 with ⟨%fd, H16⟩
    icases H20 with ⟨%fs, H20⟩
    rw [← eT]
    subst hsm
    iapply (Transfers.wp_dmaBatch (countersEmb (U := UD sig nD τ)) Variants.none (c : Thread nD τ) none
      (src := (a20.slice (Rect.unit (s := S2x8x32x2048) oD S1x1x32x2048.size iD) (fun _ => rfl)).squeeze S32x2048 squeezes_S1x1x32x2048_S32x2048)
      (dst := (a16.slice (Rect.unit (s := S323x32x6144) (oC (wordOf a5 c x oA iA)) S1x32x2048.size (iC _ (hc hb) (hP.mpr hb))) (fun _ => rfl)).squeeze S32x2048 squeezes_S1x32x2048_S32x2048)
      (sm := .dma ((a21.slice (Rect.unit (s := S2) oB S1.size iB)).squeeze S_ squeezes_S1_S_).sem) (fd := fd) (fs := fs) (q := fullShare)
      (Sd := a16.view.setOn (slabs (p + b) 1 k)) () N ((View.amount_dma _ _).trans (hN _ _)) (eS _).subset hb (Nat.zero_le _) (D := deliv (F := F) c a16 a20 p k sl) ?_) $$ [H16 H20 HB]
    · unfold deliv own
      iintro ⟨HA, HB⟩
      isplitl [HA]
      · iexists _; iexact HA
      · iexists _; rw [← eT]; iexact HB
    · isplitl [H20]
      · iexact H20
      isplitl [H16]
      · iexact H16
      iexact HB
    iintro HB
    iapply HQ
    isplitl [HT]
    · iexact HT
    isplitl [R16]
    · iexact R16
    isplitl [R20]
    · iexact R20
    iexact HB
  · have : n ≤ b := Nat.le_of_not_lt hb
    rw [dif_neg (fun h => hb (hP.mp h)), Nat.min_eq_right this, Nat.min_eq_right (by omega)]
    iintro HS HQ
    iapply HQ; iexact HS

/-- A wait: one more of the step's transfers is received, if it started another. -/
theorem wait_site (x : Buf (Elt F) (a5.view.loc (c : Thread nD τ))) (q : PosShare TreeShare) (sm : DmaSem sig) (N : ℕ)
    (p k sl n b : ℕ)
    (hsm : ((a21.slice (Rect.unit (s := S2) oB S1.size iB)).squeeze S_ squeezes_S1_S_).sem = sm)
    (hN : credit a16 N) (hP : P ↔ b < n)
    (hc : b < n → chk (wordOf a5 c x oA iA)) {α : Type} (kk : Prog (TpuEff nD τ sig (Elt F) Λ₀ .tc) α) (Q : α → sProp 𝕄) (B : Set (SemLoc sig × Unit)) (hB : (SemLoc.dma sm, ()) ∈ B) :
    iprop((a5.view.loc (c : Thread nD τ) ↦{q} x) ∗ Pipeline.owesWithin c 0 B
        ∗ Transfers.Batch (countersEmb (U := UD sig nD τ)) (c : Thread nD τ) (.dma sm) () N (deliv (F := F) c a16 a20 p k sl (n := n)) n (N * min b n))
      ⊢ iprop((iprop((a5.view.loc (c : Thread nD τ) ↦{q} x) ∗ Pipeline.owesWithin c 0 B
        ∗ Transfers.Batch (countersEmb (U := UD sig nD τ)) (c : Thread nD τ) (.dma sm) () N (deliv (F := F) c a16 a20 p k sl (n := n)) n (N * min (b + 1) n)) -∗ wp frame (wpE (defs₀ (F := F)) Variants.none (c : Thread nD τ) none) Set.univ kk Q)
        -∗ wp frame (wpE (defs₀ (F := F)) Variants.none (c : Thread nD τ) none) Set.univ
          (waitSite (F := F) a5 a16 h16 a20 h20 a21 P oA iA chk dec oB iB oC iC wC oD iD wD kk) Q) := by
  unfold waitSite
  by_cases hb : b < n
  · rw [dif_pos (hP.mpr hb), Nat.min_eq_left hb.le, Nat.min_eq_left (Nat.succ_le_of_lt hb)]
    iintro ⟨HT, HO, HB⟩ HQ
    simp only [smemLoad, smemLoadElt, Prog.lift, Prog.bind_op, Prog.bind_ret]
    iapply (wp_load_rect Variants.none (c : Thread nD τ) none Set.univ (m := a5) (r := Rect.unit (s := S43) oA S1.size iA) (S := Finset.univ) (Finset.subset_univ _)) $$ HT
    iintro HT
    iapply (wp_assume Variants.none (c : Thread nD τ) none Set.univ (hc hb))
    subst hsm
    unfold Pipeline.owesWithin
    icases HO with ⟨%W, %hW, HO⟩
    have e1 : N * b + 1 * N = N * (b + 1) := by rw [Nat.one_mul, Nat.mul_succ]
    have e2 : N * b + 1 * N ≤ N * n := by rw [e1]; exact Nat.mul_le_mul_left _ hb
    iapply (Transfers.wp_waitBatchMul (countersEmb (U := UD sig nD τ)) Variants.none (c : Thread nD τ) none
      (sem := ((a21.slice (Rect.unit (s := S2) oB S1.size iB)).squeeze S_ squeezes_S1_S_).sem)
      (srcw := (a20.slice (Rect.unit (s := S2x8x32x2048) oD S1x1x32x2048.size iD) (fun _ => rfl)).squeeze S32x2048 squeezes_S1x1x32x2048_S32x2048)
      (dstw := (a16.slice (Rect.unit (s := S323x32x6144) (oC (wordOf a5 c x oA iA)) S1x32x2048.size (iC _ (hc hb) (hP.mpr hb))) (fun _ => rfl)).squeeze S32x2048 squeezes_S1x32x2048_S32x2048)
      () 1 ((hN _ _).trans (Nat.one_mul N).symm) (D := deliv (F := F) c a16 a20 p k sl (n := n)) e2 (W := W)) $$ [HB HO]
    · isplitl [HB]
      · iexact HB
      · iexact HO
    iintro ⟨HB, HO⟩
    iapply HQ
    isplitl [HT]
    · iexact HT
    isplitl [HO]
    · iexists _
      isplitr
      · ipureintro
        intro y hy
        rcases Finset.mem_insert.mp (Finset.mem_coe.mp hy) with rfl | h
        · exact hB
        · exact hW (Finset.mem_coe.mpr h)
      · iexact HO
    rw [e1]
    iexact HB
  · have : n ≤ b := Nat.le_of_not_lt hb
    rw [dif_neg (fun h => hb (hP.mp h)), Nat.min_eq_right this, Nat.min_eq_right (by omega)]
    iintro HS HQ
    iapply HQ; iexact HS

omit [Decidable P] in
/-- A scalar load from a table held at `x`. -/
theorem word_load (x : Buf (Elt F) (a5.view.loc (c : Thread nD τ))) (q : PosShare TreeShare) {α : Type}
    (kk : Elt F .i32 → Prog (TpuEff nD τ sig (Elt F) Λ₀ .tc) α) (Q : α → sProp 𝕄) :
    iprop((a5.view.loc (c : Thread nD τ) ↦{q} x))
      ⊢ iprop((iprop((a5.view.loc (c : Thread nD τ) ↦{q} x)) -∗ wp frame (wpE (defs₀ (F := F)) Variants.none (c : Thread nD τ) none) Set.univ (kk (wordOf a5 c x oA iA)) Q)
        -∗ wp frame (wpE (defs₀ (F := F)) Variants.none (c : Thread nD τ) none) Set.univ
          (smemLoad a5 (Rect.unit (s := S43) oA S1.size iA) numel1_S1 rfl >>= kk) Q) := by
  iintro HT HQ
  simp only [smemLoad, smemLoadElt, Prog.lift, Prog.bind_op, Prog.bind_ret]
  iapply (wp_load_rect Variants.none (c : Thread nD τ) none Set.univ (m := a5) (r := Rect.unit (s := S43) oA S1.size iA) (S := Finset.univ) (Finset.subset_univ _)) $$ HT
  iintro HT
  iapply HQ
  iexact HT

end Cert.Quant.Kit
-- ==== Proof.KQWords.lean ====
/- The words of the quantiser's offsets: at every grid point the transfers started are the step's own, the ones received first are those of
   two points before, and the last point receives what is left. -/
module

public import proofs.«01_k».proof.Proof.KQSite

@[expose] public section

set_option maxRecDepth 65536

noncomputable section

namespace Cert.Quant.Kit

open Cert.Quant.Gen
open Idealize.ShloMosaic

/-- The position of a grid point in the order of the launch. -/
abbrev pt (i : grid0.Coords) : ℕ := 3 * (i 0).val + (i 1).val

/-- The offsets of a site of the point's transfers `h`: the two table words, the semaphore, the block column. -/
abbrev Offs (h : ℕ) (oN oA oB : Fin 1 → ℕ) (oC : Fin 3 → ℕ) : Prop :=
  oN 0 = (h - 2) / 3 ∧ oA 0 = (h - 2) / 3 ∧ oB 0 = h % 2 ∧ oC 2 = 2048 * ((h - 2) % 3)

/-- The offsets of the tile `b` of slot `sl`. -/
abbrev Tile (sl b : ℕ) (o : Fin 4 → ℕ) : Prop := o 0 = sl ∧ o 1 = b ∧ o 2 = 0 ∧ o 3 = 0

theorem offs1 : ∀ i : grid0.Coords, k0_cond2 i = 1#1 → Offs (pt i) (k0_off3 i) (k0_off4 i) (k0_off5 i) (k0_off6 i 0#32) := by decide +kernel

theorem offs2 : ∀ i : grid0.Coords, k0_cond2 i = 1#1 → Offs (pt i) (k0_off8 i) (k0_off9 i) (k0_off10 i) (k0_off11 i 0#32) := by decide +kernel

theorem offs3 : ∀ i : grid0.Coords, k0_cond2 i = 1#1 → Offs (pt i) (k0_off13 i) (k0_off14 i) (k0_off15 i) (k0_off16 i 0#32) := by decide +kernel

theorem offs4 : ∀ i : grid0.Coords, k0_cond2 i = 1#1 → Offs (pt i) (k0_off18 i) (k0_off19 i) (k0_off20 i) (k0_off21 i 0#32) := by decide +kernel

theorem offs5 : ∀ i : grid0.Coords, k0_cond2 i = 1#1 → Offs (pt i) (k0_off23 i) (k0_off24 i) (k0_off25 i) (k0_off26 i 0#32) := by decide +kernel

theorem offs6 : ∀ i : grid0.Coords, k0_cond2 i = 1#1 → Offs (pt i) (k0_off28 i) (k0_off29 i) (k0_off30 i) (k0_off31 i 0#32) := by decide +kernel

theorem offs7 : ∀ i : grid0.Coords, k0_cond2 i = 1#1 → Offs (pt i) (k0_off33 i) (k0_off34 i) (k0_off35 i) (k0_off36 i 0#32) := by decide +kernel

theorem offs8 : ∀ i : grid0.Coords, k0_cond2 i = 1#1 → Offs (pt i) (k0_off38 i) (k0_off39 i) (k0_off40 i) (k0_off41 i 0#32) := by decide +kernel

theorem offs9 : ∀ i : grid0.Coords, Offs ((pt i + 2)) (k0_off1 i) (k0_off54 i) (k0_off55 i) (k0_off56 i 0#32) ∧ Tile (pt i % 2) 0 (k0_off57 i) := by decide +kernel

theorem offs10 : ∀ i : grid0.Coords, Offs ((pt i + 2)) (k0_off58 i) (k0_off59 i) (k0_off60 i) (k0_off61 i 0#32) ∧ Tile (pt i % 2) 1 (k0_off62 i) := by decide +kernel

theorem offs11 : ∀ i : grid0.Coords, Offs ((pt i + 2)) (k0_off63 i) (k0_off64 i) (k0_off65 i) (k0_off66 i 0#32) ∧ Tile (pt i % 2) 2 (k0_off67 i) := by decide +kernel

theorem offs12 : ∀ i : grid0.Coords, Offs ((pt i + 2)) (k0_off68 i) (k0_off69 i) (k0_off70 i) (k0_off71 i 0#32) ∧ Tile (pt i % 2) 3 (k0_off72 i) := by decide +kernel

theorem offs13 : ∀ i : grid0.Coords, Offs ((pt i + 2)) (k0_off73 i) (k0_off74 i) (k0_off75 i) (k0_off76 i 0#32) ∧ Tile (pt i % 2) 4 (k0_off77 i) := by decide +kernel

theorem offs14 : ∀ i : grid0.Coords, Offs ((pt i + 2)) (k0_off78 i) (k0_off79 i) (k0_off80 i) (k0_off81 i 0#32) ∧ Tile (pt i % 2) 5 (k0_off82 i) := by decide +kernel

theorem offs15 : ∀ i : grid0.Coords, Offs ((pt i + 2)) (k0_off83 i) (k0_off84 i) (k0_off85 i) (k0_off86 i 0#32) ∧ Tile (pt i % 2) 6 (k0_off87 i) := by decide +kernel

theorem offs16 : ∀ i : grid0.Coords, Offs ((pt i + 2)) (k0_off88 i) (k0_off89 i) (k0_off90 i) (k0_off91 i 0#32) ∧ Tile (pt i % 2) 7 (k0_off92 i) := by decide +kernel

theorem offs17 : ∀ i : grid0.Coords, k0_cond19 i = 1#1 → Offs ((pt i + 1)) (k0_off93 i) (k0_off94 i) (k0_off95 i) (k0_off96 i 0#32) := by decide +kernel

theorem offs18 : ∀ i : grid0.Coords, k0_cond19 i = 1#1 → Offs ((pt i + 1)) (k0_off98 i) (k0_off99 i) (k0_off100 i) (k0_off101 i 0#32) := by decide +kernel

theorem offs19 : ∀ i : grid0.Coords, k0_cond19 i = 1#1 → Offs ((pt i + 1)) (k0_off103 i) (k0_off104 i) (k0_off105 i) (k0_off106 i 0#32) := by decide +kernel

theorem offs20 : ∀ i : grid0.Coords, k0_cond19 i = 1#1 → Offs ((pt i + 1)) (k0_off108 i) (k0_off109 i) (k0_off110 i) (k0_off111 i 0#32) := by decide +kernel

theorem offs21 : ∀ i : grid0.Coords, k0_cond19 i = 1#1 → Offs ((pt i + 1)) (k0_off113 i) (k0_off114 i) (k0_off115 i) (k0_off116 i 0#32) := by decide +kernel

theorem offs22 : ∀ i : grid0.Coords, k0_cond19 i = 1#1 → Offs ((pt i + 1)) (k0_off118 i) (k0_off119 i) (k0_off120 i) (k0_off121 i 0#32) := by decide +kernel

theorem offs23 : ∀ i : grid0.Coords, k0_cond19 i = 1#1 → Offs ((pt i + 1)) (k0_off123 i) (k0_off124 i) (k0_off125 i) (k0_off126 i 0#32) := by decide +kernel

theorem offs24 : ∀ i : grid0.Coords, k0_cond19 i = 1#1 → Offs ((pt i + 1)) (k0_off128 i) (k0_off129 i) (k0_off130 i) (k0_off131 i 0#32) := by decide +kernel

theorem offs25 : ∀ i : grid0.Coords, k0_cond19 i = 1#1 → Offs ((pt i + 2)) (k0_off133 i) (k0_off134 i) (k0_off135 i) (k0_off136 i 0#32) := by decide +kernel

theorem offs26 : ∀ i : grid0.Coords, k0_cond19 i = 1#1 → Offs ((pt i + 2)) (k0_off138 i) (k0_off139 i) (k0_off140 i) (k0_off141 i 0#32) := by decide +kernel

theorem offs27 : ∀ i : grid0.Coords, k0_cond19 i = 1#1 → Offs ((pt i + 2)) (k0_off143 i) (k0_off144 i) (k0_off145 i) (k0_off146 i 0#32) := by decide +kernel

theorem offs28 : ∀ i : grid0.Coords, k0_cond19 i = 1#1 → Offs ((pt i + 2)) (k0_off148 i) (k0_off149 i) (k0_off150 i) (k0_off151 i 0#32) := by decide +kernel

theorem offs29 : ∀ i : grid0.Coords, k0_cond19 i = 1#1 → Offs ((pt i + 2)) (k0_off153 i) (k0_off154 i) (k0_off155 i) (k0_off156 i 0#32) := by decide +kernel

theorem offs30 : ∀ i : grid0.Coords, k0_cond19 i = 1#1 → Offs ((pt i + 2)) (k0_off158 i) (k0_off159 i) (k0_off160 i) (k0_off161 i 0#32) := by decide +kernel

theorem offs31 : ∀ i : grid0.Coords, k0_cond19 i = 1#1 → Offs ((pt i + 2)) (k0_off163 i) (k0_off164 i) (k0_off165 i) (k0_off166 i 0#32) := by decide +kernel

theorem offs32 : ∀ i : grid0.Coords, k0_cond19 i = 1#1 → Offs ((pt i + 2)) (k0_off168 i) (k0_off169 i) (k0_off170 i) (k0_off171 i 0#32) := by decide +kernel

theorem offs_t44 : ∀ (i : grid0.Coords) (k : Fin k0_t1_loop.trips), k0_off44 i k 0 = pt i % 2 := by decide +kernel

theorem offs_t45 : ∀ (i : grid0.Coords) (k : Fin k0_t1_loop.trips), k0_off45 i k 0 = pt i % 2 := by decide +kernel

theorem offs_t46 : ∀ (i : grid0.Coords) (k : Fin k0_t1_loop.trips), k0_off46 i k 0 = pt i % 2 := by decide +kernel

theorem offs_t47 : ∀ (i : grid0.Coords) (k : Fin k0_t1_loop.trips), k0_off47 i k 0 = pt i % 2 := by decide +kernel

theorem offs_t48 : ∀ (i : grid0.Coords) (k : Fin k0_t1_loop.trips), k0_off48 i k 0 = pt i % 2 := by decide +kernel

theorem offs_t49 : ∀ (i : grid0.Coords) (k : Fin k0_t1_loop.trips), k0_off49 i k 0 = pt i % 2 := by decide +kernel

theorem offs_t50 : ∀ (i : grid0.Coords) (k : Fin k0_t1_loop.trips), k0_off50 i k 0 = pt i % 2 := by decide +kernel

theorem offs_t51 : ∀ (i : grid0.Coords) (k : Fin k0_t1_loop.trips), k0_off51 i k 0 = pt i % 2 := by decide +kernel

theorem cond2_iff : ∀ i : grid0.Coords, k0_cond2 i = 1#1 ↔ 2 ≤ pt i := by decide +kernel

theorem cond19_iff : ∀ i : grid0.Coords, k0_cond19 i = 1#1 ↔ pt i = 128 := by decide +kernel

theorem pt_lt (i : grid0.Coords) : pt i < 129 := by
  have h0 : (i 0).val < 43 := (i 0).isLt
  have h1 : (i 1).val < 3 := (i 1).isLt
  show 3 * (i 0).val + (i 1).val < 129
  omega

end Cert.Quant.Kit
-- ==== Proof.KQStep.lean ====
/- The sites again, by what the prefetched plan says: the transfers `h` of a grid point, their number, where they land and which slot
   of the code buffer and which semaphore they use. -/
module

public import proofs.«01_k».proof.Proof.KQWords

@[expose] public section

set_option maxRecDepth 16384

noncomputable section

namespace Cert.Quant.Kit

open Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! ## The plan -/

/-- A table holds the words of `f`. -/
def Tab (c : Dev nD) (a : Memref sig .tc .smem S43 .i32) (x : Buf (Elt F) (a.view.loc (c : Thread nD τ))) (f : ℕ → ℕ) : Prop :=
  ∀ (o : Fin 1 → ℕ) (i : ∀ a, o a + S1.size a ≤ S43.size a), wordOf a c x o i = BitVec.ofNat 32 (f (o 0))

/-- How many transfers a grid point's step makes: `h` is the point plus two, and the two turns before the first make none. -/
def num (nb : ℕ → ℕ) (h : ℕ) : ℕ := if h < 2 then 0 else min 8 (nb ((h - 2) / 3))

/-- The first slab of the transfers `h`. -/
def pos (first : ℕ → ℕ) (h : ℕ) : ℕ := first ((h - 2) / 3)

/-- The block column of the transfers `h`. -/
def col (h : ℕ) : ℕ := (h - 2) % 3

/-- What the plan guarantees: the slabs of a step lie in the codes array, and a step's slabs are none of the next step's. -/
structure Plan (nb first : ℕ → ℕ) : Prop where
  nb_le : ∀ s, s < 43 → nb s ≤ 323
  fit : ∀ s, s < 43 → nb s = 0 ∨ first s + min 8 (nb s) ≤ 323
  next : ∀ s, s + 1 < 43 → nb s = 0 ∨ nb (s + 1) = 0 ∨ first s + min 8 (nb s) ≤ first (s + 1)

/-- The semaphore of the transfers `h`. -/
def semOf (a21 : DmaSems sig S2) (h : ℕ) : DmaSem sig :=
  ((a21.slice (Rect.unit (s := S2) ![h % 2] S1.size (by
    intro a; fin_cases a; show h % 2 + 1 ≤ 2; omega))).squeeze S_ squeezes_S1_S_).sem

theorem semOf_eq (a21 : DmaSems sig S2) {h : ℕ} {oB : Fin 1 → ℕ} (iB : ∀ a, oB a + S1.size a ≤ S2.size a) (e : oB 0 = h % 2) :
    ((a21.slice (Rect.unit (s := S2) oB S1.size iB)).squeeze S_ squeezes_S1_S_).sem = semOf a21 h := by
  have : oB = ![h % 2] := by funext a; fin_cases a; exact e
  subst this
  rfl

theorem semOf_add_two (a21 : DmaSems sig S2) (h : ℕ) : semOf a21 (h + 2) = semOf a21 h :=
  semOf_eq a21 (h := h) (oB := ![(h + 2) % 2]) _ (Nat.add_mod_right h 2)

/-! ## Words -/

theorem ofNat_toInt {n : ℕ} (h : n ≤ 323) : (BitVec.ofNat 32 n).toInt = n := by
  have : (BitVec.ofNat 32 n).toNat = n := by rw [BitVec.toNat_ofNat]; exact Nat.mod_eq_of_lt (by omega)
  rw [BitVec.toInt_eq_toNat_cond, this, if_pos (by omega)]

theorem gt_iff {n b : ℕ} (h : n ≤ 323) (hb : b < 8) :
    (Scalar.cmpi .ne (Scalar.extui (Scalar.cmpi .sgt (BitVec.ofNat 32 n) (BitVec.ofNat 32 b))) 0#32) = 1#1 ↔ b < n := by
  have e : (Scalar.cmpi .sgt (BitVec.ofNat 32 n) (BitVec.ofNat 32 b)) = BitVec.ofBool (decide (b < n)) := by
    show BitVec.ofBool ((BitVec.ofNat 32 b).slt (BitVec.ofNat 32 n)) = _
    rw [BitVec.slt, ofNat_toInt h, ofNat_toInt (by omega)]
    congr 1
    simp
  rw [e]
  by_cases hn : b < n
  · simp [hn]; decide
  · simp [hn]; decide

theorem add_ofNat {p b : ℕ} (h : p + b ≤ 323) : (Scalar.addi (BitVec.ofNat 32 p) (BitVec.ofNat 32 b)).toNat = p + b := by
  show (BitVec.ofNat 32 p + BitVec.ofNat 32 b).toNat = p + b
  rw [← BitVec.ofNat_add, BitVec.toNat_ofNat]
  exact Nat.mod_eq_of_lt (by omega)

theorem slab_inb {o : Fin 3 → ℕ} {p k : ℕ} (h0 : o 0 = p) (h1 : o 1 = 0) (h2 : o 2 = 2048 * k) (hp : p < 323) (hk : k < 3) :
    ∀ a, o a + S1x32x2048.size a ≤ S323x32x6144.size a := by
  intro a
  fin_cases a
  · show o 0 + 1 ≤ 323; omega
  · show o 1 + 32 ≤ 32; omega
  · show o 2 + 2048 ≤ 6144; omega

theorem slab_words {o : Fin 3 → ℕ} (h1 : o 1 = 0) (i : ∀ a, o a + S1x32x2048.size a ≤ S323x32x6144.size a) :
    (Rect.unit (s := S323x32x6144) o S1x32x2048.size i).WholeWords (EltTy.packing .i8) :=
  Or.inr ⟨by decide, rfl, h1, rfl⟩

/-! ## The sites -/

variable (c : Dev nD) (a4 a5 : Memref sig .tc .smem S43 .i32) (a16 : Memref sig .tc .hbm S323x32x6144 .i8) (h16 : a16.IsWhole)
    (a20 : Memref sig .tc .vmem S2x8x32x2048 .i8) (h20 : a20.IsWhole) (a21 : DmaSems sig S2)
    {nb first : ℕ → ℕ} (pl : Plan nb first)
    (x4 : Buf (Elt F) (a4.view.loc (c : Thread nD τ))) (t4 : Tab c a4 x4 nb) (x5 : Buf (Elt F) (a5.view.loc (c : Thread nD τ))) (t5 : Tab c a5 x5 first)
    (q : PosShare TreeShare) (N : ℕ) (hN : credit a16 N)

/-- The transfers `h`, `m` of them started and `r` of them received. -/
abbrev flight (nb first : ℕ → ℕ) (h m r : ℕ) : sProp 𝕄 :=
  Transfers.Batch (countersEmb (U := UD sig nD τ)) (c : Thread nD τ) (.dma (semOf a21 h)) () N (deliv (F := F) c a16 a20 (pos first h) (col h) (h % 2) (n := num nb h)) m (N * r)

include pl t4 t5 hN in
/-- One wait of the transfers `h`. -/
theorem wait_one (h b : ℕ) (hh : 2 ≤ h ∧ h < 131) (hb : b < 8) {oN : Fin 1 → ℕ} (iN : ∀ a, oN a + S1.size a ≤ S43.size a)
    (cnd : BitVec 32 → BitVec 1) (ecnd : ∀ v, cnd v = Scalar.cmpi .ne (Scalar.extui (Scalar.cmpi .sgt v (BitVec.ofNat 32 b))) 0#32)
    {oA : Fin 1 → ℕ} (iA : ∀ a, oA a + S1.size a ≤ S43.size a)
    (chk : BitVec 32 → BitVec 32 → Prop) (dec : ∀ w v, Decidable (chk w v)) {oB : Fin 1 → ℕ} (iB : ∀ a, oB a + S1.size a ≤ S2.size a)
    (oC : BitVec 32 → Fin 3 → ℕ) (iC : ∀ w v, chk w v → cnd w = 1#1 → ∀ a, oC v a + S1x32x2048.size a ≤ S323x32x6144.size a)
    (wC : ∀ w v (hw : chk w v) (hp : cnd w = 1#1), (Rect.unit (s := S323x32x6144) (oC v) S1x32x2048.size (iC w v hw hp)).WholeWords (EltTy.packing .i8))
    {oD : Fin 4 → ℕ} (iD : ∀ a, oD a + S1x1x32x2048.size a ≤ S2x8x32x2048.size a)
    (wD : (Rect.unit (s := S2x8x32x2048) oD S1x1x32x2048.size iD).WholeWords (EltTy.packing .i8))
    (hchk : ∀ w v, (∀ a, oC v a + S1x32x2048.size a ≤ S323x32x6144.size a) →
      (∀ i, (Rect.unit (s := S323x32x6144) (oC v) S1x32x2048.size i).WholeWords (EltTy.packing .i8)) → chk w v)
    (eC : ∀ v, oC v = ![(Scalar.addi v (BitVec.ofNat 32 b)).toNat, 0, oC 0#32 2])
    (eo : Offs h oN oA oB (oC 0#32)) {α : Type} (kk : Prog (TpuEff nD τ sig (Elt F) Λ₀ .tc) α) (Q : α → sProp 𝕄) :
    iprop((a5.view.loc (c : Thread nD τ) ↦{q} x5) ∗ Pipeline.owesWithin c 0 Set.univ ∗ flight (F := F) c a16 a20 a21 N nb first h (num nb h) (min b (num nb h)))
      ⊢ iprop((iprop((a5.view.loc (c : Thread nD τ) ↦{q} x5) ∗ Pipeline.owesWithin c 0 Set.univ ∗ flight (F := F) c a16 a20 a21 N nb first h (num nb h) (min (b + 1) (num nb h)))
          -∗ wp frame (wpE (defs₀ (F := F)) Variants.none (c : Thread nD τ) none) Set.univ kk Q)
        -∗ wp frame (wpE (defs₀ (F := F)) Variants.none (c : Thread nD τ) none) Set.univ
          (waitSite (F := F) a5 a16 h16 a20 h20 a21 (cnd (wordOf a4 c x4 oN iN) = 1#1) oA iA (chk (wordOf a4 c x4 oN iN)) (dec (wordOf a4 c x4 oN iN)) oB iB oC
            (iC (wordOf a4 c x4 oN iN)) (wC (wordOf a4 c x4 oN iN)) oD iD wD kk) Q) := by
  obtain ⟨eN, eA, eB, eC2⟩ := eo
  have hs : (h - 2) / 3 < 43 := by omega
  have hn : num nb h = min 8 (nb ((h - 2) / 3)) := if_neg (by omega)
  have f5 := pl.fit _ hs
  refine wait_site (F := F) c a5 a16 h16 a20 h20 a21 _ oA iA _ _ oB iB oC _ _ oD iD wD x5 q (semOf a21 h) N (pos first h) (col h) (h % 2) (num nb h) b
    (semOf_eq a21 iB eB) hN ?_ ?_ kk Q Set.univ trivial
  · rw [ecnd, t4, eN, gt_iff (pl.nb_le _ hs) hb, hn]; omega
  · intro hlt
    have e0 : oC (wordOf a5 c x5 oA iA) 0 = first ((h - 2) / 3) + b := by
      rw [t5, eA, eC]; exact add_ofNat (by omega)
    have e1 : oC (wordOf a5 c x5 oA iA) 1 = 0 := by rw [eC]; rfl
    have e2 : oC (wordOf a5 c x5 oA iA) 2 = 2048 * ((h - 2) % 3) := by rw [eC]; exact eC2
    exact hchk _ _ (slab_inb e0 e1 e2 (by omega) (by omega)) (fun i => slab_words e1 i)

include pl t4 t5 hN in
/-- One start of the transfers `h`. -/
theorem start_one (K : Finset S323x32x6144.Idx) (J : Finset S2x8x32x2048.Idx) (h b : ℕ) (hh : 2 ≤ h ∧ h < 131) (hb : b < 8)
    (hK : slabs (pos first h) (num nb h) (col h) ⊆ K) (hJ : tiles (h % 2) 0 (num nb h) ⊆ J) {oN : Fin 1 → ℕ} (iN : ∀ a, oN a + S1.size a ≤ S43.size a)
    (cnd : BitVec 32 → BitVec 1) (ecnd : ∀ v, cnd v = Scalar.cmpi .ne (Scalar.extui (Scalar.cmpi .sgt v (BitVec.ofNat 32 b))) 0#32)
    {oA : Fin 1 → ℕ} (iA : ∀ a, oA a + S1.size a ≤ S43.size a)
    (chk : BitVec 32 → BitVec 32 → Prop) (dec : ∀ w v, Decidable (chk w v)) {oB : Fin 1 → ℕ} (iB : ∀ a, oB a + S1.size a ≤ S2.size a)
    (oC : BitVec 32 → Fin 3 → ℕ) (iC : ∀ w v, chk w v → cnd w = 1#1 → ∀ a, oC v a + S1x32x2048.size a ≤ S323x32x6144.size a)
    (wC : ∀ w v (hw : chk w v) (hp : cnd w = 1#1), (Rect.unit (s := S323x32x6144) (oC v) S1x32x2048.size (iC w v hw hp)).WholeWords (EltTy.packing .i8))
    {oD : Fin 4 → ℕ} (iD : ∀ a, oD a + S1x1x32x2048.size a ≤ S2x8x32x2048.size a)
    (wD : (Rect.unit (s := S2x8x32x2048) oD S1x1x32x2048.size iD).WholeWords (EltTy.packing .i8))
    (hchk : ∀ w v, (∀ a, oC v a + S1x32x2048.size a ≤ S323x32x6144.size a) →
      (∀ i, (Rect.unit (s := S323x32x6144) (oC v) S1x32x2048.size i).WholeWords (EltTy.packing .i8)) → chk w v)
    (eC : ∀ v, oC v = ![(Scalar.addi v (BitVec.ofNat 32 b)).toNat, 0, oC 0#32 2])
    (eo : Offs h oN oA oB (oC 0#32)) (eD : Tile (h % 2) b oD) {α : Type} (kk : Prog (TpuEff nD τ sig (Elt F) Λ₀ .tc) α) (Q : α → sProp 𝕄) :
    iprop((a5.view.loc (c : Thread nD τ) ↦{q} x5) ∗ started (F := F) c a16 a20 (semOf a21 h) N K J (pos first h) (col h) (h % 2) (num nb h) (min b (num nb h)))
      ⊢ iprop((iprop((a5.view.loc (c : Thread nD τ) ↦{q} x5) ∗ started (F := F) c a16 a20 (semOf a21 h) N K J (pos first h) (col h) (h % 2) (num nb h) (min (b + 1) (num nb h)))
          -∗ wp frame (wpE (defs₀ (F := F)) Variants.none (c : Thread nD τ) none) Set.univ kk Q)
        -∗ wp frame (wpE (defs₀ (F := F)) Variants.none (c : Thread nD τ) none) Set.univ
          (startSite (F := F) a5 a16 h16 a20 h20 a21 (cnd (wordOf a4 c x4 oN iN) = 1#1) oA iA (chk (wordOf a4 c x4 oN iN)) (dec (wordOf a4 c x4 oN iN)) oB iB oC
            (iC (wordOf a4 c x4 oN iN)) (wC (wordOf a4 c x4 oN iN)) oD iD wD kk) Q) := by
  obtain ⟨eN, eA, eB, eC2⟩ := eo
  obtain ⟨d0, d1, d2, d3⟩ := eD
  have hs : (h - 2) / 3 < 43 := by omega
  have hn : num nb h = min 8 (nb ((h - 2) / 3)) := if_neg (by omega)
  have f5 := pl.fit _ hs
  have e0 : b < num nb h → oC (wordOf a5 c x5 oA iA) 0 = first ((h - 2) / 3) + b := fun hlt => by
    rw [t5, eA, eC]; exact add_ofNat (by omega)
  have e1 : oC (wordOf a5 c x5 oA iA) 1 = 0 := by rw [eC]; rfl
  have e2 : oC (wordOf a5 c x5 oA iA) 2 = 2048 * ((h - 2) % 3) := by rw [eC]; exact eC2
  refine start_site (F := F) c a5 a16 h16 a20 h20 a21 _ oA iA _ _ oB iB oC _ _ oD iD wD x5 q (semOf a21 h) N K J (pos first h) (col h) (h % 2) (num nb h) b
    (semOf_eq a21 iB eB) hN ?_ hK hJ ?_ e0 (fun _ => e1) (fun _ => e2) d0 d1 d2 d3 kk Q
  · rw [ecnd, t4, eN, gt_iff (pl.nb_le _ hs) hb, hn]; omega
  · intro hlt
    exact hchk _ _ (slab_inb (e0 hlt) e1 e2 (by omega) (by omega)) (fun i => slab_words e1 i)

end Cert.Quant.Kit
-- ==== Proof.KQParts.lean ====
/- The parts of the quantiser's body that start and receive its transfers: each hands the tables back unchanged, and the transfers it
   received or started. -/
module

public import proofs.«01_k».proof.Proof.KQStep

@[expose] public section

set_option maxRecDepth 16384

noncomputable section

namespace Cert.Quant.Kit

open Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (c : Dev nD) (i : grid0.Coords) (arg2 : Memref sig .tc .smem S43 .i32) (harg2 : arg2.IsWhole) (arg3 : Memref sig .tc .smem S43 .i32) (harg3 : arg3.IsWhole) (arg4 : Memref sig .tc .smem S43 .i32) (harg4 : arg4.IsWhole) (arg5 : Memref sig .tc .smem S43 .i32) (harg5 : arg5.IsWhole) (arg6 : Memref sig .tc .vmem S1x1x288 .f32) (harg6 : arg6.IsWhole) (arg7 : Memref sig .tc .vmem S32x2048 .bf16) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S32x2048 .bf16) (harg14 : arg14.IsWhole) (arg15 : Memref sig .tc .vmem S32x2048 .bf16) (harg15 : arg15.IsWhole) (arg16 : Memref sig .tc .hbm S323x32x6144 .i8) (harg16 : arg16.IsWhole) (arg17 : Memref sig .tc .vmem S8x2048 .i32) (harg17 : arg17.IsWhole) (arg18 : Memref sig .tc .vmem S2048x256 .bf16) (harg18 : arg18.IsWhole) (arg19 : Memref sig .tc .vmem S256x288 .bf16) (harg19 : arg19.IsWhole) (arg20 : Memref sig .tc .vmem S2x8x32x2048 .i8) (harg20 : arg20.IsWhole) (arg21 : DmaSems sig S2)
    {nb first : ℕ → ℕ} (pl : Plan nb first)
    (x4 : Buf (Elt F) (arg4.view.loc (c : Thread nD τ))) (t4 : Tab c arg4 x4 nb) (x5 : Buf (Elt F) (arg5.view.loc (c : Thread nD τ))) (t5 : Tab c arg5 x5 first)
    (q : PosShare TreeShare) (N : ℕ) (hN : credit arg16 N)

/-- What the waits hold: the two tables, and the transfers `h` with `r` of them received. -/
def wres (nb first : ℕ → ℕ) (h r : ℕ) : sProp 𝕄 :=
  iprop((arg4.view.loc (c : Thread nD τ) ↦{q} x4) ∗ (arg5.view.loc (c : Thread nD τ) ↦{q} x5) ∗ Pipeline.owesWithin c 0 Set.univ
    ∗ flight (F := F) c arg16 arg20 arg21 N nb first h (num nb h) (min r (num nb h)))

/-- What the starts hold: the two tables, and the transfers `h` with `m` of them started. -/
def sres (nb first : ℕ → ℕ) (K : Finset S323x32x6144.Idx) (J : Finset S2x8x32x2048.Idx) (h m : ℕ) : sProp 𝕄 :=
  iprop((arg4.view.loc (c : Thread nD τ) ↦{q} x4) ∗ (arg5.view.loc (c : Thread nD τ) ↦{q} x5)
    ∗ started (F := F) c arg16 arg20 (semOf arg21 h) N K J (pos first h) (col h) (h % 2) (num nb h) (min m (num nb h)))

theorem parity_tile {i : grid0.Coords} {b : ℕ} {o : Fin 4 → ℕ} (h : Tile (pt i % 2) b o) : Tile ((pt i + 2) % 2) b o :=
  ⟨h.1.trans (Nat.add_mod_right _ 2).symm, h.2⟩

include pl t4 t5 hN in
set_option maxHeartbeats 4000000 in
/-- The first four of the waits of two points before, and the fifth's count. -/
theorem part1_wp (v1 : BitVec 32) (k0_h2 : k0_cond2 i = 1#1)
    (Q : (Σ' (v53 : BitVec 32) (v70 : BitVec 32), Elt F .i32) → sProp 𝕄) :
    wres (F := F) c arg4 arg5 arg16 arg20 arg21 x4 x5 q N nb first (pt i) 0
      ⊢ iprop((∀ v53 v70, wres (F := F) c arg4 arg5 arg16 arg20 arg21 x4 x5 q N nb first (pt i) 4 -∗ Q ⟨v53, v70, (wordOf arg4 c x4 (k0_off23 i) (k0_off23_inb i k0_h2))⟩)
        -∗ wp frame (wpE (defs₀ (F := F)) Variants.none (c : Thread nD τ) none) Set.univ (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 k0_h2) Q) := by
  have hh : 2 ≤ pt i ∧ pt i < 131 := ⟨(cond2_iff i).mp k0_h2, Nat.lt_trans (pt_lt i) (by decide)⟩
  rw [k0_part1_eq_skeleton]
  unfold k0_part1_skel
  unfold wres
  iintro ⟨H4, H5, HO, HB⟩ HQ
  iapply (word_load (F := F) c arg4 (k0_off3 i) (k0_off3_inb i k0_h2) x4 q) $$ H4
  iintro H4
  iapply (wait_one (F := F) c arg4 arg5 arg16 harg16 arg20 harg20 arg21 pl x4 t4 x5 t5 q N hN (pt i) 0 hh (by decide) (k0_off3_inb i k0_h2) k0_cond3 (fun _ => rfl) (k0_off4_inb i k0_h2) (k0_chk1 i) (k0_chk1.dec i) (k0_off5_inb i k0_h2) (k0_off6 i) (fun w v hw hp => k0_off6_inb i w v hw k0_h2 hp) (fun w v hw hp => k0_off6_wordsi8 i w v hw k0_h2 hp) (k0_off7_inb i k0_h2) (k0_off7_wordsi8 i k0_h2) (fun w v a b => ⟨fun _ _ => a, fun _ _ i => b i⟩) (fun _ => rfl) (offs1 i k0_h2)) $$ [H5 HO HB]
  · isplitl [H5]
    · iexact H5
    isplitl [HO]
    · iexact HO
    iexact HB
  iintro ⟨H5, HO, HB⟩
  iapply (word_load (F := F) c arg4 (k0_off8 i) (k0_off8_inb i k0_h2) x4 q) $$ H4
  iintro H4
  iapply (wait_one (F := F) c arg4 arg5 arg16 harg16 arg20 harg20 arg21 pl x4 t4 x5 t5 q N hN (pt i) 1 hh (by decide) (k0_off8_inb i k0_h2) k0_cond4 (fun _ => rfl) (k0_off9_inb i k0_h2) (k0_chk2 i) (k0_chk2.dec i) (k0_off10_inb i k0_h2) (k0_off11 i) (fun w v hw hp => k0_off11_inb i w v hw k0_h2 hp) (fun w v hw hp => k0_off11_wordsi8 i w v hw k0_h2 hp) (k0_off12_inb i k0_h2) (k0_off12_wordsi8 i k0_h2) (fun w v a b => ⟨fun _ _ => a, fun _ _ i => b i⟩) (fun _ => rfl) (offs2 i k0_h2)) $$ [H5 HO HB]
  · isplitl [H5]
    · iexact H5
    isplitl [HO]
    · iexact HO
    iexact HB
  iintro ⟨H5, HO, HB⟩
  iapply (word_load (F := F) c arg4 (k0_off13 i) (k0_off13_inb i k0_h2) x4 q) $$ H4
  iintro H4
  iapply (wait_one (F := F) c arg4 arg5 arg16 harg16 arg20 harg20 arg21 pl x4 t4 x5 t5 q N hN (pt i) 2 hh (by decide) (k0_off13_inb i k0_h2) k0_cond5 (fun _ => rfl) (k0_off14_inb i k0_h2) (k0_chk3 i) (k0_chk3.dec i) (k0_off15_inb i k0_h2) (k0_off16 i) (fun w v hw hp => k0_off16_inb i w v hw k0_h2 hp) (fun w v hw hp => k0_off16_wordsi8 i w v hw k0_h2 hp) (k0_off17_inb i k0_h2) (k0_off17_wordsi8 i k0_h2) (fun w v a b => ⟨fun _ _ => a, fun _ _ i => b i⟩) (fun _ => rfl) (offs3 i k0_h2)) $$ [H5 HO HB]
  · isplitl [H5]
    · iexact H5
    isplitl [HO]
    · iexact HO
    iexact HB
  iintro ⟨H5, HO, HB⟩
  iapply (word_load (F := F) c arg4 (k0_off18 i) (k0_off18_inb i k0_h2) x4 q) $$ H4
  iintro H4
  iapply (wait_one (F := F) c arg4 arg5 arg16 harg16 arg20 harg20 arg21 pl x4 t4 x5 t5 q N hN (pt i) 3 hh (by decide) (k0_off18_inb i k0_h2) k0_cond6 (fun _ => rfl) (k0_off19_inb i k0_h2) (k0_chk4 i) (k0_chk4.dec i) (k0_off20_inb i k0_h2) (k0_off21 i) (fun w v hw hp => k0_off21_inb i w v hw k0_h2 hp) (fun w v hw hp => k0_off21_wordsi8 i w v hw k0_h2 hp) (k0_off22_inb i k0_h2) (k0_off22_wordsi8 i k0_h2) (fun w v a b => ⟨fun _ _ => a, fun _ _ i => b i⟩) (fun _ => rfl) (offs4 i k0_h2)) $$ [H5 HO HB]
  · isplitl [H5]
    · iexact H5
    isplitl [HO]
    · iexact HO
    iexact HB
  iintro ⟨H5, HO, HB⟩
  iapply (word_load (F := F) c arg4 (k0_off23 i) (k0_off23_inb i k0_h2) x4 q) $$ H4
  iintro H4
  rw [wp_pure]
  imodintro
  iapply HQ
  isplitl [H4]
  · iexact H4
  isplitl [H5]
  · iexact H5
  isplitl [HO]
  · iexact HO
  iexact HB

include pl t4 t5 hN in
set_option maxHeartbeats 4000000 in
/-- The first four of the last point's waits for the point before. -/
theorem part11_wp (v1 v2 : BitVec 32) (k0_h19 : k0_cond19 i = 1#1)
    (Q : (Σ' (v53 : BitVec 32), BitVec 32) → sProp 𝕄) :
    wres (F := F) c arg4 arg5 arg16 arg20 arg21 x4 x5 q N nb first (pt i + 1) 0
      ⊢ iprop((∀ v53 v71, wres (F := F) c arg4 arg5 arg16 arg20 arg21 x4 x5 q N nb first (pt i + 1) 4 -∗ Q ⟨v53, v71⟩)
        -∗ wp frame (wpE (defs₀ (F := F)) Variants.none (c : Thread nD τ) none) Set.univ (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 v2 k0_h19) Q) := by
  have hh : 2 ≤ pt i + 1 ∧ pt i + 1 < 131 := by have := (cond19_iff i).mp k0_h19; omega
  rw [k0_part11_eq_skeleton]
  unfold k0_part11_skel
  unfold wres
  iintro ⟨H4, H5, HO, HB⟩ HQ
  iapply (word_load (F := F) c arg4 (k0_off93 i) (k0_off93_inb i k0_h19) x4 q) $$ H4
  iintro H4
  iapply (wait_one (F := F) c arg4 arg5 arg16 harg16 arg20 harg20 arg21 pl x4 t4 x5 t5 q N hN ((pt i + 1)) 0 hh (by decide) (k0_off93_inb i k0_h19) k0_cond20 (fun _ => rfl) (k0_off94_inb i k0_h19) (k0_chk17 i) (k0_chk17.dec i) (k0_off95_inb i k0_h19) (k0_off96 i) (fun w v hw hp => k0_off96_inb i w v hw k0_h19 hp) (fun w v hw hp => k0_off96_wordsi8 i w v hw k0_h19 hp) (k0_off97_inb i k0_h19) (k0_off97_wordsi8 i k0_h19) (fun w v a b => ⟨fun _ _ => a, fun _ _ i => b i⟩) (fun _ => rfl) (offs17 i k0_h19)) $$ [H5 HO HB]
  · isplitl [H5]
    · iexact H5
    isplitl [HO]
    · iexact HO
    iexact HB
  iintro ⟨H5, HO, HB⟩
  iapply (word_load (F := F) c arg4 (k0_off98 i) (k0_off98_inb i k0_h19) x4 q) $$ H4
  iintro H4
  iapply (wait_one (F := F) c arg4 arg5 arg16 harg16 arg20 harg20 arg21 pl x4 t4 x5 t5 q N hN ((pt i + 1)) 1 hh (by decide) (k0_off98_inb i k0_h19) k0_cond21 (fun _ => rfl) (k0_off99_inb i k0_h19) (k0_chk18 i) (k0_chk18.dec i) (k0_off100_inb i k0_h19) (k0_off101 i) (fun w v hw hp => k0_off101_inb i w v hw k0_h19 hp) (fun w v hw hp => k0_off101_wordsi8 i w v hw k0_h19 hp) (k0_off102_inb i k0_h19) (k0_off102_wordsi8 i k0_h19) (fun w v a b => ⟨fun _ _ => a, fun _ _ i => b i⟩) (fun _ => rfl) (offs18 i k0_h19)) $$ [H5 HO HB]
  · isplitl [H5]
    · iexact H5
    isplitl [HO]
    · iexact HO
    iexact HB
  iintro ⟨H5, HO, HB⟩
  iapply (word_load (F := F) c arg4 (k0_off103 i) (k0_off103_inb i k0_h19) x4 q) $$ H4
  iintro H4
  iapply (wait_one (F := F) c arg4 arg5 arg16 harg16 arg20 harg20 arg21 pl x4 t4 x5 t5 q N hN ((pt i + 1)) 2 hh (by decide) (k0_off103_inb i k0_h19) k0_cond22 (fun _ => rfl) (k0_off104_inb i k0_h19) (k0_chk19 i) (k0_chk19.dec i) (k0_off105_inb i k0_h19) (k0_off106 i) (fun w v hw hp => k0_off106_inb i w v hw k0_h19 hp) (fun w v hw hp => k0_off106_wordsi8 i w v hw k0_h19 hp) (k0_off107_inb i k0_h19) (k0_off107_wordsi8 i k0_h19) (fun w v a b => ⟨fun _ _ => a, fun _ _ i => b i⟩) (fun _ => rfl) (offs19 i k0_h19)) $$ [H5 HO HB]
  · isplitl [H5]
    · iexact H5
    isplitl [HO]
    · iexact HO
    iexact HB
  iintro ⟨H5, HO, HB⟩
  iapply (word_load (F := F) c arg4 (k0_off108 i) (k0_off108_inb i k0_h19) x4 q) $$ H4
  iintro H4
  iapply (wait_one (F := F) c arg4 arg5 arg16 harg16 arg20 harg20 arg21 pl x4 t4 x5 t5 q N hN ((pt i + 1)) 3 hh (by decide) (k0_off108_inb i k0_h19) k0_cond23 (fun _ => rfl) (k0_off109_inb i k0_h19) (k0_chk20 i) (k0_chk20.dec i) (k0_off110_inb i k0_h19) (k0_off111 i) (fun w v hw hp => k0_off111_inb i w v hw k0_h19 hp) (fun w v hw hp => k0_off111_wordsi8 i w v hw k0_h19 hp) (k0_off112_inb i k0_h19) (k0_off112_wordsi8 i k0_h19) (fun w v a b => ⟨fun _ _ => a, fun _ _ i => b i⟩) (fun _ => rfl) (offs20 i k0_h19)) $$ [H5 HO HB]
  · isplitl [H5]
    · iexact H5
    isplitl [HO]
    · iexact HO
    iexact HB
  iintro ⟨H5, HO, HB⟩
  rw [wp_pure]
  imodintro
  iapply HQ
  isplitl [H4]
  · iexact H4
  isplitl [H5]
  · iexact H5
  isplitl [HO]
  · iexact HO
  iexact HB

include pl t4 t5 hN in
set_option maxHeartbeats 4000000 in
/-- The other four, and the count of the last point's own. -/
theorem part12_wp (v1 : BitVec 32) (k0_h19 : k0_cond19 i = 1#1) (v53 v71 : BitVec 32)
    (Q : (Σ' (v128 : BitVec 32) (v130 : Elt F .i32), BitVec 1) → sProp 𝕄) :
    wres (F := F) c arg4 arg5 arg16 arg20 arg21 x4 x5 q N nb first (pt i + 1) 4
      ⊢ iprop((∀ v128 v131, wres (F := F) c arg4 arg5 arg16 arg20 arg21 x4 x5 q N nb first (pt i + 1) 8 -∗ Q ⟨v128, (wordOf arg4 c x4 (k0_off133 i) (k0_off133_inb i k0_h19)), v131⟩)
        -∗ wp frame (wpE (defs₀ (F := F)) Variants.none (c : Thread nD τ) none) Set.univ (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 k0_h19 v53 v71) Q) := by
  have hh : 2 ≤ pt i + 1 ∧ pt i + 1 < 131 := by have := (cond19_iff i).mp k0_h19; omega
  rw [k0_part12_eq_skeleton]
  unfold k0_part12_skel
  unfold wres
  iintro ⟨H4, H5, HO, HB⟩ HQ
  iapply (word_load (F := F) c arg4 (k0_off113 i) (k0_off113_inb i k0_h19) x4 q) $$ H4
  iintro H4
  iapply (wait_one (F := F) c arg4 arg5 arg16 harg16 arg20 harg20 arg21 pl x4 t4 x5 t5 q N hN ((pt i + 1)) 4 hh (by decide) (k0_off113_inb i k0_h19) k0_cond24 (fun _ => rfl) (k0_off114_inb i k0_h19) (k0_chk21 i) (k0_chk21.dec i) (k0_off115_inb i k0_h19) (k0_off116 i) (fun w v hw hp => k0_off116_inb i w v hw k0_h19 hp) (fun w v hw hp => k0_off116_wordsi8 i w v hw k0_h19 hp) (k0_off117_inb i k0_h19) (k0_off117_wordsi8 i k0_h19) (fun w v a b => ⟨fun _ _ => a, fun _ _ i => b i⟩) (fun _ => rfl) (offs21 i k0_h19)) $$ [H5 HO HB]
  · isplitl [H5]
    · iexact H5
    isplitl [HO]
    · iexact HO
    iexact HB
  iintro ⟨H5, HO, HB⟩
  iapply (word_load (F := F) c arg4 (k0_off118 i) (k0_off118_inb i k0_h19) x4 q) $$ H4
  iintro H4
  iapply (wait_one (F := F) c arg4 arg5 arg16 harg16 arg20 harg20 arg21 pl x4 t4 x5 t5 q N hN ((pt i + 1)) 5 hh (by decide) (k0_off118_inb i k0_h19) k0_cond25 (fun _ => rfl) (k0_off119_inb i k0_h19) (k0_chk22 i) (k0_chk22.dec i) (k0_off120_inb i k0_h19) (k0_off121 i) (fun w v hw hp => k0_off121_inb i w v hw k0_h19 hp) (fun w v hw hp => k0_off121_wordsi8 i w v hw k0_h19 hp) (k0_off122_inb i k0_h19) (k0_off122_wordsi8 i k0_h19) (fun w v a b => ⟨fun _ _ => a, fun _ _ i => b i⟩) (fun _ => rfl) (offs22 i k0_h19)) $$ [H5 HO HB]
  · isplitl [H5]
    · iexact H5
    isplitl [HO]
    · iexact HO
    iexact HB
  iintro ⟨H5, HO, HB⟩
  iapply (word_load (F := F) c arg4 (k0_off123 i) (k0_off123_inb i k0_h19) x4 q) $$ H4
  iintro H4
  iapply (wait_one (F := F) c arg4 arg5 arg16 harg16 arg20 harg20 arg21 pl x4 t4 x5 t5 q N hN ((pt i + 1)) 6 hh (by decide) (k0_off123_inb i k0_h19) k0_cond26 (fun _ => rfl) (k0_off124_inb i k0_h19) (k0_chk23 i) (k0_chk23.dec i) (k0_off125_inb i k0_h19) (k0_off126 i) (fun w v hw hp => k0_off126_inb i w v hw k0_h19 hp) (fun w v hw hp => k0_off126_wordsi8 i w v hw k0_h19 hp) (k0_off127_inb i k0_h19) (k0_off127_wordsi8 i k0_h19) (fun w v a b => ⟨fun _ _ => a, fun _ _ i => b i⟩) (fun _ => rfl) (offs23 i k0_h19)) $$ [H5 HO HB]
  · isplitl [H5]
    · iexact H5
    isplitl [HO]
    · iexact HO
    iexact HB
  iintro ⟨H5, HO, HB⟩
  iapply (word_load (F := F) c arg4 (k0_off128 i) (k0_off128_inb i k0_h19) x4 q) $$ H4
  iintro H4
  iapply (wait_one (F := F) c arg4 arg5 arg16 harg16 arg20 harg20 arg21 pl x4 t4 x5 t5 q N hN ((pt i + 1)) 7 hh (by decide) (k0_off128_inb i k0_h19) k0_cond27 (fun _ => rfl) (k0_off129_inb i k0_h19) (k0_chk24 i) (k0_chk24.dec i) (k0_off130_inb i k0_h19) (k0_off131 i) (fun w v hw hp => k0_off131_inb i w v hw k0_h19 hp) (fun w v hw hp => k0_off131_wordsi8 i w v hw k0_h19 hp) (k0_off132_inb i k0_h19) (k0_off132_wordsi8 i k0_h19) (fun w v a b => ⟨fun _ _ => a, fun _ _ i => b i⟩) (fun _ => rfl) (offs24 i k0_h19)) $$ [H5 HO HB]
  · isplitl [H5]
    · iexact H5
    isplitl [HO]
    · iexact HO
    iexact HB
  iintro ⟨H5, HO, HB⟩
  iapply (word_load (F := F) c arg4 (k0_off133 i) (k0_off133_inb i k0_h19) x4 q) $$ H4
  iintro H4
  rw [wp_pure]
  imodintro
  iapply HQ
  isplitl [H4]
  · iexact H4
  isplitl [H5]
  · iexact H5
  isplitl [HO]
  · iexact HO
  iexact HB

include pl t4 t5 hN in
set_option maxHeartbeats 4000000 in
/-- The last point's waits for its own transfers. -/
theorem part13_wp (v1 : BitVec 32) (k0_h19 : k0_cond19 i = 1#1) (v128 : BitVec 32) (v131 : BitVec 1)
    (Q : PUnit → sProp 𝕄) :
    wres (F := F) c arg4 arg5 arg16 arg20 arg21 x4 x5 q N nb first (pt i + 2) 0
      ⊢ iprop((wres (F := F) c arg4 arg5 arg16 arg20 arg21 x4 x5 q N nb first (pt i + 2) 8 -∗ Q ⟨⟩)
        -∗ wp frame (wpE (defs₀ (F := F)) Variants.none (c : Thread nD τ) none) Set.univ (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 k0_h19 v128 (wordOf arg4 c x4 (k0_off133 i) (k0_off133_inb i k0_h19)) v131) Q) := by
  have hh : 2 ≤ pt i + 2 ∧ pt i + 2 < 131 := by have := (cond19_iff i).mp k0_h19; omega
  rw [k0_part13_eq_skeleton]
  unfold k0_part13_skel
  unfold wres
  iintro ⟨H4, H5, HO, HB⟩ HQ
  iapply (wait_one (F := F) c arg4 arg5 arg16 harg16 arg20 harg20 arg21 pl x4 t4 x5 t5 q N hN ((pt i + 2)) 0 hh (by decide) (k0_off133_inb i k0_h19) k0_cond28 (fun _ => rfl) (k0_off134_inb i k0_h19) (k0_chk25 i) (k0_chk25.dec i) (k0_off135_inb i k0_h19) (k0_off136 i) (fun w v hw hp => k0_off136_inb i w v hw k0_h19 hp) (fun w v hw hp => k0_off136_wordsi8 i w v hw k0_h19 hp) (k0_off137_inb i k0_h19) (k0_off137_wordsi8 i k0_h19) (fun w v a b => ⟨fun _ _ => a, fun _ _ i => b i⟩) (fun _ => rfl) (offs25 i k0_h19)) $$ [H5 HO HB]
  · isplitl [H5]
    · iexact H5
    isplitl [HO]
    · iexact HO
    iexact HB
  iintro ⟨H5, HO, HB⟩
  iapply (word_load (F := F) c arg4 (k0_off138 i) (k0_off138_inb i k0_h19) x4 q) $$ H4
  iintro H4
  iapply (wait_one (F := F) c arg4 arg5 arg16 harg16 arg20 harg20 arg21 pl x4 t4 x5 t5 q N hN ((pt i + 2)) 1 hh (by decide) (k0_off138_inb i k0_h19) k0_cond29 (fun _ => rfl) (k0_off139_inb i k0_h19) (k0_chk26 i) (k0_chk26.dec i) (k0_off140_inb i k0_h19) (k0_off141 i) (fun w v hw hp => k0_off141_inb i w v hw k0_h19 hp) (fun w v hw hp => k0_off141_wordsi8 i w v hw k0_h19 hp) (k0_off142_inb i k0_h19) (k0_off142_wordsi8 i k0_h19) (fun w v a b => ⟨fun _ _ => a, fun _ _ i => b i⟩) (fun _ => rfl) (offs26 i k0_h19)) $$ [H5 HO HB]
  · isplitl [H5]
    · iexact H5
    isplitl [HO]
    · iexact HO
    iexact HB
  iintro ⟨H5, HO, HB⟩
  iapply (word_load (F := F) c arg4 (k0_off143 i) (k0_off143_inb i k0_h19) x4 q) $$ H4
  iintro H4
  iapply (wait_one (F := F) c arg4 arg5 arg16 harg16 arg20 harg20 arg21 pl x4 t4 x5 t5 q N hN ((pt i + 2)) 2 hh (by decide) (k0_off143_inb i k0_h19) k0_cond30 (fun _ => rfl) (k0_off144_inb i k0_h19) (k0_chk27 i) (k0_chk27.dec i) (k0_off145_inb i k0_h19) (k0_off146 i) (fun w v hw hp => k0_off146_inb i w v hw k0_h19 hp) (fun w v hw hp => k0_off146_wordsi8 i w v hw k0_h19 hp) (k0_off147_inb i k0_h19) (k0_off147_wordsi8 i k0_h19) (fun w v a b => ⟨fun _ _ => a, fun _ _ i => b i⟩) (fun _ => rfl) (offs27 i k0_h19)) $$ [H5 HO HB]
  · isplitl [H5]
    · iexact H5
    isplitl [HO]
    · iexact HO
    iexact HB
  iintro ⟨H5, HO, HB⟩
  iapply (word_load (F := F) c arg4 (k0_off148 i) (k0_off148_inb i k0_h19) x4 q) $$ H4
  iintro H4
  iapply (wait_one (F := F) c arg4 arg5 arg16 harg16 arg20 harg20 arg21 pl x4 t4 x5 t5 q N hN ((pt i + 2)) 3 hh (by decide) (k0_off148_inb i k0_h19) k0_cond31 (fun _ => rfl) (k0_off149_inb i k0_h19) (k0_chk28 i) (k0_chk28.dec i) (k0_off150_inb i k0_h19) (k0_off151 i) (fun w v hw hp => k0_off151_inb i w v hw k0_h19 hp) (fun w v hw hp => k0_off151_wordsi8 i w v hw k0_h19 hp) (k0_off152_inb i k0_h19) (k0_off152_wordsi8 i k0_h19) (fun w v a b => ⟨fun _ _ => a, fun _ _ i => b i⟩) (fun _ => rfl) (offs28 i k0_h19)) $$ [H5 HO HB]
  · isplitl [H5]
    · iexact H5
    isplitl [HO]
    · iexact HO
    iexact HB
  iintro ⟨H5, HO, HB⟩
  iapply (word_load (F := F) c arg4 (k0_off153 i) (k0_off153_inb i k0_h19) x4 q) $$ H4
  iintro H4
  iapply (wait_one (F := F) c arg4 arg5 arg16 harg16 arg20 harg20 arg21 pl x4 t4 x5 t5 q N hN ((pt i + 2)) 4 hh (by decide) (k0_off153_inb i k0_h19) k0_cond32 (fun _ => rfl) (k0_off154_inb i k0_h19) (k0_chk29 i) (k0_chk29.dec i) (k0_off155_inb i k0_h19) (k0_off156 i) (fun w v hw hp => k0_off156_inb i w v hw k0_h19 hp) (fun w v hw hp => k0_off156_wordsi8 i w v hw k0_h19 hp) (k0_off157_inb i k0_h19) (k0_off157_wordsi8 i k0_h19) (fun w v a b => ⟨fun _ _ => a, fun _ _ i => b i⟩) (fun _ => rfl) (offs29 i k0_h19)) $$ [H5 HO HB]
  · isplitl [H5]
    · iexact H5
    isplitl [HO]
    · iexact HO
    iexact HB
  iintro ⟨H5, HO, HB⟩
  iapply (word_load (F := F) c arg4 (k0_off158 i) (k0_off158_inb i k0_h19) x4 q) $$ H4
  iintro H4
  iapply (wait_one (F := F) c arg4 arg5 arg16 harg16 arg20 harg20 arg21 pl x4 t4 x5 t5 q N hN ((pt i + 2)) 5 hh (by decide) (k0_off158_inb i k0_h19) k0_cond33 (fun _ => rfl) (k0_off159_inb i k0_h19) (k0_chk30 i) (k0_chk30.dec i) (k0_off160_inb i k0_h19) (k0_off161 i) (fun w v hw hp => k0_off161_inb i w v hw k0_h19 hp) (fun w v hw hp => k0_off161_wordsi8 i w v hw k0_h19 hp) (k0_off162_inb i k0_h19) (k0_off162_wordsi8 i k0_h19) (fun w v a b => ⟨fun _ _ => a, fun _ _ i => b i⟩) (fun _ => rfl) (offs30 i k0_h19)) $$ [H5 HO HB]
  · isplitl [H5]
    · iexact H5
    isplitl [HO]
    · iexact HO
    iexact HB
  iintro ⟨H5, HO, HB⟩
  iapply (word_load (F := F) c arg4 (k0_off163 i) (k0_off163_inb i k0_h19) x4 q) $$ H4
  iintro H4
  iapply (wait_one (F := F) c arg4 arg5 arg16 harg16 arg20 harg20 arg21 pl x4 t4 x5 t5 q N hN ((pt i + 2)) 6 hh (by decide) (k0_off163_inb i k0_h19) k0_cond34 (fun _ => rfl) (k0_off164_inb i k0_h19) (k0_chk31 i) (k0_chk31.dec i) (k0_off165_inb i k0_h19) (k0_off166 i) (fun w v hw hp => k0_off166_inb i w v hw k0_h19 hp) (fun w v hw hp => k0_off166_wordsi8 i w v hw k0_h19 hp) (k0_off167_inb i k0_h19) (k0_off167_wordsi8 i k0_h19) (fun w v a b => ⟨fun _ _ => a, fun _ _ i => b i⟩) (fun _ => rfl) (offs31 i k0_h19)) $$ [H5 HO HB]
  · isplitl [H5]
    · iexact H5
    isplitl [HO]
    · iexact HO
    iexact HB
  iintro ⟨H5, HO, HB⟩
  iapply (word_load (F := F) c arg4 (k0_off168 i) (k0_off168_inb i k0_h19) x4 q) $$ H4
  iintro H4
  iapply (wait_one (F := F) c arg4 arg5 arg16 harg16 arg20 harg20 arg21 pl x4 t4 x5 t5 q N hN ((pt i + 2)) 7 hh (by decide) (k0_off168_inb i k0_h19) k0_cond35 (fun _ => rfl) (k0_off169_inb i k0_h19) (k0_chk32 i) (k0_chk32.dec i) (k0_off170_inb i k0_h19) (k0_off171 i) (fun w v hw hp => k0_off171_inb i w v hw k0_h19 hp) (fun w v hw hp => k0_off171_wordsi8 i w v hw k0_h19 hp) (k0_off172_inb i k0_h19) (k0_off172_wordsi8 i k0_h19) (fun w v a b => ⟨fun _ _ => a, fun _ _ i => b i⟩) (fun _ => rfl) (offs32 i k0_h19)) $$ [H5 HO HB]
  · isplitl [H5]
    · iexact H5
    isplitl [HO]
    · iexact HO
    iexact HB
  iintro ⟨H5, HO, HB⟩
  rw [wp_pure]
  imodintro
  iapply HQ
  isplitl [H4]
  · iexact H4
  isplitl [H5]
  · iexact H5
  isplitl [HO]
  · iexact HO
  iexact HB

end Cert.Quant.Kit
-- ==== Proof.KQLoop.lean ====
/- The quantiser's counted loop over the columns: it reads the windows and the Hadamard operand and writes the scales, the values
   and the current slot of the code buffer; the contents are not followed. -/
module

public import proofs.«01_k».proof.Proof.KQSite

@[expose] public section

set_option maxRecDepth 16384

noncomputable section

namespace Cert.Quant.Kit

open Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (c : Dev nD) (i : grid0.Coords) (arg2 : Memref sig .tc .smem S43 .i32) (harg2 : arg2.IsWhole) (arg3 : Memref sig .tc .smem S43 .i32) (harg3 : arg3.IsWhole) (arg4 : Memref sig .tc .smem S43 .i32) (harg4 : arg4.IsWhole) (arg5 : Memref sig .tc .smem S43 .i32) (harg5 : arg5.IsWhole) (arg6 : Memref sig .tc .vmem S1x1x288 .f32) (harg6 : arg6.IsWhole) (arg7 : Memref sig .tc .vmem S32x2048 .bf16) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S32x2048 .bf16) (harg14 : arg14.IsWhole) (arg15 : Memref sig .tc .vmem S32x2048 .bf16) (harg15 : arg15.IsWhole) (arg16 : Memref sig .tc .hbm S323x32x6144 .i8) (harg16 : arg16.IsWhole) (arg17 : Memref sig .tc .vmem S8x2048 .i32) (harg17 : arg17.IsWhole) (arg18 : Memref sig .tc .vmem S2048x256 .bf16) (harg18 : arg18.IsWhole) (arg19 : Memref sig .tc .vmem S256x288 .bf16) (harg19 : arg19.IsWhole) (arg20 : Memref sig .tc .vmem S2x8x32x2048 .i8) (harg20 : arg20.IsWhole) (arg21 : DmaSems sig S2)

/-- What a trip reads: the windows and the Hadamard operand, at some contents. -/
def readOnly : sProp 𝕄 :=
  iprop((∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg19.view.loc (c : Thread nD τ) ↦[arg19.view.set]{fullShare} f)))

/-- What a trip writes: the two output blocks and the slot `sl` of the code buffer, at some contents. -/
def written (sl : ℕ) : sProp 𝕄 :=
  iprop((∃ f, (arg17.view.loc (c : Thread nD τ) ↦[arg17.view.set]{fullShare} f)) ∗ (∃ f, (arg18.view.loc (c : Thread nD τ) ↦[arg18.view.set]{fullShare} f)) ∗ own (F := F) c arg20 (tiles sl 0 8))

theorem slot_inb {sl : ℕ} (h : sl < 2) : ∀ a, (![sl, 0, 0, 0] : Fin 4 → ℕ) a + (![1, 8, 32, 2048] : Fin 4 → ℕ) a ≤ S2x8x32x2048.size a := by
  intro a; fin_cases a
  · show sl + 1 ≤ 2; omega
  · exact le_refl _
  · exact le_refl _
  · exact le_refl _

/-- A slot of the code buffer is a rectangle of it. -/
theorem slot_set {sl : ℕ} (h : sl < 2) : tiles sl 0 8 = (Rect.unit (s := S2x8x32x2048) ![sl, 0, 0, 0] ![1, 8, 32, 2048] (slot_inb h)).set := by
  ext j
  rw [Rect.mem_set_unit]
  simp only [tiles, Finset.mem_filter, Finset.mem_univ, true_and]
  have b1 : (j 1).val < 8 := (j 1).isLt
  have b2 : (j 2).val < 32 := (j 2).isLt
  have b3 : (j 3).val < 2048 := (j 3).isLt
  constructor
  · rintro ⟨u, w, x⟩ a
    fin_cases a
    · show sl ≤ (j 0).val ∧ (j 0).val < sl + 1
      omega
    · show 0 ≤ (j 1).val ∧ (j 1).val < 0 + 8
      omega
    · show 0 ≤ (j 2).val ∧ (j 2).val < 0 + 32
      omega
    · show 0 ≤ (j 3).val ∧ (j 3).val < 0 + 2048
      omega
  · intro g
    have a0 : sl ≤ (j 0).val ∧ (j 0).val < sl + 1 := g 0
    omega

/-- A part of a column range of one tile lies in its slot. -/
theorem part_sub {o : Fin 4 → ℕ} (inb : ∀ a, o a + S1x1x32x256.size a ≤ S2x8x32x2048.size a) {sl : ℕ} (hsl : sl < 2) (h0 : o 0 = sl) :
    (arg20.access (Rect.unit (s := S2x8x32x2048) o S1x1x32x256.size inb)).set ⊆ (arg20.slice (Rect.unit (s := S2x8x32x2048) ![sl, 0, 0, 0] ![1, 8, 32, 2048] (slot_inb hsl)) (fun _ => rfl)).view.set := by
  rw [show (arg20.slice (Rect.unit (s := S2x8x32x2048) ![sl, 0, 0, 0] ![1, 8, 32, 2048] (slot_inb hsl)) (fun _ => rfl)).view.set = arg20.view.setOn (tiles sl 0 8) from (View.set_slice _ _).trans (congrArg arg20.view.setOn (slot_set hsl).symm)]
  refine (View.set_slice _ _).subset.trans ?_
  refine Finset.map_subset_map.mpr fun j hj => ?_
  rw [Rect.mem_set_unit] at hj
  simp only [tiles, Finset.mem_filter, Finset.mem_univ, true_and]
  have a0 := hj 0
  rw [h0] at a0
  have b0 : (j 0).val < sl + 1 := a0.2
  have b1 : (j 1).val < 8 := (j 1).isLt
  exact ⟨Nat.le_antisymm (Nat.lt_succ_iff.mp b0) a0.1, Nat.zero_le _, by omega⟩

/-- One trip. -/
theorem trip (v2 : BitVec 32) (sl : ℕ) (hsl : sl < 2) (k : Fin k0_t1_loop.trips)
    (h44 : k0_off44 i k 0 = sl) (h45 : k0_off45 i k 0 = sl) (h46 : k0_off46 i k 0 = sl) (h47 : k0_off47 i k 0 = sl) (h48 : k0_off48 i k 0 = sl) (h49 : k0_off49 i k 0 = sl) (h50 : k0_off50 i k 0 = sl) (h51 : k0_off51 i k 0 = sl) :
    iprop(readOnly (F := F) c arg7 arg8 arg9 arg10 arg11 arg12 arg13 arg14 arg15 arg19 ∗ written (F := F) c arg17 arg18 arg20 sl)
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 k ())
          (fun _ => iprop(readOnly (F := F) c arg7 arg8 arg9 arg10 arg11 arg12 arg13 arg14 arg15 arg19 ∗ written (F := F) c arg17 arg18 arg20 sl)) := by
  have hk : k.val < 8 := Nat.lt_of_lt_of_le k.isLt k0_t1_abs.2.1
  have s44 := part_sub arg20 (k0_off44_inb i k) hsl h44
  have u44 : (arg20.access (Rect.unit (s := S2x8x32x2048) (k0_off44 i k) S1x1x32x256.size (k0_off44_inb i k))).setOn Finset.univ ⊆ (arg20.slice (Rect.unit (s := S2x8x32x2048) ![sl, 0, 0, 0] ![1, 8, 32, 2048] (slot_inb hsl)) (fun _ => rfl)).view.set := (View.setOn_univ _).subset.trans s44
  have s45 := part_sub arg20 (k0_off45_inb i k) hsl h45
  have u45 : (arg20.access (Rect.unit (s := S2x8x32x2048) (k0_off45 i k) S1x1x32x256.size (k0_off45_inb i k))).setOn Finset.univ ⊆ (arg20.slice (Rect.unit (s := S2x8x32x2048) ![sl, 0, 0, 0] ![1, 8, 32, 2048] (slot_inb hsl)) (fun _ => rfl)).view.set := (View.setOn_univ _).subset.trans s45
  have s46 := part_sub arg20 (k0_off46_inb i k) hsl h46
  have u46 : (arg20.access (Rect.unit (s := S2x8x32x2048) (k0_off46 i k) S1x1x32x256.size (k0_off46_inb i k))).setOn Finset.univ ⊆ (arg20.slice (Rect.unit (s := S2x8x32x2048) ![sl, 0, 0, 0] ![1, 8, 32, 2048] (slot_inb hsl)) (fun _ => rfl)).view.set := (View.setOn_univ _).subset.trans s46
  have s47 := part_sub arg20 (k0_off47_inb i k) hsl h47
  have u47 : (arg20.access (Rect.unit (s := S2x8x32x2048) (k0_off47 i k) S1x1x32x256.size (k0_off47_inb i k))).setOn Finset.univ ⊆ (arg20.slice (Rect.unit (s := S2x8x32x2048) ![sl, 0, 0, 0] ![1, 8, 32, 2048] (slot_inb hsl)) (fun _ => rfl)).view.set := (View.setOn_univ _).subset.trans s47
  have s48 := part_sub arg20 (k0_off48_inb i k) hsl h48
  have u48 : (arg20.access (Rect.unit (s := S2x8x32x2048) (k0_off48 i k) S1x1x32x256.size (k0_off48_inb i k))).setOn Finset.univ ⊆ (arg20.slice (Rect.unit (s := S2x8x32x2048) ![sl, 0, 0, 0] ![1, 8, 32, 2048] (slot_inb hsl)) (fun _ => rfl)).view.set := (View.setOn_univ _).subset.trans s48
  have s49 := part_sub arg20 (k0_off49_inb i k) hsl h49
  have u49 : (arg20.access (Rect.unit (s := S2x8x32x2048) (k0_off49 i k) S1x1x32x256.size (k0_off49_inb i k))).setOn Finset.univ ⊆ (arg20.slice (Rect.unit (s := S2x8x32x2048) ![sl, 0, 0, 0] ![1, 8, 32, 2048] (slot_inb hsl)) (fun _ => rfl)).view.set := (View.setOn_univ _).subset.trans s49
  have s50 := part_sub arg20 (k0_off50_inb i k) hsl h50
  have u50 : (arg20.access (Rect.unit (s := S2x8x32x2048) (k0_off50 i k) S1x1x32x256.size (k0_off50_inb i k))).setOn Finset.univ ⊆ (arg20.slice (Rect.unit (s := S2x8x32x2048) ![sl, 0, 0, 0] ![1, 8, 32, 2048] (slot_inb hsl)) (fun _ => rfl)).view.set := (View.setOn_univ _).subset.trans s50
  have s51 := part_sub arg20 (k0_off51_inb i k) hsl h51
  have u51 : (arg20.access (Rect.unit (s := S2x8x32x2048) (k0_off51 i k) S1x1x32x256.size (k0_off51_inb i k))).setOn Finset.univ ⊆ (arg20.slice (Rect.unit (s := S2x8x32x2048) ![sl, 0, 0, 0] ![1, 8, 32, 2048] (slot_inb hsl)) (fun _ => rfl)).view.set := (View.setOn_univ _).subset.trans s51
  unfold readOnly written own k0_t1_body
  have e20 : arg20.view.setOn (tiles sl 0 8) = (arg20.slice (Rect.unit (s := S2x8x32x2048) ![sl, 0, 0, 0] ![1, 8, 32, 2048] (slot_inb hsl)) (fun _ => rfl)).view.set := ((View.set_slice _ _).trans (congrArg arg20.view.setOn (slot_set hsl).symm)).symm
  have to20 : ∀ f : Buf (Elt F) (arg20.view.loc (c : Thread nD τ)), (arg20.view.loc (c : Thread nD τ) ↦[arg20.view.setOn (tiles sl 0 8)]{fullShare} f : sProp 𝕄)
      ⊢ ((arg20.slice (Rect.unit (s := S2x8x32x2048) ![sl, 0, 0, 0] ![1, 8, 32, 2048] (slot_inb hsl)) (fun _ => rfl)).view.loc (c : Thread nD τ) ↦[(arg20.slice (Rect.unit (s := S2x8x32x2048) ![sl, 0, 0, 0] ![1, 8, 32, 2048] (slot_inb hsl)) (fun _ => rfl)).view.set]{fullShare} f) := fun f => by rw [e20]
  have of20 : ∀ f : Buf (Elt F) (arg20.view.loc (c : Thread nD τ)), ((arg20.slice (Rect.unit (s := S2x8x32x2048) ![sl, 0, 0, 0] ![1, 8, 32, 2048] (slot_inb hsl)) (fun _ => rfl)).view.loc (c : Thread nD τ) ↦[(arg20.slice (Rect.unit (s := S2x8x32x2048) ![sl, 0, 0, 0] ![1, 8, 32, 2048] (slot_inb hsl)) (fun _ => rfl)).view.set]{fullShare} f : sProp 𝕄)
      ⊢ (arg20.view.loc (c : Thread nD τ) ↦[arg20.view.setOn (tiles sl 0 8)]{fullShare} f) := fun f => by rw [e20]
  iintro ⟨⟨⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f19, H19⟩⟩, ⟨%f17, H17⟩, ⟨%f18, H18⟩, ⟨%f20, H20⟩⟩
  ihave H20 := to20 f20 $$ H20
  sl_exec
  sl_step
  isplitl [H7 H8 H9 H10 H11 H12 H13 H14 H15 H19]
  · isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    iexists _; iexact H19
  isplitl [H17]
  · iexists _; iexact H17
  isplitl [H18]
  · iexists _; iexact H18
  iexists _; iapply of20; iexact H20

end Cert.Quant.Kit
-- ==== Proof.KQPieces.lean ====
/- What a step's transfers give back once all are received, gathered into the codes array and the code buffer; a new batch of transfers;
   and the counted loop as a whole. -/
module

public import proofs.«01_k».proof.Proof.KQStep
public import proofs.«01_k».proof.Proof.KQLoop

@[expose] public section

set_option maxRecDepth 16384

noncomputable section

namespace Cert.Quant.Kit

open Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (c : Dev nD) (a16 : Memref sig .tc .hbm S323x32x6144 .i8) (a20 : Memref sig .tc .vmem S2x8x32x2048 .i8) (a21 : DmaSems sig S2)

instance deliv_storable (p k sl : ℕ) {n : ℕ} (t : Fin n) : Storable (upEmb : UEmb _ 𝕄) (deliv (F := F) c a16 a20 p k sl t) := by
  unfold deliv own; infer_instance

theorem mem_slabs {p m k : ℕ} {i : S323x32x6144.Idx} :
    i ∈ slabs p m k ↔ (p ≤ (i 0).val ∧ (i 0).val < p + m) ∧ 2048 * k ≤ (i 2).val ∧ (i 2).val < 2048 * k + 2048 := by
  simp only [slabs, Finset.mem_filter, Finset.mem_univ, true_and]

theorem mem_tiles {sl t m : ℕ} {i : S2x8x32x2048.Idx} : i ∈ tiles sl t m ↔ (i 0).val = sl ∧ t ≤ (i 1).val ∧ (i 1).val < t + m := by
  simp only [tiles, Finset.mem_filter, Finset.mem_univ, true_and]

theorem gather_fin (K : Finset S323x32x6144.Idx) (J : Finset S2x8x32x2048.Idx) (p k sl n : ℕ) (hK : Disjoint K (slabs p n k)) (hJ : Disjoint J (tiles sl 0 n))
    (S : Finset (Fin n)) :
    (iprop(own (F := F) c a16 K ∗ own (F := F) c a20 J ∗ bigSep S (deliv (F := F) c a16 a20 p k sl (n := n))) : sProp 𝕄)
      ⊢ iprop(own (F := F) c a16 (K ∪ S.biUnion fun t => slabs (p + t.val) 1 k) ∗ own (F := F) c a20 (J ∪ S.biUnion fun t => tiles sl t.val 1)) := by
  classical
  induction S using Finset.induction_on with
  | empty =>
    rw [Finset.biUnion_empty, Finset.biUnion_empty, Finset.union_empty, Finset.union_empty]
    iintro ⟨H16, H20, -⟩
    isplitl [H16]
    · iexact H16
    · iexact H20
  | insert t S ht ih =>
    have eS : bigSep (insert t S) (deliv (F := F) c a16 a20 p k sl (n := n))
        = iprop(deliv (F := F) c a16 a20 p k sl t ∗ bigSep S (deliv (F := F) c a16 a20 p k sl (n := n))) := bigSep_insert ht
    rw [eS]
    have d16 : Disjoint (K ∪ S.biUnion fun t => slabs (p + t.val) 1 k) (slabs (p + t.val) 1 k) := by
      rw [Finset.disjoint_left]
      intro j hj hj'
      have h' := mem_slabs.mp hj'
      rcases Finset.mem_union.mp hj with h | h
      · exact Finset.disjoint_left.mp hK h (mem_slabs.mpr (by have := t.isLt; omega))
      · obtain ⟨u, hu, h⟩ := Finset.mem_biUnion.mp h
        have h := mem_slabs.mp h
        have : u = t := Fin.ext (by omega)
        exact ht (this ▸ hu)
    have d20 : Disjoint (J ∪ S.biUnion fun t => tiles sl t.val 1) (tiles sl t.val 1) := by
      rw [Finset.disjoint_left]
      intro j hj hj'
      have h' := mem_tiles.mp hj'
      rcases Finset.mem_union.mp hj with h | h
      · exact Finset.disjoint_left.mp hJ h (mem_tiles.mpr (by have := t.isLt; omega))
      · obtain ⟨u, hu, h⟩ := Finset.mem_biUnion.mp h
        have h := mem_tiles.mp h
        have : u = t := Fin.ext (by omega)
        exact ht (this ▸ hu)
    have e16 : (K ∪ (insert t S).biUnion fun t => slabs (p + t.val) 1 k) = (K ∪ S.biUnion fun t => slabs (p + t.val) 1 k) ∪ slabs (p + t.val) 1 k := by
      rw [Finset.biUnion_insert, Finset.union_assoc, Finset.union_comm (slabs (p + t.val) 1 k)]
    have e20 : (J ∪ (insert t S).biUnion fun t => tiles sl t.val 1) = (J ∪ S.biUnion fun t => tiles sl t.val 1) ∪ tiles sl t.val 1 := by
      rw [Finset.biUnion_insert, Finset.union_assoc, Finset.union_comm (tiles sl t.val 1)]
    rw [e16, e20]
    iintro ⟨H16, H20, HD, HS⟩
    ihave ⟨H16, H20⟩ := ih $$ [H16 H20 HS]
    · isplitl [H16]
      · iexact H16
      isplitl [H20]
      · iexact H20
      iexact HS
    unfold deliv
    icases HD with ⟨D16, D20⟩
    isplitl [H16 D16]
    · iapply (own_join (F := F) c a16 d16)
      isplitl [H16]
      · iexact H16
      · iexact D16
    · iapply (own_join (F := F) c a20 d20)
      isplitl [H20]
      · iexact H20
      · iexact D20

/-- All of a step's transfers received: its slabs and its tiles are held again. -/
theorem gather (K : Finset S323x32x6144.Idx) (J : Finset S2x8x32x2048.Idx) (p k sl n : ℕ) (hK : Disjoint K (slabs p n k)) (hJ : Disjoint J (tiles sl 0 n)) :
    (iprop(own (F := F) c a16 K ∗ own (F := F) c a20 J ∗ bigSep Finset.univ (deliv (F := F) c a16 a20 p k sl (n := n))) : sProp 𝕄)
      ⊢ iprop(own (F := F) c a16 (K ∪ slabs p n k) ∗ own (F := F) c a20 (J ∪ tiles sl 0 n)) := by
  have e16 : slabs p n k = Finset.univ.biUnion fun t : Fin n => slabs (p + t.val) 1 k := by
    ext j
    rw [Finset.mem_biUnion, mem_slabs]
    constructor
    · rintro ⟨⟨h1, h2⟩, h3, h4⟩
      exact ⟨⟨(j 0).val - p, by omega⟩, Finset.mem_univ _, mem_slabs.mpr ⟨by show p + ((j 0).val - p) ≤ _ ∧ _ < p + ((j 0).val - p) + 1; omega, h3, h4⟩⟩
    · rintro ⟨t, -, h⟩
      have h := mem_slabs.mp h
      have := t.isLt
      omega
  have e20 : tiles sl 0 n = Finset.univ.biUnion fun t : Fin n => tiles sl t.val 1 := by
    ext j
    rw [Finset.mem_biUnion, mem_tiles]
    constructor
    · rintro ⟨h0, h1, h2⟩
      exact ⟨⟨(j 1).val, by omega⟩, Finset.mem_univ _, mem_tiles.mpr ⟨h0, by show (j 1).val ≤ (j 1).val ∧ (j 1).val < (j 1).val + 1; omega⟩⟩
    · rintro ⟨t, -, h⟩
      have h := mem_tiles.mp h
      have := t.isLt
      omega
  refine (gather_fin (F := F) c a16 a20 K J p k sl n hK hJ Finset.univ).trans ?_
  rw [← e16, ← e20]

/-- The transfers `h` all received: their slabs and tiles are held again, and their semaphore is idle. -/
theorem collect (N : ℕ) (hN0 : 0 < N) (nb first : ℕ → ℕ) (h : ℕ) (K : Finset S323x32x6144.Idx) (J : Finset S2x8x32x2048.Idx)
    (hK : Disjoint K (slabs (pos first h) (num nb h) (col h))) (hJ : Disjoint J (tiles (h % 2) 0 (num nb h))) (hn : num nb h ≤ 8) :
    (iprop(own (F := F) c a16 K ∗ own (F := F) c a20 J ∗ flight (F := F) c a16 a20 a21 N nb first h (num nb h) (min 8 (num nb h))) : sProp 𝕄)
      ⊢ iprop(|={Set.univ}=> iprop(own (F := F) c a16 (K ∪ slabs (pos first h) (num nb h) (col h)) ∗ own (F := F) c a20 (J ∪ tiles (h % 2) 0 (num nb h))
          ∗ semVal ((c : Thread nD τ), .dma (semOf a21 h)) 0)) := by
  rw [Nat.min_eq_right hn]
  iintro ⟨H16, H20, HB⟩
  imod (Transfers.batch_collect' (countersEmb (U := UD sig nD τ)) (c : Thread nD τ) hN0) $$ HB with ⟨HD, HS⟩
  imodintro
  ihave ⟨H16, H20⟩ := (gather (F := F) c a16 a20 K J _ _ _ _ hK hJ) $$ [H16 H20 HD]
  · isplitl [H16]
    · iexact H16
    isplitl [H20]
    · iexact H20
    iexact HD
  isplitl [H16]
  · iexact H16
  isplitl [H20]
  · iexact H20
  iexact HS

/-- A new batch: none of the transfers `h` is started. -/
theorem newBatch (N : ℕ) (nb first : ℕ → ℕ) (h : ℕ) (K : Finset S323x32x6144.Idx) (J : Finset S2x8x32x2048.Idx) :
    (iprop(own (F := F) c a16 K ∗ own (F := F) c a20 J ∗ semVal ((c : Thread nD τ), .dma (semOf a21 h)) 0) : sProp 𝕄)
      ⊢ iprop(|={Set.univ}=> started (F := F) c a16 a20 (semOf a21 h) N K J (pos first h) (col h) (h % 2) (num nb h) (min 0 (num nb h))) := by
  rw [Nat.zero_min]
  iintro ⟨H16, H20, HS⟩
  imod (Transfers.batch_alloc' (countersEmb (U := UD sig nD τ)) (c : Thread nD τ) () N (deliv (F := F) c a16 a20 (pos first h) (col h) (h % 2) (n := num nb h))
    (sm := .dma (semOf a21 h)) (E := Set.univ)) $$ HS with HB
  imodintro
  unfold started
  have e16 : K \ slabs (pos first h) 0 (col h) = K := by
    apply Finset.sdiff_eq_self_of_disjoint
    rw [Finset.disjoint_left]; intro j _ hj; have := mem_slabs.mp hj; omega
  have e20 : J \ tiles (h % 2) 0 0 = J := by
    apply Finset.sdiff_eq_self_of_disjoint
    rw [Finset.disjoint_left]; intro j _ hj; have := mem_tiles.mp hj; omega
  rw [e16, e20]
  isplitl [H16]
  · iexact H16
  isplitl [H20]
  · iexact H20
  iexact HB

section Loop

variable (i : grid0.Coords) (arg2 : Memref sig .tc .smem S43 .i32) (harg2 : arg2.IsWhole) (arg3 : Memref sig .tc .smem S43 .i32) (harg3 : arg3.IsWhole) (arg4 : Memref sig .tc .smem S43 .i32) (harg4 : arg4.IsWhole) (arg5 : Memref sig .tc .smem S43 .i32) (harg5 : arg5.IsWhole) (arg6 : Memref sig .tc .vmem S1x1x288 .f32) (harg6 : arg6.IsWhole) (arg7 : Memref sig .tc .vmem S32x2048 .bf16) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S32x2048 .bf16) (harg14 : arg14.IsWhole) (arg15 : Memref sig .tc .vmem S32x2048 .bf16) (harg15 : arg15.IsWhole) (arg16 : Memref sig .tc .hbm S323x32x6144 .i8) (harg16 : arg16.IsWhole) (arg17 : Memref sig .tc .vmem S8x2048 .i32) (harg17 : arg17.IsWhole) (arg18 : Memref sig .tc .vmem S2048x256 .bf16) (harg18 : arg18.IsWhole) (arg19 : Memref sig .tc .vmem S256x288 .bf16) (harg19 : arg19.IsWhole) (arg20 : Memref sig .tc .vmem S2x8x32x2048 .i8) (harg20 : arg20.IsWhole) (arg21 : DmaSems sig S2)

/-- The counted loop. -/
theorem loop_wp (v2 : BitVec 32) {α : Type} (kk : Unit → Prog (TpuEff nD τ sig (Elt F) Λ₀ .tc) α) (Q : α → sProp 𝕄) :
    (iprop(readOnly (F := F) c arg7 arg8 arg9 arg10 arg11 arg12 arg13 arg14 arg15 arg19 ∗ written (F := F) c arg17 arg18 arg20 (pt i % 2)) : sProp 𝕄)
      ⊢ iprop((iprop(readOnly (F := F) c arg7 arg8 arg9 arg10 arg11 arg12 arg13 arg14 arg15 arg19 ∗ written (F := F) c arg17 arg18 arg20 (pt i % 2)) -∗ wp frame (wpE (defs₀ (F := F)) Variants.none (c : Thread nD τ) none) Set.univ (kk ()) Q)
        -∗ wp frame (wpE (defs₀ (F := F)) Variants.none (c : Thread nD τ) none) Set.univ (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2) >>= kk) Q) := by
  iintro H HQ
  iapply (Scf.wp_for_bind frame (wpE (defs₀ (F := F)) Variants.none (c : Thread nD τ) none) Set.univ k0_t1_loop.lb k0_t1_loop.ub k0_t1_loop.st k0_t1_ok ⟨⟩
    (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2)
    (fun _ _ => iprop(readOnly (F := F) c arg7 arg8 arg9 arg10 arg11 arg12 arg13 arg14 arg15 arg19 ∗ written (F := F) c arg17 arg18 arg20 (pt i % 2))) ?_) $$ H
  · intro k acc
    exact trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 (pt i % 2) (Nat.mod_lt _ (by decide)) k (offs_t44 i k) (offs_t45 i k) (offs_t46 i k) (offs_t47 i k) (offs_t48 i k) (offs_t49 i k) (offs_t50 i k) (offs_t51 i k)
  iintro %acc H
  iapply HQ
  iexact H

end Loop

end Cert.Quant.Kit
-- ==== Proof.KQDrain.lean ====
/- The quantiser's body up to its fourth start: the operand filled, the transfers of two points before received, the columns quantised. -/
module

public import proofs.«01_k».proof.Proof.KQParts
public import proofs.«01_k».proof.Proof.KQPieces

@[expose] public section

set_option maxRecDepth 16384

noncomputable section

namespace Cert.Quant.Kit

open Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (c : Dev nD) (i : grid0.Coords) (arg2 : Memref sig .tc .smem S43 .i32) (harg2 : arg2.IsWhole) (arg3 : Memref sig .tc .smem S43 .i32) (harg3 : arg3.IsWhole) (arg4 : Memref sig .tc .smem S43 .i32) (harg4 : arg4.IsWhole) (arg5 : Memref sig .tc .smem S43 .i32) (harg5 : arg5.IsWhole) (arg6 : Memref sig .tc .vmem S1x1x288 .f32) (harg6 : arg6.IsWhole) (arg7 : Memref sig .tc .vmem S32x2048 .bf16) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S32x2048 .bf16) (harg14 : arg14.IsWhole) (arg15 : Memref sig .tc .vmem S32x2048 .bf16) (harg15 : arg15.IsWhole) (arg16 : Memref sig .tc .hbm S323x32x6144 .i8) (harg16 : arg16.IsWhole) (arg17 : Memref sig .tc .vmem S8x2048 .i32) (harg17 : arg17.IsWhole) (arg18 : Memref sig .tc .vmem S2048x256 .bf16) (harg18 : arg18.IsWhole) (arg19 : Memref sig .tc .vmem S256x288 .bf16) (harg19 : arg19.IsWhole) (arg20 : Memref sig .tc .vmem S2x8x32x2048 .i8) (harg20 : arg20.IsWhole) (arg21 : DmaSems sig S2)
    {nb first : ℕ → ℕ} (pl : Plan nb first)
    (x4 : Buf (Elt F) (arg4.view.loc (c : Thread nD τ))) (t4 : Tab c arg4 x4 nb) (x5 : Buf (Elt F) (arg5.view.loc (c : Thread nD τ))) (t5 : Tab c arg5 x5 first)
    (q : PosShare TreeShare) (N : ℕ) (hN : credit arg16 N)

/-- The Hadamard operand, filled at the first block column of a step. -/
abbrev fillSite {α : Type} (kk : Prog (TpuEff nD τ sig (Elt F) Λ₀ .tc) α) : Prog (TpuEff nD τ sig (Elt F) Λ₀ .tc) α :=
  if k0_h1 : k0_cond1 i = 1#1 then do
    let v54 : Elt F .i32 ← smemLoad arg3 (Rect.unit (s := S43) (k0_off2 i) S1.size (k0_off2_inb i k0_h1)) numel1_S1 rfl
    let v55 : Vec F S1x1x288 .f32 ← Prog.lift (.load arg6 (Rect.unit (s := S1x1x288) ![0, 0, 0] S1x1x288.size inb_S1x1x288_S1x1x288_0_0_0).toLoadRect (View.loadsAt_vmem h_S1x1x288))
    let v89 : Vec F S256x288 .bf16 ← Prog.lift (.load arg19 (Rect.unit (s := S256x288) ![0, 0] S256x288.size inb_S256x288_S256x288_0_0).toLoadRect (View.loadsAt_vmem h_S256x288))
    Prog.lift (.store arg19 (Rect.unit (s := S256x288) ![0, 0] S256x288.size inb_S256x288_S256x288_0_0) (k0_pay38 v54 v55) Finset.univ (View.stores_vmem h_S256x288 (harg19.storeExact_slice rfl _ packedbf16_S256x288_S256x288_0_0) (fun _ => rfl)) (.inl rfl))
    kk
  else do
    kk

/-- The waits for the transfers of two points before. -/
abbrev drainSite {α : Type} (v1 : BitVec 32) (kk : Prog (TpuEff nD τ sig (Elt F) Λ₀ .tc) α) : Prog (TpuEff nD τ sig (Elt F) Λ₀ .tc) α :=
  if k0_h2 : k0_cond2 i = 1#1 then do
    let ⟨v53, v70, v92⟩ : Σ' (v53 : BitVec 32) (v70 : BitVec 32), Elt F .i32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 k0_h2
    if k0_h7 : k0_cond7 v92 = 1#1 then do
      let v114 : Elt F .i32 ← smemLoad arg5 (Rect.unit (s := S43) (k0_off24 i) S1.size (k0_off24_inb i k0_h2)) numel1_S1 rfl
      have k0_hw5 : k0_chk5 i v92 v114 := (← Prog.lift (TpuEff.assume (k0_chk5 i v92 v114) (k0_chk5.dec i v92 v114))).down
      let v118 : DmaSems sig S1 := arg21.slice (Rect.unit (s := S2) (k0_off25 i) S1.size (k0_off25_inb i k0_h2))
      let v119 : DmaSems sig S_ := v118.squeeze S_ squeezes_S1_S_
      let v120 : Memref sig .tc .hbm S1x32x2048 .i8 := arg16.slice (Rect.unit (s := S323x32x6144) (k0_off26 i v114) S1x32x2048.size (k0_off26_inb i v92 v114 k0_hw5 k0_h2 k0_h7)) (fun _ => rfl)
      let v121 : Memref sig .tc .hbm S32x2048 .i8 := v120.squeeze S32x2048 squeezes_S1x32x2048_S32x2048
      let v122 : Memref sig .tc .vmem S1x1x32x2048 .i8 := arg20.slice (Rect.unit (s := S2x8x32x2048) (k0_off27 i) S1x1x32x2048.size (k0_off27_inb i k0_h2)) (fun _ => rfl)
      let v123 : Memref sig .tc .vmem S32x2048 .i8 := v122.squeeze S32x2048 squeezes_S1x1x32x2048_S32x2048
      Prog.lift (.waitDma2 v119.sem v123 v121 ((harg20.wordExact_slice rfl _ (k0_off27_wordsi8 i k0_h2)).reshape _ _) ((harg16.wordExact_slice rfl _ (k0_off26_wordsi8 i v92 v114 k0_hw5 k0_h2 k0_h7)).reshape _ _))
      pure ⟨⟩
    else do
      pure ⟨⟩
    let v97 : Elt F .i32 ← smemLoad arg4 (Rect.unit (s := S43) (k0_off28 i) S1.size (k0_off28_inb i k0_h2)) numel1_S1 rfl
    if k0_h8 : k0_cond8 v97 = 1#1 then do
      let v114 : Elt F .i32 ← smemLoad arg5 (Rect.unit (s := S43) (k0_off29 i) S1.size (k0_off29_inb i k0_h2)) numel1_S1 rfl
      have k0_hw6 : k0_chk6 i v97 v114 := (← Prog.lift (TpuEff.assume (k0_chk6 i v97 v114) (k0_chk6.dec i v97 v114))).down
      let v118 : DmaSems sig S1 := arg21.slice (Rect.unit (s := S2) (k0_off30 i) S1.size (k0_off30_inb i k0_h2))
      let v119 : DmaSems sig S_ := v118.squeeze S_ squeezes_S1_S_
      let v120 : Memref sig .tc .hbm S1x32x2048 .i8 := arg16.slice (Rect.unit (s := S323x32x6144) (k0_off31 i v114) S1x32x2048.size (k0_off31_inb i v97 v114 k0_hw6 k0_h2 k0_h8)) (fun _ => rfl)
      let v121 : Memref sig .tc .hbm S32x2048 .i8 := v120.squeeze S32x2048 squeezes_S1x32x2048_S32x2048
      let v122 : Memref sig .tc .vmem S1x1x32x2048 .i8 := arg20.slice (Rect.unit (s := S2x8x32x2048) (k0_off32 i) S1x1x32x2048.size (k0_off32_inb i k0_h2)) (fun _ => rfl)
      let v123 : Memref sig .tc .vmem S32x2048 .i8 := v122.squeeze S32x2048 squeezes_S1x1x32x2048_S32x2048
      Prog.lift (.waitDma2 v119.sem v123 v121 ((harg20.wordExact_slice rfl _ (k0_off32_wordsi8 i k0_h2)).reshape _ _) ((harg16.wordExact_slice rfl _ (k0_off31_wordsi8 i v97 v114 k0_hw6 k0_h2 k0_h8)).reshape _ _))
      pure ⟨⟩
    else do
      pure ⟨⟩
    let v102 : Elt F .i32 ← smemLoad arg4 (Rect.unit (s := S43) (k0_off33 i) S1.size (k0_off33_inb i k0_h2)) numel1_S1 rfl
    if k0_h9 : k0_cond9 v102 = 1#1 then do
      let v114 : Elt F .i32 ← smemLoad arg5 (Rect.unit (s := S43) (k0_off34 i) S1.size (k0_off34_inb i k0_h2)) numel1_S1 rfl
      have k0_hw7 : k0_chk7 i v102 v114 := (← Prog.lift (TpuEff.assume (k0_chk7 i v102 v114) (k0_chk7.dec i v102 v114))).down
      let v118 : DmaSems sig S1 := arg21.slice (Rect.unit (s := S2) (k0_off35 i) S1.size (k0_off35_inb i k0_h2))
      let v119 : DmaSems sig S_ := v118.squeeze S_ squeezes_S1_S_
      let v120 : Memref sig .tc .hbm S1x32x2048 .i8 := arg16.slice (Rect.unit (s := S323x32x6144) (k0_off36 i v114) S1x32x2048.size (k0_off36_inb i v102 v114 k0_hw7 k0_h2 k0_h9)) (fun _ => rfl)
      let v121 : Memref sig .tc .hbm S32x2048 .i8 := v120.squeeze S32x2048 squeezes_S1x32x2048_S32x2048
      let v122 : Memref sig .tc .vmem S1x1x32x2048 .i8 := arg20.slice (Rect.unit (s := S2x8x32x2048) (k0_off37 i) S1x1x32x2048.size (k0_off37_inb i k0_h2)) (fun _ => rfl)
      let v123 : Memref sig .tc .vmem S32x2048 .i8 := v122.squeeze S32x2048 squeezes_S1x1x32x2048_S32x2048
      Prog.lift (.waitDma2 v119.sem v123 v121 ((harg20.wordExact_slice rfl _ (k0_off37_wordsi8 i k0_h2)).reshape _ _) ((harg16.wordExact_slice rfl _ (k0_off36_wordsi8 i v102 v114 k0_hw7 k0_h2 k0_h9)).reshape _ _))
      pure ⟨⟩
    else do
      pure ⟨⟩
    let v107 : Elt F .i32 ← smemLoad arg4 (Rect.unit (s := S43) (k0_off38 i) S1.size (k0_off38_inb i k0_h2)) numel1_S1 rfl
    if k0_h10 : k0_cond10 v107 = 1#1 then do
      let v114 : Elt F .i32 ← smemLoad arg5 (Rect.unit (s := S43) (k0_off39 i) S1.size (k0_off39_inb i k0_h2)) numel1_S1 rfl
      have k0_hw8 : k0_chk8 i v107 v114 := (← Prog.lift (TpuEff.assume (k0_chk8 i v107 v114) (k0_chk8.dec i v107 v114))).down
      let v118 : DmaSems sig S1 := arg21.slice (Rect.unit (s := S2) (k0_off40 i) S1.size (k0_off40_inb i k0_h2))
      let v119 : DmaSems sig S_ := v118.squeeze S_ squeezes_S1_S_
      let v120 : Memref sig .tc .hbm S1x32x2048 .i8 := arg16.slice (Rect.unit (s := S323x32x6144) (k0_off41 i v114) S1x32x2048.size (k0_off41_inb i v107 v114 k0_hw8 k0_h2 k0_h10)) (fun _ => rfl)
      let v121 : Memref sig .tc .hbm S32x2048 .i8 := v120.squeeze S32x2048 squeezes_S1x32x2048_S32x2048
      let v122 : Memref sig .tc .vmem S1x1x32x2048 .i8 := arg20.slice (Rect.unit (s := S2x8x32x2048) (k0_off42 i) S1x1x32x2048.size (k0_off42_inb i k0_h2)) (fun _ => rfl)
      let v123 : Memref sig .tc .vmem S32x2048 .i8 := v122.squeeze S32x2048 squeezes_S1x1x32x2048_S32x2048
      Prog.lift (.waitDma2 v119.sem v123 v121 ((harg20.wordExact_slice rfl _ (k0_off42_wordsi8 i k0_h2)).reshape _ _) ((harg16.wordExact_slice rfl _ (k0_off41_wordsi8 i v107 v114 k0_hw8 k0_h2 k0_h10)).reshape _ _))
      pure ⟨⟩
    else do
      pure ⟨⟩
    kk
  else do
    kk

set_option maxHeartbeats 4000000 in
/-- The fill: the table is read, the operand is written. -/
theorem fill_wp (x3 : Buf (Elt F) (arg3.view.loc (c : Thread nD τ))) {α : Type} (kk : Prog (TpuEff nD τ sig (Elt F) Λ₀ .tc) α) (Q : α → sProp 𝕄) :
    (iprop((arg3.view.loc (c : Thread nD τ) ↦{q} x3) ∗ (∃ f, (arg6.view.loc (c : Thread nD τ) ↦[arg6.view.set]{fullShare} f)) ∗ (∃ f, (arg19.view.loc (c : Thread nD τ) ↦[arg19.view.set]{fullShare} f))) : sProp 𝕄)
      ⊢ iprop((iprop((arg3.view.loc (c : Thread nD τ) ↦{q} x3) ∗ (∃ f, (arg6.view.loc (c : Thread nD τ) ↦[arg6.view.set]{fullShare} f)) ∗ (∃ f, (arg19.view.loc (c : Thread nD τ) ↦[arg19.view.set]{fullShare} f))) -∗ wp frame (wpE (defs₀ (F := F)) Variants.none (c : Thread nD τ) none) Set.univ kk Q)
        -∗ wp frame (wpE (defs₀ (F := F)) Variants.none (c : Thread nD τ) none) Set.univ (fillSite (F := F) i arg3 arg6 arg19 harg19 kk) Q) := by
  unfold fillSite
  iintro ⟨H3, ⟨%f6, H6⟩, ⟨%f19, H19⟩⟩ HQ
  by_cases h : k0_cond1 i = 1#1
  · rw [dif_pos h]
    iapply (word_load (F := F) c arg3 (k0_off2 i) (k0_off2_inb i h) x3 q) $$ H3
    iintro H3
    simp only [Prog.lift, Prog.bind_op, Prog.bind_ret]
    sl_step
    sl_step
    sl_step
    iapply HQ
    isplitl [H3]
    · iexact H3
    isplitl [H6]
    · iexists _; iexact H6
    · iexists _; iexact H19
  · rw [dif_neg h]
    iapply HQ
    isplitl [H3]
    · iexact H3
    isplitl [H6]
    · iexists _; iexact H6
    · iexists _; iexact H19

include pl t4 t5 hN in
set_option maxHeartbeats 4000000 in
/-- All eight of the waits of two points before. -/
theorem drain_wp (v1 : BitVec 32) {α : Type} (kk : Prog (TpuEff nD τ sig (Elt F) Λ₀ .tc) α) (Q : α → sProp 𝕄) :
    wres (F := F) c arg4 arg5 arg16 arg20 arg21 x4 x5 q N nb first (pt i) 0
      ⊢ iprop((wres (F := F) c arg4 arg5 arg16 arg20 arg21 x4 x5 q N nb first (pt i) 8 -∗ wp frame (wpE (defs₀ (F := F)) Variants.none (c : Thread nD τ) none) Set.univ kk Q)
        -∗ wp frame (wpE (defs₀ (F := F)) Variants.none (c : Thread nD τ) none) Set.univ (drainSite (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 kk) Q) := by
  unfold drainSite
  iintro HW HQ
  by_cases k0_h2 : k0_cond2 i = 1#1
  · rw [dif_pos k0_h2]
    have hh : 2 ≤ pt i ∧ pt i < 131 := ⟨(cond2_iff i).mp k0_h2, Nat.lt_trans (pt_lt i) (by decide)⟩
    rw [wp_bind]
    iapply (part1_wp (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 pl x4 t4 x5 t5 q N hN v1 k0_h2) $$ HW
    iintro %v53 %v70 HW
    unfold wres
    icases HW with ⟨H4, H5, HO, HB⟩
    iapply (wait_one (F := F) c arg4 arg5 arg16 harg16 arg20 harg20 arg21 pl x4 t4 x5 t5 q N hN (pt i) 4 hh (by decide) (k0_off23_inb i k0_h2) k0_cond7 (fun _ => rfl) (k0_off24_inb i k0_h2) (k0_chk5 i) (k0_chk5.dec i) (k0_off25_inb i k0_h2) (k0_off26 i) (fun w v hw hp => k0_off26_inb i w v hw k0_h2 hp) (fun w v hw hp => k0_off26_wordsi8 i w v hw k0_h2 hp) (k0_off27_inb i k0_h2) (k0_off27_wordsi8 i k0_h2) (fun w v a b => ⟨fun _ _ => a, fun _ _ i => b i⟩) (fun _ => rfl) (offs5 i k0_h2)) $$ [H5 HO HB]
    · isplitl [H5]
      · iexact H5
      isplitl [HO]
      · iexact HO
      iexact HB
    iintro ⟨H5, HO, HB⟩
    iapply (word_load (F := F) c arg4 (k0_off28 i) (k0_off28_inb i k0_h2) x4 q) $$ H4
    iintro H4
    iapply (wait_one (F := F) c arg4 arg5 arg16 harg16 arg20 harg20 arg21 pl x4 t4 x5 t5 q N hN (pt i) 5 hh (by decide) (k0_off28_inb i k0_h2) k0_cond8 (fun _ => rfl) (k0_off29_inb i k0_h2) (k0_chk6 i) (k0_chk6.dec i) (k0_off30_inb i k0_h2) (k0_off31 i) (fun w v hw hp => k0_off31_inb i w v hw k0_h2 hp) (fun w v hw hp => k0_off31_wordsi8 i w v hw k0_h2 hp) (k0_off32_inb i k0_h2) (k0_off32_wordsi8 i k0_h2) (fun w v a b => ⟨fun _ _ => a, fun _ _ i => b i⟩) (fun _ => rfl) (offs6 i k0_h2)) $$ [H5 HO HB]
    · isplitl [H5]
      · iexact H5
      isplitl [HO]
      · iexact HO
      iexact HB
    iintro ⟨H5, HO, HB⟩
    iapply (word_load (F := F) c arg4 (k0_off33 i) (k0_off33_inb i k0_h2) x4 q) $$ H4
    iintro H4
    iapply (wait_one (F := F) c arg4 arg5 arg16 harg16 arg20 harg20 arg21 pl x4 t4 x5 t5 q N hN (pt i) 6 hh (by decide) (k0_off33_inb i k0_h2) k0_cond9 (fun _ => rfl) (k0_off34_inb i k0_h2) (k0_chk7 i) (k0_chk7.dec i) (k0_off35_inb i k0_h2) (k0_off36 i) (fun w v hw hp => k0_off36_inb i w v hw k0_h2 hp) (fun w v hw hp => k0_off36_wordsi8 i w v hw k0_h2 hp) (k0_off37_inb i k0_h2) (k0_off37_wordsi8 i k0_h2) (fun w v a b => ⟨fun _ _ => a, fun _ _ i => b i⟩) (fun _ => rfl) (offs7 i k0_h2)) $$ [H5 HO HB]
    · isplitl [H5]
      · iexact H5
      isplitl [HO]
      · iexact HO
      iexact HB
    iintro ⟨H5, HO, HB⟩
    iapply (word_load (F := F) c arg4 (k0_off38 i) (k0_off38_inb i k0_h2) x4 q) $$ H4
    iintro H4
    iapply (wait_one (F := F) c arg4 arg5 arg16 harg16 arg20 harg20 arg21 pl x4 t4 x5 t5 q N hN (pt i) 7 hh (by decide) (k0_off38_inb i k0_h2) k0_cond10 (fun _ => rfl) (k0_off39_inb i k0_h2) (k0_chk8 i) (k0_chk8.dec i) (k0_off40_inb i k0_h2) (k0_off41 i) (fun w v hw hp => k0_off41_inb i w v hw k0_h2 hp) (fun w v hw hp => k0_off41_wordsi8 i w v hw k0_h2 hp) (k0_off42_inb i k0_h2) (k0_off42_wordsi8 i k0_h2) (fun w v a b => ⟨fun _ _ => a, fun _ _ i => b i⟩) (fun _ => rfl) (offs8 i k0_h2)) $$ [H5 HO HB]
    · isplitl [H5]
      · iexact H5
      isplitl [HO]
      · iexact HO
      iexact HB
    iintro ⟨H5, HO, HB⟩
    iapply HQ
    isplitl [H4]
    · iexact H4
    isplitl [H5]
    · iexact H5
    isplitl [HO]
    · iexact HO
    iexact HB
  · rw [dif_neg k0_h2]
    have h0 : num nb (pt i) = 0 := if_pos (Nat.lt_of_not_le fun h => k0_h2 ((cond2_iff i).mpr h))
    iapply HQ
    unfold wres
    rw [h0]
    iexact HW

end Cert.Quant.Kit
-- ==== Proof.KQBody.lean ====
/- The quantiser's body at one grid point: the operand filled, the transfers of two points before received, the columns quantised, the point's own
   transfers started; the last point receives what is left. -/
module

public import proofs.«01_k».proof.Proof.KQDrain

@[expose] public section

set_option maxRecDepth 16384

noncomputable section

namespace Cert.Quant.Kit

open Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (c : Dev nD) (i : grid0.Coords) (arg2 : Memref sig .tc .smem S43 .i32) (harg2 : arg2.IsWhole) (arg3 : Memref sig .tc .smem S43 .i32) (harg3 : arg3.IsWhole) (arg4 : Memref sig .tc .smem S43 .i32) (harg4 : arg4.IsWhole) (arg5 : Memref sig .tc .smem S43 .i32) (harg5 : arg5.IsWhole) (arg6 : Memref sig .tc .vmem S1x1x288 .f32) (harg6 : arg6.IsWhole) (arg7 : Memref sig .tc .vmem S32x2048 .bf16) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S32x2048 .bf16) (harg14 : arg14.IsWhole) (arg15 : Memref sig .tc .vmem S32x2048 .bf16) (harg15 : arg15.IsWhole) (arg16 : Memref sig .tc .hbm S323x32x6144 .i8) (harg16 : arg16.IsWhole) (arg17 : Memref sig .tc .vmem S8x2048 .i32) (harg17 : arg17.IsWhole) (arg18 : Memref sig .tc .vmem S2048x256 .bf16) (harg18 : arg18.IsWhole) (arg19 : Memref sig .tc .vmem S256x288 .bf16) (harg19 : arg19.IsWhole) (arg20 : Memref sig .tc .vmem S2x8x32x2048 .i8) (harg20 : arg20.IsWhole) (arg21 : DmaSems sig S2)
    {nb first : ℕ → ℕ} (pl : Plan nb first)
    (x4 : Buf (Elt F) (arg4.view.loc (c : Thread nD τ))) (t4 : Tab c arg4 x4 nb) (x5 : Buf (Elt F) (arg5.view.loc (c : Thread nD τ))) (t5 : Tab c arg5 x5 first)
    (q : PosShare TreeShare) (N : ℕ) (hN : credit arg16 N)

section Sets

/-- The slabs of the transfers `h`. -/
abbrev slabsAt (nb first : ℕ → ℕ) (h : ℕ) : Finset S323x32x6144.Idx := slabs (pos first h) (num nb h) (col h)

/-- The tiles of the transfers `h`. -/
abbrev tilesAt (nb : ℕ → ℕ) (h : ℕ) : Finset S2x8x32x2048.Idx := tiles (h % 2) 0 (num nb h)

theorem num_le (nb : ℕ → ℕ) (h : ℕ) : num nb h ≤ 8 := by
  unfold num; split <;> omega

theorem tiles_disj (nb : ℕ → ℕ) (h : ℕ) : Disjoint (tilesAt nb h) (tilesAt nb (h + 1)) := by
  rw [Finset.disjoint_left]
  intro j h1 h2
  have h1 := mem_tiles.mp h1
  have h2 := mem_tiles.mp h2
  omega

theorem slabs_disj {nb first : ℕ → ℕ} (pl : Plan nb first) (h : ℕ) (hh : h < 130) : Disjoint (slabsAt nb first h) (slabsAt nb first (h + 1)) := by
  rw [Finset.disjoint_left]
  intro j h1 h2
  have h1 := mem_slabs.mp h1
  have h2 := mem_slabs.mp h2
  by_cases hl : h < 2
  · have : num nb h = 0 := if_pos hl
    omega
  have e1 : num nb h = min 8 (nb ((h - 2) / 3)) := if_neg hl
  have e2 : num nb (h + 1) = min 8 (nb ((h + 1 - 2) / 3)) := if_neg (by omega)
  unfold pos col at h1 h2
  by_cases hc : (h + 1 - 2) / 3 = (h - 2) / 3
  · have : (h + 1 - 2) % 3 ≠ (h - 2) % 3 := by omega
    omega
  have e3 : (h + 1 - 2) / 3 = (h - 2) / 3 + 1 := by omega
  have nx := pl.next ((h - 2) / 3) (by omega)
  rw [e3] at h2 e2
  omega

theorem sdiff_union {I : Type} [Fintype I] [DecidableEq I] {A B : Finset I} (h : Disjoint A B) : (Finset.univ \ (A ∪ B)) ∪ A = Finset.univ \ B := by
  ext x
  simp only [Finset.mem_union, Finset.mem_sdiff, Finset.mem_univ, true_and]
  have := @Finset.disjoint_left _ A B
  constructor
  · rintro (g | g)
    · exact fun hb => g (Or.inr hb)
    · exact this.mp h g
  · intro g
    by_cases hx : x ∈ A
    · exact Or.inr hx
    · exact Or.inl fun hh => hh.elim hx g

theorem disj_sdiff {I : Type} [Fintype I] [DecidableEq I] {A B : Finset I} : Disjoint (Finset.univ \ (A ∪ B)) A := by
  rw [Finset.disjoint_left]
  intro x h1 h2
  exact (Finset.mem_sdiff.mp h1).2 (Finset.mem_union_left _ h2)

theorem sub_sdiff {I : Type} [Fintype I] [DecidableEq I] {A B : Finset I} (h : Disjoint A B) : B ⊆ Finset.univ \ A := fun x hx =>
  Finset.mem_sdiff.mpr ⟨Finset.mem_univ _, fun hA => Finset.disjoint_left.mp h hA hx⟩

theorem sdiff_sdiff {I : Type} [Fintype I] [DecidableEq I] {A B : Finset I} : (Finset.univ \ A) \ B = Finset.univ \ (A ∪ B) := by
  ext x
  simp only [Finset.mem_union, Finset.mem_sdiff, Finset.mem_univ, true_and]
  exact ⟨fun h hh => hh.elim h.1 h.2, fun h => ⟨fun a => h (Or.inl a), fun b => h (Or.inr b)⟩⟩

end Sets

/-- What a point's body holds besides the transfers: the tables, the debts, the windows, the operand and the two output blocks. -/
def around (x3 : Buf (Elt F) (arg3.view.loc (c : Thread nD τ))) : sProp 𝕄 :=
  iprop((arg3.view.loc (c : Thread nD τ) ↦{q} x3) ∗ (∃ f, (arg6.view.loc (c : Thread nD τ) ↦[arg6.view.set]{fullShare} f)) ∗ readOnly (F := F) c arg7 arg8 arg9 arg10 arg11 arg12 arg13 arg14 arg15 arg19 ∗ (∃ f, (arg17.view.loc (c : Thread nD τ) ↦[arg17.view.set]{fullShare} f)) ∗ (∃ f, (arg18.view.loc (c : Thread nD τ) ↦[arg18.view.set]{fullShare} f)))

/-- The state before point `g`: the transfers of the two points before are under way. -/
def mid (nb first : ℕ → ℕ) (g : ℕ) : sProp 𝕄 :=
  iprop(own (F := F) c arg16 (Finset.univ \ (slabsAt nb first g ∪ slabsAt nb first (g + 1))) ∗ own (F := F) c arg20 (Finset.univ \ (tilesAt nb g ∪ tilesAt nb (g + 1)))
    ∗ flight (F := F) c arg16 arg20 arg21 N nb first g (num nb g) (min 0 (num nb g)) ∗ flight (F := F) c arg16 arg20 arg21 N nb first (g + 1) (num nb (g + 1)) (min 0 (num nb (g + 1))))

/-- The state with nothing under way. -/
def idle : sProp 𝕄 :=
  iprop(own (F := F) c arg16 Finset.univ ∗ own (F := F) c arg20 Finset.univ
    ∗ semVal ((c : Thread nD τ), .dma (semOf arg21 0)) 0 ∗ semVal ((c : Thread nD τ), .dma (semOf arg21 1)) 0)

/-- The first four starts, and the fifth's count. -/
def startFour : Prog (TpuEff nD τ sig (Elt F) Λ₀ .tc) (Σ' (arg0 : BitVec 32) (arg1 : BitVec 32) (v1 : BitVec 32) (v2 : BitVec 32) (v31 : Elt F .i32), BitVec 32) := do
  let v11 : Elt F .i32 ← smemLoad arg4 (Rect.unit (s := S43) (k0_off1 i) S1.size (k0_off1_inb i)) numel1_S1 rfl
  if k0_h11 : k0_cond11 v11 = 1#1 then do
    let v54 : Elt F .i32 ← smemLoad arg5 (Rect.unit (s := S43) (k0_off54 i) S1.size (k0_off54_inb i)) numel1_S1 rfl
    have k0_hw9 : k0_chk9 i v11 v54 := (← Prog.lift (TpuEff.assume (k0_chk9 i v11 v54) (k0_chk9.dec i v11 v54))).down
    let v58 : DmaSems sig S1 := arg21.slice (Rect.unit (s := S2) (k0_off55 i) S1.size (k0_off55_inb i))
    let v59 : DmaSems sig S_ := v58.squeeze S_ squeezes_S1_S_
    let v60 : Memref sig .tc .hbm S1x32x2048 .i8 := arg16.slice (Rect.unit (s := S323x32x6144) (k0_off56 i v54) S1x32x2048.size (k0_off56_inb i v11 v54 k0_hw9 k0_h11)) (fun _ => rfl)
    let v61 : Memref sig .tc .hbm S32x2048 .i8 := v60.squeeze S32x2048 squeezes_S1x32x2048_S32x2048
    let v62 : Memref sig .tc .vmem S1x1x32x2048 .i8 := arg20.slice (Rect.unit (s := S2x8x32x2048) (k0_off57 i) S1x1x32x2048.size (k0_off57_inb i)) (fun _ => rfl)
    let v63 : Memref sig .tc .vmem S32x2048 .i8 := v62.squeeze S32x2048 squeezes_S1x1x32x2048_S32x2048
    Prog.lift (.enqueueDma v63 (.here v61) (.dma v59.sem) ((harg20.wordExact_slice rfl _ (k0_off57_wordsi8 i)).reshape _ _) ((harg16.wordExact_slice rfl _ (k0_off56_wordsi8 i v11 v54 k0_hw9 k0_h11)).reshape _ _) ⟨Or.inl rfl, trivial⟩)
    pure ⟨⟩
  else do
    pure ⟨⟩
  let v16 : Elt F .i32 ← smemLoad arg4 (Rect.unit (s := S43) (k0_off58 i) S1.size (k0_off58_inb i)) numel1_S1 rfl
  if k0_h12 : k0_cond12 v16 = 1#1 then do
    let v54 : Elt F .i32 ← smemLoad arg5 (Rect.unit (s := S43) (k0_off59 i) S1.size (k0_off59_inb i)) numel1_S1 rfl
    have k0_hw10 : k0_chk10 i v16 v54 := (← Prog.lift (TpuEff.assume (k0_chk10 i v16 v54) (k0_chk10.dec i v16 v54))).down
    let v58 : DmaSems sig S1 := arg21.slice (Rect.unit (s := S2) (k0_off60 i) S1.size (k0_off60_inb i))
    let v59 : DmaSems sig S_ := v58.squeeze S_ squeezes_S1_S_
    let v60 : Memref sig .tc .hbm S1x32x2048 .i8 := arg16.slice (Rect.unit (s := S323x32x6144) (k0_off61 i v54) S1x32x2048.size (k0_off61_inb i v16 v54 k0_hw10 k0_h12)) (fun _ => rfl)
    let v61 : Memref sig .tc .hbm S32x2048 .i8 := v60.squeeze S32x2048 squeezes_S1x32x2048_S32x2048
    let v62 : Memref sig .tc .vmem S1x1x32x2048 .i8 := arg20.slice (Rect.unit (s := S2x8x32x2048) (k0_off62 i) S1x1x32x2048.size (k0_off62_inb i)) (fun _ => rfl)
    let v63 : Memref sig .tc .vmem S32x2048 .i8 := v62.squeeze S32x2048 squeezes_S1x1x32x2048_S32x2048
    Prog.lift (.enqueueDma v63 (.here v61) (.dma v59.sem) ((harg20.wordExact_slice rfl _ (k0_off62_wordsi8 i)).reshape _ _) ((harg16.wordExact_slice rfl _ (k0_off61_wordsi8 i v16 v54 k0_hw10 k0_h12)).reshape _ _) ⟨Or.inl rfl, trivial⟩)
    pure ⟨⟩
  else do
    pure ⟨⟩
  let v21 : Elt F .i32 ← smemLoad arg4 (Rect.unit (s := S43) (k0_off63 i) S1.size (k0_off63_inb i)) numel1_S1 rfl
  if k0_h13 : k0_cond13 v21 = 1#1 then do
    let v54 : Elt F .i32 ← smemLoad arg5 (Rect.unit (s := S43) (k0_off64 i) S1.size (k0_off64_inb i)) numel1_S1 rfl
    have k0_hw11 : k0_chk11 i v21 v54 := (← Prog.lift (TpuEff.assume (k0_chk11 i v21 v54) (k0_chk11.dec i v21 v54))).down
    let v58 : DmaSems sig S1 := arg21.slice (Rect.unit (s := S2) (k0_off65 i) S1.size (k0_off65_inb i))
    let v59 : DmaSems sig S_ := v58.squeeze S_ squeezes_S1_S_
    let v60 : Memref sig .tc .hbm S1x32x2048 .i8 := arg16.slice (Rect.unit (s := S323x32x6144) (k0_off66 i v54) S1x32x2048.size (k0_off66_inb i v21 v54 k0_hw11 k0_h13)) (fun _ => rfl)
    let v61 : Memref sig .tc .hbm S32x2048 .i8 := v60.squeeze S32x2048 squeezes_S1x32x2048_S32x2048
    let v62 : Memref sig .tc .vmem S1x1x32x2048 .i8 := arg20.slice (Rect.unit (s := S2x8x32x2048) (k0_off67 i) S1x1x32x2048.size (k0_off67_inb i)) (fun _ => rfl)
    let v63 : Memref sig .tc .vmem S32x2048 .i8 := v62.squeeze S32x2048 squeezes_S1x1x32x2048_S32x2048
    Prog.lift (.enqueueDma v63 (.here v61) (.dma v59.sem) ((harg20.wordExact_slice rfl _ (k0_off67_wordsi8 i)).reshape _ _) ((harg16.wordExact_slice rfl _ (k0_off66_wordsi8 i v21 v54 k0_hw11 k0_h13)).reshape _ _) ⟨Or.inl rfl, trivial⟩)
    pure ⟨⟩
  else do
    pure ⟨⟩
  let v26 : Elt F .i32 ← smemLoad arg4 (Rect.unit (s := S43) (k0_off68 i) S1.size (k0_off68_inb i)) numel1_S1 rfl
  if k0_h14 : k0_cond14 v26 = 1#1 then do
    let v54 : Elt F .i32 ← smemLoad arg5 (Rect.unit (s := S43) (k0_off69 i) S1.size (k0_off69_inb i)) numel1_S1 rfl
    have k0_hw12 : k0_chk12 i v26 v54 := (← Prog.lift (TpuEff.assume (k0_chk12 i v26 v54) (k0_chk12.dec i v26 v54))).down
    let v58 : DmaSems sig S1 := arg21.slice (Rect.unit (s := S2) (k0_off70 i) S1.size (k0_off70_inb i))
    let v59 : DmaSems sig S_ := v58.squeeze S_ squeezes_S1_S_
    let v60 : Memref sig .tc .hbm S1x32x2048 .i8 := arg16.slice (Rect.unit (s := S323x32x6144) (k0_off71 i v54) S1x32x2048.size (k0_off71_inb i v26 v54 k0_hw12 k0_h14)) (fun _ => rfl)
    let v61 : Memref sig .tc .hbm S32x2048 .i8 := v60.squeeze S32x2048 squeezes_S1x32x2048_S32x2048
    let v62 : Memref sig .tc .vmem S1x1x32x2048 .i8 := arg20.slice (Rect.unit (s := S2x8x32x2048) (k0_off72 i) S1x1x32x2048.size (k0_off72_inb i)) (fun _ => rfl)
    let v63 : Memref sig .tc .vmem S32x2048 .i8 := v62.squeeze S32x2048 squeezes_S1x1x32x2048_S32x2048
    Prog.lift (.enqueueDma v63 (.here v61) (.dma v59.sem) ((harg20.wordExact_slice rfl _ (k0_off72_wordsi8 i)).reshape _ _) ((harg16.wordExact_slice rfl _ (k0_off71_wordsi8 i v26 v54 k0_hw12 k0_h14)).reshape _ _) ⟨Or.inl rfl, trivial⟩)
    pure ⟨⟩
  else do
    pure ⟨⟩
  let v31 : Elt F .i32 ← smemLoad arg4 (Rect.unit (s := S43) (k0_off73 i) S1.size (k0_off73_inb i)) numel1_S1 rfl
  pure ⟨BitVec.ofNat 32 (i 0).val, BitVec.ofNat 32 (i 1).val, Scalar.addi (Scalar.muli (BitVec.ofNat 32 (i 0).val) 3#32) (BitVec.ofNat 32 (i 1).val), Scalar.remsi (Scalar.addi (Scalar.muli (BitVec.ofNat 32 (i 0).val) 3#32) (BitVec.ofNat 32 (i 1).val)) 2#32, v31, 4#32⟩

set_option maxHeartbeats 4000000 in
/-- The body up to its fourth start, by its pieces. -/
theorem part14_eq : k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 =
    fillSite (F := F) i arg3 arg6 arg19 harg19 (drainSite (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (Scalar.addi (Scalar.muli (BitVec.ofNat 32 (i 0).val) 3#32) (BitVec.ofNat 32 (i 1).val))
      (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (Scalar.remsi (Scalar.addi (Scalar.muli (BitVec.ofNat 32 (i 0).val) 3#32) (BitVec.ofNat 32 (i 1).val)) 2#32)) >>= fun _ => startFour (F := F) i arg4 arg5 arg16 harg16 arg20 harg20 arg21)) := rfl

include pl t4 t5 hN in
set_option maxHeartbeats 8000000 in
theorem startFour_wp (K : Finset S323x32x6144.Idx) (J : Finset S2x8x32x2048.Idx) (hK : slabs (pos first (pt i + 2)) (num nb (pt i + 2)) (col (pt i + 2)) ⊆ K)
    (hJ : tiles ((pt i + 2) % 2) 0 (num nb (pt i + 2)) ⊆ J) (Q : (Σ' (arg0 : BitVec 32) (arg1 : BitVec 32) (v1 : BitVec 32) (v2 : BitVec 32) (v31 : Elt F .i32), BitVec 32) → sProp 𝕄) :
    sres (F := F) c arg4 arg5 arg16 arg20 arg21 x4 x5 q N nb first K J (pt i + 2) 0
      ⊢ iprop((∀ v0 v1 v2 v3 v5, sres (F := F) c arg4 arg5 arg16 arg20 arg21 x4 x5 q N nb first K J (pt i + 2) 4 -∗ Q ⟨v0, v1, v2, v3, (wordOf arg4 c x4 (k0_off73 i) (k0_off73_inb i)), v5⟩)
        -∗ wp frame (wpE (defs₀ (F := F)) Variants.none (c : Thread nD τ) none) Set.univ (startFour (F := F) i arg4 arg5 arg16 harg16 arg20 harg20 arg21) Q) := by
  have hh : 2 ≤ pt i + 2 ∧ pt i + 2 < 131 := by have := pt_lt i; omega
  unfold startFour sres
  iintro ⟨H4, H5, HB⟩ HQ
  iapply (word_load (F := F) c arg4 (k0_off1 i) (k0_off1_inb i) x4 q) $$ H4
  iintro H4
  iapply (start_one (F := F) c arg4 arg5 arg16 harg16 arg20 harg20 arg21 pl x4 t4 x5 t5 q N hN K J ((pt i + 2)) 0 hh (by decide) hK hJ (k0_off1_inb i) k0_cond11 (fun _ => rfl) (k0_off54_inb i) (k0_chk9 i) (k0_chk9.dec i) (k0_off55_inb i) (k0_off56 i) (fun w v hw hp => k0_off56_inb i w v hw hp) (fun w v hw hp => k0_off56_wordsi8 i w v hw hp) (k0_off57_inb i) (k0_off57_wordsi8 i) (fun w v a b => ⟨fun _ => a, fun _ i => b i⟩) (fun _ => rfl) (offs9 i).1 (parity_tile (offs9 i).2)) $$ [H5 HB]
  · isplitl [H5]
    · iexact H5
    iexact HB
  iintro ⟨H5, HB⟩
  iapply (word_load (F := F) c arg4 (k0_off58 i) (k0_off58_inb i) x4 q) $$ H4
  iintro H4
  iapply (start_one (F := F) c arg4 arg5 arg16 harg16 arg20 harg20 arg21 pl x4 t4 x5 t5 q N hN K J ((pt i + 2)) 1 hh (by decide) hK hJ (k0_off58_inb i) k0_cond12 (fun _ => rfl) (k0_off59_inb i) (k0_chk10 i) (k0_chk10.dec i) (k0_off60_inb i) (k0_off61 i) (fun w v hw hp => k0_off61_inb i w v hw hp) (fun w v hw hp => k0_off61_wordsi8 i w v hw hp) (k0_off62_inb i) (k0_off62_wordsi8 i) (fun w v a b => ⟨fun _ => a, fun _ i => b i⟩) (fun _ => rfl) (offs10 i).1 (parity_tile (offs10 i).2)) $$ [H5 HB]
  · isplitl [H5]
    · iexact H5
    iexact HB
  iintro ⟨H5, HB⟩
  iapply (word_load (F := F) c arg4 (k0_off63 i) (k0_off63_inb i) x4 q) $$ H4
  iintro H4
  iapply (start_one (F := F) c arg4 arg5 arg16 harg16 arg20 harg20 arg21 pl x4 t4 x5 t5 q N hN K J ((pt i + 2)) 2 hh (by decide) hK hJ (k0_off63_inb i) k0_cond13 (fun _ => rfl) (k0_off64_inb i) (k0_chk11 i) (k0_chk11.dec i) (k0_off65_inb i) (k0_off66 i) (fun w v hw hp => k0_off66_inb i w v hw hp) (fun w v hw hp => k0_off66_wordsi8 i w v hw hp) (k0_off67_inb i) (k0_off67_wordsi8 i) (fun w v a b => ⟨fun _ => a, fun _ i => b i⟩) (fun _ => rfl) (offs11 i).1 (parity_tile (offs11 i).2)) $$ [H5 HB]
  · isplitl [H5]
    · iexact H5
    iexact HB
  iintro ⟨H5, HB⟩
  iapply (word_load (F := F) c arg4 (k0_off68 i) (k0_off68_inb i) x4 q) $$ H4
  iintro H4
  iapply (start_one (F := F) c arg4 arg5 arg16 harg16 arg20 harg20 arg21 pl x4 t4 x5 t5 q N hN K J ((pt i + 2)) 3 hh (by decide) hK hJ (k0_off68_inb i) k0_cond14 (fun _ => rfl) (k0_off69_inb i) (k0_chk12 i) (k0_chk12.dec i) (k0_off70_inb i) (k0_off71 i) (fun w v hw hp => k0_off71_inb i w v hw hp) (fun w v hw hp => k0_off71_wordsi8 i w v hw hp) (k0_off72_inb i) (k0_off72_wordsi8 i) (fun w v a b => ⟨fun _ => a, fun _ i => b i⟩) (fun _ => rfl) (offs12 i).1 (parity_tile (offs12 i).2)) $$ [H5 HB]
  · isplitl [H5]
    · iexact H5
    iexact HB
  iintro ⟨H5, HB⟩
  iapply (word_load (F := F) c arg4 (k0_off73 i) (k0_off73_inb i) x4 q) $$ H4
  iintro H4
  rw [wp_pure]
  imodintro
  iapply HQ
  isplitl [H4]
  · iexact H4
  isplitl [H5]
  · iexact H5
  iexact HB

end Cert.Quant.Kit
-- ==== Proof.KQPoint.lean ====
/- The quantiser's body at one grid point, whole: the operand filled, the transfers of two points before received, the columns quantised, the point's own
   transfers started; the last point receives what is left. -/
module

public import proofs.«01_k».proof.Proof.KQBody

@[expose] public section

set_option maxRecDepth 16384

noncomputable section

namespace Cert.Quant.Kit

open Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (c : Dev nD) (i : grid0.Coords) (arg2 : Memref sig .tc .smem S43 .i32) (harg2 : arg2.IsWhole) (arg3 : Memref sig .tc .smem S43 .i32) (harg3 : arg3.IsWhole) (arg4 : Memref sig .tc .smem S43 .i32) (harg4 : arg4.IsWhole) (arg5 : Memref sig .tc .smem S43 .i32) (harg5 : arg5.IsWhole) (arg6 : Memref sig .tc .vmem S1x1x288 .f32) (harg6 : arg6.IsWhole) (arg7 : Memref sig .tc .vmem S32x2048 .bf16) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S32x2048 .bf16) (harg14 : arg14.IsWhole) (arg15 : Memref sig .tc .vmem S32x2048 .bf16) (harg15 : arg15.IsWhole) (arg16 : Memref sig .tc .hbm S323x32x6144 .i8) (harg16 : arg16.IsWhole) (arg17 : Memref sig .tc .vmem S8x2048 .i32) (harg17 : arg17.IsWhole) (arg18 : Memref sig .tc .vmem S2048x256 .bf16) (harg18 : arg18.IsWhole) (arg19 : Memref sig .tc .vmem S256x288 .bf16) (harg19 : arg19.IsWhole) (arg20 : Memref sig .tc .vmem S2x8x32x2048 .i8) (harg20 : arg20.IsWhole) (arg21 : DmaSems sig S2)
    {nb first : ℕ → ℕ} (pl : Plan nb first)
    (x4 : Buf (Elt F) (arg4.view.loc (c : Thread nD τ))) (t4 : Tab c arg4 x4 nb) (x5 : Buf (Elt F) (arg5.view.loc (c : Thread nD τ))) (t5 : Tab c arg5 x5 first)
    (q : PosShare TreeShare) (N : ℕ) (hN : credit arg16 N)

include pl t4 t5 hN in
set_option maxHeartbeats 8000000 in
/-- The body up to its fourth start. -/
theorem part14_wp (hN0 : 0 < N) (x3 : Buf (Elt F) (arg3.view.loc (c : Thread nD τ))) (Q : (Σ' (arg0 : BitVec 32) (arg1 : BitVec 32) (v1 : BitVec 32) (v2 : BitVec 32) (v31 : Elt F .i32), BitVec 32) → sProp 𝕄) :
    (iprop(around (F := F) c arg3 arg6 arg7 arg8 arg9 arg10 arg11 arg12 arg13 arg14 arg15 arg17 arg18 arg19 q x3 ∗ (arg4.view.loc (c : Thread nD τ) ↦{q} x4) ∗ (arg5.view.loc (c : Thread nD τ) ↦{q} x5) ∗ Pipeline.owesWithin c 0 Set.univ ∗ mid (F := F) c arg16 arg20 arg21 N nb first (pt i)) : sProp 𝕄)
      ⊢ iprop((∀ v0 v1 v2 v3 v5, iprop(around (F := F) c arg3 arg6 arg7 arg8 arg9 arg10 arg11 arg12 arg13 arg14 arg15 arg17 arg18 arg19 q x3 ∗ (arg4.view.loc (c : Thread nD τ) ↦{q} x4) ∗ (arg5.view.loc (c : Thread nD τ) ↦{q} x5) ∗ Pipeline.owesWithin c 0 Set.univ ∗ started (F := F) c arg16 arg20 (semOf arg21 (pt i + 2)) N (Finset.univ \ slabsAt nb first (pt i + 1)) (Finset.univ \ tilesAt nb (pt i + 1)) (pos first (pt i + 2)) (col (pt i + 2)) ((pt i + 2) % 2) (num nb (pt i + 2)) (min 4 (num nb (pt i + 2)))
            ∗ flight (F := F) c arg16 arg20 arg21 N nb first (pt i + 1) (num nb (pt i + 1)) (min 0 (num nb (pt i + 1)))) -∗ Q ⟨v0, v1, v2, v3, (wordOf arg4 c x4 (k0_off73 i) (k0_off73_inb i)), v5⟩)
        -∗ wp frame (wpE (defs₀ (F := F)) Variants.none (c : Thread nD τ) none) Set.univ (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21) Q) := by
  have hlt := pt_lt i
  unfold around mid
  iintro ⟨⟨H3, H6, HR, H17, H18⟩, H4, H5, HO, H16, H20, HA, HF⟩ HQ
  rw [part14_eq]
  unfold readOnly
  icases HR with ⟨R7, R8, R9, R10, R11, R12, R13, R14, R15, R19⟩
  iapply (fill_wp (F := F) c i arg3 arg6 arg19 harg19 q x3) $$ [H3 H6 R19]
  · isplitl [H3]
    · iexact H3
    isplitl [H6]
    · iexact H6
    iexact R19
  iintro ⟨H3, H6, R19⟩
  iapply (drain_wp (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 pl x4 t4 x5 t5 q N hN) $$ [H4 H5 HO HA]
  · unfold wres
    isplitl [H4]
    · iexact H4
    isplitl [H5]
    · iexact H5
    isplitl [HO]
    · iexact HO
    iexact HA
  unfold wres
  iintro ⟨H4, H5, HO, HA⟩
  imod (collect (F := F) c arg16 arg20 arg21 N hN0 nb first (pt i) (Finset.univ \ (slabsAt nb first (pt i) ∪ slabsAt nb first (pt i + 1)))
    (Finset.univ \ (tilesAt nb (pt i) ∪ tilesAt nb (pt i + 1))) disj_sdiff disj_sdiff (num_le nb _)) $$ [H16 H20 HA] with ⟨H16, H20, HS⟩
  · isplitl [H16]
    · iexact H16
    isplitl [H20]
    · iexact H20
    iexact HA
  rw [sdiff_union (slabs_disj pl (pt i) (by omega)), sdiff_union (tiles_disj nb (pt i))]
  have hW : tiles (pt i % 2) 0 8 ⊆ (Finset.univ \ tilesAt nb (pt i + 1)) := fun j hj => Finset.mem_sdiff.mpr ⟨Finset.mem_univ _, fun h => by
    have h1 := mem_tiles.mp hj
    have h2 := mem_tiles.mp h
    omega⟩
  ihave ⟨HW, H20⟩ := (own_split (F := F) c arg20 hW) $$ H20
  iapply (loop_wp (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21) $$ [R7 R8 R9 R10 R11 R12 R13 R14 R15 R19 H17 H18 HW]
  · unfold readOnly written
    isplitl [R7 R8 R9 R10 R11 R12 R13 R14 R15 R19]
    · isplitl [R7]
      · iexact R7
      isplitl [R8]
      · iexact R8
      isplitl [R9]
      · iexact R9
      isplitl [R10]
      · iexact R10
      isplitl [R11]
      · iexact R11
      isplitl [R12]
      · iexact R12
      isplitl [R13]
      · iexact R13
      isplitl [R14]
      · iexact R14
      isplitl [R15]
      · iexact R15
      iexact R19
    isplitl [H17]
    · iexact H17
    isplitl [H18]
    · iexact H18
    iexact HW
  unfold written
  iintro ⟨HR, H17, H18, HW⟩
  ihave H20 := (own_join (F := F) c arg20 (K := (Finset.univ \ tilesAt nb (pt i + 1)) \ tiles (pt i % 2) 0 8) (J := tiles (pt i % 2) 0 8) Finset.sdiff_disjoint) $$ [H20 HW]
  · isplitl [H20]
    · iexact H20
    iexact HW
  rw [Finset.sdiff_union_of_subset hW]
  imod (newBatch (F := F) c arg16 arg20 arg21 N nb first (pt i + 2) (Finset.univ \ slabsAt nb first (pt i + 1)) (Finset.univ \ tilesAt nb (pt i + 1))) $$ [H16 H20 HS] with HB
  · isplitl [H16]
    · iexact H16
    isplitl [H20]
    · iexact H20
    rw [semOf_add_two]
    iexact HS
  iapply (startFour_wp (F := F) c i arg4 arg5 arg16 harg16 arg20 harg20 arg21 pl x4 t4 x5 t5 q N hN (Finset.univ \ slabsAt nb first (pt i + 1)) (Finset.univ \ tilesAt nb (pt i + 1))
    (sub_sdiff (slabs_disj pl (pt i + 1) (by omega))) (sub_sdiff (tiles_disj nb (pt i + 1)))) $$ [H4 H5 HB]
  · unfold sres
    isplitl [H4]
    · iexact H4
    isplitl [H5]
    · iexact H5
    iexact HB
  iintro %v0 %v1 %v2 %v3 %v5 HB
  iapply HQ
  unfold sres
  icases HB with ⟨H4, H5, HB⟩
  isplitl [H3 H6 HR H17 H18]
  · isplitl [H3]
    · iexact H3
    isplitl [H6]
    · iexact H6
    isplitl [HR]
    · unfold readOnly; iexact HR
    isplitl [H17]
    · iexact H17
    iexact H18
  isplitl [H4]
  · iexact H4
  isplitl [H5]
  · iexact H5
  isplitl [HO]
  · iexact HO
  isplitl [HB]
  · iexact HB
  iexact HF

include pl t4 t5 hN in
set_option maxHeartbeats 8000000 in
/-- One grid point. -/
theorem body_wp (hN0 : 0 < N) (x3 : Buf (Elt F) (arg3.view.loc (c : Thread nD τ))) :
    (iprop(around (F := F) c arg3 arg6 arg7 arg8 arg9 arg10 arg11 arg12 arg13 arg14 arg15 arg17 arg18 arg19 q x3 ∗ (arg4.view.loc (c : Thread nD τ) ↦{q} x4) ∗ (arg5.view.loc (c : Thread nD τ) ↦{q} x5) ∗ Pipeline.owesWithin c 0 Set.univ ∗ mid (F := F) c arg16 arg20 arg21 N nb first (pt i)) : sProp 𝕄)
      ⊢ wp frame (wpE (defs₀ (F := F)) Variants.none (c : Thread nD τ) none) Set.univ (cc0_quant_x (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21)
          (fun _ => iprop(around (F := F) c arg3 arg6 arg7 arg8 arg9 arg10 arg11 arg12 arg13 arg14 arg15 arg17 arg18 arg19 q x3 ∗ (arg4.view.loc (c : Thread nD τ) ↦{q} x4) ∗ (arg5.view.loc (c : Thread nD τ) ↦{q} x5) ∗ Pipeline.owesWithin c 0 Set.univ ∗ (if pt i = 128 then idle (F := F) c arg16 arg20 arg21 else mid (F := F) c arg16 arg20 arg21 N nb first (pt i + 1)))) := by
  have hlt := pt_lt i
  have hh : 2 ≤ pt i + 2 ∧ pt i + 2 < 131 := by omega
  have hK := sub_sdiff (slabs_disj pl (pt i + 1) (by omega))
  have hJ := sub_sdiff (tiles_disj nb (pt i + 1))
  rw [cc0_quant_x_eq_skeleton]
  unfold cc0_quant_x_skel
  rw [wp_bind]
  iintro H
  iapply (part14_wp (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 pl x4 t4 x5 t5 q N hN hN0 x3) $$ H
  iintro %v0 %v1 %v2 %v3 %v5 ⟨HR, H4, H5, HO, HB, HF⟩
  iapply (start_one (F := F) c arg4 arg5 arg16 harg16 arg20 harg20 arg21 pl x4 t4 x5 t5 q N hN (Finset.univ \ slabsAt nb first (pt i + 1)) (Finset.univ \ tilesAt nb (pt i + 1)) ((pt i + 2)) 4 hh (by decide) hK hJ (k0_off73_inb i) k0_cond15 (fun _ => rfl) (k0_off74_inb i) (k0_chk13 i) (k0_chk13.dec i) (k0_off75_inb i) (k0_off76 i) (fun w v hw hp => k0_off76_inb i w v hw hp) (fun w v hw hp => k0_off76_wordsi8 i w v hw hp) (k0_off77_inb i) (k0_off77_wordsi8 i) (fun w v a b => ⟨fun _ => a, fun _ i => b i⟩) (fun _ => rfl) (offs13 i).1 (parity_tile (offs13 i).2)) $$ [H5 HB]
  · isplitl [H5]
    · iexact H5
    iexact HB
  iintro ⟨H5, HB⟩
  iapply (word_load (F := F) c arg4 (k0_off78 i) (k0_off78_inb i) x4 q) $$ H4
  iintro H4
  iapply (start_one (F := F) c arg4 arg5 arg16 harg16 arg20 harg20 arg21 pl x4 t4 x5 t5 q N hN (Finset.univ \ slabsAt nb first (pt i + 1)) (Finset.univ \ tilesAt nb (pt i + 1)) ((pt i + 2)) 5 hh (by decide) hK hJ (k0_off78_inb i) k0_cond16 (fun _ => rfl) (k0_off79_inb i) (k0_chk14 i) (k0_chk14.dec i) (k0_off80_inb i) (k0_off81 i) (fun w v hw hp => k0_off81_inb i w v hw hp) (fun w v hw hp => k0_off81_wordsi8 i w v hw hp) (k0_off82_inb i) (k0_off82_wordsi8 i) (fun w v a b => ⟨fun _ => a, fun _ i => b i⟩) (fun _ => rfl) (offs14 i).1 (parity_tile (offs14 i).2)) $$ [H5 HB]
  · isplitl [H5]
    · iexact H5
    iexact HB
  iintro ⟨H5, HB⟩
  iapply (word_load (F := F) c arg4 (k0_off83 i) (k0_off83_inb i) x4 q) $$ H4
  iintro H4
  iapply (start_one (F := F) c arg4 arg5 arg16 harg16 arg20 harg20 arg21 pl x4 t4 x5 t5 q N hN (Finset.univ \ slabsAt nb first (pt i + 1)) (Finset.univ \ tilesAt nb (pt i + 1)) ((pt i + 2)) 6 hh (by decide) hK hJ (k0_off83_inb i) k0_cond17 (fun _ => rfl) (k0_off84_inb i) (k0_chk15 i) (k0_chk15.dec i) (k0_off85_inb i) (k0_off86 i) (fun w v hw hp => k0_off86_inb i w v hw hp) (fun w v hw hp => k0_off86_wordsi8 i w v hw hp) (k0_off87_inb i) (k0_off87_wordsi8 i) (fun w v a b => ⟨fun _ => a, fun _ i => b i⟩) (fun _ => rfl) (offs15 i).1 (parity_tile (offs15 i).2)) $$ [H5 HB]
  · isplitl [H5]
    · iexact H5
    iexact HB
  iintro ⟨H5, HB⟩
  iapply (word_load (F := F) c arg4 (k0_off88 i) (k0_off88_inb i) x4 q) $$ H4
  iintro H4
  iapply (start_one (F := F) c arg4 arg5 arg16 harg16 arg20 harg20 arg21 pl x4 t4 x5 t5 q N hN (Finset.univ \ slabsAt nb first (pt i + 1)) (Finset.univ \ tilesAt nb (pt i + 1)) ((pt i + 2)) 7 hh (by decide) hK hJ (k0_off88_inb i) k0_cond18 (fun _ => rfl) (k0_off89_inb i) (k0_chk16 i) (k0_chk16.dec i) (k0_off90_inb i) (k0_off91 i) (fun w v hw hp => k0_off91_inb i w v hw hp) (fun w v hw hp => k0_off91_wordsi8 i w v hw hp) (k0_off92_inb i) (k0_off92_wordsi8 i) (fun w v a b => ⟨fun _ => a, fun _ i => b i⟩) (fun _ => rfl) (offs16 i).1 (parity_tile (offs16 i).2)) $$ [H5 HB]
  · isplitl [H5]
    · iexact H5
    iexact HB
  iintro ⟨H5, HB⟩
  unfold started
  icases HB with ⟨H16, H20, HB⟩
  rw [Nat.min_eq_right (num_le nb (pt i + 2)), sdiff_sdiff, sdiff_sdiff]
  by_cases k0_h19 : k0_cond19 i = 1#1
  · have e128 := (cond19_iff i).mp k0_h19
    rw [dif_pos k0_h19, if_pos e128, wp_bind]
    iapply (part11_wp (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 pl x4 t4 x5 t5 q N hN) $$ [H4 H5 HO HF]
    · unfold wres
      isplitl [H4]
      · iexact H4
      isplitl [H5]
      · iexact H5
      isplitl [HO]
      · iexact HO
      iexact HF
    iintro %v53 %v71 HW
    rw [wp_bind]
    iapply (part12_wp (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 pl x4 t4 x5 t5 q N hN) $$ HW
    iintro %v128 %v131 HW
    unfold wres
    icases HW with ⟨H4, H5, HO, HF⟩
    imod (collect (F := F) c arg16 arg20 arg21 N hN0 nb first (pt i + 1) (Finset.univ \ (slabsAt nb first (pt i + 1) ∪ slabsAt nb first (pt i + 2)))
      (Finset.univ \ (tilesAt nb (pt i + 1) ∪ tilesAt nb (pt i + 2))) disj_sdiff disj_sdiff (num_le nb _)) $$ [H16 H20 HF] with ⟨H16, H20, HS1⟩
    · isplitl [H16]
      · iexact H16
      isplitl [H20]
      · iexact H20
      iexact HF
    rw [sdiff_union (slabs_disj pl (pt i + 1) (by omega)), sdiff_union (tiles_disj nb (pt i + 1)), wp_bind]
    iapply (part13_wp (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 pl x4 t4 x5 t5 q N hN) $$ [H4 H5 HO HB]
    · unfold wres
      rw [Nat.zero_min]
      isplitl [H4]
      · iexact H4
      isplitl [H5]
      · iexact H5
      isplitl [HO]
      · iexact HO
      iexact HB
    unfold wres
    iintro ⟨H4, H5, HO, HB⟩
    imod (collect (F := F) c arg16 arg20 arg21 N hN0 nb first (pt i + 2) (Finset.univ \ slabsAt nb first (pt i + 2))
      (Finset.univ \ tilesAt nb (pt i + 2)) Finset.sdiff_disjoint Finset.sdiff_disjoint (num_le nb _)) $$ [H16 H20 HB] with ⟨H16, H20, HS0⟩
    · isplitl [H16]
      · iexact H16
      isplitl [H20]
      · iexact H20
      iexact HB
    rw [Finset.sdiff_union_of_subset (Finset.subset_univ _), Finset.sdiff_union_of_subset (Finset.subset_univ _), e128]
    rw [wp_pure]
    imodintro
    isplitl [HR]
    · iexact HR
    isplitl [H4]
    · iexact H4
    isplitl [H5]
    · iexact H5
    isplitl [HO]
    · iexact HO
    unfold idle
    isplitl [H16]
    · iexact H16
    isplitl [H20]
    · iexact H20
    isplitl [HS0]
    · iexact HS0
    iexact HS1
  · have n128 : ¬ pt i = 128 := fun h => k0_h19 ((cond19_iff i).mpr h)
    rw [dif_neg k0_h19, if_neg n128, wp_pure]
    imodintro
    isplitl [HR]
    · iexact HR
    isplitl [H4]
    · iexact H4
    isplitl [H5]
    · iexact H5
    isplitl [HO]
    · iexact HO
    unfold mid
    isplitl [H16]
    · iexact H16
    isplitl [H20]
    · iexact H20
    isplitl [HF]
    · iexact HF
    rw [Nat.zero_min]
    iexact HB

end Cert.Quant.Kit
-- ==== Proof.KQEntry.lean ====
/- What the run of the quantising call is stated over: its @main up to the call (the plan and the signs' columns, computed on the host), and the prefetched
   tables as the call finds them. -/
module

public import proofs.«01_k».proof.Proof.KQPoint
public import Idealize.ShloMosaic.Lib.Pipeline.FrameBody

@[expose] public section

set_option maxRecDepth 16384

noncomputable section

namespace Cert.Quant.Kit

open Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- Core `c`'s TensorCore buffers when the call is entered: after all host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor

set_option maxHeartbeats 4000000 in
/-- @main up to the call. -/
theorem hmain (𝒱₀ : Variants) : Pipeline.HMainP (Ix := Unit) (Name := ℕ) (U := UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh⟩) main_chain

set_option maxHeartbeats 4000000

/-- No host operation before the call writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the call writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the call writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The tables' contents when the call is entered. -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl

/-- Every window whose index map reads a table has its block inside its array at every point. -/
abbrev Ok : Prop := ok0 (F := F) (tbl m)
/-- The tables' contents as admissible contents, and the pipeline at them. -/
abbrev adm (hO : Ok m) : (pcfg0 (F := F)).Adm := ⟨tbl m, hO⟩
abbrev cfgM (hO : Ok m) : Pipeline.Cfg sig Λ₀ := cfg0 (adm m hO)

end Cert.Quant.Kit

end
-- ==== Proof.KQRun.lean ====
/- The run of the quantising call: its invariant between grid points, the body at every point, and the frame. -/
module

public import proofs.«01_k».proof.Proof.KQEntry
public import Idealize.ShloMosaic.Lib.Pipeline.FrameBody

@[expose] public section

set_option maxRecDepth 16384

noncomputable section

namespace Cert.Quant.Kit

open Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The codes' array, the code buffer and the four tables, whole. -/
abbrev codesM : Memref sig .tc .hbm S323x32x6144 .i8 := Memref.whole main_v109_0
abbrev cbufM : Memref sig .tc .vmem S2x8x32x2048 .i8 := Memref.whole cc0_scratch1
abbrev offM : Memref sig .tc .smem S43 .i32 := Memref.whole main_v62
abbrev nbM : Memref sig .tc .smem S43 .i32 := Memref.whole main_v72
abbrev firstM : Memref sig .tc .smem S43 .i32 := Memref.whole main_v83

/-- The codes' array's credit of a transfer. -/
def perCopy : ℕ := ((codesM.slice (Rect.unit (s := S323x32x6144) ![0, 0, 0] S1x32x2048.size (by decide)) (fun _ => rfl)).squeeze S32x2048 squeezes_S1x32x2048_S32x2048).view.dmaCredit

theorem credit_codes : credit codesM perCopy := fun _ _ => rfl

theorem perCopy_pos : 0 < perCopy := by decide +kernel

/-- What is under way before point `n`: nothing at the start and at the end. -/
def state (c : Dev nD) (nb first : ℕ → ℕ) (n : ℕ) : sProp 𝕄 :=
  if n = 0 ∨ n = 129 then idle (F := F) c codesM cbufM cc0_scratch2 else mid (F := F) c codesM cbufM cc0_scratch2 perCopy nb first n

/-- The invariant before point `n`. -/
def inv (c : Dev nD) (nb first : ℕ → ℕ) (n : ℕ) : sProp 𝕄 :=
  iprop((∃ f : Buf (Elt F) ((c : Thread nD τ).loc cc0_scratch0), ((c : Thread nD τ).loc cc0_scratch0) ↦{fullShare} f) ∗ (∃ r, prngReg c r)
    ∗ Pipeline.ΦT pre0 (tbl m) c ∗ state (F := F) c nb first n)

/-- The proof data: nothing is named of what the windows hold. -/
def dats (hO : Ok m) (nb first : ℕ → ℕ) (_ : Fin 1) (c : Dev nD) : Dat τ (Elt F) Unit ℕ (UD sig nD τ) ℕ (cfgM m hO) c where
  A w := V m c (Pipeline.arrRef spec0 w)
  after w t := Pipeline.Dat.unnamed w t
  Φ t := inv (F := F) m c nb first t.val
  q w := Pipeline.shareOf spec0 w
  owed _ := 0

theorem A_eq (hO : Ok m) (nb first : ℕ → ℕ) (c : Dev nD) (w : Fin (cfgM m hO).W) : (dats m hO nb first 0 c).A w = V m c (Pipeline.arrRef spec0 w) := by
  dsimp only [dats]

/-- The tables' halves, table by table. -/
theorem PhiT0_eq (c : Dev nD) : (Pipeline.ΦT pre0 (tbl m) c : sProp 𝕄)
    = iprop((((Memref.whole main_v59 : Memref sig .tc .smem S43 .i32).view.loc (c : Thread nD τ)) ↦{fullShare.right} tbl m 0) ∗ ((offM.view.loc (c : Thread nD τ)) ↦{fullShare.right} tbl m 1)
      ∗ ((nbM.view.loc (c : Thread nD τ)) ↦{fullShare.right} tbl m 2) ∗ ((firstM.view.loc (c : Thread nD τ)) ↦{fullShare.right} tbl m 3)) := by
  unfold Pipeline.ΦT Pipeline.prefHeld
  rw [bigSep_univ_eq_bigSepL [(0 : Fin 4), 1, 2, 3] (by decide) (by decide)]
  rfl

/-- A whole buffer held in full is the memref over it owned at every index. -/
theorem own_whole (c : Dev nD) (b : Ref sig .tc) :
    (iprop(∃ f : Buf (Elt F) ((c : Thread nD τ).loc b), ((c : Thread nD τ).loc b) ↦{fullShare} f) : sProp 𝕄) = own (F := F) c (Memref.whole b) Finset.univ := by
  unfold own
  have e : (Memref.whole b).view.setOn Finset.univ = (Finset.univ : Finset (Memref.whole b).view.ty.Idx) := View.set_whole _
  rw [e]

/-- A whole buffer held in full, as the memref over it. -/
theorem held_whole (c : Dev nD) (b : Ref sig .tc) :
    (iprop(∃ f : Buf (Elt F) ((c : Thread nD τ).loc b), ((c : Thread nD τ).loc b) ↦{fullShare} f) : sProp 𝕄)
      = iprop(∃ f, ((Memref.whole b).view.loc (c : Thread nD τ) ↦[(Memref.whole b).view.set]{fullShare} f)) := by
  have e : (Memref.whole b).view.set = (Finset.univ : Finset (Memref.whole b).view.ty.Idx) := View.set_whole _
  rw [e]

theorem coord_pt : ∀ t : Fin grid0.N, pt (grid0.coords t) = t.val := by decide +kernel

/-- From nothing under way to the state before the first point: two empty batches. -/
theorem idle_mid (c : Dev nD) (nb first : ℕ → ℕ) :
    (idle (F := F) c codesM cbufM cc0_scratch2 : sProp 𝕄) ⊢ iprop(|={Set.univ}=> mid (F := F) c codesM cbufM cc0_scratch2 perCopy nb first 0) := by
  unfold idle mid flight
  have e16 : (Finset.univ : Finset S323x32x6144.Idx) \ (slabsAt nb first 0 ∪ slabsAt nb first (0 + 1)) = Finset.univ := by
    apply Finset.sdiff_eq_self_of_disjoint
    rw [Finset.disjoint_left]; intro j _ hj
    rcases Finset.mem_union.mp hj with h | h
    · have := mem_slabs.mp h; rw [show num nb 0 = 0 from rfl] at this; omega
    · have := mem_slabs.mp h; rw [show num nb (0 + 1) = 0 from rfl] at this; omega
  have e20 : (Finset.univ : Finset S2x8x32x2048.Idx) \ (tilesAt nb 0 ∪ tilesAt nb (0 + 1)) = Finset.univ := by
    apply Finset.sdiff_eq_self_of_disjoint
    rw [Finset.disjoint_left]; intro j _ hj
    rcases Finset.mem_union.mp hj with h | h
    · have := mem_tiles.mp h; rw [show num nb 0 = 0 from rfl] at this; omega
    · have := mem_tiles.mp h; rw [show num nb (0 + 1) = 0 from rfl] at this; omega
  rw [e16, e20]
  iintro ⟨H16, H20, S0, S1⟩
  imod (Transfers.batch_alloc' (countersEmb (U := UD sig nD τ)) (c : Thread nD τ) () perCopy (deliv (F := F) c codesM cbufM (pos first 0) (col 0) (0 % 2) (n := num nb 0))
    (sm := .dma (semOf cc0_scratch2 0)) (E := Set.univ)) $$ S0 with B0
  imod (Transfers.batch_alloc' (countersEmb (U := UD sig nD τ)) (c : Thread nD τ) () perCopy (deliv (F := F) c codesM cbufM (pos first (0 + 1)) (col (0 + 1)) ((0 + 1) % 2) (n := num nb (0 + 1)))
    (sm := .dma (semOf cc0_scratch2 (0 + 1))) (E := Set.univ)) $$ S1 with B1
  imodintro
  isplitl [H16]
  · iexact H16
  isplitl [H20]
  · iexact H20
  isplitl [B0]
  · iexact B0
  iexact B1

/-- Before a point, what is under way is `mid`, after the empty batches at the first. -/
theorem state_mid (c : Dev nD) (nb first : ℕ → ℕ) (n : ℕ) (h : n < 129) :
    (state (F := F) c nb first n : sProp 𝕄) ⊢ iprop(|={Set.univ}=> mid (F := F) c codesM cbufM cc0_scratch2 perCopy nb first n) := by
  unfold state
  by_cases h0 : n = 0
  · subst h0
    rw [if_pos (Or.inl rfl)]
    exact idle_mid c nb first
  · rw [if_neg (by omega)]
    iintro H
    imodintro
    iexact H

theorem state_next (c : Dev nD) (nb first : ℕ → ℕ) (n : ℕ) (h : n < 129) :
    (if n = 128 then idle (F := F) c codesM cbufM cc0_scratch2 else mid (F := F) c codesM cbufM cc0_scratch2 perCopy nb first (n + 1) : sProp 𝕄)
      = state (F := F) c nb first (n + 1) := by
  unfold state
  by_cases h1 : n = 128
  · rw [if_pos h1, if_pos (by omega)]
  · rw [if_neg h1, if_neg (by omega)]

/-- The body at point `t`, on what the pipeline calls it with. -/
abbrev bodyAt0 (hO : Ok m) (t : Fin (cfgM m hO).N) : Prog (TpuEff nD τ sig (Elt F) Λ₀ .tc) PUnit :=
  cc0_quant_x (grid0.coords t) (Memref.whole main_v59) (Memref.isWhole_whole _) (Memref.whole main_v62) (Memref.isWhole_whole _) (Memref.whole main_v72) (Memref.isWhole_whole _) (Memref.whole main_v83) (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) (spec0_7.stage ((cfgM m hO).slots t 7)) (hstage0_7 (((cfgM m hO).slots t 7).cast nbuf0_7)) (spec0_8.stage ((cfgM m hO).slots t 8)) (hstage0_8 (((cfgM m hO).slots t 8).cast nbuf0_8)) (spec0_9.stage ((cfgM m hO).slots t 9)) (hstage0_9 (((cfgM m hO).slots t 9).cast nbuf0_9)) (Memref.whole main_v109_0) (Memref.isWhole_whole _) (spec0_10.stage ((cfgM m hO).slots t 10)) (hstage0_10 (((cfgM m hO).slots t 10).cast nbuf0_10)) (spec0_11.stage ((cfgM m hO).slots t 11)) (hstage0_11 (((cfgM m hO).slots t 11).cast nbuf0_11)) (Memref.whole cc0_scratch0) (Memref.isWhole_whole _) (Memref.whole cc0_scratch1) (Memref.isWhole_whole _) cc0_scratch2

theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

set_option maxHeartbeats 4000000 in
/-- The body at any point keeps the invariant. -/
theorem sound_body (hO : Ok m) {nb first : ℕ → ℕ} (pl : Plan nb first) (c : Dev nD) (t4 : Tab (F := F) c nbM (tbl m 2) nb) (t5 : Tab (F := F) c firstM (tbl m 3) first) (t : Fin (cfgM m hO).N) :
    (iprop(inv (F := F) m c nb first t.val ∗ Pipeline.owesWithin c 0 Set.univ
      ∗ (∃ X, owns (c : Thread nD τ) (spec0_0.stage ((cfgM m hO).slots t 0)) fullShare X) ∗ (∃ X, owns (c : Thread nD τ) (spec0_1.stage ((cfgM m hO).slots t 1)) fullShare X) ∗ (∃ X, owns (c : Thread nD τ) (spec0_2.stage ((cfgM m hO).slots t 2)) fullShare X) ∗ (∃ X, owns (c : Thread nD τ) (spec0_3.stage ((cfgM m hO).slots t 3)) fullShare X) ∗ (∃ X, owns (c : Thread nD τ) (spec0_4.stage ((cfgM m hO).slots t 4)) fullShare X) ∗ (∃ X, owns (c : Thread nD τ) (spec0_5.stage ((cfgM m hO).slots t 5)) fullShare X) ∗ (∃ X, owns (c : Thread nD τ) (spec0_6.stage ((cfgM m hO).slots t 6)) fullShare X) ∗ (∃ X, owns (c : Thread nD τ) (spec0_7.stage ((cfgM m hO).slots t 7)) fullShare X) ∗ (∃ X, owns (c : Thread nD τ) (spec0_8.stage ((cfgM m hO).slots t 8)) fullShare X) ∗ (∃ X, owns (c : Thread nD τ) (spec0_9.stage ((cfgM m hO).slots t 9)) fullShare X) ∗ (∃ X, owns (c : Thread nD τ) (spec0_10.stage ((cfgM m hO).slots t 10)) fullShare X) ∗ (∃ X, owns (c : Thread nD τ) (spec0_11.stage ((cfgM m hO).slots t 11)) fullShare X)) : sProp 𝕄)
      ⊢ wp frame (wpE (defs₀ (F := F)) Variants.none c none) Set.univ (bodyAt0 m hO t) (fun _ =>
        iprop(inv (F := F) m c nb first (t.val + 1) ∗ Pipeline.owesWithin c 0 Set.univ
          ∗ (∃ X, owns (c : Thread nD τ) (spec0_0.stage ((cfgM m hO).slots t 0)) fullShare X) ∗ (∃ X, owns (c : Thread nD τ) (spec0_1.stage ((cfgM m hO).slots t 1)) fullShare X) ∗ (∃ X, owns (c : Thread nD τ) (spec0_2.stage ((cfgM m hO).slots t 2)) fullShare X) ∗ (∃ X, owns (c : Thread nD τ) (spec0_3.stage ((cfgM m hO).slots t 3)) fullShare X) ∗ (∃ X, owns (c : Thread nD τ) (spec0_4.stage ((cfgM m hO).slots t 4)) fullShare X) ∗ (∃ X, owns (c : Thread nD τ) (spec0_5.stage ((cfgM m hO).slots t 5)) fullShare X) ∗ (∃ X, owns (c : Thread nD τ) (spec0_6.stage ((cfgM m hO).slots t 6)) fullShare X) ∗ (∃ X, owns (c : Thread nD τ) (spec0_7.stage ((cfgM m hO).slots t 7)) fullShare X) ∗ (∃ X, owns (c : Thread nD τ) (spec0_8.stage ((cfgM m hO).slots t 8)) fullShare X) ∗ (∃ X, owns (c : Thread nD τ) (spec0_9.stage ((cfgM m hO).slots t 9)) fullShare X) ∗ (∃ X, owns (c : Thread nD τ) (spec0_10.stage ((cfgM m hO).slots t 10)) fullShare X) ∗ (∃ X, owns (c : Thread nD τ) (spec0_11.stage ((cfgM m hO).slots t 11)) fullShare X))) := by
  have hlt : t.val < 129 := t.isLt
  unfold inv owns bodyAt0
  rw [PhiT0_eq, held_whole]
  iintro ⟨⟨HL, HP, ⟨T2, T3, T4, T5⟩, HS⟩, HO, ⟨%X0, %f0, -, H0⟩, ⟨%X1, %f1, -, H1⟩, ⟨%X2, %f2, -, H2⟩, ⟨%X3, %f3, -, H3⟩, ⟨%X4, %f4, -, H4⟩, ⟨%X5, %f5, -, H5⟩, ⟨%X6, %f6, -, H6⟩, ⟨%X7, %f7, -, H7⟩, ⟨%X8, %f8, -, H8⟩, ⟨%X9, %f9, -, H9⟩, ⟨%X10, %f10, -, H10⟩, ⟨%X11, %f11, -, H11⟩⟩
  imod (state_mid (F := F) c nb first t.val hlt) $$ HS with HS
  have hb := body_wp (F := F) c (grid0.coords t) (Memref.whole main_v59) (Memref.isWhole_whole _) (Memref.whole main_v62) (Memref.isWhole_whole _) (Memref.whole main_v72) (Memref.isWhole_whole _) (Memref.whole main_v83) (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) (spec0_7.stage ((cfgM m hO).slots t 7)) (hstage0_7 (((cfgM m hO).slots t 7).cast nbuf0_7)) (spec0_8.stage ((cfgM m hO).slots t 8)) (hstage0_8 (((cfgM m hO).slots t 8).cast nbuf0_8)) (spec0_9.stage ((cfgM m hO).slots t 9)) (hstage0_9 (((cfgM m hO).slots t 9).cast nbuf0_9)) (Memref.whole main_v109_0) (Memref.isWhole_whole _) (spec0_10.stage ((cfgM m hO).slots t 10)) (hstage0_10 (((cfgM m hO).slots t 10).cast nbuf0_10)) (spec0_11.stage ((cfgM m hO).slots t 11)) (hstage0_11 (((cfgM m hO).slots t 11).cast nbuf0_11)) (Memref.whole cc0_scratch0) (Memref.isWhole_whole _) (Memref.whole cc0_scratch1) (Memref.isWhole_whole _) cc0_scratch2 pl (tbl m 2) t4 (tbl m 3) t5 fullShare.right perCopy credit_codes perCopy_pos (tbl m 1)
  rw [coord_pt t, state_next (F := F) c nb first t.val hlt] at hb
  iapply (wp_wand_r Idealize.ShloMosaic.frame (wpE (defs₀ (F := F)) Variants.none (c : Thread nD τ) none) Set.univ)
  isplitl [HL T3 T4 T5 HS HO H0 H1 H2 H3 H4 H5 H6 H7 H8 H9 H10 H11]
  · iapply hb
    isplitl [HL T3 H0 H1 H2 H3 H4 H5 H6 H7 H8 H9 H10 H11]
    · unfold around readOnly
      isplitl [T3]; · iexact T3
      isplitl [H0]; · iexists f0; iexact H0
      isplitl [HL H1 H2 H3 H4 H5 H6 H7 H8 H9]
      · isplitl [H1]; · iexists f1; iexact H1
        isplitl [H2]; · iexists f2; iexact H2
        isplitl [H3]; · iexists f3; iexact H3
        isplitl [H4]; · iexists f4; iexact H4
        isplitl [H5]; · iexists f5; iexact H5
        isplitl [H6]; · iexists f6; iexact H6
        isplitl [H7]; · iexists f7; iexact H7
        isplitl [H8]; · iexists f8; iexact H8
        isplitl [H9]; · iexists f9; iexact H9
        iexact HL
      isplitl [H10]; · iexists f10; iexact H10
      iexists f11; iexact H11
    isplitl [T4]; · iexact T4
    isplitl [T5]; · iexact T5
    isplitl [HO]; · iexact HO
    iexact HS
  iintro %_ ⟨HR, T4, T5, HO, HS⟩
  unfold around readOnly
  icases HR with ⟨T3, ⟨%g0, H0⟩, ⟨⟨%g1, H1⟩, ⟨%g2, H2⟩, ⟨%g3, H3⟩, ⟨%g4, H4⟩, ⟨%g5, H5⟩, ⟨%g6, H6⟩, ⟨%g7, H7⟩, ⟨%g8, H8⟩, ⟨%g9, H9⟩, HL⟩, ⟨%g10, H10⟩, ⟨%g11, H11⟩⟩
  isplitl [HL HP T2 T3 T4 T5 HS]
  · isplitl [HL]; · iexact HL
    isplitl [HP]; · iexact HP
    isplitl [T2 T3 T4 T5]
    · isplitl [T2]; · iexact T2
      isplitl [T3]; · iexact T3
      isplitl [T4]; · iexact T4
      iexact T5
    iexact HS
  isplitl [HO]; · iexact HO
  isplitl [H0]; · iexists _; iexists g0; isplitr; (ipureintro; rfl); iexact H0
  isplitl [H1]; · iexists _; iexists g1; isplitr; (ipureintro; rfl); iexact H1
  isplitl [H2]; · iexists _; iexists g2; isplitr; (ipureintro; rfl); iexact H2
  isplitl [H3]; · iexists _; iexists g3; isplitr; (ipureintro; rfl); iexact H3
  isplitl [H4]; · iexists _; iexists g4; isplitr; (ipureintro; rfl); iexact H4
  isplitl [H5]; · iexists _; iexists g5; isplitr; (ipureintro; rfl); iexact H5
  isplitl [H6]; · iexists _; iexists g6; isplitr; (ipureintro; rfl); iexact H6
  isplitl [H7]; · iexists _; iexists g7; isplitr; (ipureintro; rfl); iexact H7
  isplitl [H8]; · iexists _; iexists g8; isplitr; (ipureintro; rfl); iexact H8
  isplitl [H9]; · iexists _; iexists g9; isplitr; (ipureintro; rfl); iexact H9
  isplitl [H10]; · iexists _; iexists g10; isplitr; (ipureintro; rfl); iexact H10
  iexists _; iexists g11; isplitr; · ipureintro; rfl
  iexact H11

/-- The library's body obligation, at every point, with every window forgotten. -/
theorem body_obligation (hO : Ok m) {nb first : ℕ → ℕ} (pl : Plan nb first) (c : Dev nD) (t4 : Tab (F := F) c nbM (tbl m 2) nb) (t5 : Tab (F := F) c firstM (tbl m 3) first) :
    Pipeline.BodyObligation (dats (F := F) m hO nb first 0 c) (defs₀ (F := F)) Variants.none () Set.univ (fun _ => true) := fun t => by
  rw [bigSep_W0, defs₀_row m hO]
  have e0 : (dats m hO nb first 0 c).owesAt () t.castSucc = Pipeline.owesWithin c 0 Set.univ := by
    unfold Pipeline.Dat.owesAt Pipeline.Dat.bound
    rw [show (dats m hO nb first 0 c).recorded t.castSucc = Set.univ from rfl, Set.univ_union]; rfl
  have e1 : (dats m hO nb first 0 c).owesAt () t.succ = Pipeline.owesWithin c 0 Set.univ := by
    unfold Pipeline.Dat.owesAt Pipeline.Dat.bound
    rw [show (dats m hO nb first 0 c).recorded t.succ = Set.univ from rfl, Set.univ_union]; rfl
  rw [e0, e1]
  exact triple_restated (sound_body m hO pl c t4 t5 t) rfl .rfl fun _ => .rfl

/-- The call's own semaphores: the two of the code buffer. -/
def osem (k : Fin 2) : SemLoc sig := .dma (semOf cc0_scratch2 k.val)

theorem ownFacts : Pipeline.OwnSemFacts spec0 osem := by decide +kernel

theorem own_sems (c : Dev nD) : (Pipeline.ownSems0 osem c : sProp 𝕄)
    = iprop(semVal ((c : Thread nD τ), .dma (semOf cc0_scratch2 0)) 0 ∗ semVal ((c : Thread nD τ), .dma (semOf cc0_scratch2 1)) 0) := by
  rw [Pipeline.ownSems0_eq_of_list (τ := τ) c osem [0, 1] (by decide) (by decide)]
  rfl

theorem codes_rest : ({main_v109_0} : Finset (Ref sig .tc)) ⊆ Pipeline.restRefsP sig pre0 spec0 \ ∅ := by decide +kernel

theorem arg1_rest : main_arg1 ∈ Pipeline.restRefs sig spec0 \ {main_v109_0} := by decide +kernel
theorem arg2_rest : main_arg2 ∈ Pipeline.restRefs sig spec0 \ {main_v109_0} := by decide +kernel

/-- Entering: everything the call is handed is the invariant before the first point. -/
theorem enter (c : Dev nD) (nb first : ℕ → ℕ) :
    (iprop(Pipeline.ΦDR (Val := Elt F) osem spec0 ∅ {main_v109_0} (V m) c ∗ Pipeline.ΦT pre0 (tbl m) c) : sProp 𝕄) ⊢ inv (F := F) m c nb first 0 := by
  rw [Pipeline.ΦDR_eq, scopedRest0_eq, own_sems]
  unfold Pipeline.owned
  rw [bigSep_empty, bigSep_singleton, own_whole c main_v109_0, own_whole c cc0_scratch1]
  unfold inv state idle
  rw [if_pos (Or.inl rfl)]
  iintro ⟨⟨⟨HL, HC⟩, HP, ⟨S0, S1⟩, -, H16⟩, HT⟩
  isplitl [HL]; · iexact HL
  isplitl [HP]; · iexact HP
  isplitl [HT]; · iexact HT
  isplitl [H16]; · iexact H16
  isplitl [HC]; · iexact HC
  isplitl [S0]; · iexact S0
  iexact S1

/-- Leaving: the invariant after the last point gives everything back. -/
theorem leave (c : Dev nD) (nb first : ℕ → ℕ) :
    (inv (F := F) m c nb first 129 : sProp 𝕄) ⊢ Pipeline.ΦDR (Val := Elt F) osem spec0 ∅ {main_v109_0} (V m) c := by
  rw [Pipeline.ΦDR_eq, scopedRest0_eq, own_sems]
  unfold Pipeline.owned
  rw [bigSep_empty, bigSep_singleton, own_whole c main_v109_0, own_whole c cc0_scratch1]
  unfold inv state idle
  rw [if_pos (Or.inr rfl)]
  iintro ⟨HL, HP, -, H16, HC, S0, S1⟩
  isplitl [HL HC]
  · isplitl [HL]; · iexact HL
    iexact HC
  isplitl [HP]; · iexact HP
  isplitl [S0 S1]
  · isplitl [S0]; · iexact S0
    iexact S1
  isplitr; · iapply (show (iprop(emp) : sProp 𝕄) ⊢ BI.emp from .rfl); iempintro
  iexact H16

set_option backward.isDefEq.respectTransparency.types false in
set_option maxHeartbeats 4000000 in
/-- Every execution ends, with the arguments unchanged and every semaphore counter at zero. -/
theorem run_frame (hO : Ok m) {nb first : ℕ → ℕ} (pl : Plan nb first) (t4 : Tab (F := F) (0 : Dev nD) nbM (tbl m 2) nb) (t5 : Tab (F := F) (0 : Dev nD) firstM (tbl m 3) first) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frameP_dmaR_forget_shared (Q' := _) pcfgs (fun _ => adm m hO) (dats m hO nb first) (0 : Fin 1) launch₀0 osem defs₀ Variants.none (fun _ => true) ownFacts ∅ {main_v109_0}
    (Finset.empty_subset _) codes_rest m ρ main
    (hbody := fun c => by obtain rfl : c = 0 := Subsingleton.elim _ _; exact (body_obligation m hO pl 0 t4 t5).loose) (hq := fun _ _ _ => rfl)
    (howed := fun _ _ => rfl) (V := V m) (hmain := hmain m Variants.none) (hA := A_eq m hO nb first) (hpf := V_pre m)
    (hin := fun c => enter m c nb first) (hout := fun c => leave m c nb first)
    (hQ' := fun r h => ⟨fun c => ⟨(Pipeline.RDat.FramePostR.arr_in h.1 c 1 rfl).trans (V_main_arg0 m c),
      ((h.1 c).2 main_arg1 arg1_rest).trans (V_main_arg1 m c), ((h.1 c).2 main_arg2 arg2_rest).trans (V_main_arg2 m c)⟩, h.2⟩)

end Cert.Quant.Kit

end
-- ==== Proof.KQTable.lean ====
/- The tables the first quantising call reads, as the step plan of the group sizes: every window lies in the rows, and the
   blocks of codes a step writes lie in the codes array and below those of the next step. -/
module

public import proofs.«01_k».proof.Proof.QPlan
public import proofs.«01_k».proof.Proof.KQRun

@[expose] public section

set_option maxRecDepth 16384

noncomputable section

namespace Cert.Quant.Kit

open Cert.Quant Cert.Quant.Gen
open Idealize.ShloMosaic Idealize.ShloMosaic.TcCoe Idealize.ShloMosaic.Tactic Idealize.ShloMosaic.ValueIdx
open Idealize.SL Idealize.SL.Sem
open Cert.QuantPlan

variable {F : FTy → Type} [FloatOps F]
variable (m : (ℓ : Loc nD τ sig) → Buf (Elt F) ℓ) (ρ : Dev nD → PrngReg)

/-- The group sizes the program is launched with. -/
abbrev sizes : IVec (Routing.shape1 3) 32 := m (((0 : Dev nD) : Thread nD τ).loc main_arg1)

theorem side : Side where
  b0 := Facts₀.bcast_S_S_
  b3 := Facts₀.bcast_S_S3
  b43 := Facts₀.bcast_S_S43
  h₁ := Facts₀.bcast_S43_S43x1_0
  h₂ := Facts₀.bcast_S43x1_S43x3_0_1
  h₃ := Facts₀.bcast_S3_S1x3_1
  h₄ := Facts₀.bcast_S1x3_S43x3_0_1
  hr := Facts₀.reducesTo_S43x3_S43_d1
  hs := Facts₀.reducesTo_S3_S_d0
  hu := Facts₀.h_S_
  hw := Facts₀.natLt_1_32
  hc := Facts₀.reduceWindows_S3_S3_w3s1p2_0

/-- The take the plan's reads print. -/
abbrev takeD : GatherDims (Routing.shape1 3) (Routing.shape2 43 1) (Routing.shape1 43) := gather_S3_S43x1_S43_n_0_n_n_0_1_1

set_option maxHeartbeats 16000000 in
/-- The first table is the window starts. -/
theorem win_eq : (V m (0 : Dev nD) main_v59 : S43.Idx → BitVec 32) = winV side takeD (sizes m) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp
  rfl

set_option maxHeartbeats 16000000 in
/-- The third table is how many blocks of codes each step writes. -/
theorem count_eq : (V m (0 : Dev nD) main_v72 : S43.Idx → BitVec 32) = countV side takeD (sizes m) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp
  rfl

set_option maxHeartbeats 16000000 in
/-- The fourth table is each step's first block of codes. -/
theorem first_eq : (V m (0 : Dev nD) main_v83 : S43.Idx → BitVec 32) = firstV side takeD (sizes m) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp
  rfl

/-- A table read one word at a time holds the numbers its entries hold. -/
theorem tab_of (b : Ref sig .tc) (a : Memref sig .tc .smem S43 .i32) (x : Buf (Elt F) (a.view.loc ((0 : Dev nD) : Thread nD τ))) (f : ℕ → ℕ)
    (y : S43.Idx → BitVec 32) (hxy : ∀ (o : Fin 1 → ℕ) (i : ∀ a, o a + S1.size a ≤ S43.size a) (k : Fin 43), k.val = o 0 → wordOf a (0 : Dev nD) x o i = y (ix1 k))
    (hy : ∀ k : Fin 43, y (ix1 k) = BitVec.ofNat 32 (f k.val)) : Tab (F := F) (0 : Dev nD) a x f := by
  intro o i
  have h : o 0 + 1 ≤ 43 := i 0
  rw [hxy o i ⟨o 0, by omega⟩ rfl, hy]

section
variable (hG : size (sizes m) 0 + size (sizes m) 1 + size (sizes m) 2 ≤ 10240)
include hG

/-- What the body's transfers need of the plan. -/
theorem plan : Plan (count (size (sizes m))) (first (size (sizes m))) where
  nb_le s _ := count_le _ s
  fit s _ := fit _ hG s
  next s hs := next _ hG s hs

theorem tab_count : Tab (F := F) (0 : Dev nD) nbM (tbl m 2) (count (size (sizes m))) := by
  refine tab_of main_v72 nbM _ _ (V m (0 : Dev nD) main_v72) (fun o i k hk => ?_) fun k => ?_
  · show (V m (0 : Dev nD) main_v72 : S43.Idx → BitVec 32) _ = _
    congr 1; funext a; apply Fin.ext
    match a with
    | ⟨0, _⟩ => show o 0 + 1 * 0 = k.val; omega
  · rw [count_eq]; exact countV_ap side takeD (sizes m) hG rfl rfl rfl rfl k

theorem tab_first : Tab (F := F) (0 : Dev nD) firstM (tbl m 3) (first (size (sizes m))) := by
  refine tab_of main_v83 firstM _ _ (V m (0 : Dev nD) main_v83) (fun o i k hk => ?_) fun k => ?_
  · show (V m (0 : Dev nD) main_v83 : S43.Idx → BitVec 32) _ = _
    congr 1; funext a; apply Fin.ext
    match a with
    | ⟨0, _⟩ => show o 0 + 1 * 0 = k.val; omega
  · rw [first_eq]; exact firstV_ap side takeD (sizes m) hG rfl rfl rfl rfl k

/-- Every word of the first table is a block of rows. -/
theorem win_le (s : Fin 43) : ((tbl m 0 : S43.Idx → BitVec 32) (ix1 s)).toNat ≤ 319 := by
  rw [show (tbl m 0 : S43.Idx → BitVec 32) = _ from win_eq m]
  exact winV_le side takeD (sizes m) hG rfl rfl rfl rfl s

omit hG in
/-- A block of rows moved on by less than nine and cut at the last block is a block of rows. -/
theorem cut_le (w k : BitVec 32) (hw : w.toNat ≤ 319) (hk : k.toNat ≤ 8) : (Scalar.minsi (Scalar.addi w k) 319#32).toNat ≤ 319 := by
  show (IntOp.minsi (w + k) 319#32).toNat ≤ 319
  have e : w + k = BitVec.ofNat 32 (w.toNat + k.toNat) := by
    apply BitVec.eq_of_toNat_eq
    rw [BitVec.toNat_add, BitVec.toNat_ofNat]
  unfold IntOp.minsi
  rw [e, show (319#32 : BitVec 32) = BitVec.ofNat 32 319 from rfl, Routing.slt_ofNat32 (by omega) (by decide)]
  by_cases h : w.toNat + k.toNat < 319
  · rw [if_pos (decide_eq_true h), BitVec.toNat_ofNat]; omega
  · rw [if_neg (fun e => h (of_decide_eq_true e))]; decide

/-- A window's block lies in the rows. -/
theorem win_ok (i : grid0.Coords) (k : BitVec 32) (hk : k.toNat ≤ 8) :
    (∀ a, ((![(Scalar.minsi (Scalar.addi ((tbl m).at 0 (Rect.unit (s := S43) ![(Scalar.indexCast (BitVec.ofNat 32 (i 0).val)).toNat] S1.size (k0_off1_inb i)) numel1_S1) k) 319#32).toNat,
      (BitVec.ofNat 32 (i 1).val).toNat] : Fin 2 → ℕ) a + 1) * S32x2048.size a ≤ S10240x6144.size a) := by
  have h0 : (i 0).val < 43 := (i 0).isLt
  have h1 : (i 1).val < 3 := (i 1).isLt
  have e : (tbl m).at 0 (Rect.unit (s := S43) ![(Scalar.indexCast (BitVec.ofNat 32 (i 0).val)).toNat] S1.size (k0_off1_inb i)) numel1_S1
      = (tbl m 0 : S43.Idx → BitVec 32) (ix1 (i 0)) := by
    show (tbl m 0 : S43.Idx → BitVec 32) _ = _
    congr 1; funext a; apply Fin.ext
    match a with
    | ⟨0, _⟩ => show k0_off1 i 0 + 1 * 0 = (i 0).val; rw [k0_off1_eq]; rfl
  rw [e]
  have c := cut_le _ k (win_le m hG (i 0)) hk
  intro a
  match a with
  | ⟨0, _⟩ =>
    show ((Scalar.minsi (Scalar.addi ((tbl m 0 : S43.Idx → BitVec 32) (ix1 (i 0))) k) 319#32).toNat + 1) * 32 ≤ 10240
    omega
  | ⟨1, _⟩ =>
    show ((BitVec.ofNat 32 (i 1).val).toNat + 1) * 2048 ≤ 6144
    rw [BitVec.toNat_ofNat]; omega

omit hG in
/-- A block of 32 rows is whole words. -/
theorem block_words (o : Fin 2 → ℕ) (h : ∀ a, (o a + 1) * S32x2048.size a ≤ S10240x6144.size a) :
    (Rect.block (s := S10240x6144) S32x2048.size o h).WholeWords (EltTy.packing .bf16) :=
  .inl (.inr ⟨by decide, rfl, .inl ⟨⟨o 0 * 16, by show o 0 * 32 = 2 * (o 0 * 16); omega⟩, ⟨16, rfl⟩⟩⟩)

/-- Every window lies in the rows at every grid point, and its transfers end at whole words. -/
theorem ok : Ok m :=
  ⟨fun i => ⟨win_ok m hG i 0#32 (by decide), .inr (block_words _ _)⟩, fun i => ⟨win_ok m hG i 1#32 (by decide), .inr (block_words _ _)⟩, fun i => ⟨win_ok m hG i 2#32 (by decide), .inr (block_words _ _)⟩,
    fun i => ⟨win_ok m hG i 3#32 (by decide), .inr (block_words _ _)⟩, fun i => ⟨win_ok m hG i 4#32 (by decide), .inr (block_words _ _)⟩, fun i => ⟨win_ok m hG i 5#32 (by decide), .inr (block_words _ _)⟩,
    fun i => ⟨win_ok m hG i 6#32 (by decide), .inr (block_words _ _)⟩, fun i => ⟨win_ok m hG i 7#32 (by decide), .inr (block_words _ _)⟩, fun i => ⟨win_ok m hG i 8#32 (by decide), .inr (block_words _ _)⟩⟩

/-- Where the group sizes add up to at most the rows, every execution ends with the arguments unchanged and every
    semaphore counter at zero. -/
theorem run_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  run_frame m ρ (ok m hG) (plan m hG) (tab_count m hG) (tab_first m hG)

end

end Cert.Quant.Kit
-- ==== Proof.QPre.lean ====
/- What the quantising call's precondition says of the group sizes: each is at most 10240 rows, and so is their sum. -/
module

public import proofs.«01_k».proof.Pre_groups_ok
public import Idealize.ShloMosaic.Lib.Routing.Words
public import Idealize.ShloMosaic.Lib.Routing.Ops
public import Idealize.ShloMosaic.Lib.Affine

@[expose] public section

noncomputable section

namespace Cert.Pre_groups_ok

open Idealize.ShloMosaic Idealize.ShloMosaic.Routing Idealize.ShloMosaic.ValueIdx Idealize.ShloMosaic.WordCmp

/-- One entry of the three, sliced out and made a scalar. -/
theorem entry_ap (a : IVec S3 32) (j : Fin 3) (h : S3.Slices ![j.val] S1) (hc : S1.ShapeCasts S_) (i : S_.Idx) :
    shapeCast S_ (extractStridedSlice S1 ![j.val] a h) hc i = a (ix1 j) := by
  show a _ = a _
  congr 1
  funext d
  apply Fin.ext
  match d with
  | ⟨0, _⟩ =>
    show j.val + (Shape.reshapeEquiv _ i 0).val = j.val
    have : (Shape.reshapeEquiv hc i 0).val < 1 := (Shape.reshapeEquiv hc i 0).isLt
    omega

/-- The precondition read at an entry: the size is between 0 and 10240 as a signed word, and the words' sum is at most 10240. -/
theorem fn_ap [Facts] {F : FTy → Type} [FloatOps F] (x : FVec F S10240x6144 .bf16) (a0 : IVec S3 32) (a2 : FVec F S16 .f32) (k : Fin 3) :
    fn x a0 a2 (ix1 k) = IntOp.andi (IntOp.andi (IntOp.cmpi .sge (a0 (ix1 k)) 0#32) (IntOp.cmpi .sle (a0 (ix1 k)) 10240#32))
      (IntOp.cmpi .sle (IntOp.addi (IntOp.addi (a0 (ix1 0)) (a0 (ix1 1))) (a0 (ix1 2))) 10240#32) := by
  rw [← entry_ap a0 0 Facts.slices_S3_S1_0 Facts.shapeCasts_S1_S_ ix0, ← entry_ap a0 1 Facts.slices_S3_S1_1 Facts.shapeCasts_S1_S_ ix0,
    ← entry_ap a0 2 Facts.slices_S3_S1_2 Facts.shapeCasts_S1_S_ ix0]
  unfold fn
  exact congrArg (IntOp.andi _) (bc0 Facts.bcast_S_S3 _ (ix1 k))

/-- Where the precondition holds, each group has at most 10240 rows and so have the three together. -/
theorem bounds [Facts] {F : FTy → Type} [FloatOps F] (x : FVec F S10240x6144 .bf16) (a0 : IVec S3 32) (a2 : FVec F S16 .f32)
    (h : fn x a0 a2 = fun _ => 1#1) :
    (∀ k : Fin 3, (a0 (ix1 k)).toNat ≤ 10240) ∧ (a0 (ix1 0)).toNat + (a0 (ix1 1)).toNat + (a0 (ix1 2)).toNat ≤ 10240 := by
  have hk (k : Fin 3) := (fn_ap x a0 a2 k).symm.trans (congrFun h (ix1 k))
  have hb : ∀ k : Fin 3, (a0 (ix1 k)).toNat ≤ 10240 := by
    intro k
    obtain ⟨h1, -⟩ := IntOp.andi_eq_one.mp (hk k)
    obtain ⟨hlo, hhi⟩ := IntOp.andi_eq_one.mp h1
    rw [cmpi_sge_zero, ofBool_decide_eq_one_iff] at hlo
    have ea : a0 (ix1 k) = BitVec.ofNat 32 (a0 (ix1 k)).toNat := by
      apply BitVec.eq_of_toNat_eq
      rw [BitVec.toNat_ofNat, Nat.mod_eq_of_lt (a0 (ix1 k)).isLt]
    rw [show (10240#32 : BitVec 32) = BitVec.ofNat 32 10240 from rfl, ea,
      cmpi_sle_ofNat_eq_one_iff hlo (by omega)] at hhi
    exact hhi
  refine ⟨hb, ?_⟩
  obtain ⟨-, h2⟩ := IntOp.andi_eq_one.mp (hk 0)
  have b0 := hb 0
  have b1 := hb 1
  have b2 := hb 2
  have e : IntOp.addi (IntOp.addi (a0 (ix1 0)) (a0 (ix1 1))) (a0 (ix1 2))
      = BitVec.ofNat 32 ((a0 (ix1 0)).toNat + (a0 (ix1 1)).toNat + (a0 (ix1 2)).toNat) := by
    apply BitVec.eq_of_toNat_eq
    show ((a0 (ix1 0)) + (a0 (ix1 1)) + (a0 (ix1 2))).toNat = _
    simp only [BitVec.toNat_add, BitVec.toNat_ofNat]
    omega
  rw [e, show (10240#32 : BitVec 32) = BitVec.ofNat 32 10240 from rfl, cmpi_sle_ofNat_eq_one_iff (by omega) (by omega)] at h2
  exact h2

end Cert.Pre_groups_ok
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_sizes_ok
public import proofs.«01_k».proof.Proof.Result
public import proofs.«01_k».proof.Proof.KTable
public import proofs.«01_k».proof.Proof.QTable
public import proofs.«01_k».proof.Proof.KQTable
public import proofs.«01_k».proof.Proof.QPre
public import proofs.«01_k».proof.Proof.Gen.Pre_groups_ok
public import Idealize.ShloMosaic.Adequacy
public import Idealize.ShloMosaic.Init

@[expose] public section

noncomputable section

namespace Cert.Proof

open Idealize.ShloMosaic Idealize.ShloMosaic.TcCoe Idealize.SL.Sem

/-- The kernel's frame, at the machine's floats, with no condition on the group sizes. -/
theorem frame_kernel : Cert.quiescent_Kernel (hKernel := Cert.Kernel.Gen.facts) :=
  fun m ρ _ => (θ_run _ _ _).mono (fun _ (h : _ ∧ _) => ⟨fun c => (h.1 c).2, h.2⟩)
    (Cert.Kernel.Kit.run_read m ρ (Cert.Kernel.Kit.ok m))

/-- The idealized kernel's frame, with no condition on the group sizes. -/
theorem frame_ideal : Cert.quiescent_KernelIdeal (hKernelIdeal := Cert.KernelIdeal.Gen.facts) :=
  fun m ρ _ => (θ_run _ _ _).mono (fun _ (h : _ ∧ _) => ⟨fun c => (h.1 c).2, h.2⟩)
    (Cert.KernelIdeal.Kit.run_read m ρ (Cert.KernelIdeal.Kit.ok m))

/-- The reference's frame. -/
theorem frame_reference : Cert.quiescent_ReferenceIdeal (hReferenceIdeal := Cert.ReferenceIdeal.Gen.facts) :=
  fun m ρ _ => Cert.ReferenceIdeal.Sum.quiet m ρ

/-- The value claim: where each group has at most 10240 rows and so have the three together, the idealized kernel ends
    with the reference's result. -/
theorem value : Cert.algebraic_KernelIdeal_ReferenceIdeal_pre_sizes_ok (hKernelIdeal := Cert.KernelIdeal.Gen.facts)
    (hReferenceIdeal := Cert.ReferenceIdeal.Gen.facts) (hPre_sizes_ok := Cert.Pre_sizes_ok.Gen.facts) := by
  intro m ρ m' ρ' hpre hargs
  obtain ⟨hg, hs⟩ := Cert.Pre_sizes_ok.bounds (F := Ideal) _ _ _ (hpre 0)
  refine ⟨fun c => Cert.KernelIdeal.Kit.total m (Cert.KernelIdeal.Kit.own m) c, ?_, ?_⟩
  · exact (θ_run _ _ _).mono (fun _ (h : _ ∧ _) c => ⟨(h.1 c).1.trans (Cert.KernelIdeal.Kit.result m hg hs c), (h.1 c).2⟩)
      (Cert.KernelIdeal.Kit.run_read m ρ (Cert.KernelIdeal.Kit.ok m))
  · refine (θ_run _ _ _).mono (fun _ h c => ⟨(h c).1.trans ?_, (h c).2⟩) (Cert.ReferenceIdeal.Value.run (F := Ideal) m' ρ')
    refine Eq.trans ?_ (Cert.KernelIdeal.Kit.total_eq m hg c).symm
    obtain ⟨h0, h1, h2⟩ := hargs c
    rw [h0, h1, h2]
    exact Cert.ReferenceIdeal.Read.val_main_v29_eq (F := Ideal) _ _ _

/-- What the quantising call's precondition says of the sizes, as the plan counts them. -/
theorem sizes_sum (g : Cert.Pre_groups_ok.S3.Idx → BitVec 32) (h : (g (ValueIdx.ix1 0)).toNat + (g (ValueIdx.ix1 1)).toNat + (g (ValueIdx.ix1 2)).toNat ≤ 10240) :
    Cert.QuantPlan.size g 0 + Cert.QuantPlan.size g 1 + Cert.QuantPlan.size g 2 ≤ 10240 := by
  rw [show Cert.QuantPlan.size g 0 = _ from Cert.QuantPlan.size_of g 0, show Cert.QuantPlan.size g 1 = _ from Cert.QuantPlan.size_of g 1,
    show Cert.QuantPlan.size g 2 = _ from Cert.QuantPlan.size_of g 2]
  exact h

/-- The first quantising call's frame, at the machine's floats. -/
theorem frame_quant : Cert.quiescent_Quant (hQuant := Cert.Quant.Gen.facts) (hPre_groups_ok := Cert.Pre_groups_ok.Gen.facts) := by
  intro m ρ hpre
  obtain ⟨-, hs⟩ := Cert.Pre_groups_ok.bounds (F := Bits) _ _ _ (hpre 0)
  exact Cert.Quant.Kit.run_quiet m ρ (sizes_sum _ hs)

/-- The first quantising call's frame, idealized. -/
theorem frame_quant_ideal : Cert.quiescent_QuantIdeal (hQuantIdeal := Cert.QuantIdeal.Gen.facts) (hPre_groups_ok := Cert.Pre_groups_ok.Gen.facts) := by
  intro m ρ hpre
  obtain ⟨-, hs⟩ := Cert.Pre_groups_ok.bounds (F := Ideal) _ _ _ (hpre 0)
  exact Cert.QuantIdeal.Kit.run_quiet m ρ (sizes_sum _ hs)

/-- Everything the certificate claims. -/
theorem claim : Cert.Claim :=
  ⟨Cert.Kernel.Gen.facts, Cert.KernelIdeal.Gen.facts, Cert.ReferenceIdeal.Gen.facts, Cert.Quant.Gen.facts, Cert.QuantIdeal.Gen.facts,
    Cert.Pre_sizes_ok.Gen.facts, Cert.Pre_groups_ok.Gen.facts,
    frame_kernel, frame_ideal, fun m ρ _ => frame_ideal m ρ trivial, frame_reference, fun m ρ _ => frame_reference m ρ trivial,
    frame_quant, frame_quant_ideal, trivial, value, trivial⟩

end Cert.Proof

end
